-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
      ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
      ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
      ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
      ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35)
      ∧ r.2.mem ((c.tc : Thread Cert.Kernel6Ideal.nD Cert.Kernel6Ideal.τ).loc Cert.Kernel6Ideal.main_arg36) = m ((c.tc : Thread Cert.Kernel6Ideal.nD Cert.Kernel6Ideal.τ).loc Cert.Kernel6Ideal.main_arg36)
      ∧ r.2.mem ((c.tc : Thread Cert.Kernel6Ideal.nD Cert.Kernel6Ideal.τ).loc Cert.Kernel6Ideal.main_arg37) = m ((c.tc : Thread Cert.Kernel6Ideal.nD Cert.Kernel6Ideal.τ).loc Cert.Kernel6Ideal.main_arg37)
      ∧ r.2.mem ((c.tc : Thread Cert.Kernel6Ideal.nD Cert.Kernel6Ideal.τ).loc Cert.Kernel6Ideal.main_arg38) = m ((c.tc : Thread Cert.Kernel6Ideal.nD Cert.Kernel6Ideal.τ).loc Cert.Kernel6Ideal.main_arg38)
      ∧ r.2.mem ((c.tc : Thread Cert.Kernel6Ideal.nD Cert.Kernel6Ideal.τ).loc Cert.Kernel6Ideal.main_arg39) = m ((c.tc : Thread Cert.Kernel6Ideal.nD Cert.Kernel6Ideal.τ).loc Cert.Kernel6Ideal.main_arg39)
      ∧ r.2.mem ((c.tc : Thread Cert.Kernel6Ideal.nD Cert.Kernel6Ideal.τ).loc Cert.Kernel6Ideal.main_arg40) = m ((c.tc : Thread Cert.Kernel6Ideal.nD Cert.Kernel6Ideal.τ).loc Cert.Kernel6Ideal.main_arg40)
      ∧ r.2.mem ((c.tc : Thread Cert.Kernel6Ideal.nD Cert.Kernel6Ideal.τ).loc Cert.Kernel6Ideal.main_arg41) = m ((c.tc : Thread Cert.Kernel6Ideal.nD Cert.Kernel6Ideal.τ).loc Cert.Kernel6Ideal.main_arg41)
      ∧ r.2.mem ((c.tc : Thread Cert.Kernel6Ideal.nD Cert.Kernel6Ideal.τ).loc Cert.Kernel6Ideal.main_arg42) = m ((c.tc : Thread Cert.Kernel6Ideal.nD Cert.Kernel6Ideal.τ).loc Cert.Kernel6Ideal.main_arg42)
      ∧ r.2.mem ((c.tc : Thread Cert.Kernel6Ideal.nD Cert.Kernel6Ideal.τ).loc Cert.Kernel6Ideal.main_arg43) = m ((c.tc : Thread Cert.Kernel6Ideal.nD Cert.Kernel6Ideal.τ).loc Cert.Kernel6Ideal.main_arg43)
      ∧ r.2.mem ((c.tc : Thread Cert.Kernel6Ideal.nD Cert.Kernel6Ideal.τ).loc Cert.Kernel6Ideal.main_arg44) = m ((c.tc : Thread Cert.Kernel6Ideal.nD Cert.Kernel6Ideal.τ).loc Cert.Kernel6Ideal.main_arg44)
      ∧ r.2.mem ((c.tc : Thread Cert.Kernel6Ideal.nD Cert.Kernel6Ideal.τ).loc Cert.Kernel6Ideal.main_arg45) = m ((c.tc : Thread Cert.Kernel6Ideal.nD Cert.Kernel6Ideal.τ).loc Cert.Kernel6Ideal.main_arg45)
      ∧ r.2.mem ((c.tc : Thread Cert.Kernel6Ideal.nD Cert.Kernel6Ideal.τ).loc Cert.Kernel6Ideal.main_arg46) = m ((c.tc : Thread Cert.Kernel6Ideal.nD Cert.Kernel6Ideal.τ).loc Cert.Kernel6Ideal.main_arg46)
      ∧ r.2.mem ((c.tc : Thread Cert.Kernel6Ideal.nD Cert.Kernel6Ideal.τ).loc Cert.Kernel6Ideal.main_arg47) = m ((c.tc : Thread Cert.Kernel6Ideal.nD Cert.Kernel6Ideal.τ).loc Cert.Kernel6Ideal.main_arg47)
      ∧ r.2.mem ((c.tc : Thread Cert.Kernel6Ideal.nD Cert.Kernel6Ideal.τ).loc Cert.Kernel6Ideal.main_arg48) = m ((c.tc : Thread Cert.Kernel6Ideal.nD Cert.Kernel6Ideal.τ).loc Cert.Kernel6Ideal.main_arg48)
      ∧ r.2.mem ((c.tc : Thread Cert.Kernel6Ideal.nD Cert.Kernel6Ideal.τ).loc Cert.Kernel6Ideal.main_arg49) = m ((c.tc : Thread Cert.Kernel6Ideal.nD Cert.Kernel6Ideal.τ).loc Cert.Kernel6Ideal.main_arg49)
      ∧ r.2.mem ((c.tc : Thread Cert.Kernel6Ideal.nD Cert.Kernel6Ideal.τ).loc Cert.Kernel6Ideal.main_arg50) = m ((c.tc : Thread Cert.Kernel6Ideal.nD Cert.Kernel6Ideal.τ).loc Cert.Kernel6Ideal.main_arg50)
      ∧ r.2.mem ((c.tc : Thread Cert.Kernel6Ideal.nD Cert.Kernel6Ideal.τ).loc Cert.Kernel6Ideal.main_arg51) = m ((c.tc : Thread Cert.Kernel6Ideal.nD Cert.Kernel6Ideal.τ).loc Cert.Kernel6Ideal.main_arg51))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31)
      ∧ r.2.mem ((c.tc : Thread Cert.Reference6Ideal.nD Cert.Reference6Ideal.τ).loc Cert.Reference6Ideal.main_arg32) = m ((c.tc : Thread Cert.Reference6Ideal.nD Cert.Reference6Ideal.τ).loc Cert.Reference6Ideal.main_arg32)
      ∧ r.2.mem ((c.tc : Thread Cert.Reference6Ideal.nD Cert.Reference6Ideal.τ).loc Cert.Reference6Ideal.main_arg33) = m ((c.tc : Thread Cert.Reference6Ideal.nD Cert.Reference6Ideal.τ).loc Cert.Reference6Ideal.main_arg33)
      ∧ r.2.mem ((c.tc : Thread Cert.Reference6Ideal.nD Cert.Reference6Ideal.τ).loc Cert.Reference6Ideal.main_arg34) = m ((c.tc : Thread Cert.Reference6Ideal.nD Cert.Reference6Ideal.τ).loc Cert.Reference6Ideal.main_arg34)
      ∧ r.2.mem ((c.tc : Thread Cert.Reference6Ideal.nD Cert.Reference6Ideal.τ).loc Cert.Reference6Ideal.main_arg35) = m ((c.tc : Thread Cert.Reference6Ideal.nD Cert.Reference6Ideal.τ).loc Cert.Reference6Ideal.main_arg35)
      ∧ r.2.mem ((c.tc : Thread Cert.Reference6Ideal.nD Cert.Reference6Ideal.τ).loc Cert.Reference6Ideal.main_arg36) = m ((c.tc : Thread Cert.Reference6Ideal.nD Cert.Reference6Ideal.τ).loc Cert.Reference6Ideal.main_arg36)
      ∧ r.2.mem ((c.tc : Thread Cert.Reference6Ideal.nD Cert.Reference6Ideal.τ).loc Cert.Reference6Ideal.main_arg37) = m ((c.tc : Thread Cert.Reference6Ideal.nD Cert.Reference6Ideal.τ).loc Cert.Reference6Ideal.main_arg37)
      ∧ r.2.mem ((c.tc : Thread Cert.Reference6Ideal.nD Cert.Reference6Ideal.τ).loc Cert.Reference6Ideal.main_arg38) = m ((c.tc : Thread Cert.Reference6Ideal.nD Cert.Reference6Ideal.τ).loc Cert.Reference6Ideal.main_arg38)
      ∧ r.2.mem ((c.tc : Thread Cert.Reference6Ideal.nD Cert.Reference6Ideal.τ).loc Cert.Reference6Ideal.main_arg39) = m ((c.tc : Thread Cert.Reference6Ideal.nD Cert.Reference6Ideal.τ).loc Cert.Reference6Ideal.main_arg39)
      ∧ r.2.mem ((c.tc : Thread Cert.Reference6Ideal.nD Cert.Reference6Ideal.τ).loc Cert.Reference6Ideal.main_arg40) = m ((c.tc : Thread Cert.Reference6Ideal.nD Cert.Reference6Ideal.τ).loc Cert.Reference6Ideal.main_arg40)
      ∧ r.2.mem ((c.tc : Thread Cert.Reference6Ideal.nD Cert.Reference6Ideal.τ).loc Cert.Reference6Ideal.main_arg41) = m ((c.tc : Thread Cert.Reference6Ideal.nD Cert.Reference6Ideal.τ).loc Cert.Reference6Ideal.main_arg41)
      ∧ r.2.mem ((c.tc : Thread Cert.Reference6Ideal.nD Cert.Reference6Ideal.τ).loc Cert.Reference6Ideal.main_arg42) = m ((c.tc : Thread Cert.Reference6Ideal.nD Cert.Reference6Ideal.τ).loc Cert.Reference6Ideal.main_arg42)
      ∧ r.2.mem ((c.tc : Thread Cert.Reference6Ideal.nD Cert.Reference6Ideal.τ).loc Cert.Reference6Ideal.main_arg43) = m ((c.tc : Thread Cert.Reference6Ideal.nD Cert.Reference6Ideal.τ).loc Cert.Reference6Ideal.main_arg43)
      ∧ r.2.mem ((c.tc : Thread Cert.Reference6Ideal.nD Cert.Reference6Ideal.τ).loc Cert.Reference6Ideal.main_arg44) = m ((c.tc : Thread Cert.Reference6Ideal.nD Cert.Reference6Ideal.τ).loc Cert.Reference6Ideal.main_arg44)
      ∧ r.2.mem ((c.tc : Thread Cert.Reference6Ideal.nD Cert.Reference6Ideal.τ).loc Cert.Reference6Ideal.main_arg45) = m ((c.tc : Thread Cert.Reference6Ideal.nD Cert.Reference6Ideal.τ).loc Cert.Reference6Ideal.main_arg45)
      ∧ r.2.mem ((c.tc : Thread Cert.Reference6Ideal.nD Cert.Reference6Ideal.τ).loc Cert.Reference6Ideal.main_arg46) = m ((c.tc : Thread Cert.Reference6Ideal.nD Cert.Reference6Ideal.τ).loc Cert.Reference6Ideal.main_arg46)
      ∧ r.2.mem ((c.tc : Thread Cert.Reference6Ideal.nD Cert.Reference6Ideal.τ).loc Cert.Reference6Ideal.main_arg47) = m ((c.tc : Thread Cert.Reference6Ideal.nD Cert.Reference6Ideal.τ).loc Cert.Reference6Ideal.main_arg47)
      ∧ r.2.mem ((c.tc : Thread Cert.Reference6Ideal.nD Cert.Reference6Ideal.τ).loc Cert.Reference6Ideal.main_arg48) = m ((c.tc : Thread Cert.Reference6Ideal.nD Cert.Reference6Ideal.τ).loc Cert.Reference6Ideal.main_arg48)
      ∧ r.2.mem ((c.tc : Thread Cert.Reference6Ideal.nD Cert.Reference6Ideal.τ).loc Cert.Reference6Ideal.main_arg49) = m ((c.tc : Thread Cert.Reference6Ideal.nD Cert.Reference6Ideal.τ).loc Cert.Reference6Ideal.main_arg49)
      ∧ r.2.mem ((c.tc : Thread Cert.Reference6Ideal.nD Cert.Reference6Ideal.τ).loc Cert.Reference6Ideal.main_arg50) = m ((c.tc : Thread Cert.Reference6Ideal.nD Cert.Reference6Ideal.τ).loc Cert.Reference6Ideal.main_arg50)
      ∧ r.2.mem ((c.tc : Thread Cert.Reference6Ideal.nD Cert.Reference6Ideal.τ).loc Cert.Reference6Ideal.main_arg51) = m ((c.tc : Thread Cert.Reference6Ideal.nD Cert.Reference6Ideal.τ).loc Cert.Reference6Ideal.main_arg51))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v11)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v6_3)) (v4 : (c : Dev Cert.Kernel2Ideal.nD) → Buf (Elt Ideal) ((c.tc : Thread Cert.Kernel2Ideal.nD Cert.Kernel2Ideal.τ).loc Cert.Kernel2Ideal.main_v12)) (v5 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v11) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_v12) = v4 c
          ∧ r.2.mem ((c.tc : Thread Cert.Kernel2Ideal.nD Cert.Kernel2Ideal.τ).loc Cert.Kernel2Ideal.main_v13) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v115) = v1 c
          ∧ r.2.mem ((c.tc : Thread Cert.Reference2Ideal.nD Cert.Reference2Ideal.τ).loc Cert.Reference2Ideal.main_v116) = v2 c
          ∧ r.2.mem ((c.tc : Thread Cert.Reference2Ideal.nD Cert.Reference2Ideal.τ).loc Cert.Reference2Ideal.main_v82) = v3 c
          ∧ r.2.mem ((c.tc : Thread Cert.Reference2Ideal.nD Cert.Reference2Ideal.τ).loc Cert.Reference2Ideal.main_v93) = v4 c
          ∧ r.2.mem ((c.tc : Thread Cert.Reference2Ideal.nD Cert.Reference2Ideal.τ).loc Cert.Reference2Ideal.main_v86) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_2)) (v2 : (c : Dev Cert.Kernel3Ideal.nD) → Buf (Elt Ideal) ((c.tc : Thread Cert.Kernel3Ideal.nD Cert.Kernel3Ideal.τ).loc Cert.Kernel3Ideal.main_v14_1)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)) (v5 : (c : Dev Cert.Kernel3Ideal.nD) → Buf (Elt Ideal) ((c.tc : Thread Cert.Kernel3Ideal.nD Cert.Kernel3Ideal.τ).loc Cert.Kernel3Ideal.main_v14_5)) (v6 : (c : Dev Cert.Kernel3Ideal.nD) → Buf (Elt Ideal) ((c.tc : Thread Cert.Kernel3Ideal.nD Cert.Kernel3Ideal.τ).loc Cert.Kernel3Ideal.main_v14_6)) (v7 : (c : Dev Cert.Kernel3Ideal.nD) → Buf (Elt Ideal) ((c.tc : Thread Cert.Kernel3Ideal.nD Cert.Kernel3Ideal.τ).loc Cert.Kernel3Ideal.main_v14_7)) (v8 : (c : Dev Cert.Kernel3Ideal.nD) → Buf (Elt Ideal) ((c.tc : Thread Cert.Kernel3Ideal.nD Cert.Kernel3Ideal.τ).loc Cert.Kernel3Ideal.main_v14_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_2) = v1 c
          ∧ r.2.mem ((c.tc : Thread Cert.Kernel3Ideal.nD Cert.Kernel3Ideal.τ).loc Cert.Kernel3Ideal.main_v14_1) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_v14_5) = v5 c
          ∧ r.2.mem ((c.tc : Thread Cert.Kernel3Ideal.nD Cert.Kernel3Ideal.τ).loc Cert.Kernel3Ideal.main_v14_6) = v6 c
          ∧ r.2.mem ((c.tc : Thread Cert.Kernel3Ideal.nD Cert.Kernel3Ideal.τ).loc Cert.Kernel3Ideal.main_v14_7) = v7 c
          ∧ r.2.mem ((c.tc : Thread Cert.Kernel3Ideal.nD Cert.Kernel3Ideal.τ).loc Cert.Kernel3Ideal.main_v14_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v53) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_v101) = v4 c
          ∧ r.2.mem ((c.tc : Thread Cert.Reference3Ideal.nD Cert.Reference3Ideal.τ).loc Cert.Reference3Ideal.main_v58) = v5 c
          ∧ r.2.mem ((c.tc : Thread Cert.Reference3Ideal.nD Cert.Reference3Ideal.τ).loc Cert.Reference3Ideal.main_v82) = v6 c
          ∧ r.2.mem ((c.tc : Thread Cert.Reference3Ideal.nD Cert.Reference3Ideal.τ).loc Cert.Reference3Ideal.main_v64) = v7 c
          ∧ r.2.mem ((c.tc : Thread Cert.Reference3Ideal.nD Cert.Reference3Ideal.τ).loc Cert.Reference3Ideal.main_v88) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  IdealRules.named_const.Statement Cert.Kernel4Ideal.κ "gelu_cubic" .f32 0x3D372713#32 ((8943 / 200000 : ℝ) : EReal)
  ∧ IdealRules.named_const.Statement Cert.Kernel4Ideal.κ "gelu_cubic_slope" .f32 0x3E095D4F#32 ((26829 / 200000 : ℝ) : EReal)

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)) (v2 : (c : Dev Cert.Kernel4Ideal.nD) → Buf (Elt Ideal) ((c.tc : Thread Cert.Kernel4Ideal.nD Cert.Kernel4Ideal.τ).loc Cert.Kernel4Ideal.main_v40_2)) (v3 : (c : Dev Cert.Kernel4Ideal.nD) → Buf (Elt Ideal) ((c.tc : Thread Cert.Kernel4Ideal.nD Cert.Kernel4Ideal.τ).loc Cert.Kernel4Ideal.main_v40_3)) (v4 : (c : Dev Cert.Kernel4Ideal.nD) → Buf (Elt Ideal) ((c.tc : Thread Cert.Kernel4Ideal.nD Cert.Kernel4Ideal.τ).loc Cert.Kernel4Ideal.main_v40_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_v40_2) = v2 c
          ∧ r.2.mem ((c.tc : Thread Cert.Kernel4Ideal.nD Cert.Kernel4Ideal.τ).loc Cert.Kernel4Ideal.main_v40_3) = v3 c
          ∧ r.2.mem ((c.tc : Thread Cert.Kernel4Ideal.nD Cert.Kernel4Ideal.τ).loc Cert.Kernel4Ideal.main_v40_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v104) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v106) = v2 c
          ∧ r.2.mem ((c.tc : Thread Cert.Reference4Ideal.nD Cert.Reference4Ideal.τ).loc Cert.Reference4Ideal.main_v107) = v3 c
          ∧ r.2.mem ((c.tc : Thread Cert.Reference4Ideal.nD Cert.Reference4Ideal.τ).loc Cert.Reference4Ideal.main_v77) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v4) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v52) = v5 c
          ∧ r.2.mem ((c.tc : Thread Cert.Reference5Ideal.nD Cert.Reference5Ideal.τ).loc Cert.Reference5Ideal.main_v10) = v6 c
          ∧ r.2.mem ((c.tc : Thread Cert.Reference5Ideal.nD Cert.Reference5Ideal.τ).loc Cert.Reference5Ideal.main_v34) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)
      ∧ m' ((c.tc : Thread Cert.Reference6Ideal.nD Cert.Reference6Ideal.τ).loc Cert.Reference6Ideal.main_arg32) = m ((c.tc : Thread Cert.Kernel6Ideal.nD Cert.Kernel6Ideal.τ).loc Cert.Kernel6Ideal.main_arg32)
      ∧ m' ((c.tc : Thread Cert.Reference6Ideal.nD Cert.Reference6Ideal.τ).loc Cert.Reference6Ideal.main_arg33) = m ((c.tc : Thread Cert.Kernel6Ideal.nD Cert.Kernel6Ideal.τ).loc Cert.Kernel6Ideal.main_arg33)
      ∧ m' ((c.tc : Thread Cert.Reference6Ideal.nD Cert.Reference6Ideal.τ).loc Cert.Reference6Ideal.main_arg34) = m ((c.tc : Thread Cert.Kernel6Ideal.nD Cert.Kernel6Ideal.τ).loc Cert.Kernel6Ideal.main_arg34)
      ∧ m' ((c.tc : Thread Cert.Reference6Ideal.nD Cert.Reference6Ideal.τ).loc Cert.Reference6Ideal.main_arg35) = m ((c.tc : Thread Cert.Kernel6Ideal.nD Cert.Kernel6Ideal.τ).loc Cert.Kernel6Ideal.main_arg35)
      ∧ m' ((c.tc : Thread Cert.Reference6Ideal.nD Cert.Reference6Ideal.τ).loc Cert.Reference6Ideal.main_arg36) = m ((c.tc : Thread Cert.Kernel6Ideal.nD Cert.Kernel6Ideal.τ).loc Cert.Kernel6Ideal.main_arg36)
      ∧ m' ((c.tc : Thread Cert.Reference6Ideal.nD Cert.Reference6Ideal.τ).loc Cert.Reference6Ideal.main_arg37) = m ((c.tc : Thread Cert.Kernel6Ideal.nD Cert.Kernel6Ideal.τ).loc Cert.Kernel6Ideal.main_arg37)
      ∧ m' ((c.tc : Thread Cert.Reference6Ideal.nD Cert.Reference6Ideal.τ).loc Cert.Reference6Ideal.main_arg38) = m ((c.tc : Thread Cert.Kernel6Ideal.nD Cert.Kernel6Ideal.τ).loc Cert.Kernel6Ideal.main_arg38)
      ∧ m' ((c.tc : Thread Cert.Reference6Ideal.nD Cert.Reference6Ideal.τ).loc Cert.Reference6Ideal.main_arg39) = m ((c.tc : Thread Cert.Kernel6Ideal.nD Cert.Kernel6Ideal.τ).loc Cert.Kernel6Ideal.main_arg39)
      ∧ m' ((c.tc : Thread Cert.Reference6Ideal.nD Cert.Reference6Ideal.τ).loc Cert.Reference6Ideal.main_arg40) = m ((c.tc : Thread Cert.Kernel6Ideal.nD Cert.Kernel6Ideal.τ).loc Cert.Kernel6Ideal.main_arg40)
      ∧ m' ((c.tc : Thread Cert.Reference6Ideal.nD Cert.Reference6Ideal.τ).loc Cert.Reference6Ideal.main_arg41) = m ((c.tc : Thread Cert.Kernel6Ideal.nD Cert.Kernel6Ideal.τ).loc Cert.Kernel6Ideal.main_arg41)
      ∧ m' ((c.tc : Thread Cert.Reference6Ideal.nD Cert.Reference6Ideal.τ).loc Cert.Reference6Ideal.main_arg42) = m ((c.tc : Thread Cert.Kernel6Ideal.nD Cert.Kernel6Ideal.τ).loc Cert.Kernel6Ideal.main_arg42)
      ∧ m' ((c.tc : Thread Cert.Reference6Ideal.nD Cert.Reference6Ideal.τ).loc Cert.Reference6Ideal.main_arg43) = m ((c.tc : Thread Cert.Kernel6Ideal.nD Cert.Kernel6Ideal.τ).loc Cert.Kernel6Ideal.main_arg43)
      ∧ m' ((c.tc : Thread Cert.Reference6Ideal.nD Cert.Reference6Ideal.τ).loc Cert.Reference6Ideal.main_arg44) = m ((c.tc : Thread Cert.Kernel6Ideal.nD Cert.Kernel6Ideal.τ).loc Cert.Kernel6Ideal.main_arg44)
      ∧ m' ((c.tc : Thread Cert.Reference6Ideal.nD Cert.Reference6Ideal.τ).loc Cert.Reference6Ideal.main_arg45) = m ((c.tc : Thread Cert.Kernel6Ideal.nD Cert.Kernel6Ideal.τ).loc Cert.Kernel6Ideal.main_arg45)
      ∧ m' ((c.tc : Thread Cert.Reference6Ideal.nD Cert.Reference6Ideal.τ).loc Cert.Reference6Ideal.main_arg46) = m ((c.tc : Thread Cert.Kernel6Ideal.nD Cert.Kernel6Ideal.τ).loc Cert.Kernel6Ideal.main_arg46)
      ∧ m' ((c.tc : Thread Cert.Reference6Ideal.nD Cert.Reference6Ideal.τ).loc Cert.Reference6Ideal.main_arg47) = m ((c.tc : Thread Cert.Kernel6Ideal.nD Cert.Kernel6Ideal.τ).loc Cert.Kernel6Ideal.main_arg47)
      ∧ m' ((c.tc : Thread Cert.Reference6Ideal.nD Cert.Reference6Ideal.τ).loc Cert.Reference6Ideal.main_arg48) = m ((c.tc : Thread Cert.Kernel6Ideal.nD Cert.Kernel6Ideal.τ).loc Cert.Kernel6Ideal.main_arg48)
      ∧ m' ((c.tc : Thread Cert.Reference6Ideal.nD Cert.Reference6Ideal.τ).loc Cert.Reference6Ideal.main_arg49) = m ((c.tc : Thread Cert.Kernel6Ideal.nD Cert.Kernel6Ideal.τ).loc Cert.Kernel6Ideal.main_arg49)
      ∧ m' ((c.tc : Thread Cert.Reference6Ideal.nD Cert.Reference6Ideal.τ).loc Cert.Reference6Ideal.main_arg50) = m ((c.tc : Thread Cert.Kernel6Ideal.nD Cert.Kernel6Ideal.τ).loc Cert.Kernel6Ideal.main_arg50)
      ∧ m' ((c.tc : Thread Cert.Reference6Ideal.nD Cert.Reference6Ideal.τ).loc Cert.Reference6Ideal.main_arg51) = m ((c.tc : Thread Cert.Kernel6Ideal.nD Cert.Kernel6Ideal.τ).loc Cert.Kernel6Ideal.main_arg51)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)) (v11 : (c : Dev Cert.Kernel6Ideal.nD) → Buf (Elt Ideal) ((c.tc : Thread Cert.Kernel6Ideal.nD Cert.Kernel6Ideal.τ).loc Cert.Kernel6Ideal.main_v0_11)) (v12 : (c : Dev Cert.Kernel6Ideal.nD) → Buf (Elt Ideal) ((c.tc : Thread Cert.Kernel6Ideal.nD Cert.Kernel6Ideal.τ).loc Cert.Kernel6Ideal.main_v0_12)) (v13 : (c : Dev Cert.Kernel6Ideal.nD) → Buf (Elt Ideal) ((c.tc : Thread Cert.Kernel6Ideal.nD Cert.Kernel6Ideal.τ).loc Cert.Kernel6Ideal.main_v0_13)) (v14 : (c : Dev Cert.Kernel6Ideal.nD) → Buf (Elt Ideal) ((c.tc : Thread Cert.Kernel6Ideal.nD Cert.Kernel6Ideal.τ).loc Cert.Kernel6Ideal.main_v0_14)) (v15 : (c : Dev Cert.Kernel6Ideal.nD) → Buf (Elt Ideal) ((c.tc : Thread Cert.Kernel6Ideal.nD Cert.Kernel6Ideal.τ).loc Cert.Kernel6Ideal.main_v0_15)) (v16 : (c : Dev Cert.Kernel6Ideal.nD) → Buf (Elt Ideal) ((c.tc : Thread Cert.Kernel6Ideal.nD Cert.Kernel6Ideal.τ).loc Cert.Kernel6Ideal.main_v0_16)) (v17 : (c : Dev Cert.Kernel6Ideal.nD) → Buf (Elt Ideal) ((c.tc : Thread Cert.Kernel6Ideal.nD Cert.Kernel6Ideal.τ).loc Cert.Kernel6Ideal.main_v0_17)) (v18 : (c : Dev Cert.Kernel6Ideal.nD) → Buf (Elt Ideal) ((c.tc : Thread Cert.Kernel6Ideal.nD Cert.Kernel6Ideal.τ).loc Cert.Kernel6Ideal.main_v0_18)) (v19 : (c : Dev Cert.Kernel6Ideal.nD) → Buf (Elt Ideal) ((c.tc : Thread Cert.Kernel6Ideal.nD Cert.Kernel6Ideal.τ).loc Cert.Kernel6Ideal.main_v0_19)) (v20 : (c : Dev Cert.Kernel6Ideal.nD) → Buf (Elt Ideal) ((c.tc : Thread Cert.Kernel6Ideal.nD Cert.Kernel6Ideal.τ).loc Cert.Kernel6Ideal.main_v0_20)) (v21 : (c : Dev Cert.Kernel6Ideal.nD) → Buf (Elt Ideal) ((c.tc : Thread Cert.Kernel6Ideal.nD Cert.Kernel6Ideal.τ).loc Cert.Kernel6Ideal.main_v0_21)) (v22 : (c : Dev Cert.Kernel6Ideal.nD) → Buf (Elt Ideal) ((c.tc : Thread Cert.Kernel6Ideal.nD Cert.Kernel6Ideal.τ).loc Cert.Kernel6Ideal.main_v0_22)) (v23 : (c : Dev Cert.Kernel6Ideal.nD) → Buf (Elt Ideal) ((c.tc : Thread Cert.Kernel6Ideal.nD Cert.Kernel6Ideal.τ).loc Cert.Kernel6Ideal.main_v0_23)) (v24 : (c : Dev Cert.Kernel6Ideal.nD) → Buf (Elt Ideal) ((c.tc : Thread Cert.Kernel6Ideal.nD Cert.Kernel6Ideal.τ).loc Cert.Kernel6Ideal.main_v0_24)) (v25 : (c : Dev Cert.Kernel6Ideal.nD) → Buf (Elt Ideal) ((c.tc : Thread Cert.Kernel6Ideal.nD Cert.Kernel6Ideal.τ).loc Cert.Kernel6Ideal.main_v0_25)) (v26 : (c : Dev Cert.Kernel6Ideal.nD) → Buf (Elt Ideal) ((c.tc : Thread Cert.Kernel6Ideal.nD Cert.Kernel6Ideal.τ).loc Cert.Kernel6Ideal.main_v0_26)) (v27 : (c : Dev Cert.Kernel6Ideal.nD) → Buf (Elt Ideal) ((c.tc : Thread Cert.Kernel6Ideal.nD Cert.Kernel6Ideal.τ).loc Cert.Kernel6Ideal.main_v0_27)) (v28 : (c : Dev Cert.Kernel6Ideal.nD) → Buf (Elt Ideal) ((c.tc : Thread Cert.Kernel6Ideal.nD Cert.Kernel6Ideal.τ).loc Cert.Kernel6Ideal.main_v0_28)) (v29 : (c : Dev Cert.Kernel6Ideal.nD) → Buf (Elt Ideal) ((c.tc : Thread Cert.Kernel6Ideal.nD Cert.Kernel6Ideal.τ).loc Cert.Kernel6Ideal.main_v0_29)) (v30 : (c : Dev Cert.Kernel6Ideal.nD) → Buf (Elt Ideal) ((c.tc : Thread Cert.Kernel6Ideal.nD Cert.Kernel6Ideal.τ).loc Cert.Kernel6Ideal.main_v0_30)) (v31 : (c : Dev Cert.Kernel6Ideal.nD) → Buf (Elt Ideal) ((c.tc : Thread Cert.Kernel6Ideal.nD Cert.Kernel6Ideal.τ).loc Cert.Kernel6Ideal.main_v0_31)) (v32 : (c : Dev Cert.Kernel6Ideal.nD) → Buf (Elt Ideal) ((c.tc : Thread Cert.Kernel6Ideal.nD Cert.Kernel6Ideal.τ).loc Cert.Kernel6Ideal.main_v0_32)) (v33 : (c : Dev Cert.Kernel6Ideal.nD) → Buf (Elt Ideal) ((c.tc : Thread Cert.Kernel6Ideal.nD Cert.Kernel6Ideal.τ).loc Cert.Kernel6Ideal.main_v0_33)) (v34 : (c : Dev Cert.Kernel6Ideal.nD) → Buf (Elt Ideal) ((c.tc : Thread Cert.Kernel6Ideal.nD Cert.Kernel6Ideal.τ).loc Cert.Kernel6Ideal.main_v0_34)) (v35 : (c : Dev Cert.Kernel6Ideal.nD) → Buf (Elt Ideal) ((c.tc : Thread Cert.Kernel6Ideal.nD Cert.Kernel6Ideal.τ).loc Cert.Kernel6Ideal.main_v0_35)) (v36 : (c : Dev Cert.Kernel6Ideal.nD) → Buf (Elt Ideal) ((c.tc : Thread Cert.Kernel6Ideal.nD Cert.Kernel6Ideal.τ).loc Cert.Kernel6Ideal.main_v0_36)) (v37 : (c : Dev Cert.Kernel6Ideal.nD) → Buf (Elt Ideal) ((c.tc : Thread Cert.Kernel6Ideal.nD Cert.Kernel6Ideal.τ).loc Cert.Kernel6Ideal.main_v0_37)) (v38 : (c : Dev Cert.Kernel6Ideal.nD) → Buf (Elt Ideal) ((c.tc : Thread Cert.Kernel6Ideal.nD Cert.Kernel6Ideal.τ).loc Cert.Kernel6Ideal.main_v0_38)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_v0_11) = v11 c
          ∧ r.2.mem ((c.tc : Thread Cert.Kernel6Ideal.nD Cert.Kernel6Ideal.τ).loc Cert.Kernel6Ideal.main_v0_12) = v12 c
          ∧ r.2.mem ((c.tc : Thread Cert.Kernel6Ideal.nD Cert.Kernel6Ideal.τ).loc Cert.Kernel6Ideal.main_v0_13) = v13 c
          ∧ r.2.mem ((c.tc : Thread Cert.Kernel6Ideal.nD Cert.Kernel6Ideal.τ).loc Cert.Kernel6Ideal.main_v0_14) = v14 c
          ∧ r.2.mem ((c.tc : Thread Cert.Kernel6Ideal.nD Cert.Kernel6Ideal.τ).loc Cert.Kernel6Ideal.main_v0_15) = v15 c
          ∧ r.2.mem ((c.tc : Thread Cert.Kernel6Ideal.nD Cert.Kernel6Ideal.τ).loc Cert.Kernel6Ideal.main_v0_16) = v16 c
          ∧ r.2.mem ((c.tc : Thread Cert.Kernel6Ideal.nD Cert.Kernel6Ideal.τ).loc Cert.Kernel6Ideal.main_v0_17) = v17 c
          ∧ r.2.mem ((c.tc : Thread Cert.Kernel6Ideal.nD Cert.Kernel6Ideal.τ).loc Cert.Kernel6Ideal.main_v0_18) = v18 c
          ∧ r.2.mem ((c.tc : Thread Cert.Kernel6Ideal.nD Cert.Kernel6Ideal.τ).loc Cert.Kernel6Ideal.main_v0_19) = v19 c
          ∧ r.2.mem ((c.tc : Thread Cert.Kernel6Ideal.nD Cert.Kernel6Ideal.τ).loc Cert.Kernel6Ideal.main_v0_20) = v20 c
          ∧ r.2.mem ((c.tc : Thread Cert.Kernel6Ideal.nD Cert.Kernel6Ideal.τ).loc Cert.Kernel6Ideal.main_v0_21) = v21 c
          ∧ r.2.mem ((c.tc : Thread Cert.Kernel6Ideal.nD Cert.Kernel6Ideal.τ).loc Cert.Kernel6Ideal.main_v0_22) = v22 c
          ∧ r.2.mem ((c.tc : Thread Cert.Kernel6Ideal.nD Cert.Kernel6Ideal.τ).loc Cert.Kernel6Ideal.main_v0_23) = v23 c
          ∧ r.2.mem ((c.tc : Thread Cert.Kernel6Ideal.nD Cert.Kernel6Ideal.τ).loc Cert.Kernel6Ideal.main_v0_24) = v24 c
          ∧ r.2.mem ((c.tc : Thread Cert.Kernel6Ideal.nD Cert.Kernel6Ideal.τ).loc Cert.Kernel6Ideal.main_v0_25) = v25 c
          ∧ r.2.mem ((c.tc : Thread Cert.Kernel6Ideal.nD Cert.Kernel6Ideal.τ).loc Cert.Kernel6Ideal.main_v0_26) = v26 c
          ∧ r.2.mem ((c.tc : Thread Cert.Kernel6Ideal.nD Cert.Kernel6Ideal.τ).loc Cert.Kernel6Ideal.main_v0_27) = v27 c
          ∧ r.2.mem ((c.tc : Thread Cert.Kernel6Ideal.nD Cert.Kernel6Ideal.τ).loc Cert.Kernel6Ideal.main_v0_28) = v28 c
          ∧ r.2.mem ((c.tc : Thread Cert.Kernel6Ideal.nD Cert.Kernel6Ideal.τ).loc Cert.Kernel6Ideal.main_v0_29) = v29 c
          ∧ r.2.mem ((c.tc : Thread Cert.Kernel6Ideal.nD Cert.Kernel6Ideal.τ).loc Cert.Kernel6Ideal.main_v0_30) = v30 c
          ∧ r.2.mem ((c.tc : Thread Cert.Kernel6Ideal.nD Cert.Kernel6Ideal.τ).loc Cert.Kernel6Ideal.main_v0_31) = v31 c
          ∧ r.2.mem ((c.tc : Thread Cert.Kernel6Ideal.nD Cert.Kernel6Ideal.τ).loc Cert.Kernel6Ideal.main_v0_32) = v32 c
          ∧ r.2.mem ((c.tc : Thread Cert.Kernel6Ideal.nD Cert.Kernel6Ideal.τ).loc Cert.Kernel6Ideal.main_v0_33) = v33 c
          ∧ r.2.mem ((c.tc : Thread Cert.Kernel6Ideal.nD Cert.Kernel6Ideal.τ).loc Cert.Kernel6Ideal.main_v0_34) = v34 c
          ∧ r.2.mem ((c.tc : Thread Cert.Kernel6Ideal.nD Cert.Kernel6Ideal.τ).loc Cert.Kernel6Ideal.main_v0_35) = v35 c
          ∧ r.2.mem ((c.tc : Thread Cert.Kernel6Ideal.nD Cert.Kernel6Ideal.τ).loc Cert.Kernel6Ideal.main_v0_36) = v36 c
          ∧ r.2.mem ((c.tc : Thread Cert.Kernel6Ideal.nD Cert.Kernel6Ideal.τ).loc Cert.Kernel6Ideal.main_v0_37) = v37 c
          ∧ r.2.mem ((c.tc : Thread Cert.Kernel6Ideal.nD Cert.Kernel6Ideal.τ).loc Cert.Kernel6Ideal.main_v0_38) = v38 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
          ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
          ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
          ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
          ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35)
          ∧ r.2.mem ((c.tc : Thread Cert.Kernel6Ideal.nD Cert.Kernel6Ideal.τ).loc Cert.Kernel6Ideal.main_arg36) = m ((c.tc : Thread Cert.Kernel6Ideal.nD Cert.Kernel6Ideal.τ).loc Cert.Kernel6Ideal.main_arg36)
          ∧ r.2.mem ((c.tc : Thread Cert.Kernel6Ideal.nD Cert.Kernel6Ideal.τ).loc Cert.Kernel6Ideal.main_arg37) = m ((c.tc : Thread Cert.Kernel6Ideal.nD Cert.Kernel6Ideal.τ).loc Cert.Kernel6Ideal.main_arg37)
          ∧ r.2.mem ((c.tc : Thread Cert.Kernel6Ideal.nD Cert.Kernel6Ideal.τ).loc Cert.Kernel6Ideal.main_arg38) = m ((c.tc : Thread Cert.Kernel6Ideal.nD Cert.Kernel6Ideal.τ).loc Cert.Kernel6Ideal.main_arg38)
          ∧ r.2.mem ((c.tc : Thread Cert.Kernel6Ideal.nD Cert.Kernel6Ideal.τ).loc Cert.Kernel6Ideal.main_arg39) = m ((c.tc : Thread Cert.Kernel6Ideal.nD Cert.Kernel6Ideal.τ).loc Cert.Kernel6Ideal.main_arg39)
          ∧ r.2.mem ((c.tc : Thread Cert.Kernel6Ideal.nD Cert.Kernel6Ideal.τ).loc Cert.Kernel6Ideal.main_arg40) = m ((c.tc : Thread Cert.Kernel6Ideal.nD Cert.Kernel6Ideal.τ).loc Cert.Kernel6Ideal.main_arg40)
          ∧ r.2.mem ((c.tc : Thread Cert.Kernel6Ideal.nD Cert.Kernel6Ideal.τ).loc Cert.Kernel6Ideal.main_arg41) = m ((c.tc : Thread Cert.Kernel6Ideal.nD Cert.Kernel6Ideal.τ).loc Cert.Kernel6Ideal.main_arg41)
          ∧ r.2.mem ((c.tc : Thread Cert.Kernel6Ideal.nD Cert.Kernel6Ideal.τ).loc Cert.Kernel6Ideal.main_arg42) = m ((c.tc : Thread Cert.Kernel6Ideal.nD Cert.Kernel6Ideal.τ).loc Cert.Kernel6Ideal.main_arg42)
          ∧ r.2.mem ((c.tc : Thread Cert.Kernel6Ideal.nD Cert.Kernel6Ideal.τ).loc Cert.Kernel6Ideal.main_arg43) = m ((c.tc : Thread Cert.Kernel6Ideal.nD Cert.Kernel6Ideal.τ).loc Cert.Kernel6Ideal.main_arg43)
          ∧ r.2.mem ((c.tc : Thread Cert.Kernel6Ideal.nD Cert.Kernel6Ideal.τ).loc Cert.Kernel6Ideal.main_arg44) = m ((c.tc : Thread Cert.Kernel6Ideal.nD Cert.Kernel6Ideal.τ).loc Cert.Kernel6Ideal.main_arg44)
          ∧ r.2.mem ((c.tc : Thread Cert.Kernel6Ideal.nD Cert.Kernel6Ideal.τ).loc Cert.Kernel6Ideal.main_arg45) = m ((c.tc : Thread Cert.Kernel6Ideal.nD Cert.Kernel6Ideal.τ).loc Cert.Kernel6Ideal.main_arg45)
          ∧ r.2.mem ((c.tc : Thread Cert.Kernel6Ideal.nD Cert.Kernel6Ideal.τ).loc Cert.Kernel6Ideal.main_arg46) = m ((c.tc : Thread Cert.Kernel6Ideal.nD Cert.Kernel6Ideal.τ).loc Cert.Kernel6Ideal.main_arg46)
          ∧ r.2.mem ((c.tc : Thread Cert.Kernel6Ideal.nD Cert.Kernel6Ideal.τ).loc Cert.Kernel6Ideal.main_arg47) = m ((c.tc : Thread Cert.Kernel6Ideal.nD Cert.Kernel6Ideal.τ).loc Cert.Kernel6Ideal.main_arg47)
          ∧ r.2.mem ((c.tc : Thread Cert.Kernel6Ideal.nD Cert.Kernel6Ideal.τ).loc Cert.Kernel6Ideal.main_arg48) = m ((c.tc : Thread Cert.Kernel6Ideal.nD Cert.Kernel6Ideal.τ).loc Cert.Kernel6Ideal.main_arg48)
          ∧ r.2.mem ((c.tc : Thread Cert.Kernel6Ideal.nD Cert.Kernel6Ideal.τ).loc Cert.Kernel6Ideal.main_arg49) = m ((c.tc : Thread Cert.Kernel6Ideal.nD Cert.Kernel6Ideal.τ).loc Cert.Kernel6Ideal.main_arg49)
          ∧ r.2.mem ((c.tc : Thread Cert.Kernel6Ideal.nD Cert.Kernel6Ideal.τ).loc Cert.Kernel6Ideal.main_arg50) = m ((c.tc : Thread Cert.Kernel6Ideal.nD Cert.Kernel6Ideal.τ).loc Cert.Kernel6Ideal.main_arg50)
          ∧ r.2.mem ((c.tc : Thread Cert.Kernel6Ideal.nD Cert.Kernel6Ideal.τ).loc Cert.Kernel6Ideal.main_arg51) = m ((c.tc : Thread Cert.Kernel6Ideal.nD Cert.Kernel6Ideal.τ).loc Cert.Kernel6Ideal.main_arg51))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v71) = v2 c
          ∧ r.2.mem ((c.tc : Thread Cert.Reference6Ideal.nD Cert.Reference6Ideal.τ).loc Cert.Reference6Ideal.main_v95) = v3 c
          ∧ r.2.mem ((c.tc : Thread Cert.Reference6Ideal.nD Cert.Reference6Ideal.τ).loc Cert.Reference6Ideal.main_v119) = v4 c
          ∧ r.2.mem ((c.tc : Thread Cert.Reference6Ideal.nD Cert.Reference6Ideal.τ).loc Cert.Reference6Ideal.main_v143) = v5 c
          ∧ r.2.mem ((c.tc : Thread Cert.Reference6Ideal.nD Cert.Reference6Ideal.τ).loc Cert.Reference6Ideal.main_v167) = v6 c
          ∧ r.2.mem ((c.tc : Thread Cert.Reference6Ideal.nD Cert.Reference6Ideal.τ).loc Cert.Reference6Ideal.main_v191) = v7 c
          ∧ r.2.mem ((c.tc : Thread Cert.Reference6Ideal.nD Cert.Reference6Ideal.τ).loc Cert.Reference6Ideal.main_v215) = v8 c
          ∧ r.2.mem ((c.tc : Thread Cert.Reference6Ideal.nD Cert.Reference6Ideal.τ).loc Cert.Reference6Ideal.main_v239) = v9 c
          ∧ r.2.mem ((c.tc : Thread Cert.Reference6Ideal.nD Cert.Reference6Ideal.τ).loc Cert.Reference6Ideal.main_v263) = v10 c
          ∧ r.2.mem ((c.tc : Thread Cert.Reference6Ideal.nD Cert.Reference6Ideal.τ).loc Cert.Reference6Ideal.main_v287) = v11 c
          ∧ r.2.mem ((c.tc : Thread Cert.Reference6Ideal.nD Cert.Reference6Ideal.τ).loc Cert.Reference6Ideal.main_v311) = v12 c
          ∧ r.2.mem ((c.tc : Thread Cert.Reference6Ideal.nD Cert.Reference6Ideal.τ).loc Cert.Reference6Ideal.main_v4) = v13 c
          ∧ r.2.mem ((c.tc : Thread Cert.Reference6Ideal.nD Cert.Reference6Ideal.τ).loc Cert.Reference6Ideal.main_v28) = v14 c
          ∧ r.2.mem ((c.tc : Thread Cert.Reference6Ideal.nD Cert.Reference6Ideal.τ).loc Cert.Reference6Ideal.main_v52) = v15 c
          ∧ r.2.mem ((c.tc : Thread Cert.Reference6Ideal.nD Cert.Reference6Ideal.τ).loc Cert.Reference6Ideal.main_v76) = v16 c
          ∧ r.2.mem ((c.tc : Thread Cert.Reference6Ideal.nD Cert.Reference6Ideal.τ).loc Cert.Reference6Ideal.main_v100) = v17 c
          ∧ r.2.mem ((c.tc : Thread Cert.Reference6Ideal.nD Cert.Reference6Ideal.τ).loc Cert.Reference6Ideal.main_v124) = v18 c
          ∧ r.2.mem ((c.tc : Thread Cert.Reference6Ideal.nD Cert.Reference6Ideal.τ).loc Cert.Reference6Ideal.main_v148) = v19 c
          ∧ r.2.mem ((c.tc : Thread Cert.Reference6Ideal.nD Cert.Reference6Ideal.τ).loc Cert.Reference6Ideal.main_v172) = v20 c
          ∧ r.2.mem ((c.tc : Thread Cert.Reference6Ideal.nD Cert.Reference6Ideal.τ).loc Cert.Reference6Ideal.main_v196) = v21 c
          ∧ r.2.mem ((c.tc : Thread Cert.Reference6Ideal.nD Cert.Reference6Ideal.τ).loc Cert.Reference6Ideal.main_v220) = v22 c
          ∧ r.2.mem ((c.tc : Thread Cert.Reference6Ideal.nD Cert.Reference6Ideal.τ).loc Cert.Reference6Ideal.main_v244) = v23 c
          ∧ r.2.mem ((c.tc : Thread Cert.Reference6Ideal.nD Cert.Reference6Ideal.τ).loc Cert.Reference6Ideal.main_v268) = v24 c
          ∧ r.2.mem ((c.tc : Thread Cert.Reference6Ideal.nD Cert.Reference6Ideal.τ).loc Cert.Reference6Ideal.main_v292) = v25 c
          ∧ r.2.mem ((c.tc : Thread Cert.Reference6Ideal.nD Cert.Reference6Ideal.τ).loc Cert.Reference6Ideal.main_v10) = v26 c
          ∧ r.2.mem ((c.tc : Thread Cert.Reference6Ideal.nD Cert.Reference6Ideal.τ).loc Cert.Reference6Ideal.main_v34) = v27 c
          ∧ r.2.mem ((c.tc : Thread Cert.Reference6Ideal.nD Cert.Reference6Ideal.τ).loc Cert.Reference6Ideal.main_v58) = v28 c
          ∧ r.2.mem ((c.tc : Thread Cert.Reference6Ideal.nD Cert.Reference6Ideal.τ).loc Cert.Reference6Ideal.main_v82) = v29 c
          ∧ r.2.mem ((c.tc : Thread Cert.Reference6Ideal.nD Cert.Reference6Ideal.τ).loc Cert.Reference6Ideal.main_v106) = v30 c
          ∧ r.2.mem ((c.tc : Thread Cert.Reference6Ideal.nD Cert.Reference6Ideal.τ).loc Cert.Reference6Ideal.main_v130) = v31 c
          ∧ r.2.mem ((c.tc : Thread Cert.Reference6Ideal.nD Cert.Reference6Ideal.τ).loc Cert.Reference6Ideal.main_v154) = v32 c
          ∧ r.2.mem ((c.tc : Thread Cert.Reference6Ideal.nD Cert.Reference6Ideal.τ).loc Cert.Reference6Ideal.main_v178) = v33 c
          ∧ r.2.mem ((c.tc : Thread Cert.Reference6Ideal.nD Cert.Reference6Ideal.τ).loc Cert.Reference6Ideal.main_v202) = v34 c
          ∧ r.2.mem ((c.tc : Thread Cert.Reference6Ideal.nD Cert.Reference6Ideal.τ).loc Cert.Reference6Ideal.main_v226) = v35 c
          ∧ r.2.mem ((c.tc : Thread Cert.Reference6Ideal.nD Cert.Reference6Ideal.τ).loc Cert.Reference6Ideal.main_v250) = v36 c
          ∧ r.2.mem ((c.tc : Thread Cert.Reference6Ideal.nD Cert.Reference6Ideal.τ).loc Cert.Reference6Ideal.main_v274) = v37 c
          ∧ r.2.mem ((c.tc : Thread Cert.Reference6Ideal.nD Cert.Reference6Ideal.τ).loc Cert.Reference6Ideal.main_v298) = v38 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31)
          ∧ r.2.mem ((c.tc : Thread Cert.Reference6Ideal.nD Cert.Reference6Ideal.τ).loc Cert.Reference6Ideal.main_arg32) = m' ((c.tc : Thread Cert.Reference6Ideal.nD Cert.Reference6Ideal.τ).loc Cert.Reference6Ideal.main_arg32)
          ∧ r.2.mem ((c.tc : Thread Cert.Reference6Ideal.nD Cert.Reference6Ideal.τ).loc Cert.Reference6Ideal.main_arg33) = m' ((c.tc : Thread Cert.Reference6Ideal.nD Cert.Reference6Ideal.τ).loc Cert.Reference6Ideal.main_arg33)
          ∧ r.2.mem ((c.tc : Thread Cert.Reference6Ideal.nD Cert.Reference6Ideal.τ).loc Cert.Reference6Ideal.main_arg34) = m' ((c.tc : Thread Cert.Reference6Ideal.nD Cert.Reference6Ideal.τ).loc Cert.Reference6Ideal.main_arg34)
          ∧ r.2.mem ((c.tc : Thread Cert.Reference6Ideal.nD Cert.Reference6Ideal.τ).loc Cert.Reference6Ideal.main_arg35) = m' ((c.tc : Thread Cert.Reference6Ideal.nD Cert.Reference6Ideal.τ).loc Cert.Reference6Ideal.main_arg35)
          ∧ r.2.mem ((c.tc : Thread Cert.Reference6Ideal.nD Cert.Reference6Ideal.τ).loc Cert.Reference6Ideal.main_arg36) = m' ((c.tc : Thread Cert.Reference6Ideal.nD Cert.Reference6Ideal.τ).loc Cert.Reference6Ideal.main_arg36)
          ∧ r.2.mem ((c.tc : Thread Cert.Reference6Ideal.nD Cert.Reference6Ideal.τ).loc Cert.Reference6Ideal.main_arg37) = m' ((c.tc : Thread Cert.Reference6Ideal.nD Cert.Reference6Ideal.τ).loc Cert.Reference6Ideal.main_arg37)
          ∧ r.2.mem ((c.tc : Thread Cert.Reference6Ideal.nD Cert.Reference6Ideal.τ).loc Cert.Reference6Ideal.main_arg38) = m' ((c.tc : Thread Cert.Reference6Ideal.nD Cert.Reference6Ideal.τ).loc Cert.Reference6Ideal.main_arg38)
          ∧ r.2.mem ((c.tc : Thread Cert.Reference6Ideal.nD Cert.Reference6Ideal.τ).loc Cert.Reference6Ideal.main_arg39) = m' ((c.tc : Thread Cert.Reference6Ideal.nD Cert.Reference6Ideal.τ).loc Cert.Reference6Ideal.main_arg39)
          ∧ r.2.mem ((c.tc : Thread Cert.Reference6Ideal.nD Cert.Reference6Ideal.τ).loc Cert.Reference6Ideal.main_arg40) = m' ((c.tc : Thread Cert.Reference6Ideal.nD Cert.Reference6Ideal.τ).loc Cert.Reference6Ideal.main_arg40)
          ∧ r.2.mem ((c.tc : Thread Cert.Reference6Ideal.nD Cert.Reference6Ideal.τ).loc Cert.Reference6Ideal.main_arg41) = m' ((c.tc : Thread Cert.Reference6Ideal.nD Cert.Reference6Ideal.τ).loc Cert.Reference6Ideal.main_arg41)
          ∧ r.2.mem ((c.tc : Thread Cert.Reference6Ideal.nD Cert.Reference6Ideal.τ).loc Cert.Reference6Ideal.main_arg42) = m' ((c.tc : Thread Cert.Reference6Ideal.nD Cert.Reference6Ideal.τ).loc Cert.Reference6Ideal.main_arg42)
          ∧ r.2.mem ((c.tc : Thread Cert.Reference6Ideal.nD Cert.Reference6Ideal.τ).loc Cert.Reference6Ideal.main_arg43) = m' ((c.tc : Thread Cert.Reference6Ideal.nD Cert.Reference6Ideal.τ).loc Cert.Reference6Ideal.main_arg43)
          ∧ r.2.mem ((c.tc : Thread Cert.Reference6Ideal.nD Cert.Reference6Ideal.τ).loc Cert.Reference6Ideal.main_arg44) = m' ((c.tc : Thread Cert.Reference6Ideal.nD Cert.Reference6Ideal.τ).loc Cert.Reference6Ideal.main_arg44)
          ∧ r.2.mem ((c.tc : Thread Cert.Reference6Ideal.nD Cert.Reference6Ideal.τ).loc Cert.Reference6Ideal.main_arg45) = m' ((c.tc : Thread Cert.Reference6Ideal.nD Cert.Reference6Ideal.τ).loc Cert.Reference6Ideal.main_arg45)
          ∧ r.2.mem ((c.tc : Thread Cert.Reference6Ideal.nD Cert.Reference6Ideal.τ).loc Cert.Reference6Ideal.main_arg46) = m' ((c.tc : Thread Cert.Reference6Ideal.nD Cert.Reference6Ideal.τ).loc Cert.Reference6Ideal.main_arg46)
          ∧ r.2.mem ((c.tc : Thread Cert.Reference6Ideal.nD Cert.Reference6Ideal.τ).loc Cert.Reference6Ideal.main_arg47) = m' ((c.tc : Thread Cert.Reference6Ideal.nD Cert.Reference6Ideal.τ).loc Cert.Reference6Ideal.main_arg47)
          ∧ r.2.mem ((c.tc : Thread Cert.Reference6Ideal.nD Cert.Reference6Ideal.τ).loc Cert.Reference6Ideal.main_arg48) = m' ((c.tc : Thread Cert.Reference6Ideal.nD Cert.Reference6Ideal.τ).loc Cert.Reference6Ideal.main_arg48)
          ∧ r.2.mem ((c.tc : Thread Cert.Reference6Ideal.nD Cert.Reference6Ideal.τ).loc Cert.Reference6Ideal.main_arg49) = m' ((c.tc : Thread Cert.Reference6Ideal.nD Cert.Reference6Ideal.τ).loc Cert.Reference6Ideal.main_arg49)
          ∧ r.2.mem ((c.tc : Thread Cert.Reference6Ideal.nD Cert.Reference6Ideal.τ).loc Cert.Reference6Ideal.main_arg50) = m' ((c.tc : Thread Cert.Reference6Ideal.nD Cert.Reference6Ideal.τ).loc Cert.Reference6Ideal.main_arg50)
          ∧ r.2.mem ((c.tc : Thread Cert.Reference6Ideal.nD Cert.Reference6Ideal.τ).loc Cert.Reference6Ideal.main_arg51) = m' ((c.tc : Thread Cert.Reference6Ideal.nD Cert.Reference6Ideal.τ).loc Cert.Reference6Ideal.main_arg51))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
-- ==== Pre_finite.lean ====
abbrev S1x8192x512 : Shape := ⟨3, ![1, 8192, 512]⟩
abbrev S1x1024 : Shape := ⟨2, ![1, 1024]⟩
abbrev S1x512x1024 : Shape := ⟨3, ![1, 512, 1024]⟩
abbrev S1x1024x1024 : Shape := ⟨3, ![1, 1024, 1024]⟩
abbrev S1x8192x1024 : Shape := ⟨3, ![1, 8192, 1024]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part1 {F : FTy → Type} [FloatOps F] (main_arg5 : FVec F S1x8192x1024 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x8192x1024 .f32 := Host.absf main_arg5
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S1x8192x512 .f32) (main_arg1 : FVec F S1x8192x512 .f32) (main_arg2 : FVec F S1x1024 .f32) (main_arg3 : FVec F S1x512x1024 .f32) (main_arg4 : FVec F S1x1024x1024 .f32) (main_arg5 : FVec F S1x8192x1024 .f32) : IVec S_ 1 :=
  let main_v0 : FVec F S1x8192x512 .f32 := Host.absf main_arg1
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x512x1024 .f32 := Host.absf main_arg3
  let main_cst_2 : FVec F S_ .f32 := constant S_ .f32 0x7F800000#32
  let main_v10 : FVec F S1x512x1024 .f32 := broadcastInDim S1x512x1024 ![] bcast_S_S1x512x1024 main_cst_2
  let main_v11 : IVec S1x512x1024 1 := cmpf .olt main_v9 main_v10
  let main_c_3 : IVec S_ 1 := constantI S_ 1 1#1
  let main_v12 : IVec S_ 1 := (fun x v => Host.reduce IntOp.andi x v reducesTo_S1x512x1024_S_d0_1_2 h_S_) main_v11 main_c_3
  let main_v13 : IVec S_ 1 := andi main_v8 main_v12
  let main_v14 : FVec F S1x1024x1024 .f32 := Host.absf main_arg4
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg5 main_v13 main_v16
-- ==== Kernel.lean ====
abbrev S1x8192x512 : Shape := ⟨3, ![1, 8192, 512]⟩
abbrev S1x512 : Shape := ⟨2, ![1, 512]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S3 : Shape := ⟨1, ![3]⟩
abbrev S1 : Shape := ⟨1, ![1]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S1x8192x4x128 : Shape := ⟨4, ![1, 8192, 4, 128]⟩
abbrev S1x8192x1x64 : Shape := ⟨4, ![1, 8192, 1, 64]⟩
abbrev S1x8192x4x64 : Shape := ⟨4, ![1, 8192, 4, 64]⟩
abbrev S8192x512 : Shape := ⟨2, ![8192, 512]⟩
abbrev S64x1 : Shape := ⟨2, ![64, 1]⟩
abbrev S1x8192 : Shape := ⟨2, ![1, 8192]⟩
abbrev S64x8192 : Shape := ⟨2, ![64, 8192]⟩
abbrev S64x8192x1 : Shape := ⟨3, ![64, 8192, 1]⟩
abbrev S1x1x4 : Shape := ⟨3, ![1, 1, 4]⟩
abbrev S64x8192x4 : Shape := ⟨3, ![64, 8192, 4]⟩
abbrev S64x8192x4x1 : Shape := ⟨4, ![64, 8192, 4, 1]⟩
abbrev S64x8192x4x128 : Shape := ⟨4, ![64, 8192, 4, 128]⟩
abbrev S8192x4x128 : Shape := ⟨3, ![8192, 4, 128]⟩
abbrev S4x128x64x128 : Shape := ⟨4, ![4, 128, 64, 128]⟩
abbrev S64x4x128x128 : Shape := ⟨4, ![64, 4, 128, 128]⟩
abbrev S512x512 : Shape := ⟨2, ![512, 512]⟩
abbrev S4x4x128x128 : Shape := ⟨4, ![4, 4, 128, 128]⟩
abbrev S512x128 : Shape := ⟨2, ![512, 128]⟩
abbrev S16x128x128 : Shape := ⟨3, ![16, 128, 128]⟩
abbrev S16x128 : Shape := ⟨2, ![16, 128]⟩
abbrev S16x128x1 : Shape := ⟨3, ![16, 128, 1]⟩
abbrev S1x1x128 : Shape := ⟨3, ![1, 1, 128]⟩
abbrev S16x1x128 : Shape := ⟨3, ![16, 1, 128]⟩

abbrev nBuf : Space → Nat
  | .hbm => 299
  | .vmem => 31
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S1x512, .f32⟩
  | 5 => ⟨S1x8192x512, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S8192, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S8192x64, .f32⟩
  | 22 => ⟨S8192x128, .f32⟩
  | 23 => ⟨S8192x64, .f32⟩
  | 24 => ⟨S8192x128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S3, .f32⟩
  | 33 => ⟨S_, .f32⟩
  | 34 => ⟨S3, .f32⟩
  | 35 => ⟨S3, .f32⟩
  | 36 => ⟨S1, .f32⟩
  | 37 => ⟨S_, .f32⟩
  | 38 => ⟨S3, .f32⟩
  | 39 => ⟨S3, .f32⟩
  | 40 => ⟨S3, .f32⟩
  | 41 => ⟨S3, .f32⟩
  | 42 => ⟨S1, .f32⟩
  | 43 => ⟨S3, .f32⟩
  | 44 => ⟨S3, .f32⟩
  | 45 => ⟨S3, .f32⟩
  | 46 => ⟨S1, .f32⟩
  | 47 => ⟨S4, .f32⟩
  | 48 => ⟨S4, .f32⟩
  | 49 => ⟨S_, .f32⟩
  | 50 => ⟨S4, .f32⟩
  | 51 => ⟨S4, .f32⟩
  | 52 => ⟨S4, .f32⟩
  | 53 => ⟨S128, .f32⟩
  | 54 => ⟨S128x1, .f32⟩
  | 55 => ⟨S1x128, .f32⟩
  | 56 => ⟨S128x128, .f32⟩
  | 57 => ⟨S128x128, .f32⟩
  | 58 => ⟨S128x128, .f32⟩
  | 59 => ⟨S1x128x128, .f32⟩
  | 60 => ⟨S_, .f32⟩
  | 61 => ⟨S1x128x128, .f32⟩
  | 62 => ⟨S1x128x128, .i1⟩
  | 63 => ⟨S_, .f32⟩
  | 64 => ⟨S128x128, .f32⟩
  | 65 => ⟨S128x128, .f32⟩
  | 66 => ⟨S1x128x128, .f32⟩
  | 67 => ⟨S4x1x1, .f32⟩
  | 68 => ⟨S4x128x128, .f32⟩
  | 69 => ⟨S4x128x128, .f32⟩
  | 70 => ⟨S4x128x128, .f32⟩
  | 71 => ⟨S4x128x128, .f32⟩
  | 72 => ⟨S_, .f32⟩
  | 73 => ⟨S_, .f32⟩
  | 74 => ⟨S4x128x128, .i1⟩
  | 75 => ⟨S4x128x128, .f32⟩
  | 76 => ⟨S4x128x128, .f32⟩
  | 77 => ⟨S_, .f32⟩
  | 78 => ⟨S128, .f32⟩
  | 79 => ⟨S128, .f32⟩
  | 80 => ⟨S1x128, .f32⟩
  | 81 => ⟨S4x1, .f32⟩
  | 82 => ⟨S4x128, .f32⟩
  | 83 => ⟨S4x128, .f32⟩
  | 84 => ⟨S4x128, .f32⟩
  | 85 => ⟨S4x128, .f32⟩
  | 86 => ⟨S_, .f32⟩
  | 87 => ⟨S4, .f32⟩
  | 88 => ⟨S4, .f32⟩
  | 89 => ⟨S4, .f32⟩
  | 90 => ⟨S_, .f32⟩
  | 91 => ⟨S128, .f32⟩
  | 92 => ⟨S128, .f32⟩
  | 93 => ⟨S1x128, .f32⟩
  | 94 => ⟨S4x1, .f32⟩
  | 95 => ⟨S4x128, .f32⟩
  | 96 => ⟨S4x128, .f32⟩
  | 97 => ⟨S4x128, .f32⟩
  | 98 => ⟨S4x128, .f32⟩
  | 99 => ⟨S4x128x1, .f32⟩
  | 100 => ⟨S4x128x128, .f32⟩
  | 101 => ⟨S4x128x1, .f32⟩
  | 102 => ⟨S4x128x128, .f32⟩
  | 103 => ⟨S4x1x1, .f32⟩
  | 104 => ⟨S4x128x128, .f32⟩
  | 105 => ⟨S1x8192x4x128, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S64, .f32⟩
  | 113 => ⟨S64, .f32⟩
  | 114 => ⟨S8192, .f32⟩
  | 115 => ⟨S8192x1, .f32⟩
  | 116 => ⟨S1x64, .f32⟩
  | 117 => ⟨S8192x64, .f32⟩
  | 118 => ⟨S8192x64, .f32⟩
  | 119 => ⟨S8192x64, .f32⟩
  | 120 => ⟨S8192x64, .f32⟩
  | 121 => ⟨S1x8192x1x64, .f32⟩
  | 122 => ⟨S8192x64, .f32⟩
  | 123 => ⟨S1x8192x1x64, .f32⟩
  | 124 => ⟨S1x8192x4x64, .f32⟩
  | 125 => ⟨S1x8192x4x64, .f32⟩
  | 126 => ⟨S1x8192x4x64, .f32⟩
  | 127 => ⟨S1x8192x4x64, .f32⟩
  | _ => ⟨S1x8192x512, .f32⟩

abbrev hbmTy0_1 (i : Nat) : BufTy := match i % 128 with
  | 0 => ⟨S1x8192x4x64, .f32⟩
  | 1 => ⟨S1x8192x4x64, .f32⟩
  | 2 => ⟨S1x8192x4x64, .f32⟩
  | 3 => ⟨S1x8192x4x64, .f32⟩
  | 4 => ⟨S1x8192x4x64, .f32⟩
  | 5 => ⟨S1x8192x4x64, .f32⟩
  | 6 => ⟨S1x8192x4x64, .f32⟩
  | 7 => ⟨S1x8192x4x64, .f32⟩
  | 8 => ⟨S1x8192x4x128, .f32⟩
  | 9 => ⟨S1x8192x4x128, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S8192, .f32⟩
  | 19 => ⟨S8192x1, .f32⟩
  | 20 => ⟨S1x64, .f32⟩
  | 21 => ⟨S8192x64, .f32⟩
  | 22 => ⟨S8192x64, .f32⟩
  | 23 => ⟨S8192x64, .f32⟩
  | 24 => ⟨S8192x64, .f32⟩
  | 25 => ⟨S1x8192x1x64, .f32⟩
  | 26 => ⟨S8192x64, .f32⟩
  | 27 => ⟨S1x8192x1x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x128, .f32⟩
  | 41 => ⟨S_, .f32⟩
  | 42 => ⟨S1x8192x4x128, .f32⟩
  | 43 => ⟨S1x8192x4x128, .f32⟩
  | 44 => ⟨S1x8192x4x128, .f32⟩
  | 45 => ⟨S8192x512, .f32⟩
  | 46 => ⟨S8192x512, .bf16⟩
  | 47 => ⟨S8192x512, .f32⟩
  | 48 => ⟨S8192x512, .bf16⟩
  | 49 => ⟨S8192x512, .f32⟩
  | 50 => ⟨S8192x512, .bf16⟩
  | 51 => ⟨S8192x512, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S3, .f32⟩
  | 60 => ⟨S_, .f32⟩
  | 61 => ⟨S3, .f32⟩
  | 62 => ⟨S3, .f32⟩
  | 63 => ⟨S1, .f32⟩
  | 64 => ⟨S_, .f32⟩
  | 65 => ⟨S3, .f32⟩
  | 66 => ⟨S3, .f32⟩
  | 67 => ⟨S3, .f32⟩
  | 68 => ⟨S3, .f32⟩
  | 69 => ⟨S1, .f32⟩
  | 70 => ⟨S3, .f32⟩
  | 71 => ⟨S3, .f32⟩
  | 72 => ⟨S3, .f32⟩
  | 73 => ⟨S1, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S128, .f32⟩
  | 81 => ⟨S128x1, .f32⟩
  | 82 => ⟨S1x128, .f32⟩
  | 83 => ⟨S128x128, .f32⟩
  | 84 => ⟨S128x128, .f32⟩
  | 85 => ⟨S128x128, .f32⟩
  | 86 => ⟨S1x128x128, .f32⟩
  | 87 => ⟨S_, .f32⟩
  | 88 => ⟨S1x128x128, .f32⟩
  | 89 => ⟨S1x128x128, .i1⟩
  | 90 => ⟨S_, .f32⟩
  | 91 => ⟨S128x128, .f32⟩
  | 92 => ⟨S128x128, .f32⟩
  | 93 => ⟨S1x128x128, .f32⟩
  | 94 => ⟨S4x1x1, .f32⟩
  | 95 => ⟨S4x128x128, .f32⟩
  | 96 => ⟨S4x128x128, .f32⟩
  | 97 => ⟨S4x128x128, .f32⟩
  | 98 => ⟨S4x128x128, .f32⟩
  | 99 => ⟨S_, .f32⟩
  | 100 => ⟨S_, .f32⟩
  | 101 => ⟨S4x128x128, .i1⟩
  | 102 => ⟨S4x128x128, .f32⟩
  | 103 => ⟨S4x128x128, .f32⟩
  | 104 => ⟨S_, .f32⟩
  | 105 => ⟨S128, .f32⟩
  | 106 => ⟨S128, .f32⟩
  | 107 => ⟨S1x128, .f32⟩
  | 108 => ⟨S4x1, .f32⟩
  | 109 => ⟨S4x128, .f32⟩
  | 110 => ⟨S4x128, .f32⟩
  | 111 => ⟨S4x128, .f32⟩
  | 112 => ⟨S4x128, .f32⟩
  | 113 => ⟨S_, .f32⟩
  | 114 => ⟨S4, .f32⟩
  | 115 => ⟨S4, .f32⟩
  | 116 => ⟨S4, .f32⟩
  | 117 => ⟨S_, .f32⟩
  | 118 => ⟨S128, .f32⟩
  | 119 => ⟨S128, .f32⟩
  | 120 => ⟨S1x128, .f32⟩
  | 121 => ⟨S4x1, .f32⟩
  | 122 => ⟨S4x128, .f32⟩
  | 123 => ⟨S4x128, .f32⟩
  | 124 => ⟨S4x128, .f32⟩
  | 125 => ⟨S4x128, .f32⟩
  | 126 => ⟨S64, .f32⟩
  | 127 => ⟨S_, .f32⟩
  | _ => ⟨S1x8192x512, .f32⟩

abbrev hbmTy0_2 (i : Nat) : BufTy := match i % 128 with
  | 0 => ⟨S64, .f32⟩
  | 1 => ⟨S64, .f32⟩
  | 2 => ⟨S64x1, .f32⟩
  | 3 => ⟨S_, .f32⟩
  | 4 => ⟨S64x1, .f32⟩
  | 5 => ⟨S64x1, .f32⟩
  | 6 => ⟨S8192, .f32⟩
  | 7 => ⟨S1x8192, .f32⟩
  | 8 => ⟨S64x8192, .f32⟩
  | 9 => ⟨S64x8192, .f32⟩
  | 10 => ⟨S64x8192, .f32⟩
  | 11 => ⟨S64x8192x1, .f32⟩
  | 12 => ⟨S_, .f32⟩
  | 13 => ⟨S64x8192x1, .f32⟩
  | 14 => ⟨S64x8192x1, .i1⟩
  | 15 => ⟨S_, .f32⟩
  | 16 => ⟨S64x8192, .f32⟩
  | 17 => ⟨S64x8192, .f32⟩
  | 18 => ⟨S64x8192x1, .f32⟩
  | 19 => ⟨S1x1x4, .f32⟩
  | 20 => ⟨S64x8192x4, .f32⟩
  | 21 => ⟨S64x8192x4, .f32⟩
  | 22 => ⟨S64x8192x4, .f32⟩
  | 23 => ⟨S64x8192x4, .f32⟩
  | 24 => ⟨S_, .f32⟩
  | 25 => ⟨S_, .f32⟩
  | 26 => ⟨S64x8192x4, .i1⟩
  | 27 => ⟨S64x8192x4, .f32⟩
  | 28 => ⟨S64x8192x4, .f32⟩
  | 29 => ⟨S64x8192x4x1, .f32⟩
  | 30 => ⟨S64x8192x4x128, .f32⟩
  | 31 => ⟨S64x8192x4x128, .f32⟩
  | 32 => ⟨S64x8192x4x128, .f32⟩
  | 33 => ⟨S8192x4x128, .f32⟩
  | 34 => ⟨S4x128x64x128, .f32⟩
  | 35 => ⟨S64x4x128x128, .f32⟩
  | 36 => ⟨S64x4x128x128, .bf16⟩
  | 37 => ⟨S8192x512, .f32⟩
  | 38 => ⟨S8192x512, .bf16⟩
  | 39 => ⟨S8192x512, .bf16⟩
  | 40 => ⟨S8192x512, .bf16⟩
  | 41 => ⟨S8192x512, .bf16⟩
  | 42 => ⟨S1x512, .f32⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x4x128x128, .bf16⟩
  | .local _ .vmem, ⟨14, _⟩ => ⟨S4x4x128x128, .bf16⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S1x512, .f32⟩
  | .local _ .vmem, ⟨30, _⟩ => ⟨S4x128x128, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_cst : Ref sig .tc := ⟨.hbm, 30, rfl⟩
abbrev main_call0_v3 : Ref sig .tc := ⟨.hbm, 31, rfl⟩
abbrev main_call0_v4 : Ref sig .tc := ⟨.hbm, 32, rfl⟩
abbrev main_call0_cst_0 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_10 : Ref sig .tc := ⟨.hbm, 108, rfl⟩
abbrev main_v68 : Ref sig .tc := ⟨.hbm, 109, rfl⟩
abbrev main_v69 : Ref sig .tc := ⟨.hbm, 110, rfl⟩
abbrev main_cst_11 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_12 : Ref sig .tc := ⟨.hbm, 140, rfl⟩
abbrev main_v98 : Ref sig .tc := ⟨.hbm, 141, rfl⟩
abbrev main_v99 : Ref sig .tc := ⟨.hbm, 142, rfl⟩
abbrev main_cst_13 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_14 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_15 : Ref sig .tc := ⟨.hbm, 180, rfl⟩
abbrev main_cst_16 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_call2_cst : Ref sig .tc := ⟨.hbm, 185, rfl⟩
abbrev main_call2_v3 : Ref sig .tc := ⟨.hbm, 186, rfl⟩
abbrev main_call2_v4 : Ref sig .tc := ⟨.hbm, 187, rfl⟩
abbrev main_call2_cst_0 : Ref sig .tc := ⟨.hbm, 188, rfl⟩
abbrev main_call2_v5 : Ref sig .tc := ⟨.hbm, 189, rfl⟩
abbrev main_call2_v6 : Ref sig .tc := ⟨.hbm, 190, rfl⟩
abbrev main_call2_v7 : Ref sig .tc := ⟨.hbm, 191, rfl⟩
abbrev main_call2_cst_1 : Ref sig .tc := ⟨.hbm, 192, rfl⟩
abbrev main_call2_v8 : Ref sig .tc := ⟨.hbm, 193, rfl⟩
abbrev main_call2_v9 : Ref sig .tc := ⟨.hbm, 194, rfl⟩
abbrev main_call2_v10 : Ref sig .tc := ⟨.hbm, 195, rfl⟩
abbrev main_call2_v11 : Ref sig .tc := ⟨.hbm, 196, rfl⟩
abbrev main_call2_v12 : Ref sig .tc := ⟨.hbm, 197, rfl⟩
abbrev main_call2_v13 : Ref sig .tc := ⟨.hbm, 198, rfl⟩
abbrev main_call2_v14 : Ref sig .tc := ⟨.hbm, 199, rfl⟩
abbrev main_call2_v15 : Ref sig .tc := ⟨.hbm, 200, rfl⟩
abbrev main_call2_v16 : Ref sig .tc := ⟨.hbm, 201, rfl⟩
abbrev main_v135 : Ref sig .tc := ⟨.hbm, 202, rfl⟩
abbrev main_v136 : Ref sig .tc := ⟨.hbm, 203, rfl⟩
abbrev main_cst_17 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_18 : Ref sig .tc := ⟨.hbm, 215, rfl⟩
abbrev main_v147 : Ref sig .tc := ⟨.hbm, 216, rfl⟩
abbrev main_v148 : Ref sig .tc := ⟨.hbm, 217, rfl⟩
abbrev main_cst_19 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_cst_20 : Ref sig .tc := ⟨.hbm, 227, rfl⟩
abbrev main_call3_v0 : Ref sig .tc := ⟨.hbm, 228, rfl⟩
abbrev main_call3_v1 : Ref sig .tc := ⟨.hbm, 229, rfl⟩
abbrev main_call3_v2 : Ref sig .tc := ⟨.hbm, 230, rfl⟩
abbrev main_v157 : Ref sig .tc := ⟨.hbm, 231, rfl⟩
abbrev main_cst_21 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_cst_22 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_cst_23 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_cst_24 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_cst_25 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_cst_26 : Ref sig .tc := ⟨.hbm, 268, rfl⟩
abbrev main_v189 : Ref sig .tc := ⟨.hbm, 269, rfl⟩
abbrev main_v190 : Ref sig .tc := ⟨.hbm, 270, rfl⟩
abbrev main_cst_27 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_cst_28 : Ref sig .tc := ⟨.hbm, 280, rfl⟩
abbrev main_call4_v0 : Ref sig .tc := ⟨.hbm, 281, rfl⟩
abbrev main_call4_v1 : Ref sig .tc := ⟨.hbm, 282, rfl⟩
abbrev main_call4_v2 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209_0 : Ref sig .tc := ⟨.hbm, 294, rfl⟩
abbrev main_v209_1 : Ref sig .tc := ⟨.hbm, 295, rfl⟩
abbrev main_v209_2 : Ref sig .tc := ⟨.hbm, 296, rfl⟩
abbrev main_v209_3 : Ref sig .tc := ⟨.hbm, 297, rfl⟩
abbrev main_v209_4 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel2.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S_ : Shape := ⟨0, ![]⟩

abbrev nBuf : Space → Nat
  | .hbm => 29
  | .vmem => 27
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1x8192x1024, .f32⟩
  | .hbm, ⟨6, _⟩ => ⟨S8192x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S8192x1024, .f32⟩
  | .hbm, ⟨12, _⟩ => ⟨S8192x4096, .bf16⟩
  | .hbm, ⟨13, _⟩ => ⟨S8192x1024, .f32⟩
  | .hbm, ⟨14, _⟩ => ⟨S4096x1024, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S1024x4096, .f32⟩
  | .hbm, ⟨19, _⟩ => ⟨S1x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x8192x1024, .f32⟩
  | .hbm, ⟨27, _⟩ => ⟨S1x1024x4096, .f32⟩
  | .hbm, ⟨28, _⟩ => ⟨S1x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S256x4096, .bf16⟩
  | .local _ .vmem, ⟨9, _⟩ => ⟨S256x4096, .bf16⟩
  | .local _ .vmem, ⟨10, _⟩ => ⟨S256x1024, .f32⟩
  | .local _ .vmem, ⟨11, _⟩ => ⟨S256x1024, .f32⟩
  | .local _ .vmem, ⟨12, _⟩ => ⟨S4096x1024, .f32⟩
  | .local _ .vmem, ⟨13, _⟩ => ⟨S1x1024, .f32⟩
  | .local _ .vmem, ⟨14, _⟩ => ⟨S1x1024, .f32⟩
  | .local _ .vmem, ⟨15, _⟩ => ⟨S512x4096, .bf16⟩
  | .local _ .vmem, ⟨16, _⟩ => ⟨S512x4096, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1024x4096, .bf16⟩
  | .local _ .vmem, ⟨23, _⟩ => ⟨S512x1024, .f32⟩
  | .local _ .vmem, ⟨24, _⟩ => ⟨S512x1024, .f32⟩
  | .local _ .vmem, ⟨25, _⟩ => ⟨S1024x4096, .f32⟩
  | .local _ .vmem, ⟨26, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem7_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== Reference2Ideal.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x4096 : Shape := ⟨2, ![1024, 4096]⟩
abbrev S1x8192x4096 : Shape := ⟨3, ![1, 8192, 4096]⟩
abbrev S4096x1024 : Shape := ⟨2, ![4096, 1024]⟩
abbrev S8192 : Shape := ⟨1, ![8192]⟩

abbrev nBuf : Space → Nat
  | .hbm => 155
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024, .f32⟩
  | 3 => ⟨S1x1024x4096, .f32⟩
  | 4 => ⟨S1x4096x1024, .f32⟩
  | 5 => ⟨S1x8192x1024, .f32⟩
  | 6 => ⟨S1024, .f32⟩
  | 7 => ⟨S1x8192x1024, .f32⟩
  | 8 => ⟨S_, .f32⟩
  | 9 => ⟨S1x8192, .f32⟩
  | 10 => ⟨S1x8192x1, .f32⟩
  | 11 => ⟨S_, .f32⟩
  | 12 => ⟨S1x8192x1, .f32⟩
  | 13 => ⟨S1x8192x1, .f32⟩
  | 14 => ⟨S_, .f32⟩
  | 15 => ⟨S1x8192x1, .f32⟩
  | 16 => ⟨S1x8192x1, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1024, .f32⟩
  | 23 => ⟨S1x8192x1024, .f32⟩
  | 24 => ⟨S1x1x1024, .f32⟩
  | 25 => ⟨S1x8192x1024, .f32⟩
  | 26 => ⟨S1x8192x1024, .f32⟩
  | 27 => ⟨S1024x4096, .f32⟩
  | 28 => ⟨S1x8192x4096, .f32⟩
  | 29 => ⟨S_, .f32⟩
  | 30 => ⟨S1x8192x4096, .f32⟩
  | 31 => ⟨S1x8192x4096, .f32⟩
  | 32 => ⟨S_, .f32⟩
  | 33 => ⟨S1x8192x4096, .f32⟩
  | 34 => ⟨S1x8192x4096, .i1⟩
  | 35 => ⟨S_, .f32⟩
  | 36 => ⟨S1x8192x4096, .f32⟩
  | 37 => ⟨S1x8192x4096, .f32⟩
  | 38 => ⟨S_, .f32⟩
  | 39 => ⟨S1x8192x4096, .f32⟩
  | 40 => ⟨S1x8192x4096, .f32⟩
  | 41 => ⟨S4096x1024, .f32⟩
  | 42 => ⟨S1x8192x1024, .f32⟩
  | 43 => ⟨S1024, .f32⟩
  | 44 => ⟨S1x8192x1024, .f32⟩
  | 45 => ⟨S_, .f32⟩
  | 46 => ⟨S1x8192, .f32⟩
  | 47 => ⟨S1x8192x1, .f32⟩
  | 48 => ⟨S_, .f32⟩
  | 49 => ⟨S1x8192x1, .f32⟩
  | 50 => ⟨S1x8192x1, .f32⟩
  | 51 => ⟨S_, .f32⟩
  | 52 => ⟨S1x8192x1, .f32⟩
  | 53 => ⟨S1x8192x1, .f32⟩
  | 54 => ⟨S1x8192x1, .f32⟩
  | 55 => ⟨S1x8192x1, .f32⟩
  | 56 => ⟨S_, .f32⟩
  | 57 => ⟨S1x8192x1, .f32⟩
  | 58 => ⟨S1x8192x1, .f32⟩
  | 59 => ⟨S1x8192x1024, .f32⟩
  | 60 => ⟨S1x8192x1024, .f32⟩
  | 61 => ⟨S1x1x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S_, .f32⟩
  | 68 => ⟨S1x8192x1024, .f32⟩
  | 69 => ⟨S1x8192x1024, .f32⟩
  | 70 => ⟨S_, .f32⟩
  | 71 => ⟨S1x8192, .f32⟩
  | 72 => ⟨S_, .f32⟩
  | 73 => ⟨S1x8192, .f32⟩
  | 74 => ⟨S1x8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1x8192, .f32⟩
  | 83 => ⟨S_, .f32⟩
  | 84 => ⟨S1x8192, .f32⟩
  | 85 => ⟨S1x8192, .f32⟩
  | 86 => ⟨S1x8192x1024, .f32⟩
  | 87 => ⟨S1x8192x1024, .f32⟩
  | 88 => ⟨S1x8192x1024, .f32⟩
  | 89 => ⟨S_, .f32⟩
  | 90 => ⟨S1x1024, .f32⟩
  | 91 => ⟨S1x1x1024, .f32⟩
  | 92 => ⟨S1x8192x1024, .f32⟩
  | 93 => ⟨S1x8192x1024, .f32⟩
  | 94 => ⟨S_, .f32⟩
  | 95 => ⟨S1024, .f32⟩
  | 96 => ⟨S1x8192x1024, .f32⟩
  | 97 => ⟨S_, .f32⟩
  | 98 => ⟨S1x8192, .f32⟩
  | 99 => ⟨S1x8192x1, .f32⟩
  | 100 => ⟨S1x8192x1024, .f32⟩
  | 101 => ⟨S1x8192x1024, .f32⟩
  | 102 => ⟨S1x8192x1, .f32⟩
  | 103 => ⟨S_, .f32⟩
  | 104 => ⟨S1x8192x1, .f32⟩
  | 105 => ⟨S1x8192x1, .f32⟩
  | 106 => ⟨S_, .f32⟩
  | 107 => ⟨S8192, .f32⟩
  | 108 => ⟨S1x8192, .f32⟩
  | 109 => ⟨S1x8192x1024, .f32⟩
  | 110 => ⟨S1x8192x1024, .f32⟩
  | 111 => ⟨S1x8192x1024, .f32⟩
  | 112 => ⟨S1x8192x1024, .f32⟩
  | 113 => ⟨S1x8192x1024, .f32⟩
  | 114 => ⟨S1x1024, .f32⟩
  | 115 => ⟨S1024x4096, .f32⟩
  | 116 => ⟨S4096x1024, .f32⟩
  | 117 => ⟨S1x8192x4096, .f32⟩
  | 118 => ⟨S1x4096x1024, .f32⟩
  | 119 => ⟨S1x8192x4096, .f32⟩
  | 120 => ⟨S_, .f32⟩
  | 121 => ⟨S1x8192x4096, .f32⟩
  | 122 => ⟨S1x8192x4096, .f32⟩
  | 123 => ⟨S4096x1024, .f32⟩
  | 124 => ⟨S1024x4096, .f32⟩
  | 125 => ⟨S1x8192x1024, .f32⟩
  | 126 => ⟨S1x1024x4096, .f32⟩
  | 127 => ⟨S1x8192x1024, .f32⟩
  | _ => ⟨S1x8192x1024, .f32⟩

abbrev hbmTy0_1 (i : Nat) : BufTy := match i % 128 with
  | 0 => ⟨S_, .f32⟩
  | 1 => ⟨S1x1024, .f32⟩
  | 2 => ⟨S1x1x1024, .f32⟩
  | 3 => ⟨S1x8192x1024, .f32⟩
  | 4 => ⟨S1x8192x1024, .f32⟩
  | 5 => ⟨S_, .f32⟩
  | 6 => ⟨S1024, .f32⟩
  | 7 => ⟨S1x8192x1024, .f32⟩
  | 8 => ⟨S_, .f32⟩
  | 9 => ⟨S1x8192, .f32⟩
  | 10 => ⟨S1x8192x1, .f32⟩
  | 11 => ⟨S1x8192x1024, .f32⟩
  | 12 => ⟨S1x8192x1024, .f32⟩
  | 13 => ⟨S1x8192x1024, .f32⟩
  | 14 => ⟨S1x8192x1, .f32⟩
  | 15 => ⟨S_, .f32⟩
  | 16 => ⟨S1x8192x1, .f32⟩
  | 17 => ⟨S1x8192x1, .f32⟩
  | 18 => ⟨S_, .f32⟩
  | 19 => ⟨S8192, .f32⟩
  | 20 => ⟨S1x8192, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_cst_15 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev main_cst_17 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_18 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_21 : Ref sig .tc := ⟨.hbm, 103, rfl⟩
abbrev main_v73 : Ref sig .tc := ⟨.hbm, 104, rfl⟩
abbrev main_v74 : Ref sig .tc := ⟨.hbm, 105, rfl⟩
abbrev main_cst_22 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_23 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_24 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_25 : Ref sig .tc := ⟨.hbm, 133, rfl⟩
abbrev main_v99 : Ref sig .tc := ⟨.hbm, 134, rfl⟩
abbrev main_v100 : Ref sig .tc := ⟨.hbm, 135, rfl⟩
abbrev main_cst_26 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_27 : Ref sig .tc := ⟨.hbm, 143, rfl⟩
abbrev main_v107 : Ref sig .tc := ⟨.hbm, 144, rfl⟩
abbrev main_v108 : Ref sig .tc := ⟨.hbm, 145, rfl⟩
abbrev main_cst_28 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x8192x512 : Shape := ⟨3, ![1, 8192, 512]⟩
abbrev S1024x1024 : Shape := ⟨2, ![1024, 1024]⟩
abbrev S8192x512 : Shape := ⟨2, ![8192, 512]⟩
abbrev S8192x1024 : Shape := ⟨2, ![8192, 1024]⟩
abbrev S1024x2560 : Shape := ⟨2, ![1024, 2560]⟩
abbrev S512x1024 : Shape := ⟨2, ![512, 1024]⟩
abbrev S512x512 : Shape := ⟨2, ![512, 512]⟩
abbrev S64x1024 : Shape := ⟨2, ![64, 1024]⟩
abbrev S512 : Shape := ⟨1, ![512]⟩
abbrev S512x1 : Shape := ⟨2, ![512, 1]⟩
abbrev S1024x512 : Shape := ⟨2, ![1024, 512]⟩
abbrev S1024 : Shape := ⟨1, ![1024]⟩

abbrev nBuf : Space → Nat
  | .hbm => 40
  | .vmem => 48
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S1x8192x512, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S1x8192x512, .f32⟩
  | .hbm, ⟨8, _⟩ => ⟨S1x8192x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S8192x512, .f32⟩
  | .hbm, ⟨18, _⟩ => ⟨S8192x512, .bf16⟩
  | .hbm, ⟨19, _⟩ => ⟨S8192x512, .f32⟩
  | .hbm, ⟨20, _⟩ => ⟨S8192x512, .bf16⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x512, .bf16⟩
  | .hbm, ⟨25, _⟩ => ⟨S8192x512, .f32⟩
  | .hbm, ⟨26, _⟩ => ⟨S8192x512, .bf16⟩
  | .hbm, ⟨27, _⟩ => ⟨S8192x1024, .f32⟩
  | .hbm, ⟨28, _⟩ => ⟨S1024x2560, .f32⟩
  | .hbm, ⟨29, _⟩ => ⟨S1024x2560, .bf16⟩
  | .hbm, ⟨30, _⟩ => ⟨S8192x1024, .f32⟩
  | .hbm, ⟨31, _⟩ => ⟨S8192x1024, .f32⟩
  | .hbm, ⟨32, _⟩ => ⟨S1024x2560, .f32⟩
  | .hbm, ⟨33, _⟩ => ⟨S1x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S512x1024, .f32⟩
  | .local _ .vmem, ⟨33, _⟩ => ⟨S512x1024, .f32⟩
  | .local _ .vmem, ⟨34, _⟩ => ⟨S1024x2560, .f32⟩
  | .local _ .vmem, ⟨35, _⟩ => ⟨S1x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev main_v14_6 : Ref sig .tc := ⟨.hbm, 37, rfl⟩
abbrev main_v14_7 : Ref sig .tc := ⟨.hbm, 38, rfl⟩
abbrev main_v14_8 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1024x2560 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference3Ideal.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x8192x512 : Shape := ⟨3, ![1, 8192, 512]⟩
abbrev S1024x1024 : Shape := ⟨2, ![1024, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2560 : Shape := ⟨2, ![1024, 2560]⟩
abbrev S1x8192x2560 : Shape := ⟨3, ![1, 8192, 2560]⟩
abbrev S2560x1024 : Shape := ⟨2, ![2560, 1024]⟩
abbrev S8192 : Shape := ⟨1, ![8192]⟩
abbrev S8192x1024 : Shape := ⟨2, ![8192, 1024]⟩

abbrev nBuf : Space → Nat
  | .hbm => 146
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024x2560, .f32⟩
  | 3 => ⟨S1x8192x512, .f32⟩
  | 4 => ⟨S1x8192x512, .f32⟩
  | 5 => ⟨S1x8192x512, .f32⟩
  | 6 => ⟨S1x8192x512, .f32⟩
  | 7 => ⟨S1x8192x512, .f32⟩
  | 8 => ⟨S1x8192x1024, .f32⟩
  | 9 => ⟨S1024x1024, .f32⟩
  | 10 => ⟨S1024x1024, .f32⟩
  | 11 => ⟨S1024x1024, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024, .f32⟩
  | 18 => ⟨S1x8192x1024, .f32⟩
  | 19 => ⟨S_, .f32⟩
  | 20 => ⟨S1x8192, .f32⟩
  | 21 => ⟨S1x8192x1, .f32⟩
  | 22 => ⟨S_, .f32⟩
  | 23 => ⟨S1x8192x1, .f32⟩
  | 24 => ⟨S1x8192x1, .f32⟩
  | 25 => ⟨S_, .f32⟩
  | 26 => ⟨S1x8192x1, .f32⟩
  | 27 => ⟨S1x8192x1, .f32⟩
  | 28 => ⟨S1x8192x1, .f32⟩
  | 29 => ⟨S1x8192x1, .f32⟩
  | 30 => ⟨S_, .f32⟩
  | 31 => ⟨S1x8192x1, .f32⟩
  | 32 => ⟨S1x8192x1, .f32⟩
  | 33 => ⟨S1x8192x1024, .f32⟩
  | 34 => ⟨S1x8192x1024, .f32⟩
  | 35 => ⟨S1x1x1024, .f32⟩
  | 36 => ⟨S1x8192x1024, .f32⟩
  | 37 => ⟨S1x8192x1024, .f32⟩
  | 38 => ⟨S1024x2560, .f32⟩
  | 39 => ⟨S1x8192x2560, .f32⟩
  | 40 => ⟨S1x8192x512, .f32⟩
  | 41 => ⟨S1x8192x512, .f32⟩
  | 42 => ⟨S1x8192x512, .f32⟩
  | 43 => ⟨S1x8192x512, .f32⟩
  | 44 => ⟨S1x8192x512, .f32⟩
  | 45 => ⟨S1x8192x2560, .f32⟩
  | 46 => ⟨S2560x1024, .f32⟩
  | 47 => ⟨S1024x2560, .f32⟩
  | 48 => ⟨S1x8192x1024, .f32⟩
  | 49 => ⟨S1x1024x2560, .f32⟩
  | 50 => ⟨S1x8192x1024, .f32⟩
  | 51 => ⟨S_, .f32⟩
  | 52 => ⟨S1x1024, .f32⟩
  | 53 => ⟨S1x1x1024, .f32⟩
  | 54 => ⟨S1x8192x1024, .f32⟩
  | 55 => ⟨S1x8192x1024, .f32⟩
  | 56 => ⟨S_, .f32⟩
  | 57 => ⟨S1024, .f32⟩
  | 58 => ⟨S1x8192x1024, .f32⟩
  | 59 => ⟨S_, .f32⟩
  | 60 => ⟨S1x8192, .f32⟩
  | 61 => ⟨S1x8192x1, .f32⟩
  | 62 => ⟨S1x8192x1024, .f32⟩
  | 63 => ⟨S1x8192x1024, .f32⟩
  | 64 => ⟨S1x8192x1024, .f32⟩
  | 65 => ⟨S1x8192x1, .f32⟩
  | 66 => ⟨S_, .f32⟩
  | 67 => ⟨S1x8192x1, .f32⟩
  | 68 => ⟨S1x8192x1, .f32⟩
  | 69 => ⟨S_, .f32⟩
  | 70 => ⟨S8192, .f32⟩
  | 71 => ⟨S1x8192, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x1024, .f32⟩
  | 78 => ⟨S8192x1024, .f32⟩
  | 79 => ⟨S1024x2560, .f32⟩
  | 80 => ⟨S_, .f32⟩
  | 81 => ⟨S1024x1024, .f32⟩
  | 82 => ⟨S1024x1024, .f32⟩
  | 83 => ⟨S_, .f32⟩
  | 84 => ⟨S1024x1024, .f32⟩
  | 85 => ⟨S1024x1024, .f32⟩
  | 86 => ⟨S1024x1024, .f32⟩
  | 87 => ⟨S_, .f32⟩
  | 88 => ⟨S1024x1024, .f32⟩
  | 89 => ⟨S1024x1024, .f32⟩
  | 90 => ⟨S1024x1024, .f32⟩
  | 91 => ⟨S_, .f32⟩
  | 92 => ⟨S1024x1024, .f32⟩
  | 93 => ⟨S1024x1024, .f32⟩
  | 94 => ⟨S1024x1024, .f32⟩
  | 95 => ⟨S_, .f32⟩
  | 96 => ⟨S1024x1024, .f32⟩
  | 97 => ⟨S1024x1024, .f32⟩
  | 98 => ⟨S_, .f32⟩
  | 99 => ⟨S1024x1024, .f32⟩
  | 100 => ⟨S1024x1024, .f32⟩
  | 101 => ⟨S1024x1024, .f32⟩
  | 102 => ⟨S_, .f32⟩
  | 103 => ⟨S1024x1024, .f32⟩
  | 104 => ⟨S1024x1024, .f32⟩
  | 105 => ⟨S1024x1024, .f32⟩
  | 106 => ⟨S_, .f32⟩
  | 107 => ⟨S1024x1024, .f32⟩
  | 108 => ⟨S1024x1024, .f32⟩
  | 109 => ⟨S1024x1024, .f32⟩
  | 110 => ⟨S_, .f32⟩
  | 111 => ⟨S1024x1024, .f32⟩
  | 112 => ⟨S1024x1024, .f32⟩
  | 113 => ⟨S_, .f32⟩
  | 114 => ⟨S1024x1024, .f32⟩
  | 115 => ⟨S1024x1024, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x1024, .f32⟩
  | 126 => ⟨S1024x1024, .f32⟩
  | 127 => ⟨S1024x1024, .f32⟩
  | _ => ⟨S1x8192x1024, .f32⟩

abbrev hbmTy0_1 (i : Nat) : BufTy := match i % 128 with
  | 0 => ⟨S_, .f32⟩
  | 1 => ⟨S1024x1024, .f32⟩
  | 2 => ⟨S1024x1024, .f32⟩
  | 3 => ⟨S_, .f32⟩
  | 4 => ⟨S1024x1024, .f32⟩
  | 5 => ⟨S1024x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S_, .f32⟩
  | 12 => ⟨S1024x1024, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_cst_17 : Ref sig .tc := ⟨.hbm, 113, rfl⟩
abbrev main_v78 : Ref sig .tc := ⟨.hbm, 114, rfl⟩
abbrev main_v79 : Ref sig .tc := ⟨.hbm, 115, rfl⟩
abbrev main_cst_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_20 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_21 : Ref sig .tc := ⟨.hbm, 128, rfl⟩
abbrev main_v89 : Ref sig .tc := ⟨.hbm, 129, rfl⟩
abbrev main_v90 : Ref sig .tc := ⟨.hbm, 130, rfl⟩
abbrev main_cst_22 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_24 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_25 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]
-- ==== Kernel4.lean ====
abbrev S1x8192x512 : Shape := ⟨3, ![1, 8192, 512]⟩
abbrev S1x1024 : Shape := ⟨2, ![1, 1024]⟩
abbrev S1x512x1024 : Shape := ⟨3, ![1, 512, 1024]⟩
abbrev S1x1024x1024 : Shape := ⟨3, ![1, 1024, 1024]⟩
abbrev S1x8192x1024 : Shape := ⟨3, ![1, 8192, 1024]⟩
abbrev S8192x512 : Shape := ⟨2, ![8192, 512]⟩
abbrev S512x1024 : Shape := ⟨2, ![512, 1024]⟩
abbrev S1024x1024 : Shape := ⟨2, ![1024, 1024]⟩
abbrev S_ : Shape := ⟨0, ![]⟩
abbrev S8192x1024 : Shape := ⟨2, ![8192, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 58
  | .vmem => 18
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x1024, .f32⟩
  | .hbm, ⟨3, _⟩ => ⟨S1x512x1024, .f32⟩
  | .hbm, ⟨4, _⟩ => ⟨S1x1024x1024, .f32⟩
  | .hbm, ⟨5, _⟩ => ⟨S1x8192x1024, .f32⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S512x1024, .f32⟩
  | .hbm, ⟨10, _⟩ => ⟨S512x1024, .bf16⟩
  | .hbm, ⟨11, _⟩ => ⟨S1024x1024, .f32⟩
  | .hbm, ⟨12, _⟩ => ⟨S1024x1024, .bf16⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .bf16⟩
  | .hbm, ⟨33, _⟩ => ⟨S8192x1024, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .bf16⟩
  | .hbm, ⟨46, _⟩ => ⟨S512x1024, .bf16⟩
  | .hbm, ⟨47, _⟩ => ⟨S8192x1024, .f32⟩
  | .hbm, ⟨48, _⟩ => ⟨S512x1024, .bf16⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S8192x512, .f32⟩
  | .hbm, ⟨54, _⟩ => ⟨S8192x512, .f32⟩
  | .hbm, ⟨55, _⟩ => ⟨S1024x1024, .f32⟩
  | .hbm, ⟨56, _⟩ => ⟨S512x1024, .f32⟩
  | .hbm, ⟨57, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S1024x1024, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1024x1024, .f32⟩
  | .local _ .vmem, ⟨16, _⟩ => ⟨S512x1024, .f32⟩
  | .local _ .vmem, ⟨17, _⟩ => ⟨S1x1024, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev main_v40_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel4Ideal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== Reference4Ideal.lean ====
abbrev S1x8192x512 : Shape := ⟨3, ![1, 8192, 512]⟩
abbrev S1x1024 : Shape := ⟨2, ![1, 1024]⟩
abbrev S1x512x1024 : Shape := ⟨3, ![1, 512, 1024]⟩
abbrev S1x1024x1024 : Shape := ⟨3, ![1, 1024, 1024]⟩
abbrev S1x8192x1024 : Shape := ⟨3, ![1, 8192, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S1024x512 : Shape := ⟨2, ![1024, 512]⟩
abbrev S8192x512 : Shape := ⟨2, ![8192, 512]⟩

abbrev nBuf : Space → Nat
  | .hbm => 136
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x1024, .f32⟩
  | 3 => ⟨S1x512x1024, .f32⟩
  | 4 => ⟨S1x1024x1024, .f32⟩
  | 5 => ⟨S1x8192x1024, .f32⟩
  | 6 => ⟨S_, .f32⟩
  | 7 => ⟨S_, .f32⟩
  | 8 => ⟨S_, .f32⟩
  | 9 => ⟨S1x8192x512, .f32⟩
  | 10 => ⟨S1x8192x512, .f32⟩
  | 11 => ⟨S1x8192x512, .f32⟩
  | 12 => ⟨S_, .f32⟩
  | 13 => ⟨S1x8192x512, .f32⟩
  | 14 => ⟨S1x8192x512, .f32⟩
  | 15 => ⟨S1x8192x512, .f32⟩
  | 16 => ⟨S1x8192x512, .f32⟩
  | 17 => ⟨S1x8192x512, .f32⟩
  | 18 => ⟨S_, .f32⟩
  | 19 => ⟨S1x8192x512, .f32⟩
  | 20 => ⟨S1x8192x512, .f32⟩
  | 21 => ⟨S1x8192x512, .f32⟩
  | 22 => ⟨S_, .f32⟩
  | 23 => ⟨S1x8192x512, .f32⟩
  | 24 => ⟨S1x8192x512, .f32⟩
  | 25 => ⟨S_, .f32⟩
  | 26 => ⟨S1x8192x512, .f32⟩
  | 27 => ⟨S1x8192x512, .f32⟩
  | 28 => ⟨S1x8192x512, .f32⟩
  | 29 => ⟨S_, .f32⟩
  | 30 => ⟨S1x8192x512, .f32⟩
  | 31 => ⟨S1x8192x512, .f32⟩
  | 32 => ⟨S_, .f32⟩
  | 33 => ⟨S1x8192x512, .f32⟩
  | 34 => ⟨S1x8192x512, .f32⟩
  | 35 => ⟨S1x8192x512, .f32⟩
  | 36 => ⟨S512x1024, .f32⟩
  | 37 => ⟨S1x8192x1024, .f32⟩
  | 38 => ⟨S1x8192x512, .f32⟩
  | 39 => ⟨S1x8192x512, .f32⟩
  | 40 => ⟨S1x8192x512, .f32⟩
  | 41 => ⟨S1x8192x512, .f32⟩
  | 42 => ⟨S_, .f32⟩
  | 43 => ⟨S1x8192x512, .f32⟩
  | 44 => ⟨S1x8192x512, .f32⟩
  | 45 => ⟨S_, .f32⟩
  | 46 => ⟨S1x8192x512, .f32⟩
  | 47 => ⟨S1x8192x512, .f32⟩
  | 48 => ⟨S_, .f32⟩
  | 49 => ⟨S1x8192x512, .f32⟩
  | 50 => ⟨S1x8192x512, .f32⟩
  | 51 => ⟨S1x8192x512, .f32⟩
  | 52 => ⟨S1x8192x512, .f32⟩
  | 53 => ⟨S1x8192x1024, .f32⟩
  | 54 => ⟨S1024x1024, .f32⟩
  | 55 => ⟨S1x8192x1024, .f32⟩
  | 56 => ⟨S1024, .f32⟩
  | 57 => ⟨S1x8192x1024, .f32⟩
  | 58 => ⟨S_, .f32⟩
  | 59 => ⟨S1x8192, .f32⟩
  | 60 => ⟨S1x8192x1, .f32⟩
  | 61 => ⟨S_, .f32⟩
  | 62 => ⟨S1x8192x1, .f32⟩
  | 63 => ⟨S1x8192x1, .f32⟩
  | 64 => ⟨S_, .f32⟩
  | 65 => ⟨S1x8192x1, .f32⟩
  | 66 => ⟨S1x8192x1, .f32⟩
  | 67 => ⟨S1x8192x1, .f32⟩
  | 68 => ⟨S1x8192x1, .f32⟩
  | 69 => ⟨S_, .f32⟩
  | 70 => ⟨S1x8192x1, .f32⟩
  | 71 => ⟨S1x8192x1, .f32⟩
  | 72 => ⟨S1x8192x1024, .f32⟩
  | 73 => ⟨S1x8192x1024, .f32⟩
  | 74 => ⟨S1x1x1024, .f32⟩
  | 75 => ⟨S1x8192x1024, .f32⟩
  | 76 => ⟨S1x8192x1024, .f32⟩
  | 77 => ⟨S1x8192x1024, .f32⟩
  | 78 => ⟨S_, .f32⟩
  | 79 => ⟨S1x1024, .f32⟩
  | 80 => ⟨S1x1x1024, .f32⟩
  | 81 => ⟨S1x8192x1024, .f32⟩
  | 82 => ⟨S1x8192x1024, .f32⟩
  | 83 => ⟨S_, .f32⟩
  | 84 => ⟨S1024, .f32⟩
  | 85 => ⟨S1x8192x1024, .f32⟩
  | 86 => ⟨S_, .f32⟩
  | 87 => ⟨S1x8192, .f32⟩
  | 88 => ⟨S1x8192x1, .f32⟩
  | 89 => ⟨S1x8192x1024, .f32⟩
  | 90 => ⟨S1x8192x1024, .f32⟩
  | 91 => ⟨S1x8192x1, .f32⟩
  | 92 => ⟨S_, .f32⟩
  | 93 => ⟨S1x8192x1, .f32⟩
  | 94 => ⟨S1x8192x1, .f32⟩
  | 95 => ⟨S_, .f32⟩
  | 96 => ⟨S8192, .f32⟩
  | 97 => ⟨S1x8192, .f32⟩
  | 98 => ⟨S1x8192x1024, .f32⟩
  | 99 => ⟨S1x8192x1024, .f32⟩
  | 100 => ⟨S1x8192x1024, .f32⟩
  | 101 => ⟨S1x8192x1024, .f32⟩
  | 102 => ⟨S1x8192x1024, .f32⟩
  | 103 => ⟨S1x1024, .f32⟩
  | 104 => ⟨S1024x1024, .f32⟩
  | 105 => ⟨S1024x1024, .f32⟩
  | 106 => ⟨S1x8192x1024, .f32⟩
  | 107 => ⟨S1x1024x1024, .f32⟩
  | 108 => ⟨S1x8192x512, .f32⟩
  | 109 => ⟨S1x8192x512, .f32⟩
  | 110 => ⟨S1x8192x512, .f32⟩
  | 111 => ⟨S1x8192x512, .f32⟩
  | 112 => ⟨S1x8192x512, .f32⟩
  | 113 => ⟨S1x8192x1024, .f32⟩
  | 114 => ⟨S1024x512, .f32⟩
  | 115 => ⟨S512x1024, .f32⟩
  | 116 => ⟨S1x8192x512, .f32⟩
  | 117 => ⟨S1x512x1024, .f32⟩
  | 118 => ⟨S1x8192x512, .f32⟩
  | 119 => ⟨S1x8192x512, .f32⟩
  | 120 => ⟨S_, .f32⟩
  | 121 => ⟨S1x8192x512, .f32⟩
  | 122 => ⟨S1x8192x512, .f32⟩
  | 123 => ⟨S1x8192x512, .f32⟩
  | 124 => ⟨S_, .f32⟩
  | 125 => ⟨S1x8192x512, .f32⟩
  | 126 => ⟨S1x8192x512, .f32⟩
  | 127 => ⟨S1x8192x512, .f32⟩
  | _ => ⟨S1x8192x512, .f32⟩

abbrev hbmTy0_1 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S8192x512, .f32⟩
  | 5 => ⟨S8192x512, .f32⟩
  | 6 => ⟨S1024x1024, .f32⟩
  | 7 => ⟨S512x1024, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_20 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩

abbrev nD : Nat := 1
abbrev τ : Topo := Topo.v7x

variable {F : FTy → Type} [FloatOps F]
-- ==== Kernel5.lean ====
abbrev S1024x640 : Shape := ⟨2, ![1024, 640]⟩
abbrev S512x256 : Shape := ⟨2, ![512, 256]⟩
abbrev S256x1024 : Shape := ⟨2, ![256, 1024]⟩
abbrev S512x640 : Shape := ⟨2, ![512, 640]⟩
abbrev S256x256 : Shape := ⟨2, ![256, 256]⟩
abbrev S128x1024 : Shape := ⟨2, ![128, 1024]⟩

abbrev nBuf : Space → Nat
  | .hbm => 21
  | .vmem => 42
  | .smem => 0
  | _ => 0

abbrev bufTy : (tb : Table) → Fin (tcTables nBuf tb) → BufTy
  | .hbm, ⟨0, _⟩ => ⟨S1024x640, .f32⟩
  | .hbm, ⟨1, _⟩ => ⟨S512x256, .f32⟩
  | .hbm, ⟨2, _⟩ => ⟨S256x1024, .f32⟩
  | .hbm, ⟨3, _⟩ => ⟨S1024x640, .f32⟩
  | .hbm, ⟨4, _⟩ => ⟨S512x256, .f32⟩
  | .hbm, ⟨5, _⟩ => ⟨S256x1024, .f32⟩
  | .hbm, ⟨6, _⟩ => ⟨S1024x640, .f32⟩
  | .hbm, ⟨7, _⟩ => ⟨S512x256, .f32⟩
  | .hbm, ⟨8, _⟩ => ⟨S256x1024, .f32⟩
  | .hbm, ⟨9, _⟩ => ⟨S1024x640, .f32⟩
  | .hbm, ⟨10, _⟩ => ⟨S512x256, .f32⟩
  | .hbm, ⟨11, _⟩ => ⟨S256x1024, .f32⟩
  | .hbm, ⟨12, _⟩ => ⟨S1024x640, .f32⟩
  | .hbm, ⟨13, _⟩ => ⟨S512x256, .f32⟩
  | .hbm, ⟨14, _⟩ => ⟨S256x1024, .f32⟩
  | .hbm, ⟨15, _⟩ => ⟨S1024x640, .f32⟩
  | .hbm, ⟨16, _⟩ => ⟨S512x256, .f32⟩
  | .hbm, ⟨17, _⟩ => ⟨S256x1024, .f32⟩
  | .hbm, ⟨18, _⟩ => ⟨S1024x640, .f32⟩
  | .hbm, ⟨19, _⟩ => ⟨S512x256, .f32⟩
  | .hbm, ⟨20, _⟩ => ⟨S256x1024, .f32⟩
  | .local _ .vmem, ⟨0, _⟩ => ⟨S512x640, .f32⟩
  | .local _ .vmem, ⟨1, _⟩ => ⟨S512x640, .f32⟩
  | .local _ .vmem, ⟨2, _⟩ => ⟨S256x256, .f32⟩
  | .local _ .vmem, ⟨3, _⟩ => ⟨S256x256, .f32⟩
  | .local _ .vmem, ⟨4, _⟩ => ⟨S128x1024, .f32⟩
  | .local _ .vmem, ⟨5, _⟩ => ⟨S128x1024, .f32⟩
  | .local _ .vmem, ⟨6, _⟩ => ⟨S512x640, .f32⟩
  | .local _ .vmem, ⟨7, _⟩ => ⟨S512x640, .f32⟩
  | .local _ .vmem, ⟨8, _⟩ => ⟨S256x256, .f32⟩
  | .local _ .vmem, ⟨9, _⟩ => ⟨S256x256, .f32⟩
  | .local _ .vmem, ⟨10, _⟩ => ⟨S128x1024, .f32⟩
  | .local _ .vmem, ⟨11, _⟩ => ⟨S128x1024, .f32⟩
  | .local _ .vmem, ⟨12, _⟩ => ⟨S512x640, .f32⟩
  | .local _ .vmem, ⟨13, _⟩ => ⟨S512x640, .f32⟩
  | .local _ .vmem, ⟨14, _⟩ => ⟨S256x256, .f32⟩
  | .local _ .vmem, ⟨15, _⟩ => ⟨S256x256, .f32⟩
  | .local _ .vmem, ⟨16, _⟩ => ⟨S128x1024, .f32⟩
  | .local _ .vmem, ⟨17, _⟩ => ⟨S128x1024, .f32⟩
  | .local _ .vmem, ⟨18, _⟩ => ⟨S512x640, .f32⟩
  | .local _ .vmem, ⟨19, _⟩ => ⟨S512x640, .f32⟩
  | .local _ .vmem, ⟨20, _⟩ => ⟨S256x256, .f32⟩
  | .local _ .vmem, ⟨21, _⟩ => ⟨S256x256, .f32⟩
  | .local _ .vmem, ⟨22, _⟩ => ⟨S128x1024, .f32⟩
  | .local _ .vmem, ⟨23, _⟩ => ⟨S128x1024, .f32⟩
  | .local _ .vmem, ⟨24, _⟩ => ⟨S512x640, .f32⟩
  | .local _ .vmem, ⟨25, _⟩ => ⟨S512x640, .f32⟩
  | .local _ .vmem, ⟨26, _⟩ => ⟨S256x256, .f32⟩
  | .local _ .vmem, ⟨27, _⟩ => ⟨S256x256, .f32⟩
  | .local _ .vmem, ⟨28, _⟩ => ⟨S128x1024, .f32⟩
  | .local _ .vmem, ⟨29, _⟩ => ⟨S128x1024, .f32⟩
  | .local _ .vmem, ⟨30, _⟩ => ⟨S512x640, .f32⟩
  | .local _ .vmem, ⟨31, _⟩ => ⟨S512x640, .f32⟩
  | .local _ .vmem, ⟨32, _⟩ => ⟨S256x256, .f32⟩
  | .local _ .vmem, ⟨33, _⟩ => ⟨S256x256, .f32⟩
  | .local _ .vmem, ⟨34, _⟩ => ⟨S128x1024, .f32⟩
  | .local _ .vmem, ⟨35, _⟩ => ⟨S128x1024, .f32⟩
  | .local _ .vmem, ⟨36, _⟩ => ⟨S512x640, .f32⟩
  | .local _ .vmem, ⟨37, _⟩ => ⟨S512x640, .f32⟩
  | .local _ .vmem, ⟨38, _⟩ => ⟨S256x256, .f32⟩
  | .local _ .vmem, ⟨39, _⟩ => ⟨S256x256, .f32⟩
  | .local _ .vmem, ⟨40, _⟩ => ⟨S128x1024, .f32⟩
  | .local _ .vmem, ⟨41, _⟩ => ⟨S128x1024, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x640 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x640 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference5Ideal.lean ====
abbrev S1024x640 : Shape := ⟨2, ![1024, 640]⟩
abbrev S512x256 : Shape := ⟨2, ![512, 256]⟩
abbrev S256x1024 : Shape := ⟨2, ![256, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S512x256, .f32⟩
  | .hbm, ⟨2, _⟩ => ⟨S256x1024, .f32⟩
  | .hbm, ⟨3, _⟩ => ⟨S1024x640, .f32⟩
  | .hbm, ⟨4, _⟩ => ⟨S512x256, .f32⟩
  | .hbm, ⟨5, _⟩ => ⟨S256x1024, .f32⟩
  | .hbm, ⟨6, _⟩ => ⟨S1024x640, .f32⟩
  | .hbm, ⟨7, _⟩ => ⟨S512x256, .f32⟩
  | .hbm, ⟨8, _⟩ => ⟨S256x1024, .f32⟩
  | .hbm, ⟨9, _⟩ => ⟨S1024x640, .f32⟩
  | .hbm, ⟨10, _⟩ => ⟨S512x256, .f32⟩
  | .hbm, ⟨11, _⟩ => ⟨S256x1024, .f32⟩
  | .hbm, ⟨12, _⟩ => ⟨S_, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S1024x640, .f32⟩
  | .hbm, ⟨23, _⟩ => ⟨S_, .f32⟩
  | .hbm, ⟨24, _⟩ => ⟨S1024x640, .f32⟩
  | .hbm, ⟨25, _⟩ => ⟨S1024x640, .f32⟩
  | .hbm, ⟨26, _⟩ => ⟨S1024x640, .f32⟩
  | .hbm, ⟨27, _⟩ => ⟨S_, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | .hbm, ⟨37, _⟩ => ⟨S1024x640, .f32⟩
  | .hbm, ⟨38, _⟩ => ⟨S_, .f32⟩
  | .hbm, ⟨39, _⟩ => ⟨S1024x640, .f32⟩
  | .hbm, ⟨40, _⟩ => ⟨S1024x640, .f32⟩
  | .hbm, ⟨41, _⟩ => ⟨S1024x640, .f32⟩
  | .hbm, ⟨42, _⟩ => ⟨S_, .f32⟩
  | .hbm, ⟨43, _⟩ => ⟨S1024x640, .f32⟩
  | .hbm, ⟨44, _⟩ => ⟨S1024x640, .f32⟩
  | .hbm, ⟨45, _⟩ => ⟨S_, .f32⟩
  | .hbm, ⟨46, _⟩ => ⟨S512x256, .f32⟩
  | .hbm, ⟨47, _⟩ => ⟨S512x256, .f32⟩
  | .hbm, ⟨48, _⟩ => ⟨S_, .f32⟩
  | .hbm, ⟨49, _⟩ => ⟨S512x256, .f32⟩
  | .hbm, ⟨50, _⟩ => ⟨S512x256, .f32⟩
  | .hbm, ⟨51, _⟩ => ⟨S512x256, .f32⟩
  | .hbm, ⟨52, _⟩ => ⟨S_, .f32⟩
  | .hbm, ⟨53, _⟩ => ⟨S512x256, .f32⟩
  | .hbm, ⟨54, _⟩ => ⟨S512x256, .f32⟩
  | .hbm, ⟨55, _⟩ => ⟨S512x256, .f32⟩
  | .hbm, ⟨56, _⟩ => ⟨S_, .f32⟩
  | .hbm, ⟨57, _⟩ => ⟨S512x256, .f32⟩
  | .hbm, ⟨58, _⟩ => ⟨S512x256, .f32⟩
  | .hbm, ⟨59, _⟩ => ⟨S512x256, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S_, .f32⟩
  | .hbm, ⟨64, _⟩ => ⟨S512x256, .f32⟩
  | .hbm, ⟨65, _⟩ => ⟨S512x256, .f32⟩
  | .hbm, ⟨66, _⟩ => ⟨S512x256, .f32⟩
  | .hbm, ⟨67, _⟩ => ⟨S_, .f32⟩
  | .hbm, ⟨68, _⟩ => ⟨S512x256, .f32⟩
  | .hbm, ⟨69, _⟩ => ⟨S512x256, .f32⟩
  | .hbm, ⟨70, _⟩ => ⟨S512x256, .f32⟩
  | .hbm, ⟨71, _⟩ => ⟨S_, .f32⟩
  | .hbm, ⟨72, _⟩ => ⟨S512x256, .f32⟩
  | .hbm, ⟨73, _⟩ => ⟨S512x256, .f32⟩
  | .hbm, ⟨74, _⟩ => ⟨S512x256, .f32⟩
  | .hbm, ⟨75, _⟩ => ⟨S_, .f32⟩
  | .hbm, ⟨76, _⟩ => ⟨S512x256, .f32⟩
  | .hbm, ⟨77, _⟩ => ⟨S512x256, .f32⟩
  | .hbm, ⟨78, _⟩ => ⟨S_, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S_, .f32⟩
  | .hbm, ⟨97, _⟩ => ⟨S256x1024, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S_, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S_, .f32⟩
  | .hbm, ⟨109, _⟩ => ⟨S256x1024, .f32⟩
  | .hbm, ⟨110, _⟩ => ⟨S256x1024, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel6Ideal.lean ====
abbrev S1x1024 : Shape := ⟨2, ![1, 1024]⟩
abbrev S1x512 : Shape := ⟨2, ![1, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩

abbrev nBuf : Space → Nat
  | .hbm => 91
  | .vmem => 91
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x512, .f32⟩
  | .hbm, ⟨3, _⟩ => ⟨S1x32x64, .f32⟩
  | .hbm, ⟨4, _⟩ => ⟨S1x32x64, .f32⟩
  | .hbm, ⟨5, _⟩ => ⟨S1x32, .f32⟩
  | .hbm, ⟨6, _⟩ => ⟨S1x32x64x16, .f32⟩
  | .hbm, ⟨7, _⟩ => ⟨S1x32x64x16, .f32⟩
  | .hbm, ⟨8, _⟩ => ⟨S1x32x16x64, .f32⟩
  | .hbm, ⟨9, _⟩ => ⟨S1x32x16x64, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x512, .f32⟩
  | .hbm, ⟨16, _⟩ => ⟨S1x32x64, .f32⟩
  | .hbm, ⟨17, _⟩ => ⟨S1x32x64, .f32⟩
  | .hbm, ⟨18, _⟩ => ⟨S1x32, .f32⟩
  | .hbm, ⟨19, _⟩ => ⟨S1x32x64x16, .f32⟩
  | .hbm, ⟨20, _⟩ => ⟨S1x32x64x16, .f32⟩
  | .hbm, ⟨21, _⟩ => ⟨S1x32x16x64, .f32⟩
  | .hbm, ⟨22, _⟩ => ⟨S1x32x16x64, .f32⟩
  | .hbm, ⟨23, _⟩ => ⟨S1x512, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x512, .f32⟩
  | .hbm, ⟨29, _⟩ => ⟨S1x32x64, .f32⟩
  | .hbm, ⟨30, _⟩ => ⟨S1x32x64, .f32⟩
  | .hbm, ⟨31, _⟩ => ⟨S1x32, .f32⟩
  | .hbm, ⟨32, _⟩ => ⟨S1x32x64x16, .f32⟩
  | .hbm, ⟨33, _⟩ => ⟨S1x32x64x16, .f32⟩
  | .hbm, ⟨34, _⟩ => ⟨S1x32x16x64, .f32⟩
  | .hbm, ⟨35, _⟩ => ⟨S1x32x16x64, .f32⟩
  | .hbm, ⟨36, _⟩ => ⟨S1x512, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x512, .f32⟩
  | .hbm, ⟨42, _⟩ => ⟨S1x32x64, .f32⟩
  | .hbm, ⟨43, _⟩ => ⟨S1x32x64, .f32⟩
  | .hbm, ⟨44, _⟩ => ⟨S1x32, .f32⟩
  | .hbm, ⟨45, _⟩ => ⟨S1x32x64x16, .f32⟩
  | .hbm, ⟨46, _⟩ => ⟨S1x32x64x16, .f32⟩
  | .hbm, ⟨47, _⟩ => ⟨S1x32x16x64, .f32⟩
  | .hbm, ⟨48, _⟩ => ⟨S1x32x16x64, .f32⟩
  | .hbm, ⟨49, _⟩ => ⟨S1x512, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x512, .f32⟩
  | .hbm, ⟨55, _⟩ => ⟨S1x32x64, .f32⟩
  | .hbm, ⟨56, _⟩ => ⟨S1x32x64, .f32⟩
  | .hbm, ⟨57, _⟩ => ⟨S1x32, .f32⟩
  | .hbm, ⟨58, _⟩ => ⟨S1x32x64x16, .f32⟩
  | .hbm, ⟨59, _⟩ => ⟨S1x32x64x16, .f32⟩
  | .hbm, ⟨60, _⟩ => ⟨S1x32x16x64, .f32⟩
  | .hbm, ⟨61, _⟩ => ⟨S1x32x16x64, .f32⟩
  | .hbm, ⟨62, _⟩ => ⟨S1x512, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x512, .f32⟩
  | .hbm, ⟨68, _⟩ => ⟨S1x32x64, .f32⟩
  | .hbm, ⟨69, _⟩ => ⟨S1x32x64, .f32⟩
  | .hbm, ⟨70, _⟩ => ⟨S1x32, .f32⟩
  | .hbm, ⟨71, _⟩ => ⟨S1x32x64x16, .f32⟩
  | .hbm, ⟨72, _⟩ => ⟨S1x32x64x16, .f32⟩
  | .hbm, ⟨73, _⟩ => ⟨S1x32x16x64, .f32⟩
  | .hbm, ⟨74, _⟩ => ⟨S1x32x16x64, .f32⟩
  | .hbm, ⟨75, _⟩ => ⟨S1x512, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x512, .f32⟩
  | .hbm, ⟨81, _⟩ => ⟨S1x32x64, .f32⟩
  | .hbm, ⟨82, _⟩ => ⟨S1x32x64, .f32⟩
  | .hbm, ⟨83, _⟩ => ⟨S1x32, .f32⟩
  | .hbm, ⟨84, _⟩ => ⟨S1x32x64x16, .f32⟩
  | .hbm, ⟨85, _⟩ => ⟨S1x32x64x16, .f32⟩
  | .hbm, ⟨86, _⟩ => ⟨S1x32x16x64, .f32⟩
  | .hbm, ⟨87, _⟩ => ⟨S1x32x16x64, .f32⟩
  | .hbm, ⟨88, _⟩ => ⟨S1x512, .f32⟩
  | .hbm, ⟨89, _⟩ => ⟨S1x1024, .f32⟩
  | .hbm, ⟨90, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x512, .f32⟩
  | .local _ .vmem, ⟨3, _⟩ => ⟨S1x32x64, .f32⟩
  | .local _ .vmem, ⟨4, _⟩ => ⟨S1x32x64, .f32⟩
  | .local _ .vmem, ⟨5, _⟩ => ⟨S1x32, .f32⟩
  | .local _ .vmem, ⟨6, _⟩ => ⟨S1x32x64x16, .f32⟩
  | .local _ .vmem, ⟨7, _⟩ => ⟨S1x32x64x16, .f32⟩
  | .local _ .vmem, ⟨8, _⟩ => ⟨S1x32x16x64, .f32⟩
  | .local _ .vmem, ⟨9, _⟩ => ⟨S1x32x16x64, .f32⟩
  | .local _ .vmem, ⟨10, _⟩ => ⟨S1x512, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x512, .f32⟩
  | .local _ .vmem, ⟨16, _⟩ => ⟨S1x32x64, .f32⟩
  | .local _ .vmem, ⟨17, _⟩ => ⟨S1x32x64, .f32⟩
  | .local _ .vmem, ⟨18, _⟩ => ⟨S1x32, .f32⟩
  | .local _ .vmem, ⟨19, _⟩ => ⟨S1x32x64x16, .f32⟩
  | .local _ .vmem, ⟨20, _⟩ => ⟨S1x32x64x16, .f32⟩
  | .local _ .vmem, ⟨21, _⟩ => ⟨S1x32x16x64, .f32⟩
  | .local _ .vmem, ⟨22, _⟩ => ⟨S1x32x16x64, .f32⟩
  | .local _ .vmem, ⟨23, _⟩ => ⟨S1x512, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x512, .f32⟩
  | .local _ .vmem, ⟨29, _⟩ => ⟨S1x32x64, .f32⟩
  | .local _ .vmem, ⟨30, _⟩ => ⟨S1x32x64, .f32⟩
  | .local _ .vmem, ⟨31, _⟩ => ⟨S1x32, .f32⟩
  | .local _ .vmem, ⟨32, _⟩ => ⟨S1x32x64x16, .f32⟩
  | .local _ .vmem, ⟨33, _⟩ => ⟨S1x32x64x16, .f32⟩
  | .local _ .vmem, ⟨34, _⟩ => ⟨S1x32x16x64, .f32⟩
  | .local _ .vmem, ⟨35, _⟩ => ⟨S1x32x16x64, .f32⟩
  | .local _ .vmem, ⟨36, _⟩ => ⟨S1x512, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x512, .f32⟩
  | .local _ .vmem, ⟨42, _⟩ => ⟨S1x32x64, .f32⟩
  | .local _ .vmem, ⟨43, _⟩ => ⟨S1x32x64, .f32⟩
  | .local _ .vmem, ⟨44, _⟩ => ⟨S1x32, .f32⟩
  | .local _ .vmem, ⟨45, _⟩ => ⟨S1x32x64x16, .f32⟩
  | .local _ .vmem, ⟨46, _⟩ => ⟨S1x32x64x16, .f32⟩
  | .local _ .vmem, ⟨47, _⟩ => ⟨S1x32x16x64, .f32⟩
  | .local _ .vmem, ⟨48, _⟩ => ⟨S1x32x16x64, .f32⟩
  | .local _ .vmem, ⟨49, _⟩ => ⟨S1x512, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x512, .f32⟩
  | .local _ .vmem, ⟨55, _⟩ => ⟨S1x32x64, .f32⟩
  | .local _ .vmem, ⟨56, _⟩ => ⟨S1x32x64, .f32⟩
  | .local _ .vmem, ⟨57, _⟩ => ⟨S1x32, .f32⟩
  | .local _ .vmem, ⟨58, _⟩ => ⟨S1x32x64x16, .f32⟩
  | .local _ .vmem, ⟨59, _⟩ => ⟨S1x32x64x16, .f32⟩
  | .local _ .vmem, ⟨60, _⟩ => ⟨S1x32x16x64, .f32⟩
  | .local _ .vmem, ⟨61, _⟩ => ⟨S1x32x16x64, .f32⟩
  | .local _ .vmem, ⟨62, _⟩ => ⟨S1x512, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | .local _ .vmem, ⟨66, _⟩ => ⟨S1x1024, .f32⟩
  | .local _ .vmem, ⟨67, _⟩ => ⟨S1x512, .f32⟩
  | .local _ .vmem, ⟨68, _⟩ => ⟨S1x32x64, .f32⟩
  | .local _ .vmem, ⟨69, _⟩ => ⟨S1x32x64, .f32⟩
  | .local _ .vmem, ⟨70, _⟩ => ⟨S1x32, .f32⟩
  | .local _ .vmem, ⟨71, _⟩ => ⟨S1x32x64x16, .f32⟩
  | .local _ .vmem, ⟨72, _⟩ => ⟨S1x32x64x16, .f32⟩
  | .local _ .vmem, ⟨73, _⟩ => ⟨S1x32x16x64, .f32⟩
  | .local _ .vmem, ⟨74, _⟩ => ⟨S1x32x16x64, .f32⟩
  | .local _ .vmem, ⟨75, _⟩ => ⟨S1x512, .f32⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S1x1024, .f32⟩
  | .local _ .vmem, ⟨80, _⟩ => ⟨S1x512, .f32⟩
  | .local _ .vmem, ⟨81, _⟩ => ⟨S1x32x64, .f32⟩
  | .local _ .vmem, ⟨82, _⟩ => ⟨S1x32x64, .f32⟩
  | .local _ .vmem, ⟨83, _⟩ => ⟨S1x32, .f32⟩
  | .local _ .vmem, ⟨84, _⟩ => ⟨S1x32x64x16, .f32⟩
  | .local _ .vmem, ⟨85, _⟩ => ⟨S1x32x64x16, .f32⟩
  | .local _ .vmem, ⟨86, _⟩ => ⟨S1x32x16x64, .f32⟩
  | .local _ .vmem, ⟨87, _⟩ => ⟨S1x32x16x64, .f32⟩
  | .local _ .vmem, ⟨88, _⟩ => ⟨S1x512, .f32⟩
  | .local _ .vmem, ⟨89, _⟩ => ⟨S1x1024, .f32⟩
  | .local _ .vmem, ⟨90, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0_0 : Ref sig .tc := ⟨.hbm, 52, rfl⟩
abbrev main_v0_1 : Ref sig .tc := ⟨.hbm, 53, rfl⟩
abbrev main_v0_2 : Ref sig .tc := ⟨.hbm, 54, rfl⟩
abbrev main_v0_3 : Ref sig .tc := ⟨.hbm, 55, rfl⟩
abbrev main_v0_4 : Ref sig .tc := ⟨.hbm, 56, rfl⟩
abbrev main_v0_5 : Ref sig .tc := ⟨.hbm, 57, rfl⟩
abbrev main_v0_6 : Ref sig .tc := ⟨.hbm, 58, rfl⟩
abbrev main_v0_7 : Ref sig .tc := ⟨.hbm, 59, rfl⟩
abbrev main_v0_8 : Ref sig .tc := ⟨.hbm, 60, rfl⟩
abbrev main_v0_9 : Ref sig .tc := ⟨.hbm, 61, rfl⟩
abbrev main_v0_10 : Ref sig .tc := ⟨.hbm, 62, rfl⟩
abbrev main_v0_11 : Ref sig .tc := ⟨.hbm, 63, rfl⟩
abbrev main_v0_12 : Ref sig .tc := ⟨.hbm, 64, rfl⟩
abbrev main_v0_13 : Ref sig .tc := ⟨.hbm, 65, rfl⟩
abbrev main_v0_14 : Ref sig .tc := ⟨.hbm, 66, rfl⟩
abbrev main_v0_15 : Ref sig .tc := ⟨.hbm, 67, rfl⟩
abbrev main_v0_16 : Ref sig .tc := ⟨.hbm, 68, rfl⟩
abbrev main_v0_17 : Ref sig .tc := ⟨.hbm, 69, rfl⟩
abbrev main_v0_18 : Ref sig .tc := ⟨.hbm, 70, rfl⟩
abbrev main_v0_19 : Ref sig .tc := ⟨.hbm, 71, rfl⟩
abbrev main_v0_20 : Ref sig .tc := ⟨.hbm, 72, rfl⟩
abbrev main_v0_21 : Ref sig .tc := ⟨.hbm, 73, rfl⟩
abbrev main_v0_22 : Ref sig .tc := ⟨.hbm, 74, rfl⟩
abbrev main_v0_23 : Ref sig .tc := ⟨.hbm, 75, rfl⟩
abbrev main_v0_24 : Ref sig .tc := ⟨.hbm, 76, rfl⟩
abbrev main_v0_25 : Ref sig .tc := ⟨.hbm, 77, rfl⟩
abbrev main_v0_26 : Ref sig .tc := ⟨.hbm, 78, rfl⟩
abbrev main_v0_27 : Ref sig .tc := ⟨.hbm, 79, rfl⟩
abbrev main_v0_28 : Ref sig .tc := ⟨.hbm, 80, rfl⟩
abbrev main_v0_29 : Ref sig .tc := ⟨.hbm, 81, rfl⟩
abbrev main_v0_30 : Ref sig .tc := ⟨.hbm, 82, rfl⟩
abbrev main_v0_31 : Ref sig .tc := ⟨.hbm, 83, rfl⟩
abbrev main_v0_32 : Ref sig .tc := ⟨.hbm, 84, rfl⟩
abbrev main_v0_33 : Ref sig .tc := ⟨.hbm, 85, rfl⟩
abbrev main_v0_34 : Ref sig .tc := ⟨.hbm, 86, rfl⟩
abbrev main_v0_35 : Ref sig .tc := ⟨.hbm, 87, rfl⟩
abbrev main_v0_36 : Ref sig .tc := ⟨.hbm, 88, rfl⟩
abbrev main_v0_37 : Ref sig .tc := ⟨.hbm, 89, rfl⟩
abbrev main_v0_38 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_stg90_0 : Ref sig .tc := ⟨.vmem, 90, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89
abbrev cc0_sem90_0 : DmaSem sig := 90

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32x64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x32x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x32x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x32x64x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x32x64x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x32x16x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x32x16x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x32x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x32x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x32 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x32x64x16 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x32x64x16 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x32x16x64 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x32x16x64 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x512 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x32x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x32x64 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x32 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x32x64x16 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x32x64x16 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x32x16x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x32x16x64 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x512 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x32x64 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x32x64 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x32 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x32x64x16 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x32x64x16 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x32x16x64 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x32x16x64 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x512 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x32x64 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x32x64 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x32 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x32x64x16 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x32x64x16 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x32x16x64 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x32x16x64 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x512 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x1024 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x1024 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S1x512 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S1x32x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x32x64 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S1x32 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S1x32x64x16 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S1x32x64x16 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S1x32x16x64 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S1x32x16x64 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S1x512 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S1x1024 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))

abbrev stage0_90 : Fin 1 → Memref sig .tc .vmem S1x1024 .f32 := fun | 0 => Memref.whole cc0_stg90_0 | ⟨_ + 1, h⟩ => absurd h (Nat.not_lt.2 (Nat.le_add_left _ _))
abbrev sem0_90 : Fin 1 → DmaSem sig := fun | 0 => cc0_sem90_0 | ⟨_ + 1, h⟩ => absurd h (Nat.not_lt.2 (Nat.le_add_left _ _))
-- ==== Reference6Ideal.lean ====
abbrev S1x1024 : Shape := ⟨2, ![1, 1024]⟩
abbrev S1x512 : Shape := ⟨2, ![1, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S1x1024, .f32⟩
  | 1 => ⟨S1x1024, .f32⟩
  | 2 => ⟨S1x512, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S1x512, .f32⟩
  | 11 => ⟨S1x1024, .f32⟩
  | 12 => ⟨S1x1024, .f32⟩
  | 13 => ⟨S1x1024, .f32⟩
  | 14 => ⟨S1x1024, .f32⟩
  | 15 => ⟨S1x512, .f32⟩
  | 16 => ⟨S1x32x64, .f32⟩
  | 17 => ⟨S1x32x64, .f32⟩
  | 18 => ⟨S1x32, .f32⟩
  | 19 => ⟨S1x32x64x16, .f32⟩
  | 20 => ⟨S1x32x64x16, .f32⟩
  | 21 => ⟨S1x32x16x64, .f32⟩
  | 22 => ⟨S1x32x16x64, .f32⟩
  | 23 => ⟨S1x512, .f32⟩
  | 24 => ⟨S1x1024, .f32⟩
  | 25 => ⟨S1x1024, .f32⟩
  | 26 => ⟨S1x1024, .f32⟩
  | 27 => ⟨S1x1024, .f32⟩
  | 28 => ⟨S1x512, .f32⟩
  | 29 => ⟨S1x32x64, .f32⟩
  | 30 => ⟨S1x32x64, .f32⟩
  | 31 => ⟨S1x32, .f32⟩
  | 32 => ⟨S1x32x64x16, .f32⟩
  | 33 => ⟨S1x32x64x16, .f32⟩
  | 34 => ⟨S1x32x16x64, .f32⟩
  | 35 => ⟨S1x32x16x64, .f32⟩
  | 36 => ⟨S1x512, .f32⟩
  | 37 => ⟨S1x1024, .f32⟩
  | 38 => ⟨S1x1024, .f32⟩
  | 39 => ⟨S1x1024, .f32⟩
  | 40 => ⟨S1x1024, .f32⟩
  | 41 => ⟨S1x512, .f32⟩
  | 42 => ⟨S1x32x64, .f32⟩
  | 43 => ⟨S1x32x64, .f32⟩
  | 44 => ⟨S1x32, .f32⟩
  | 45 => ⟨S1x32x64x16, .f32⟩
  | 46 => ⟨S1x32x64x16, .f32⟩
  | 47 => ⟨S1x32x16x64, .f32⟩
  | 48 => ⟨S1x32x16x64, .f32⟩
  | 49 => ⟨S1x512, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1x1024, .f32⟩

abbrev hbmTy0_1 (i : Nat) : BufTy := match i % 128 with
  | 0 => ⟨S1x512, .f32⟩
  | 1 => ⟨S_, .f32⟩
  | 2 => ⟨S1x512, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S1x512, .f32⟩
  | 20 => ⟨S_, .f32⟩
  | 21 => ⟨S1x512, .f32⟩
  | 22 => ⟨S1x512, .f32⟩
  | 23 => ⟨S_, .f32⟩
  | 24 => ⟨S1x32x64, .f32⟩
  | 25 => ⟨S1x32x64, .f32⟩
  | 26 => ⟨S_, .f32⟩
  | 27 => ⟨S1x32x64, .f32⟩
  | 28 => ⟨S1x32x64, .f32⟩
  | 29 => ⟨S1x32x64, .f32⟩
  | 30 => ⟨S_, .f32⟩
  | 31 => ⟨S1x32x64, .f32⟩
  | 32 => ⟨S1x32x64, .f32⟩
  | 33 => ⟨S1x32x64, .f32⟩
  | 34 => ⟨S_, .f32⟩
  | 35 => ⟨S1x32x64, .f32⟩
  | 36 => ⟨S1x32x64, .f32⟩
  | 37 => ⟨S1x32x64, .f32⟩
  | 38 => ⟨S_, .f32⟩
  | 39 => ⟨S1x32x64, .f32⟩
  | 40 => ⟨S1x32x64, .f32⟩
  | 41 => ⟨S_, .f32⟩
  | 42 => ⟨S1x32x64, .f32⟩
  | 43 => ⟨S1x32x64, .f32⟩
  | 44 => ⟨S1x32x64, .f32⟩
  | 45 => ⟨S_, .f32⟩
  | 46 => ⟨S1x32x64, .f32⟩
  | 47 => ⟨S1x32x64, .f32⟩
  | 48 => ⟨S1x32x64, .f32⟩
  | 49 => ⟨S_, .f32⟩
  | 50 => ⟨S1x32x64, .f32⟩
  | 51 => ⟨S1x32x64, .f32⟩
  | 52 => ⟨S1x32x64, .f32⟩
  | 53 => ⟨S_, .f32⟩
  | 54 => ⟨S1x32x64, .f32⟩
  | 55 => ⟨S1x32x64, .f32⟩
  | 56 => ⟨S_, .f32⟩
  | 57 => ⟨S1x32x64, .f32⟩
  | 58 => ⟨S1x32x64, .f32⟩
  | 59 => ⟨S_, .f32⟩
  | 60 => ⟨S1x32x64, .f32⟩
  | 61 => ⟨S1x32x64, .f32⟩
  | 62 => ⟨S1x32x64, .f32⟩
  | 63 => ⟨S_, .f32⟩
  | 64 => ⟨S1x32x64, .f32⟩
  | 65 => ⟨S1x32x64, .f32⟩
  | 66 => ⟨S1x32x64, .f32⟩
  | 67 => ⟨S_, .f32⟩
  | 68 => ⟨S1x32x64, .f32⟩
  | 69 => ⟨S1x32x64, .f32⟩
  | 70 => ⟨S1x32x64, .f32⟩
  | 71 => ⟨S_, .f32⟩
  | 72 => ⟨S1x32x64, .f32⟩
  | 73 => ⟨S1x32x64, .f32⟩
  | 74 => ⟨S_, .f32⟩
  | 75 => ⟨S1x32x64, .f32⟩
  | 76 => ⟨S1x32x64, .f32⟩
  | 77 => ⟨S1x32x64, .f32⟩
  | 78 => ⟨S_, .f32⟩
  | 79 => ⟨S1x32x64, .f32⟩
  | 80 => ⟨S1x32x64, .f32⟩
  | 81 => ⟨S1x32x64, .f32⟩
  | 82 => ⟨S_, .f32⟩
  | 83 => ⟨S1x32x64, .f32⟩
  | 84 => ⟨S1x32x64, .f32⟩
  | 85 => ⟨S1x32x64, .f32⟩
  | 86 => ⟨S_, .f32⟩
  | 87 => ⟨S1x32x64, .f32⟩
  | 88 => ⟨S1x32x64, .f32⟩
  | 89 => ⟨S_, .f32⟩
  | 90 => ⟨S1x32, .f32⟩
  | 91 => ⟨S1x32, .f32⟩
  | 92 => ⟨S_, .f32⟩
  | 93 => ⟨S1x32, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S1x32, .f32⟩
  | 104 => ⟨S_, .f32⟩
  | 105 => ⟨S1x32, .f32⟩
  | 106 => ⟨S1x32, .f32⟩
  | 107 => ⟨S_, .f32⟩
  | 108 => ⟨S1x32, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S_, .f32⟩
  | 116 => ⟨S1x32, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S_, .f32⟩
  | 123 => ⟨S1x32x64x16, .f32⟩
  | 124 => ⟨S1x32x64x16, .f32⟩
  | 125 => ⟨S_, .f32⟩
  | 126 => ⟨S1x32x64x16, .f32⟩
  | 127 => ⟨S1x32x64x16, .f32⟩
  | _ => ⟨S1x1024, .f32⟩

abbrev hbmTy0_2 (i : Nat) : BufTy := match i % 128 with
  | 0 => ⟨S1x32x64x16, .f32⟩
  | 1 => ⟨S_, .f32⟩
  | 2 => ⟨S1x32x64x16, .f32⟩
  | 3 => ⟨S1x32x64x16, .f32⟩
  | 4 => ⟨S1x32x64x16, .f32⟩
  | 5 => ⟨S_, .f32⟩
  | 6 => ⟨S1x32x64x16, .f32⟩
  | 7 => ⟨S1x32x64x16, .f32⟩
  | 8 => ⟨S1x32x64x16, .f32⟩
  | 9 => ⟨S_, .f32⟩
  | 10 => ⟨S1x32x64x16, .f32⟩
  | 11 => ⟨S1x32x64x16, .f32⟩
  | 12 => ⟨S_, .f32⟩
  | 13 => ⟨S1x32x64x16, .f32⟩
  | 14 => ⟨S1x32x64x16, .f32⟩
  | 15 => ⟨S1x32x64x16, .f32⟩
  | 16 => ⟨S_, .f32⟩
  | 17 => ⟨S1x32x64x16, .f32⟩
  | 18 => ⟨S1x32x64x16, .f32⟩
  | 19 => ⟨S1x32x64x16, .f32⟩
  | 20 => ⟨S_, .f32⟩
  | 21 => ⟨S1x32x64x16, .f32⟩
  | 22 => ⟨S1x32x64x16, .f32⟩
  | 23 => ⟨S1x32x64x16, .f32⟩
  | 24 => ⟨S_, .f32⟩
  | 25 => ⟨S1x32x64x16, .f32⟩
  | 26 => ⟨S1x32x64x16, .f32⟩
  | 27 => ⟨S_, .f32⟩
  | 28 => ⟨S1x32x64x16, .f32⟩
  | 29 => ⟨S1x32x64x16, .f32⟩
  | 30 => ⟨S_, .f32⟩
  | 31 => ⟨S1x32x64x16, .f32⟩
  | 32 => ⟨S1x32x64x16, .f32⟩
  | 33 => ⟨S1x32x64x16, .f32⟩
  | 34 => ⟨S_, .f32⟩
  | 35 => ⟨S1x32x64x16, .f32⟩
  | 36 => ⟨S1x32x64x16, .f32⟩
  | 37 => ⟨S1x32x64x16, .f32⟩
  | 38 => ⟨S_, .f32⟩
  | 39 => ⟨S1x32x64x16, .f32⟩
  | 40 => ⟨S1x32x64x16, .f32⟩
  | 41 => ⟨S1x32x64x16, .f32⟩
  | 42 => ⟨S_, .f32⟩
  | 43 => ⟨S1x32x64x16, .f32⟩
  | 44 => ⟨S1x32x64x16, .f32⟩
  | 45 => ⟨S_, .f32⟩
  | 46 => ⟨S1x32x64x16, .f32⟩
  | 47 => ⟨S1x32x64x16, .f32⟩
  | 48 => ⟨S1x32x64x16, .f32⟩
  | 49 => ⟨S_, .f32⟩
  | 50 => ⟨S1x32x64x16, .f32⟩
  | 51 => ⟨S1x32x64x16, .f32⟩
  | 52 => ⟨S1x32x64x16, .f32⟩
  | 53 => ⟨S_, .f32⟩
  | 54 => ⟨S1x32x64x16, .f32⟩
  | 55 => ⟨S1x32x64x16, .f32⟩
  | 56 => ⟨S1x32x64x16, .f32⟩
  | 57 => ⟨S_, .f32⟩
  | 58 => ⟨S1x32x64x16, .f32⟩
  | 59 => ⟨S1x32x64x16, .f32⟩
  | 60 => ⟨S_, .f32⟩
  | 61 => ⟨S1x32x16x64, .f32⟩
  | 62 => ⟨S1x32x16x64, .f32⟩
  | 63 => ⟨S_, .f32⟩
  | 64 => ⟨S1x32x16x64, .f32⟩
  | 65 => ⟨S1x32x16x64, .f32⟩
  | 66 => ⟨S1x32x16x64, .f32⟩
  | 67 => ⟨S_, .f32⟩
  | 68 => ⟨S1x32x16x64, .f32⟩
  | 69 => ⟨S1x32x16x64, .f32⟩
  | 70 => ⟨S1x32x16x64, .f32⟩
  | 71 => ⟨S_, .f32⟩
  | 72 => ⟨S1x32x16x64, .f32⟩
  | 73 => ⟨S1x32x16x64, .f32⟩
  | 74 => ⟨S1x32x16x64, .f32⟩
  | 75 => ⟨S_, .f32⟩
  | 76 => ⟨S1x32x16x64, .f32⟩
  | 77 => ⟨S1x32x16x64, .f32⟩
  | 78 => ⟨S_, .f32⟩
  | 79 => ⟨S1x32x16x64, .f32⟩
  | 80 => ⟨S1x32x16x64, .f32⟩
  | 81 => ⟨S1x32x16x64, .f32⟩
  | 82 => ⟨S_, .f32⟩
  | 83 => ⟨S1x32x16x64, .f32⟩
  | 84 => ⟨S1x32x16x64, .f32⟩
  | 85 => ⟨S1x32x16x64, .f32⟩
  | 86 => ⟨S_, .f32⟩
  | 87 => ⟨S1x32x16x64, .f32⟩
  | 88 => ⟨S1x32x16x64, .f32⟩
  | 89 => ⟨S1x32x16x64, .f32⟩
  | 90 => ⟨S_, .f32⟩
  | 91 => ⟨S1x32x16x64, .f32⟩
  | 92 => ⟨S1x32x16x64, .f32⟩
  | 93 => ⟨S_, .f32⟩
  | 94 => ⟨S1x32x16x64, .f32⟩
  | 95 => ⟨S1x32x16x64, .f32⟩
  | 96 => ⟨S_, .f32⟩
  | 97 => ⟨S1x32x16x64, .f32⟩
  | 98 => ⟨S1x32x16x64, .f32⟩
  | 99 => ⟨S1x32x16x64, .f32⟩
  | 100 => ⟨S_, .f32⟩
  | 101 => ⟨S1x32x16x64, .f32⟩
  | 102 => ⟨S1x32x16x64, .f32⟩
  | 103 => ⟨S1x32x16x64, .f32⟩
  | 104 => ⟨S_, .f32⟩
  | 105 => ⟨S1x32x16x64, .f32⟩
  | 106 => ⟨S1x32x16x64, .f32⟩
  | 107 => ⟨S1x32x16x64, .f32⟩
  | 108 => ⟨S_, .f32⟩
  | 109 => ⟨S1x32x16x64, .f32⟩
  | 110 => ⟨S1x32x16x64, .f32⟩
  | 111 => ⟨S_, .f32⟩
  | 112 => ⟨S1x32x16x64, .f32⟩
  | 113 => ⟨S1x32x16x64, .f32⟩
  | 114 => ⟨S1x32x16x64, .f32⟩
  | 115 => ⟨S_, .f32⟩
  | 116 => ⟨S1x32x16x64, .f32⟩
  | 117 => ⟨S1x32x16x64, .f32⟩
  | 118 => ⟨S1x32x16x64, .f32⟩
  | 119 => ⟨S_, .f32⟩
  | 120 => ⟨S1x32x16x64, .f32⟩
  | 121 => ⟨S1x32x16x64, .f32⟩
  | 122 => ⟨S1x32x16x64, .f32⟩
  | 123 => ⟨S_, .f32⟩
  | 124 => ⟨S1x32x16x64, .f32⟩
  | 125 => ⟨S1x32x16x64, .f32⟩
  | 126 => ⟨S_, .f32⟩
  | 127 => ⟨S1x512, .f32⟩
  | _ => ⟨S1x1024, .f32⟩

abbrev hbmTy0_3 (i : Nat) : BufTy := match i % 128 with
  | 0 => ⟨S1x512, .f32⟩
  | 1 => ⟨S_, .f32⟩
  | 2 => ⟨S1x512, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S1x512, .f32⟩
  | 20 => ⟨S_, .f32⟩
  | 21 => ⟨S1x512, .f32⟩
  | 22 => ⟨S1x512, .f32⟩
  | 23 => ⟨S1x512, .f32⟩
  | 24 => ⟨S_, .f32⟩
  | 25 => ⟨S1x512, .f32⟩
  | 26 => ⟨S1x512, .f32⟩
  | 27 => ⟨S1x512, .f32⟩
  | 28 => ⟨S_, .f32⟩
  | 29 => ⟨S1x512, .f32⟩
  | 30 => ⟨S1x512, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Proof.RefFrame.lean ====
module

public import proofs.«01_k».proof.Defs
public import proofs.«01_k».proof.Proof.Gen.Reference2Ideal.Run

@[expose] public section

/-!
# The frame of the MLP's reference

The reference is host code alone: it declares no semaphore, so every counter is trivially zero, and its run leaves its
arguments as they were.
-/

noncomputable section

open Idealize.ShloMosaic Idealize.ShloMosaic.TcCoe Idealize.SL.Sem

namespace Cert.Mlp

/-- The reference terminates, its arguments unchanged and every semaphore counter at zero. -/
theorem frame_reference : Cert.quiescent_Reference2Ideal (hReference2Ideal := Cert.Reference2Ideal.Gen.facts) := fun m g _ =>
  (θ_run _ _ _).mono (fun _ h => ⟨fun c => (h c).2.2.2.2.2.2, funext fun s => by
      obtain ⟨t, s⟩ := s; exact nomatch s⟩) (Cert.Reference2Ideal.Value.run m g)

end Cert.Mlp

end
-- ==== Proof.Lift.lean ====
module

public import Idealize.ShloMosaic.Lib.Pointwise
public import Idealize.ShloMosaic.PureOps.Ideal

@[expose] public section

/-!
# Reading an extended-real computation as a computation over the reals

Each operation of the ideal float instance, applied to embedded reals, is the embedded real operation. The lemmas
here push the embedding outwards; a value all of whose inputs are real is then one embedded real formula.
-/

noncomputable section

namespace Cert.Lift

open Idealize.ShloMosaic

/-- A finite sum of embedded reals is the embedded sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top _), ih]

/-- A square is not negative. -/
theorem sq_nonneg_ereal (x : EReal) : 0 ≤ x * x := by
  induction x with
  | bot => simp
  | top => simp
  | coe x => rw [← EReal.coe_mul]; exact EReal.coe_nonneg.mpr (mul_self_nonneg x)

/-- The larger of two embedded reals. -/
theorem max_coe (a b : ℝ) : max (a : EReal) (b : EReal) = ((max a b : ℝ) : EReal) := (EReal.coe_strictMono.monotone.map_max).symm

/-- The positive part of an embedded real. -/
theorem max_coe_zero (a : ℝ) : max (a : EReal) 0 = ((max a 0 : ℝ) : EReal) := max_coe a 0

/-- A division by a nonzero real. -/
theorem div_real {y : ℝ} (h : y ≠ 0) (x : ℝ) : Ideal.div (x : EReal) (y : EReal) = ((x / y : ℝ) : EReal) := by
  rw [Ideal.div_coe h, ← EReal.coe_mul, mul_one_div]

/-- The reciprocal square root of a positive real. -/
theorem rsqrt_pos {x : ℝ} (h : 0 < x) : Ideal.rsqrt (x : EReal) = (((√x)⁻¹ : ℝ) : EReal) := by
  rw [Ideal.rsqrt_coe, if_neg (not_lt.mpr h.le), if_neg h.ne']

/-- The pattern of 1024. -/
theorem bits_1024 : Ideal.ofBits .f32 0x44800000#32 = ((1024 : ℝ) : EReal) := by
  simp [Ideal.ofBits, Ideal.ieee, -EReal.coe_mul]; norm_num

/-- The pattern of 1/1024. -/
theorem bits_inv_1024 : Ideal.ofBits .f32 0x3A800000#32 = ((1 / 1024 : ℝ) : EReal) := by
  simp [Ideal.ofBits, Ideal.ieee, -EReal.coe_mul]; norm_num

/-- The pattern of 2. -/
theorem bits_two : Ideal.ofBits .f32 0x40000000#32 = ((2 : ℝ) : EReal) := by
  simp [Ideal.ofBits, Ideal.ieee, -EReal.coe_mul]; norm_num

/-- The pattern of one half. -/
theorem bits_half : Ideal.ofBits .f32 0x3F000000#32 = ((1 / 2 : ℝ) : EReal) := by
  simp [Ideal.ofBits, Ideal.ieee, -EReal.coe_mul]; norm_num

/-- The small constant added under a root: the rational its word is. -/
def eps : ℝ := 8796093 / 2 ^ 43

theorem eps_pos : 0 < eps := by unfold eps; norm_num

theorem bits_eps : Ideal.ofBits .f32 0x358637BD#32 = ((eps : ℝ) : EReal) := by
  simp [Ideal.ofBits, Ideal.ieee, -EReal.coe_mul, eps]; norm_num

end Cert.Lift

end
-- ==== Proof.MlpMath.lean ====
module

public import proofs.«01_k».proof.Proof.Lift

@[expose] public section

/-!
# The squared-relu layer on one row, over the extended reals

One row `x` of activations with its target row `t`: normalise, multiply by the first weight, square the positive part,
multiply by the second weight, normalise, add to `x`, compare with `t`. Then the derivative of half the mean square
of the difference, backwards through the same steps.
-/

noncomputable section

namespace Cert.Mlp

open Cert.Lift

/-- The layer's weights: the two gains and the two matrices. -/
structure Weights where
  gpre : Fin 1024 → EReal
  gpost : Fin 1024 → EReal
  up : Fin 1024 → Fin 4096 → EReal
  down : Fin 4096 → Fin 1024 → EReal

/-- A sum over a row, divided by the row's length. -/
def mean (s : EReal) : EReal := Idealize.ShloMosaic.Ideal.div s ((1024 : ℝ) : EReal)

/-- The mean square of a row, kept away from zero. -/
def var (x : Fin 1024 → EReal) : EReal := mean (∑ j, x j * x j) + ((eps : ℝ) : EReal)

/-- The reciprocal root of the mean square. -/
def rinv (x : Fin 1024 → EReal) : EReal := Idealize.ShloMosaic.Ideal.rsqrt (var x)

/-- A row divided by the root of its mean square. -/
def nrm (x : Fin 1024 → EReal) (j : Fin 1024) : EReal := x j * rinv x

/-- The derivative of `nrm` at a row with reciprocal root `r` and normalised row `n`, applied to `d`. -/
def nrmBack (r : EReal) (n d : Fin 1024 → EReal) (j : Fin 1024) : EReal := r * (d j - n j * mean (∑ l, d l * n l))

theorem mean_eq (s : EReal) : mean s = s * ((1 / 1024 : ℝ) : EReal) :=
  Idealize.ShloMosaic.Ideal.div_coe (by norm_num : (1024 : ℝ) ≠ 0) s

/-- A mean square is not negative. -/
theorem sum_sq_nonneg (x : Fin 1024 → EReal) : 0 ≤ ∑ j, x j * x j := Finset.sum_nonneg fun j _ => sq_nonneg_ereal (x j)

/-- Either the mean square is infinite, or it is a positive real. -/
theorem var_cases (x : Fin 1024 → EReal) : var x = ⊤ ∨ ∃ v : ℝ, 0 < v ∧ var x = (v : EReal) := by
  have h0 : 0 ≤ mean (∑ j, x j * x j) := by
    rw [mean_eq]; exact mul_nonneg (sum_sq_nonneg x) (EReal.coe_nonneg.mpr (by norm_num))
  unfold var
  generalize mean (∑ j, x j * x j) = s at h0
  induction s with
  | bot => exact absurd h0 (by simp)
  | top => left; exact EReal.top_add_coe eps
  | coe s => right; exact ⟨s + eps, add_pos_of_nonneg_of_pos (EReal.coe_nonneg.mp h0) eps_pos, (EReal.coe_add _ _).symm⟩

/-- Two halves of a negative multiple. -/
theorem two_halves (p : EReal) {κ : ℝ} (h : 0 < κ) : p * ((-κ / 2 : ℝ) : EReal) + p * ((-κ / 2 : ℝ) : EReal) = -(p * ((κ : ℝ) : EReal)) := by
  have hn : -κ / 2 < 0 := by linarith
  induction p with
  | bot => rw [EReal.bot_mul_coe_of_neg hn, EReal.bot_mul_coe_of_pos h]; rfl
  | top => rw [EReal.top_mul_coe_of_neg hn, EReal.top_mul_coe_of_pos h]; rfl
  | coe p => rw [← EReal.coe_mul, ← EReal.coe_mul, ← EReal.coe_add, ← EReal.coe_neg]; congr 1; ring

/-- The derivative of the normalisation as the chain rule writes it, step by step through the root. -/
theorem nrmBack_chain (x d : Fin 1024 → EReal) (j : Fin 1024) :
    d j * rinv x + x j * mean ((∑ l, x l * d l) * (((-1 / 2 : ℝ) : EReal) * Idealize.ShloMosaic.Ideal.div (rinv x) (var x)))
      + mean ((∑ l, x l * d l) * (((-1 / 2 : ℝ) : EReal) * Idealize.ShloMosaic.Ideal.div (rinv x) (var x))) * x j
      = nrmBack (rinv x) (nrm x) d j := by
  unfold nrmBack nrm rinv
  rcases var_cases x with hv | ⟨v, hv, e⟩
  · rw [hv, show Idealize.ShloMosaic.Ideal.rsqrt ⊤ = 0 from rfl, show Idealize.ShloMosaic.Ideal.div 0 ⊤ = 0 by
      simp [Idealize.ShloMosaic.Ideal.div]]
    simp [mean_eq]
  · rw [e, rsqrt_pos hv, div_real hv.ne']
    set ρ : ℝ := (√v)⁻¹ with hρ
    have hp : 0 < ρ := inv_pos.mpr (Real.sqrt_pos.mpr hv)
    have hr : ρ / v = ρ * ρ * ρ := by
      have : v = √v * √v := (Real.mul_self_sqrt hv.le).symm
      rw [div_eq_mul_inv, mul_assoc]; congr 1
      conv_lhs => rw [this]
      rw [hρ, mul_inv]
    have hsum : (∑ l, d l * (x l * (ρ : EReal))) = (∑ l, x l * d l) * (ρ : EReal) := by
      rw [sum_mul_real _ _ hp.le]; exact Finset.sum_congr rfl fun l _ => by rw [← mul_assoc, mul_comm (d l)]
    rw [hsum, hr]
    generalize (∑ l, x l * d l) = S
    simp only [mean_eq]
    have hκ : 0 < ρ * ρ * ρ * (1 / 1024) := by positivity
    have e1 : x j * (S * (((-1 / 2 : ℝ) : EReal) * ((ρ * ρ * ρ : ℝ) : EReal)) * ((1 / 1024 : ℝ) : EReal))
        = x j * S * ((-(ρ * ρ * ρ * (1 / 1024)) / 2 : ℝ) : EReal) := by
      rw [mul_assoc S, ← mul_assoc (x j), ← EReal.coe_mul, ← EReal.coe_mul]; congr 2; ring
    have e2 : S * (((-1 / 2 : ℝ) : EReal) * ((ρ * ρ * ρ : ℝ) : EReal)) * ((1 / 1024 : ℝ) : EReal) * x j
        = x j * S * ((-(ρ * ρ * ρ * (1 / 1024)) / 2 : ℝ) : EReal) := by rw [mul_comm _ (x j), e1]
    have e3 : (ρ : EReal) * (d j - x j * (ρ : EReal) * (S * (ρ : EReal) * ((1 / 1024 : ℝ) : EReal)))
        = d j * (ρ : EReal) + -(x j * S * ((ρ * ρ * ρ * (1 / 1024) : ℝ) : EReal)) := by
      rw [sub_eq_add_neg, EReal.left_distrib_of_nonneg_of_ne_top (EReal.coe_nonneg.mpr hp.le) (EReal.coe_ne_top _), mul_comm,
        mul_neg]
      congr 2
      have : ((ρ * ρ * ρ * (1 / 1024) : ℝ) : EReal) = (ρ : EReal) * (ρ : EReal) * (ρ : EReal) * ((1 / 1024 : ℝ) : EReal) := by
        push_cast; rfl
      rw [this]
      ac_rfl
    rw [e1, e2, e3, add_assoc, two_halves _ hκ]

variable (w : Weights) (x t : Fin 1024 → EReal)

/-- The row entering the first product. -/
def hid (j : Fin 1024) : EReal := nrm x j * w.gpre j
/-- The first product. -/
def pre (k : Fin 4096) : EReal := ∑ j, hid w x j * w.up j k
/-- Its positive part. -/
def act (k : Fin 4096) : EReal := max (pre w x k) 0
/-- The second product. -/
def out (j : Fin 1024) : EReal := ∑ k, act w x k * act w x k * w.down k j
/-- The layer's output less the target. -/
def err (j : Fin 1024) : EReal := x j + nrm (out w x) j * w.gpost j - t j
/-- The derivative of the loss at the layer's output. -/
def dy (j : Fin 1024) : EReal := err w x t j * ((1 / 1024 : ℝ) : EReal)
/-- The derivative at the second product. -/
def dout : Fin 1024 → EReal := nrmBack (rinv (out w x)) (nrm (out w x)) fun j => dy w x t j * w.gpost j
/-- The derivative at the first product. -/
def dpre (k : Fin 4096) : EReal := (∑ j, dout w x t j * w.down k j) * (((2 : ℝ) : EReal) * act w x k)
/-- The derivative at the row entering the first product. -/
def dhid (j : Fin 1024) : EReal := ∑ k, dpre w x t k * w.up j k
/-- The derivative at the layer's input. -/
def dx (j : Fin 1024) : EReal := dy w x t j + nrmBack (rinv x) (nrm x) (fun j => dhid w x t j * w.gpre j) j

/-- Where the first product is not positive its derivative is zero: the test may be dropped. -/
theorem dpre_test (k : Fin 4096) :
    (if 0 < pre w x k then (∑ j, dout w x t j * w.down k j) * (((2 : ℝ) : EReal) * act w x k) else 0) = dpre w x t k := by
  unfold dpre
  split_ifs with h
  · rfl
  · rw [show act w x k = 0 from max_eq_right (not_lt.mp h), mul_zero, mul_zero]

section Batch

variable (w : Weights) (X T : Fin 8192 → Fin 1024 → EReal)

/-- Half the mean square of the difference, summed over the rows. -/
def loss : EReal := ((1 / 2 : ℝ) : EReal) * ∑ i, mean (∑ j, err w (X i) (T i) j * err w (X i) (T i) j)
/-- The derivative of the first gain: a sum over the rows. -/
def dgpre (j : Fin 1024) : EReal := ∑ i, dhid w (X i) (T i) j * nrm (X i) j
/-- The derivative of the second gain. -/
def dgpost (j : Fin 1024) : EReal := ∑ i, dy w (X i) (T i) j * nrm (out w (X i)) j
/-- The derivative of the first matrix. -/
def dup (j : Fin 1024) (k : Fin 4096) : EReal := ∑ i, hid w (X i) j * dpre w (X i) (T i) k
/-- The derivative of the second matrix. -/
def ddown (k : Fin 4096) (j : Fin 1024) : EReal := ∑ i, act w (X i) k * act w (X i) k * dout w (X i) (T i) j

/-- The mean may be taken after the sum over the rows. -/
theorem loss_sum : mean (((1 / 2 : ℝ) : EReal) * ∑ j, ∑ i, err w (X i) (T i) j * err w (X i) (T i) j) = loss w X T := by
  unfold loss
  simp only [mean_eq]
  rw [Finset.sum_comm, mul_assoc, sum_mul_real _ _ (by norm_num : (0 : ℝ) ≤ 1 / 1024)]

end Batch

end Cert.Mlp

end
-- ==== Proof.MlpPay.lean ====
module

public import proofs.«01_k».proof.Proof.MlpMath
public import proofs.«01_k».proof.Proof.Gen.Kernel2Ideal.Skeleton

@[expose] public section

/-!
# What the two kernels store

Each value the two kernel bodies compute from a block of rows, read at one row and one column, is the row formula of
`MlpMath` at that row.
-/

set_option maxRecDepth 16384

noncomputable section

open Idealize.ShloMosaic Idealize.ShloMosaic.TcCoe Idealize.SL.Sem

namespace Cert.Kernel2Ideal.Pay

open Cert.Kernel2Ideal Cert.Kernel2Ideal.Gen Cert.Lift Cert.Mlp

section First

variable (w : Weights) (X T : Fin 256 → Fin 1024 → EReal)
  {v3 : FVec Ideal S256x1024 .f32} {v15 : FVec Ideal S1x1024 .f32} {v19 : FVec Ideal S1024x4096 .bf16}
  {v26 : FVec Ideal S4096x1024 .bf16} {v39 : FVec Ideal S1x1024 .f32} {v43 : FVec Ideal S256x1024 .f32}
  (h3 : ∀ i j, v3 (ix2 i j) = (X i j : EReal)) (h15 : ∀ j, v15 (ix2 0 j) = (w.gpre j : EReal))
  (h19 : ∀ j k, v19 (ix2 j k) = (w.up j k : EReal)) (h26 : ∀ k j, v26 (ix2 k j) = (w.down k j : EReal))
  (h39 : ∀ j, v39 (ix2 0 j) = (w.gpost j : EReal)) (h43 : ∀ i j, v43 (ix2 i j) = (T i j : EReal))

include h3 h15 h19 in
theorem act_eq (i : Fin 256) (k : Fin 4096) : k0_pay7 (F := Ideal) v3 v15 v19 (ix2 i k) = (act w (X i) k : EReal) := by
  pointwise [k0_pay7, k0_pay6]
  simp only [h3, h15, h19, bits_1024, bits_eps]
  rfl

include h3 h15 h19 in
theorem sq_eq (i : Fin 256) (k : Fin 4096) :
    k0_pay8 (F := Ideal) v3 v15 v19 (ix2 i k) = (act w (X i) k * act w (X i) k : EReal) := by
  pointwise [k0_pay8]
  simp only [act_eq w X h3 h15 h19]

include h3 h15 h19 h26 in
theorem out_eq (i : Fin 256) (j : Fin 1024) :
    k0_pay9 (F := Ideal) v3 v15 v19 v26 (ix2 i j) = (out w (X i) j : EReal) := by
  pointwise [k0_pay9]
  simp only [sq_eq w X h3 h15 h19, h26]
  rfl

include h3 h15 h19 h26 in
theorem rinv_eq (i : Fin 256) : k0_pay10 (F := Ideal) v3 v15 v19 v26 (ix2 i 0) = (rinv (out w (X i)) : EReal) := by
  pointwise [k0_pay10]
  simp only [out_eq w X h3 h15 h19 h26, bits_1024, bits_eps]
  rfl

include h3 h15 h19 h26 in
theorem nrm_eq (i : Fin 256) (j : Fin 1024) :
    k0_pay11 (F := Ideal) v3 v15 v19 v26 (ix2 i j) = (nrm (out w (X i)) j : EReal) := by
  pointwise [k0_pay11]
  simp only [out_eq w X h3 h15 h19 h26, rinv_eq w X h3 h15 h19 h26]
  rfl

include h3 in
theorem row_eq (i : Fin 256) (j : Fin 1024) : k0_pay6 (F := Ideal) v3 (ix2 i j) = (X i j : EReal) := by
  pointwise [k0_pay6]
  exact h3 i j

variable {v4 v38 : FVec Ideal S256x1024 .f32} {v36 : FVec Ideal S256x1 .f32}
  (h4 : ∀ i j, v4 (ix2 i j) = (X i j : EReal)) (h38 : ∀ i j, v38 (ix2 i j) = (nrm (out w (X i)) j : EReal))
  (h36 : ∀ i, v36 (ix2 i 0) = (rinv (out w (X i)) : EReal))

include h4 h38 h39 h43 in
theorem err_eq (i : Fin 256) (j : Fin 1024) :
    k0_pay12 (F := Ideal) v4 v38 v39 v43 (ix2 i j) = (err w (X i) (T i) j : EReal) := by
  pointwise [k0_pay12]
  simp only [h4, h38, h39, h43]
  rfl

include h4 h38 h39 h43 in
/-- The running sum of squared differences, column by column. -/
theorem loss_eq (v46 : FVec Ideal S1x1024 .f32) (j : Fin 1024) :
    k0_pay13 (F := Ideal) v4 v38 v39 v43 v46 (ix2 0 j)
      = v46 (ix2 0 j) + ((∑ i, err w (X i) (T i) j * err w (X i) (T i) j : EReal)) := by
  pointwise [k0_pay13]
  simp only [err_eq w X T h39 h43 h4 h38]

include h4 h38 h39 h43 in
theorem dy_eq (i : Fin 256) (j : Fin 1024) :
    k0_pay14 (F := Ideal) v4 v38 v39 v43 (ix2 i j) = (dy w (X i) (T i) j : EReal) := by
  pointwise [k0_pay14]
  simp only [err_eq w X T h39 h43 h4 h38, bits_inv_1024]
  rfl

include h4 h38 h39 h43 in
/-- The running derivative of the second gain. -/
theorem dgpost_eq (v71 : FVec Ideal S1x1024 .f32) (j : Fin 1024) :
    k0_pay15 (F := Ideal) v4 v38 v39 v43 v71 (ix2 0 j)
      = v71 (ix2 0 j) + ((∑ i, dy w (X i) (T i) j * nrm (out w (X i)) j : EReal)) := by
  pointwise [k0_pay15]
  simp only [dy_eq w X T h39 h43 h4 h38, h38]

include h4 h38 h39 h43 h36 in
theorem dout_eq (i : Fin 256) (j : Fin 1024) :
    k0_pay16 (F := Ideal) v4 v36 v38 v39 v43 (ix2 i j) = (dout w (X i) (T i) j : EReal) := by
  pointwise [k0_pay16]
  simp only [dy_eq w X T h39 h43 h4 h38, h36, h38, h39, bits_1024]
  rfl

variable {v23 : FVec Ideal S256x4096 .f32} {v25 : FVec Ideal S256x4096 .bf16} {v75 : FVec Ideal S256x1024 .bf16}
  (h23 : ∀ i k, v23 (ix2 i k) = (act w (X i) k : EReal))
  (h25 : ∀ i k, v25 (ix2 i k) = (act w (X i) k * act w (X i) k : EReal))
  (h75 : ∀ i j, v75 (ix2 i j) = (dout w (X i) (T i) j : EReal))

include h25 h75 in
/-- The running derivative of the second matrix. -/
theorem ddown_eq (v76 : FVec Ideal S4096x1024 .f32) (k : Fin 4096) (j : Fin 1024) :
    k0_pay1 (F := Ideal) v25 v75 v76 (ix2 k j)
      = v76 (ix2 k j) + ((∑ i, act w (X i) k * act w (X i) k * dout w (X i) (T i) j : EReal)) := by
  pointwise [k0_pay1]
  simp only [h25, h75]

include h23 h75 h26 in
theorem dpre_eq (i : Fin 256) (k : Fin 4096) :
    k0_pay2 (F := Ideal) v23 v75 v26 (ix2 i k) = (dpre w (X i) (T i) k : EReal) := by
  pointwise [k0_pay2]
  simp only [h23, h26, h75, bits_two]
  rfl

end First

section Second

variable (w : Weights) (X T : Fin 512 → Fin 1024 → EReal)
  {v3 : FVec Ideal S512x1024 .f32} {v15 : FVec Ideal S1x1024 .f32} {v19 : FVec Ideal S512x4096 .bf16}
  {v26 : FVec Ideal S1024x4096 .bf16} {v48 : FVec Ideal S512x1024 .f32}
  (h3 : ∀ i j, v3 (ix2 i j) = (X i j : EReal)) (h15 : ∀ j, v15 (ix2 0 j) = (w.gpre j : EReal))
  (h19 : ∀ i k, v19 (ix2 i k) = (dpre w (X i) (T i) k : EReal)) (h26 : ∀ j k, v26 (ix2 j k) = (w.up j k : EReal))
  (h48 : ∀ i j, v48 (ix2 i j) = (dy w (X i) (T i) j : EReal))

include h3 in
theorem rinv1_eq (i : Fin 512) : k1_pay6 (F := Ideal) v3 (ix2 i 0) = (rinv (X i) : EReal) := by
  pointwise [k1_pay6, k1_pay5]
  simp only [h3, bits_1024, bits_eps]
  rfl

include h3 in
theorem nrm1_eq (i : Fin 512) (j : Fin 1024) : k1_pay7 (F := Ideal) v3 (ix2 i j) = (nrm (X i) j : EReal) := by
  pointwise [k1_pay7, k1_pay5]
  simp only [h3, rinv1_eq X h3]
  rfl

include h3 h15 h19 in
/-- The running derivative of the first matrix. -/
theorem dup_eq (v21 : FVec Ideal S1024x4096 .f32) (j : Fin 1024) (k : Fin 4096) :
    k1_pay9 (F := Ideal) v3 v15 v19 v21 (ix2 j k)
      = v21 (ix2 j k) + ((∑ i, hid w (X i) j * dpre w (X i) (T i) k : EReal)) := by
  pointwise [k1_pay9, k1_pay8]
  simp only [nrm1_eq X h3, h15, h19]
  rfl

include h19 h26 in
theorem dhid_eq (i : Fin 512) (j : Fin 1024) :
    k1_pay10 (F := Ideal) v19 v26 (ix2 i j) = (dhid w (X i) (T i) j : EReal) := by
  pointwise [k1_pay10, k1_pay8]
  simp only [h19, h26]
  rfl

include h19 h26 h15 in
theorem dnrm_eq (i : Fin 512) (j : Fin 1024) :
    k1_pay11 (F := Ideal) v15 v19 v26 (ix2 i j) = (dhid w (X i) (T i) j * w.gpre j : EReal) := by
  pointwise [k1_pay11]
  simp only [dhid_eq w X T h19 h26, h15]

include h3 h19 h26 h15 in
theorem mean1_eq (i : Fin 512) :
    k1_pay12 (F := Ideal) v3 v15 v19 v26 (ix2 i 0)
      = mean (∑ j, dhid w (X i) (T i) j * w.gpre j * nrm (X i) j) := by
  pointwise [k1_pay12]
  simp only [dnrm_eq w X T h15 h19 h26, nrm1_eq X h3, bits_1024]
  rfl

include h3 h19 h26 in
/-- The running derivative of the first gain. -/
theorem dgpre_eq (v44 : FVec Ideal S1x1024 .f32) (j : Fin 1024) :
    k1_pay1 (F := Ideal) (k1_pay7 v3) (k1_pay10 v19 v26) v44 (ix2 0 j)
      = v44 (ix2 0 j) + ((∑ i, dhid w (X i) (T i) j * nrm (X i) j : EReal)) := by
  pointwise [k1_pay1]
  simp only [dhid_eq w X T h19 h26, nrm1_eq X h3]

include h3 h19 h26 h15 h48 in
theorem dx_eq (i : Fin 512) (j : Fin 1024) :
    k1_pay2 (F := Ideal) (k1_pay6 v3) (k1_pay7 v3) (k1_pay11 v15 v19 v26) (k1_pay12 v3 v15 v19 v26) v48 (ix2 i j)
      = (dx w (X i) (T i) j : EReal) := by
  pointwise [k1_pay2]
  simp only [dnrm_eq w X T h15 h19 h26, nrm1_eq X h3, rinv1_eq X h3, mean1_eq w X T h3 h15 h19 h26, h48]
  rfl

end Second

end Cert.Kernel2Ideal.Pay

end
-- ==== Proof.MlpFwd.lean ====
module

public import proofs.«01_k».proof.Proof.MlpPay
public import proofs.«01_k».proof.Proof.Gen.Kernel2Ideal.Frame
public import Idealize.ShloMosaic.Lib.Pipeline.ValueKit

@[expose] public section

/-!
# What the first kernel of the squared-relu layer leaves in its arrays

Its grid walks the 8192 rows in blocks of 256. Two outputs are written block by block; three are sums over the rows,
carried from point to point and written back at the last one.
-/

set_option maxRecDepth 16384

noncomputable section

open Idealize.ShloMosaic Idealize.ShloMosaic.TcCoe Idealize.SL.Sem
open Idealize.ShloMosaic.Pipeline (Dat Cfg Window)

namespace Cert.Kernel2Ideal.Fwd

open Cert.Kernel2Ideal Cert.Kernel2Ideal.Gen Cert.Lift Cert.Mlp

variable (V : (c : Dev nD) → (b : Ref sig .tc) → Buf (Elt Ideal) ((c : Thread nD τ).loc b)) (c : Dev nD)
  (w : Weights) (X T : Fin 8192 → Fin 1024 → EReal)

/-- The arrays the kernel reads hold these extended reals. -/
structure Inputs : Prop where
  x : ∀ i j, (V c main_v0 : FVec Ideal S8192x1024 .f32) (ix2 i j) = (X i j : EReal)
  t : ∀ i j, (V c main_v5 : FVec Ideal S8192x1024 .f32) (ix2 i j) = (T i j : EReal)
  gpre : ∀ j, (V c main_arg1 : FVec Ideal S1x1024 .f32) (ix2 0 j) = (w.gpre j : EReal)
  gpost : ∀ j, (V c main_arg2 : FVec Ideal S1x1024 .f32) (ix2 0 j) = (w.gpost j : EReal)
  up : ∀ j k, (V c main_v2 : FVec Ideal S1024x4096 .bf16) (ix2 j k) = (w.up j k : EReal)
  down : ∀ k j, (V c main_v4 : FVec Ideal S4096x1024 .bf16) (ix2 k j) = (w.down k j : EReal)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

theorem val_lt (t : Fin cfg0.N) : t.val < 32 := lt_of_lt_of_eq t.isLt N_0

/-- Row `i` of the block of point `t`. -/
def row (t : Fin cfg0.N) (i : Fin 256) : Fin 8192 := ⟨t.val * 256 + i.val, by have := val_lt t; omega⟩

/-- The blocks' rows are all the rows. -/
theorem sum_rows (f : Fin 8192 → EReal) (q : Fin 32 → Fin cfg0.N) (hq : ∀ s, (q s).val = s.val) :
    ∑ s : Fin 32, ∑ i : Fin 256, f (row (q s) i) = ∑ i, f i :=
  Fin.sum_mul_add_congr fun s k hl => congrArg f (Fin.ext (by simp only [row, hq]))

/-- A function of two coordinates at equal coordinates. -/
theorem at_coords {A B : ℕ} {α : Type*} (g : Fin A → Fin B → α) {a a' : Fin A} {b b' : Fin B} (ha : a.val = a'.val)
    (hb : b.val = b'.val) : g a b = g a' b' := by rw [Fin.ext ha, Fin.ext hb]

theorem k0_pay3_zero (y) : k0_pay3 (F := Ideal) y = 0 := by
  pointwise [k0_pay3]

theorem k0_pay4_zero (y) : k0_pay4 (F := Ideal) y = 0 := by
  pointwise [k0_pay4]

theorem k0_pay5_zero (y) : k0_pay5 (F := Ideal) y = 0 := by
  pointwise [k0_pay5]

variable {V c w X T} (h : Inputs V c w X T)
include h

theorem x_blk (t : Fin cfg0.N) (i : Fin 256) (j : Fin 1024) :
    (iblk0 V c 0 t : FVec Ideal S256x1024 .f32) (ix2 i j) = (X (row t i) j : EReal) := by
  rw [← h.x]; blk_point [iblk0, idx t, row]

theorem t_blk (t : Fin cfg0.N) (i : Fin 256) (j : Fin 1024) :
    (iblk0 V c 1 t : FVec Ideal S256x1024 .f32) (ix2 i j) = (T (row t i) j : EReal) := by
  rw [← h.t]; blk_point [iblk0, idx t, row]

theorem gpre_blk (t : Fin cfg0.N) (j : Fin 1024) :
    (iblk0 V c 2 t : FVec Ideal S1x1024 .f32) (ix2 0 j) = (w.gpre j : EReal) := by
  rw [← h.gpre]; blk_point [iblk0, idx t]

theorem gpost_blk (t : Fin cfg0.N) (j : Fin 1024) :
    (iblk0 V c 3 t : FVec Ideal S1x1024 .f32) (ix2 0 j) = (w.gpost j : EReal) := by
  rw [← h.gpost]; blk_point [iblk0, idx t]

theorem up_blk (t : Fin cfg0.N) (j : Fin 1024) (k : Fin 4096) :
    (iblk0 V c 4 t : FVec Ideal S1024x4096 .bf16) (ix2 j k) = (w.up j k : EReal) := by
  rw [← h.up]; blk_point [iblk0, idx t]

theorem down_blk (t : Fin cfg0.N) (k : Fin 4096) (j : Fin 1024) :
    (iblk0 V c 5 t : FVec Ideal S4096x1024 .bf16) (ix2 k j) = (w.down k j : EReal) := by
  rw [← h.down]; blk_point [iblk0, idx t]

/-- What a point stores for the derivative at the first product. -/
theorem df_at (t : Fin cfg0.N) (i : Fin 256) (k : Fin 4096) :
    k0_pay2 (F := Ideal) (k0_pay7 (iblk0 V c 0 t) (iblk0 V c 2 t) (iblk0 V c 4 t))
      (k0_pay16 (k0_pay6 (iblk0 V c 0 t)) (k0_pay10 (iblk0 V c 0 t) (iblk0 V c 2 t) (iblk0 V c 4 t) (iblk0 V c 5 t))
        (k0_pay11 (iblk0 V c 0 t) (iblk0 V c 2 t) (iblk0 V c 4 t) (iblk0 V c 5 t)) (iblk0 V c 3 t) (iblk0 V c 1 t))
      (iblk0 V c 5 t) (ix2 i k) = (dpre w (X (row t i)) (T (row t i)) k : EReal) :=
  Pay.dpre_eq w (fun i => X (row t i)) (fun i => T (row t i)) (down_blk h t)
    (Pay.act_eq w _ (x_blk h t) (gpre_blk h t) (up_blk h t)) (Pay.dout_eq w _ _ (gpost_blk h t) (t_blk h t) (Pay.row_eq _ (x_blk h t))
      (Pay.nrm_eq w _ (x_blk h t) (gpre_blk h t) (up_blk h t) (down_blk h t))
      (Pay.rinv_eq w _ (x_blk h t) (gpre_blk h t) (up_blk h t) (down_blk h t))) i k

/-- What a point stores for the derivative at the layer's output. -/
theorem dy_at (t : Fin cfg0.N) (i : Fin 256) (j : Fin 1024) :
    k0_pay14 (F := Ideal) (k0_pay6 (iblk0 V c 0 t)) (k0_pay11 (iblk0 V c 0 t) (iblk0 V c 2 t) (iblk0 V c 4 t) (iblk0 V c 5 t))
      (iblk0 V c 3 t) (iblk0 V c 1 t) (ix2 i j) = (dy w (X (row t i)) (T (row t i)) j : EReal) :=
  Pay.dy_eq w (fun i => X (row t i)) (fun i => T (row t i)) (gpost_blk h t) (t_blk h t) (Pay.row_eq _ (x_blk h t))
    (Pay.nrm_eq w _ (x_blk h t) (gpre_blk h t) (up_blk h t) (down_blk h t)) i j

/-- What a point adds to the derivative of the second matrix. -/
theorem ddown_at (t : Fin cfg0.N) (acc : FVec Ideal S4096x1024 .f32) (k : Fin 4096) (j : Fin 1024) :
    k0_pay1 (F := Ideal) (k0_pay8 (iblk0 V c 0 t) (iblk0 V c 2 t) (iblk0 V c 4 t))
      (k0_pay16 (k0_pay6 (iblk0 V c 0 t)) (k0_pay10 (iblk0 V c 0 t) (iblk0 V c 2 t) (iblk0 V c 4 t) (iblk0 V c 5 t))
        (k0_pay11 (iblk0 V c 0 t) (iblk0 V c 2 t) (iblk0 V c 4 t) (iblk0 V c 5 t)) (iblk0 V c 3 t) (iblk0 V c 1 t))
      acc (ix2 k j)
      = acc (ix2 k j) + ((∑ i, act w (X (row t i)) k * act w (X (row t i)) k * dout w (X (row t i)) (T (row t i)) j : EReal)) :=
  Pay.ddown_eq w (fun i => X (row t i)) (fun i => T (row t i)) (Pay.sq_eq w _ (x_blk h t) (gpre_blk h t) (up_blk h t))
    (Pay.dout_eq w _ _ (gpost_blk h t) (t_blk h t) (Pay.row_eq _ (x_blk h t))
      (Pay.nrm_eq w _ (x_blk h t) (gpre_blk h t) (up_blk h t) (down_blk h t))
      (Pay.rinv_eq w _ (x_blk h t) (gpre_blk h t) (up_blk h t) (down_blk h t))) acc k j

/-- What a point adds to the derivative of the second gain. -/
theorem dgpost_at (t : Fin cfg0.N) (acc : FVec Ideal S1x1024 .f32) (j : Fin 1024) :
    k0_pay15 (F := Ideal) (k0_pay6 (iblk0 V c 0 t)) (k0_pay11 (iblk0 V c 0 t) (iblk0 V c 2 t) (iblk0 V c 4 t) (iblk0 V c 5 t))
      (iblk0 V c 3 t) (iblk0 V c 1 t) acc (ix2 0 j)
      = acc (ix2 0 j) + ((∑ i, dy w (X (row t i)) (T (row t i)) j * nrm (out w (X (row t i))) j : EReal)) :=
  Pay.dgpost_eq w (fun i => X (row t i)) (fun i => T (row t i)) (gpost_blk h t) (t_blk h t) (Pay.row_eq _ (x_blk h t))
    (Pay.nrm_eq w _ (x_blk h t) (gpre_blk h t) (up_blk h t) (down_blk h t)) acc j

/-- What a point adds to the sum of squared differences. -/
theorem sq_at (t : Fin cfg0.N) (acc : FVec Ideal S1x1024 .f32) (j : Fin 1024) :
    k0_pay13 (F := Ideal) (k0_pay6 (iblk0 V c 0 t)) (k0_pay11 (iblk0 V c 0 t) (iblk0 V c 2 t) (iblk0 V c 4 t) (iblk0 V c 5 t))
      (iblk0 V c 3 t) (iblk0 V c 1 t) acc (ix2 0 j)
      = acc (ix2 0 j) + ((∑ i, err w (X (row t i)) (T (row t i)) j * err w (X (row t i)) (T (row t i)) j : EReal)) :=
  Pay.loss_eq w (fun i => X (row t i)) (fun i => T (row t i)) (gpost_blk h t) (t_blk h t) (Pay.row_eq _ (x_blk h t))
    (Pay.nrm_eq w _ (x_blk h t) (gpre_blk h t) (up_blk h t) (down_blk h t)) acc j

/-- The derivative at the first product, row by row. -/
theorem df_final : (dat0 V c).arrAt 6 cfg0.N = fun y => ((dpre w (X (y 0)) (T (y 0)) (y 1) : EReal)) := by
  refine (dat0 V c).arrAt_eq_of_covers 6 _ (by decide +kernel) fun t hf y => ?_
  blk_simp
  rw [after0_6]
  idx_vars y
  by_cases h0 : t.val % 32 = 0
  · rw [outsAt0_A V c t h0]
    frame_out
    rw [df_at h]
    exact at_coords (fun r k => ((dpre w (X r) (T r) k : EReal))) (by blk_simp [idx t, row]) (by blk_simp [idx t])
  · rw [outsAt0_B V c t h0]
    frame_out
    rw [df_at h]
    exact at_coords (fun r k => ((dpre w (X r) (T r) k : EReal))) (by blk_simp [idx t, row]) (by blk_simp [idx t])

/-- The derivative at the layer's output, row by row. -/
theorem dy_final : (dat0 V c).arrAt 7 cfg0.N = fun y => ((dy w (X (y 0)) (T (y 0)) (y 1) : EReal)) := by
  refine (dat0 V c).arrAt_eq_of_covers 7 _ (by decide +kernel) fun t hf y => ?_
  blk_simp
  rw [after0_7]
  idx_vars y
  by_cases h0 : t.val % 32 = 0
  · rw [outsAt0_A V c t h0]
    frame_out
    rw [dy_at h]
    exact at_coords (fun r k => ((dy w (X r) (T r) k : EReal))) (by blk_simp [idx t, row]) (by blk_simp [idx t])
  · rw [outsAt0_B V c t h0]
    frame_out
    rw [dy_at h]
    exact at_coords (fun r k => ((dy w (X r) (T r) k : EReal))) (by blk_simp [idx t, row]) (by blk_simp [idx t])

/-- The derivative of the second matrix: a sum over all rows. -/
theorem ddown_final : (dat0 V c).arrAt 8 cfg0.N = fun y => ((ddown w X T (y 0) (y 1) : EReal)) := by
  refine (dat0 V c).arrAt_eq_of_covers 8 _ (by decide +kernel) fun t hf y => ?_
  blk_simp
  rw [after0_8, Pipeline.eq_sum_fin_of_reset_step_apply_of_flush (fun n h => (outsAt0 V c n h).2.2.1) 32 (fun _ => 0)
    (fun t y => ((∑ i, act w (X (row t i)) (y 0) * act w (X (row t i)) (y 0) * dout w (X (row t i)) (T (row t i)) (y 1) : EReal)))
    (fun t h0 y => by
      rw [outsAt0_A V c t h0]; frame_out; idx_vars y; rw [ddown_at h, k0_pay3_zero])
    (fun t h0 y => by
      rw [outsAt0_B V c t h0]; frame_out; idx_vars y; rw [ddown_at h])
    t ((flush0_8 t).mp hf) _, zero_add]
  show (_ : EReal) = _
  refine ((sum_rows (fun i => act w (X i) (y 0) * act w (X i) (y 0) * dout w (X i) (T i) (y 1)) _ fun s => ?_).trans ?_)
  · have := val_lt t; dsimp only; omega
  · exact at_coords (fun k j => ∑ i, act w (X i) k * act w (X i) k * dout w (X i) (T i) j) (by blk_simp [idx t]) (by blk_simp [idx t])

/-- The derivative of the second gain: a sum over all rows. -/
theorem dgpost_final : (dat0 V c).arrAt 9 cfg0.N = fun y => ((dgpost w X T (y 1) : EReal)) := by
  refine (dat0 V c).arrAt_eq_of_covers 9 _ (by decide +kernel) fun t hf y => ?_
  blk_simp
  rw [after0_9, Pipeline.eq_sum_fin_of_reset_step_apply_of_flush (fun n h => (outsAt0 V c n h).2.2.2.1) 32 (fun _ => 0)
    (fun t y => ((∑ i, dy w (X (row t i)) (T (row t i)) (y 1) * nrm (out w (X (row t i))) (y 1) : EReal)))
    (fun t h0 y => by
      rw [outsAt0_A V c t h0]; frame_out; idx_vars y; obtain rfl : y0 = 0 := Subsingleton.elim _ _; rw [dgpost_at h, k0_pay4_zero])
    (fun t h0 y => by
      rw [outsAt0_B V c t h0]; frame_out; idx_vars y; obtain rfl : y0 = 0 := Subsingleton.elim _ _; rw [dgpost_at h])
    t ((flush0_9 t).mp hf) _, zero_add]
  show (_ : EReal) = _
  refine ((sum_rows (fun i => dy w (X i) (T i) (y 1) * nrm (out w (X i)) (y 1)) _ fun s => ?_).trans ?_)
  · have := val_lt t; dsimp only; omega
  · exact at_coords (a := (0 : Fin 1)) (a' := 0) (fun _ j => ∑ i, dy w (X i) (T i) j * nrm (out w (X i)) j) rfl (by blk_simp [idx t])

/-- The squared differences, column by column: a sum over all rows. -/
theorem sq_final : (dat0 V c).arrAt 10 cfg0.N = fun y => ((∑ i, err w (X i) (T i) (y 1) * err w (X i) (T i) (y 1) : EReal)) := by
  refine (dat0 V c).arrAt_eq_of_covers 10 _ (by decide +kernel) fun t hf y => ?_
  blk_simp
  rw [after0_10, Pipeline.eq_sum_fin_of_reset_step_apply_of_flush (fun n h => (outsAt0 V c n h).2.2.2.2) 32 (fun _ => 0)
    (fun t y => ((∑ i, err w (X (row t i)) (T (row t i)) (y 1) * err w (X (row t i)) (T (row t i)) (y 1) : EReal)))
    (fun t h0 y => by
      rw [outsAt0_A V c t h0]; frame_out; idx_vars y; obtain rfl : y0 = 0 := Subsingleton.elim _ _; rw [sq_at h, k0_pay5_zero])
    (fun t h0 y => by
      rw [outsAt0_B V c t h0]; frame_out; idx_vars y; obtain rfl : y0 = 0 := Subsingleton.elim _ _; rw [sq_at h])
    t ((flush0_10 t).mp hf) _, zero_add]
  show (_ : EReal) = _
  refine ((sum_rows (fun i => err w (X i) (T i) (y 1) * err w (X i) (T i) (y 1)) _ fun s => ?_).trans ?_)
  · have := val_lt t; dsimp only; omega
  · exact at_coords (a := (0 : Fin 1)) (a' := 0) (fun _ j => ∑ i, err w (X i) (T i) j * err w (X i) (T i) j) rfl (by blk_simp [idx t])

end Cert.Kernel2Ideal.Fwd

end
-- ==== Proof.MlpBwd.lean ====
module

public import proofs.«01_k».proof.Proof.MlpFwd

@[expose] public section

/-!
# What the second kernel of the squared-relu layer leaves in its arrays

Its grid walks the 8192 rows in blocks of 512. The derivative at the layer's input is written block by block; the
derivatives of the first matrix and the first gain are sums over the rows, written back at the last point.
-/

set_option maxRecDepth 16384

noncomputable section

open Idealize.ShloMosaic Idealize.ShloMosaic.TcCoe Idealize.SL.Sem
open Idealize.ShloMosaic.Pipeline (Dat Cfg Window)

namespace Cert.Kernel2Ideal.Bwd

open Cert.Kernel2Ideal Cert.Kernel2Ideal.Gen Cert.Lift Cert.Mlp
open Cert.Kernel2Ideal.Fwd (at_coords)

variable (V : (c : Dev nD) → (b : Ref sig .tc) → Buf (Elt Ideal) ((c : Thread nD τ).loc b)) (c : Dev nD)
  (w : Weights) (X T : Fin 8192 → Fin 1024 → EReal)

/-- The arrays the kernel reads hold these extended reals. -/
structure Inputs : Prop where
  df : ∀ i k, (V c main_v6_0 : FVec Ideal S8192x4096 .bf16) (ix2 i k) = (dpre w (X i) (T i) k : EReal)
  dy : ∀ i j, (V c main_v6_1 : FVec Ideal S8192x1024 .f32) (ix2 i j) = (dy w (X i) (T i) j : EReal)
  x : ∀ i j, (V c main_v0 : FVec Ideal S8192x1024 .f32) (ix2 i j) = (X i j : EReal)
  gpre : ∀ j, (V c main_arg1 : FVec Ideal S1x1024 .f32) (ix2 0 j) = (w.gpre j : EReal)
  up : ∀ j k, (V c main_v2 : FVec Ideal S1024x4096 .bf16) (ix2 j k) = (w.up j k : EReal)

theorem idx : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![t.val, 0] ∧ win1_6.index t = ![0, 0]
    ∧ win1_7.index t = ![0, 0] :=
  (by decide +kernel : ∀ t : Fin grid1.N, _)

theorem val_lt (t : Fin cfg1.N) : t.val < 16 := lt_of_lt_of_eq t.isLt N_1

/-- Row `i` of the block of point `t`. -/
def row (t : Fin cfg1.N) (i : Fin 512) : Fin 8192 := ⟨t.val * 512 + i.val, by have := val_lt t; omega⟩

/-- The blocks' rows are all the rows. -/
theorem sum_rows (f : Fin 8192 → EReal) (q : Fin 16 → Fin cfg1.N) (hq : ∀ s, (q s).val = s.val) :
    ∑ s : Fin 16, ∑ i : Fin 512, f (row (q s) i) = ∑ i, f i :=
  Fin.sum_mul_add_congr fun s k hl => congrArg f (Fin.ext (by simp only [row, hq]))

theorem k1_pay3_zero (y) : k1_pay3 (F := Ideal) y = 0 := by
  pointwise [k1_pay3]

theorem k1_pay4_zero (y) : k1_pay4 (F := Ideal) y = 0 := by
  pointwise [k1_pay4]

variable {V c w X T} (h : Inputs V c w X T)
include h

theorem df_blk (t : Fin cfg1.N) (i : Fin 512) (k : Fin 4096) :
    (iblk1 V c 0 t : FVec Ideal S512x4096 .bf16) (ix2 i k) = (dpre w (X (row t i)) (T (row t i)) k : EReal) := by
  rw [← h.df]; blk_point [iblk1, idx t, row]

theorem dy_blk (t : Fin cfg1.N) (i : Fin 512) (j : Fin 1024) :
    (iblk1 V c 1 t : FVec Ideal S512x1024 .f32) (ix2 i j) = (dy w (X (row t i)) (T (row t i)) j : EReal) := by
  rw [← h.dy]; blk_point [iblk1, idx t, row]

theorem x_blk (t : Fin cfg1.N) (i : Fin 512) (j : Fin 1024) :
    (iblk1 V c 2 t : FVec Ideal S512x1024 .f32) (ix2 i j) = (X (row t i) j : EReal) := by
  rw [← h.x]; blk_point [iblk1, idx t, row]

theorem gpre_blk (t : Fin cfg1.N) (j : Fin 1024) :
    (iblk1 V c 3 t : FVec Ideal S1x1024 .f32) (ix2 0 j) = (w.gpre j : EReal) := by
  rw [← h.gpre]; blk_point [iblk1, idx t]

theorem up_blk (t : Fin cfg1.N) (j : Fin 1024) (k : Fin 4096) :
    (iblk1 V c 4 t : FVec Ideal S1024x4096 .bf16) (ix2 j k) = (w.up j k : EReal) := by
  rw [← h.up]; blk_point [iblk1, idx t]

/-- What a point stores for the derivative at the layer's input. -/
theorem dx_at (t : Fin cfg1.N) (i : Fin 512) (j : Fin 1024) :
    k1_pay2 (F := Ideal) (k1_pay6 (iblk1 V c 2 t)) (k1_pay7 (iblk1 V c 2 t))
      (k1_pay11 (iblk1 V c 3 t) (iblk1 V c 0 t) (iblk1 V c 4 t))
      (k1_pay12 (iblk1 V c 2 t) (iblk1 V c 3 t) (iblk1 V c 0 t) (iblk1 V c 4 t)) (iblk1 V c 1 t) (ix2 i j)
      = (dx w (X (row t i)) (T (row t i)) j : EReal) :=
  Pay.dx_eq w (fun i => X (row t i)) (fun i => T (row t i)) (x_blk h t) (gpre_blk h t) (df_blk h t) (up_blk h t) (dy_blk h t) i j

/-- What a point adds to the derivative of the first matrix. -/
theorem dup_at (t : Fin cfg1.N) (acc : FVec Ideal S1024x4096 .f32) (j : Fin 1024) (k : Fin 4096) :
    k1_pay9 (F := Ideal) (iblk1 V c 2 t) (iblk1 V c 3 t) (iblk1 V c 0 t) acc (ix2 j k)
      = acc (ix2 j k) + ((∑ i, hid w (X (row t i)) j * dpre w (X (row t i)) (T (row t i)) k : EReal)) :=
  Pay.dup_eq w (fun i => X (row t i)) (fun i => T (row t i)) (x_blk h t) (gpre_blk h t) (df_blk h t) acc j k

/-- What a point adds to the derivative of the first gain. -/
theorem dgpre_at (t : Fin cfg1.N) (acc : FVec Ideal S1x1024 .f32) (j : Fin 1024) :
    k1_pay1 (F := Ideal) (k1_pay7 (iblk1 V c 2 t)) (k1_pay10 (iblk1 V c 0 t) (iblk1 V c 4 t)) acc (ix2 0 j)
      = acc (ix2 0 j) + ((∑ i, dhid w (X (row t i)) (T (row t i)) j * nrm (X (row t i)) j : EReal)) :=
  Pay.dgpre_eq w (fun i => X (row t i)) (fun i => T (row t i)) (x_blk h t) (df_blk h t) (up_blk h t) acc j

/-- The derivative at the layer's input, row by row. -/
theorem dx_final : (dat1 V c).arrAt 5 cfg1.N = fun y => ((dx w (X (y 0)) (T (y 0)) (y 1) : EReal)) := by
  refine (dat1 V c).arrAt_eq_of_covers 5 _ (by decide +kernel) fun t hf y => ?_
  blk_simp
  rw [after1_5]
  idx_vars y
  by_cases h0 : t.val % 16 = 0
  · rw [outsAt1_A V c t h0]
    frame_out
    rw [dx_at h]
    exact at_coords (fun r k => ((dx w (X r) (T r) k : EReal))) (by blk_simp [idx t, row]) (by blk_simp [idx t])
  · rw [outsAt1_B V c t h0]
    frame_out
    rw [dx_at h]
    exact at_coords (fun r k => ((dx w (X r) (T r) k : EReal))) (by blk_simp [idx t, row]) (by blk_simp [idx t])

/-- The derivative of the first matrix: a sum over all rows. -/
theorem dup_final : (dat1 V c).arrAt 6 cfg1.N = fun y => ((dup w X T (y 0) (y 1) : EReal)) := by
  refine (dat1 V c).arrAt_eq_of_covers 6 _ (by decide +kernel) fun t hf y => ?_
  blk_simp
  rw [after1_6, Pipeline.eq_sum_fin_of_reset_step_apply_of_flush (fun n h => (outsAt1 V c n h).2.1) 16 (fun _ => 0)
    (fun t y => ((∑ i, hid w (X (row t i)) (y 0) * dpre w (X (row t i)) (T (row t i)) (y 1) : EReal)))
    (fun t h0 y => by
      rw [outsAt1_A V c t h0]; frame_out; idx_vars y; rw [dup_at h, k1_pay3_zero])
    (fun t h0 y => by
      rw [outsAt1_B V c t h0]; frame_out; idx_vars y; rw [dup_at h])
    t ((flush1_6 t).mp hf) _, zero_add]
  show (_ : EReal) = _
  refine ((sum_rows (fun i => hid w (X i) (y 0) * dpre w (X i) (T i) (y 1)) _ fun s => ?_).trans ?_)
  · have := val_lt t; dsimp only; omega
  · exact at_coords (fun k j => ∑ i, hid w (X i) k * dpre w (X i) (T i) j) (by blk_simp [idx t]) (by blk_simp [idx t])

/-- The derivative of the first gain: a sum over all rows. -/
theorem dgpre_final : (dat1 V c).arrAt 7 cfg1.N = fun y => ((dgpre w X T (y 1) : EReal)) := by
  refine (dat1 V c).arrAt_eq_of_covers 7 _ (by decide +kernel) fun t hf y => ?_
  blk_simp
  rw [after1_7, Pipeline.eq_sum_fin_of_reset_step_apply_of_flush (fun n h => (outsAt1 V c n h).2.2) 16 (fun _ => 0)
    (fun t y => ((∑ i, dhid w (X (row t i)) (T (row t i)) (y 1) * nrm (X (row t i)) (y 1) : EReal)))
    (fun t h0 y => by
      rw [outsAt1_A V c t h0]; frame_out; idx_vars y; obtain rfl : y0 = 0 := Subsingleton.elim _ _; rw [dgpre_at h, k1_pay4_zero])
    (fun t h0 y => by
      rw [outsAt1_B V c t h0]; frame_out; idx_vars y; obtain rfl : y0 = 0 := Subsingleton.elim _ _; rw [dgpre_at h])
    t ((flush1_7 t).mp hf) _, zero_add]
  show (_ : EReal) = _
  refine ((sum_rows (fun i => dhid w (X i) (T i) (y 1) * nrm (X i) (y 1)) _ fun s => ?_).trans ?_)
  · have := val_lt t; dsimp only; omega
  · exact at_coords (a := (0 : Fin 1)) (a' := 0) (fun _ j => ∑ i, dhid w (X i) (T i) j * nrm (X i) j) rfl (by blk_simp [idx t])

end Cert.Kernel2Ideal.Bwd

end
-- ==== Proof.MlpRun.lean ====
module

public import proofs.«01_k».proof.Proof.Gen.Kernel2Ideal.Frame

@[expose] public section

/-!
# The run of the two kernels of the squared-relu layer

Every run ends, and every buffer the host can read then holds what the last boundary of `main` says: the host's last
stretch applied to what the second kernel left.
-/

set_option maxRecDepth 16384

noncomputable section

namespace Cert.Kernel2Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- What every buffer of the host holds at the end. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The six results at the end, and the arguments as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_v11) = W4 m ρ c (Proc.devRef .tc main_v11)
      ∧ r.2.mem ((c.tc : Thread nD τ).loc main_v7_2) = W4 m ρ c (Proc.devRef .tc main_v7_2)
      ∧ r.2.mem ((c.tc : Thread nD τ).loc main_v6_3) = W4 m ρ c (Proc.devRef .tc main_v6_3)
      ∧ r.2.mem ((c.tc : Thread nD τ).loc main_v12) = W4 m ρ c (Proc.devRef .tc main_v12)
      ∧ r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v10 (by decide)), h c _ (mem_uc main_v11 (by decide)), h c _ (mem_uc main_v7_2 (by decide)),
     h c _ (mem_uc main_v6_3 (by decide)), h c _ (mem_uc main_v12 (by decide)), h c _ (mem_uc main_v13 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel2Ideal.Run

end
-- ==== Proof.MlpFinal.lean ====
module

public import proofs.«01_k».proof.Proof.MlpBwd
public import proofs.«01_k».proof.Proof.MlpRun

@[expose] public section

/-!
# The six results of the squared-relu layer's two kernels

From the arguments to the results: the host's first stretch prepares the arrays, the first kernel leaves the
derivatives at the layer's output and at the first product, the second kernel takes these up, and the host's last
stretch sums the squared differences and gives the arrays their outer axis.
-/

set_option maxRecDepth 16384

noncomputable section

open Idealize.ShloMosaic Idealize.ShloMosaic.TcCoe Idealize.SL.Sem

namespace Cert.Kernel2Ideal.Final

open Cert.Kernel2Ideal Cert.Kernel2Ideal.Gen Cert.Lift Cert.Mlp

variable (m : (ℓ : Loc nD τ sig) → Buf (Elt Ideal) ℓ) (ρ : Dev nD → PrngReg) (c : Dev nD)
  (w : Weights) (X T : Fin 8192 → Fin 1024 → EReal)

/-- The argument arrays hold these extended reals. -/
structure Holds : Prop where
  x : ∀ i j, (show FVec Ideal S1x8192x1024 .f32 from m ((c : Thread nD τ).loc main_arg0)) (ix3 0 i j) = (X i j : EReal)
  gpre : ∀ j, (show FVec Ideal S1x1024 .f32 from m ((c : Thread nD τ).loc main_arg1)) (ix2 0 j) = (w.gpre j : EReal)
  gpost : ∀ j, (show FVec Ideal S1x1024 .f32 from m ((c : Thread nD τ).loc main_arg2)) (ix2 0 j) = (w.gpost j : EReal)
  up : ∀ j k, (show FVec Ideal S1x1024x4096 .f32 from m ((c : Thread nD τ).loc main_arg3)) (ix3 0 j k) = (w.up j k : EReal)
  down : ∀ k j, (show FVec Ideal S1x4096x1024 .f32 from m ((c : Thread nD τ).loc main_arg4)) (ix3 0 k j) = (w.down k j : EReal)
  t : ∀ i j, (show FVec Ideal S1x8192x1024 .f32 from m ((c : Thread nD τ).loc main_arg5)) (ix3 0 i j) = (T i j : EReal)

theorem v0_val : W1 m ρ c (Proc.devRef .tc main_v0)
    = shapeCast _ (show FVec Ideal S1x8192x1024 .f32 from m ((c : Thread nD τ).loc main_arg0)) shapeCasts_S1x8192x1024_S8192x1024 := by
  unfold_abbrev_sides; after_results; try rfl

theorem v5_val : W1 m ρ c (Proc.devRef .tc main_v5)
    = shapeCast _ (show FVec Ideal S1x8192x1024 .f32 from m ((c : Thread nD τ).loc main_arg5)) shapeCasts_S1x8192x1024_S8192x1024 := by
  unfold_abbrev_sides; after_results; try rfl

theorem v2_val : W1 m ρ c (Proc.devRef .tc main_v2)
    = truncf .bf16 (shapeCast S1024x4096 (show FVec Ideal S1x1024x4096 .f32 from m ((c : Thread nD τ).loc main_arg3)) shapeCasts_S1x1024x4096_S1024x4096) bitsLt_bf16_f32 := by
  unfold_abbrev_sides; after_results; try rfl

theorem v4_val : W1 m ρ c (Proc.devRef .tc main_v4)
    = truncf .bf16 (shapeCast S4096x1024 (show FVec Ideal S1x4096x1024 .f32 from m ((c : Thread nD τ).loc main_arg4)) shapeCasts_S1x4096x1024_S4096x1024) bitsLt_bf16_f32 := by
  unfold_abbrev_sides; after_results; try rfl

variable {m c w X T} (h : Holds m c w X T)
include h

/-- What the first kernel reads. -/
theorem fwd : Fwd.Inputs (V1 m ρ) c w X T where
  x i j := by
    rw [show V1 m ρ c main_v0 = _ from v0_val m ρ c, ← h.x]; pointwise; blk_ext
  t i j := by
    rw [show V1 m ρ c main_v5 = _ from v5_val m ρ c, ← h.t]; pointwise; blk_ext
  gpre j := by
    rw [show V1 m ρ c main_arg1 = _ from W1_args m ρ c main_arg1 (by decide), ← h.gpre]
  gpost j := by
    rw [show V1 m ρ c main_arg2 = _ from W1_args m ρ c main_arg2 (by decide), ← h.gpost]
  up j k := by
    rw [show V1 m ρ c main_v2 = _ from v2_val m ρ c, ← h.up]; pointwise; blk_ext
  down k j := by
    rw [show V1 m ρ c main_v4 = _ from v4_val m ρ c, ← h.down]; pointwise; blk_ext

/-- What the second kernel reads. -/
theorem bwd : Bwd.Inputs (V2 m ρ) c w X T where
  df i k := congrFun ((W2_arr m ρ c 6).trans (Fwd.df_final (fwd ρ h))) (ix2 i k)
  dy i j := congrFun ((W2_arr m ρ c 7).trans (Fwd.dy_final (fwd ρ h))) (ix2 i j)
  x i j := (congrFun (W2_of m ρ c main_v0 (by decide)) (ix2 i j)).trans ((fwd ρ h).x i j)
  gpre j := (congrFun (W2_of m ρ c main_arg1 (by decide)) (ix2 0 j)).trans ((fwd ρ h).gpre j)
  up j k := (congrFun (W2_of m ρ c main_v2 (by decide)) (ix2 j k)).trans ((fwd ρ h).up j k)

theorem dx_val : W4 m ρ c (Proc.devRef .tc main_v11)
    = fun y : S1x8192x1024.Idx => ((dx w (X (y 1)) (T (y 1)) (y 2) : EReal)) := by
  have e : W4 m ρ c (Proc.devRef .tc main_v11)
      = broadcastInDim S1x8192x1024 ![1, 2] bcast_S8192x1024_S1x8192x1024_1_2 (W3 m ρ c (Proc.devRef .tc main_v7_0)) := by
    unfold_abbrev_sides; after_results; try rfl
  rw [e, show W3 m ρ c (Proc.devRef .tc main_v7_0) = _ from (W3_arr m ρ c 5).trans (Bwd.dx_final (bwd ρ h))]
  funext y; idx_vars y; pointwise

theorem dup_val : W4 m ρ c (Proc.devRef .tc main_v12)
    = fun y : S1x1024x4096.Idx => ((dup w X T (y 1) (y 2) : EReal)) := by
  have e : W4 m ρ c (Proc.devRef .tc main_v12)
      = broadcastInDim S1x1024x4096 ![1, 2] bcast_S1024x4096_S1x1024x4096_1_2 (W3 m ρ c (Proc.devRef .tc main_v7_1)) := by
    unfold_abbrev_sides; after_results; try rfl
  rw [e, show W3 m ρ c (Proc.devRef .tc main_v7_1) = _ from (W3_arr m ρ c 6).trans (Bwd.dup_final (bwd ρ h))]
  funext y; idx_vars y; pointwise

theorem ddown_val : W4 m ρ c (Proc.devRef .tc main_v13)
    = fun y : S1x4096x1024.Idx => ((ddown w X T (y 1) (y 2) : EReal)) := by
  have e : W4 m ρ c (Proc.devRef .tc main_v13)
      = broadcastInDim S1x4096x1024 ![1, 2] bcast_S4096x1024_S1x4096x1024_1_2 (W3 m ρ c (Proc.devRef .tc main_v6_2)) := by
    unfold_abbrev_sides; after_results; try rfl
  rw [e, show W3 m ρ c (Proc.devRef .tc main_v6_2) = _ from
    (W3_of m ρ c main_v6_2 (by decide)).trans ((W2_arr m ρ c 8).trans (Fwd.ddown_final (fwd ρ h)))]
  funext y; idx_vars y; pointwise

theorem dgpre_val : W4 m ρ c (Proc.devRef .tc main_v7_2)
    = fun y : S1x1024.Idx => ((dgpre w X T (y 1) : EReal)) :=
  (W4_of m ρ c main_v7_2 (by decide)).trans ((W3_arr m ρ c 7).trans (Bwd.dgpre_final (bwd ρ h)))

theorem dgpost_val : W4 m ρ c (Proc.devRef .tc main_v6_3)
    = fun y : S1x1024.Idx => ((dgpost w X T (y 1) : EReal)) :=
  (W4_of m ρ c main_v6_3 (by decide)).trans
    ((W3_of m ρ c main_v6_3 (by decide)).trans ((W2_arr m ρ c 9).trans (Fwd.dgpost_final (fwd ρ h))))

theorem loss_val : W4 m ρ c (Proc.devRef .tc main_v10) = fun _ : S_.Idx => ((loss w X T : EReal)) := by
  have e : W4 m ρ c (Proc.devRef .tc main_v10)
      = Host.divf (mulf (constant S_ .f32 0x3F000000#32)
          (Host.reduceAdd (show FVec Ideal S1x1024 .f32 from W3 m ρ c (Proc.devRef .tc main_v6_4)) (constant S_ .f32 0x00000000#32) reducesTo_S1x1024_S_d0_1 h_S_))
          (constant S_ .f32 0x44800000#32) := by
    unfold_abbrev_sides; after_results; try rfl
  rw [e, show W3 m ρ c (Proc.devRef .tc main_v6_4) = _ from
    (W3_of m ρ c main_v6_4 (by decide)).trans ((W2_arr m ρ c 10).trans (Fwd.sq_final (fwd ρ h)))]
  funext y
  pointwise
  simp only [Fin.sum_univ_one, Fin.isValue, bits_half, bits_1024]
  exact loss_sum w X T

end Cert.Kernel2Ideal.Final

end
-- ==== Proof.MlpRef.lean ====
module

public import proofs.«01_k».proof.Proof.MlpMath
public import proofs.«01_k».proof.Proof.Gen.Reference2Ideal.Run

@[expose] public section

/-!
# What the reference computes

The values of the reference's derivative, operation by operation, read at one row and one column: the row formulas of
`MlpMath`, and for the weights their sums over the rows.
-/

set_option maxRecDepth 16384

noncomputable section

open Idealize.ShloMosaic Idealize.ShloMosaic.TcCoe Idealize.SL.Sem

namespace Cert.Reference2Ideal.Rows

open Cert.Reference2Ideal Cert.Reference2Ideal.Gen Cert.Reference2Ideal.Value Cert.Lift Cert.Mlp

/-- The argument arrays of a valuation hold these extended reals. -/
structure Holds (V0 : Valuation τ sig (Elt Ideal)) (w : Weights) (X T : Fin 8192 → Fin 1024 → EReal) : Prop where
  x : ∀ i j, (show FVec Ideal S1x8192x1024 .f32 from V0 (Proc.devRef .tc main_arg0)) (ix3 0 i j) = (X i j : EReal)
  gpre : ∀ j, (show FVec Ideal S1x1024 .f32 from V0 (Proc.devRef .tc main_arg1)) (ix2 0 j) = (w.gpre j : EReal)
  gpost : ∀ j, (show FVec Ideal S1x1024 .f32 from V0 (Proc.devRef .tc main_arg2)) (ix2 0 j) = (w.gpost j : EReal)
  up : ∀ j k, (show FVec Ideal S1x1024x4096 .f32 from V0 (Proc.devRef .tc main_arg3)) (ix3 0 j k) = (w.up j k : EReal)
  down : ∀ k j, (show FVec Ideal S1x4096x1024 .f32 from V0 (Proc.devRef .tc main_arg4)) (ix3 0 k j) = (w.down k j : EReal)
  t : ∀ i j, (show FVec Ideal S1x8192x1024 .f32 from V0 (Proc.devRef .tc main_arg5)) (ix3 0 i j) = (T i j : EReal)

/-- The pattern of minus one half. -/
theorem bits_neg_half : Ideal.ofBits .f32 0xBF000000#32 = ((-1 / 2 : ℝ) : EReal) := by
  simp [Ideal.ofBits, Ideal.ieee, -EReal.coe_mul]; norm_num

/-- A reduction over two axes of length one keeps the single element of each row. -/
theorem reduce_ends (h : (⟨3, ![1, 8192, 1]⟩ : Shape).ReducesTo [0, 2] ⟨1, ![8192]⟩)
    (v : (⟨3, ![1, 8192, 1]⟩ : Shape).Idx → EReal) (init : EReal) (i : Fin 8192) :
    Ideal.hostReduceAdd h v init (ix1 i) = init + v (ix3 0 i 0) := by
  unfold Ideal.hostReduceAdd
  refine congrArg (init + ·) ?_
  have hf : ∀ a : (⟨3, ![1, 8192, 1]⟩ : Shape).Idx, h.drop a = ix1 i ↔ a = ix3 0 i 0 := by
    intro a
    constructor
    · intro e
      funext b; apply Fin.ext
      match b with
      | ⟨0, _⟩ => exact Nat.lt_one_iff.mp (a 0).isLt
      | ⟨1, _⟩ => exact congrArg Fin.val (congrFun e 0)
      | ⟨2, _⟩ => exact Nat.lt_one_iff.mp (a 2).isLt
    · rintro rfl
      funext b; apply Fin.ext
      match b with
      | ⟨0, _⟩ => rfl
  simp only [hf, Finset.sum_filter, Finset.sum_ite_eq', Finset.mem_univ, if_true]

/-- A reduction over two leading axes of length one keeps the single element of each column. -/
theorem reduce_front (h : (⟨3, ![1, 1, 1024]⟩ : Shape).ReducesTo [0, 1] ⟨1, ![1024]⟩)
    (v : (⟨3, ![1, 1, 1024]⟩ : Shape).Idx → EReal) (init : EReal) (i : Fin 1024) :
    Ideal.hostReduceAdd h v init (ix1 i) = init + v (ix3 0 0 i) := by
  unfold Ideal.hostReduceAdd
  refine congrArg (init + ·) ?_
  have hf : ∀ a : (⟨3, ![1, 1, 1024]⟩ : Shape).Idx, h.drop a = ix1 i ↔ a = ix3 0 0 i := by
    intro a
    constructor
    · intro e
      funext b; apply Fin.ext
      match b with
      | ⟨0, _⟩ => exact Nat.lt_one_iff.mp (a 0).isLt
      | ⟨1, _⟩ => exact Nat.lt_one_iff.mp (a 1).isLt
      | ⟨2, _⟩ => exact congrArg Fin.val (congrFun e 0)
    · rintro rfl
      funext b; apply Fin.ext
      match b with
      | ⟨0, _⟩ => rfl
  simp only [hf, Finset.sum_filter, Finset.sum_ite_eq', Finset.mem_univ, if_true]

variable {V0 : Valuation τ sig (Elt Ideal)} {w : Weights} {X T : Fin 8192 → Fin 1024 → EReal}

theorem v7_eq (h : Holds V0 w X T) (i : Fin 8192) : res_main_v7 V0 (ix3 0 i 0) = (var (X i) : EReal) := by
  have hx : ∀ i j, V0 (Proc.devRef .tc main_arg0) (ix3 0 i j) = (X i j : EReal) := h.x
  pointwise [res_main_v7]
  simp only [hx, bits_1024, bits_eps]
  rfl

theorem v8_eq (h : Holds V0 w X T) (i : Fin 8192) : res_main_v8 V0 (ix3 0 i 0) = (rinv (X i) : EReal) := by
  pointwise [res_main_v8]
  rw [v7_eq h]; rfl

theorem v13_eq (h : Holds V0 w X T) (i : Fin 8192) (j : Fin 1024) : res_main_v13 V0 (ix3 0 i j) = (nrm (X i) j : EReal) := by
  have hx : ∀ i j, V0 (Proc.devRef .tc main_arg0) (ix3 0 i j) = (X i j : EReal) := h.x
  pointwise [res_main_v13]
  simp only [hx, v8_eq h]
  rfl

theorem v14_eq (h : Holds V0 w X T) (j : Fin 1024) : res_main_v14 V0 (ix3 0 0 j) = (w.gpre j : EReal) := by
  pointwise [res_main_v14]
  exact h.gpre j

theorem v16_eq (h : Holds V0 w X T) (i : Fin 8192) (j : Fin 1024) : res_main_v16 V0 (ix3 0 i j) = (hid w (X i) j : EReal) := by
  pointwise [res_main_v16]
  simp only [v13_eq h, v14_eq h]
  rfl

theorem v17_eq (h : Holds V0 w X T) (j : Fin 1024) (k : Fin 4096) : res_main_v17 V0 (ix2 j k) = (w.up j k : EReal) := by
  pointwise [res_main_v17]
  exact h.up j k

theorem v18_eq (h : Holds V0 w X T) (i : Fin 8192) (k : Fin 4096) : res_main_v18 V0 (ix3 0 i k) = (pre w (X i) k : EReal) := by
  pointwise [res_main_v18]
  simp only [v16_eq h, v17_eq h]
  rfl

theorem v19_eq (h : Holds V0 w X T) (i : Fin 8192) (k : Fin 4096) : res_main_v19 V0 (ix3 0 i k) = (act w (X i) k : EReal) := by
  pointwise [res_main_v19]
  simp only [v18_eq h]
  rfl

theorem v23_eq (h : Holds V0 w X T) (i : Fin 8192) (k : Fin 4096) :
    res_main_v23 V0 (ix3 0 i k) = ((act w (X i) k * act w (X i) k : EReal)) := by
  pointwise [res_main_v23]
  simp only [v19_eq h]

theorem v26_eq (h : Holds V0 w X T) (k : Fin 4096) (j : Fin 1024) : res_main_v26 V0 (ix2 k j) = (w.down k j : EReal) := by
  pointwise [res_main_v26]
  exact h.down k j

theorem v27_eq (h : Holds V0 w X T) (i : Fin 8192) (j : Fin 1024) : res_main_v27 V0 (ix3 0 i j) = (out w (X i) j : EReal) := by
  pointwise [res_main_v27]
  simp only [v23_eq h, v26_eq h]
  rfl

theorem v35_eq (h : Holds V0 w X T) (i : Fin 8192) : res_main_v35 V0 (ix3 0 i 0) = (var (out w (X i)) : EReal) := by
  pointwise [res_main_v35]
  simp only [v27_eq h, bits_1024, bits_eps]
  rfl

theorem v36_eq (h : Holds V0 w X T) (i : Fin 8192) : res_main_v36 V0 (ix3 0 i 0) = (rinv (out w (X i)) : EReal) := by
  pointwise [res_main_v36]
  rw [v35_eq h]; rfl

theorem v41_eq (h : Holds V0 w X T) (i : Fin 8192) (j : Fin 1024) :
    res_main_v41 V0 (ix3 0 i j) = (nrm (out w (X i)) j : EReal) := by
  pointwise [res_main_v41]
  simp only [v27_eq h, v36_eq h]
  rfl

theorem v42_eq (h : Holds V0 w X T) (j : Fin 1024) : res_main_v42 V0 (ix3 0 0 j) = (w.gpost j : EReal) := by
  pointwise [res_main_v42]
  exact h.gpost j

theorem v46_eq (h : Holds V0 w X T) (i : Fin 8192) (j : Fin 1024) :
    res_main_v46 V0 (ix3 0 i j) = (err w (X i) (T i) j : EReal) := by
  have hx : ∀ i j, V0 (Proc.devRef .tc main_arg0) (ix3 0 i j) = (X i j : EReal) := h.x
  have ht : ∀ i j, V0 (Proc.devRef .tc main_arg5) (ix3 0 i j) = (T i j : EReal) := h.t
  pointwise [res_main_v46]
  simp only [hx, ht, v41_eq h, v42_eq h]
  rfl

theorem v60_eq (h : Holds V0 w X T) (i : Fin 8192) (j : Fin 1024) :
    res_main_v60 V0 (ix3 0 i j) = (dy w (X i) (T i) j : EReal) := by
  pointwise [res_main_v60]
  simp only [v46_eq h, bits_half, bits_two, bits_1024, mul_one]
  unfold dy; rw [div_real (by norm_num : (1024 : ℝ) ≠ 0), ← mul_assoc, ← EReal.coe_mul, mul_comm]
  norm_num

theorem v65_eq (h : Holds V0 w X T) (i : Fin 8192) (j : Fin 1024) :
    res_main_v65 V0 (ix3 0 i j) = ((dy w (X i) (T i) j * w.gpost j : EReal)) := by
  pointwise [res_main_v65]
  simp only [v60_eq h, v42_eq h]

theorem v77_eq (h : Holds V0 w X T) (i : Fin 8192) (j : Fin 1024) :
    res_main_v77 V0 (ix3 0 i j)
      = mean ((∑ l, out w (X i) l * (dy w (X i) (T i) l * w.gpost l)) * (((-1 / 2 : ℝ) : EReal) * Ideal.div (rinv (out w (X i))) (var (out w (X i))))) := by
  pointwise [res_main_v77]
  rw [reduce_ends]
  pointwise
  simp only [v27_eq h, v65_eq h, v36_eq h, v35_eq h, bits_neg_half, bits_1024]
  rfl

theorem v81_eq (h : Holds V0 w X T) (i : Fin 8192) (j : Fin 1024) :
    res_main_v81 V0 (ix3 0 i j) = (dout w (X i) (T i) j : EReal) := by
  pointwise [res_main_v81]
  simp only [v27_eq h, v65_eq h, v36_eq h, v77_eq h]
  exact (nrmBack_chain (out w (X i)) (fun l => dy w (X i) (T i) l * w.gpost l) j)

theorem v89_eq (h : Holds V0 w X T) (i : Fin 8192) (k : Fin 4096) :
    res_main_v89 V0 (ix3 0 i k) = (dpre w (X i) (T i) k : EReal) := by
  pointwise [res_main_v89]
  simp only [v18_eq h, v81_eq h, v26_eq h, v19_eq h, bits_two]
  exact dpre_test w (X i) (T i) k

theorem v92_eq (h : Holds V0 w X T) (i : Fin 8192) (j : Fin 1024) :
    res_main_v92 V0 (ix3 0 i j) = (dhid w (X i) (T i) j : EReal) := by
  pointwise [res_main_v92]
  simp only [v89_eq h, v17_eq h]
  rfl

theorem v98_eq (h : Holds V0 w X T) (i : Fin 8192) (j : Fin 1024) :
    res_main_v98 V0 (ix3 0 i j) = ((dhid w (X i) (T i) j * w.gpre j : EReal)) := by
  pointwise [res_main_v98]
  simp only [v92_eq h, v14_eq h]

theorem v111_eq (h : Holds V0 w X T) (i : Fin 8192) (j : Fin 1024) :
    res_main_v111 V0 (ix3 0 i j)
      = mean ((∑ l, X i l * (dhid w (X i) (T i) l * w.gpre l)) * (((-1 / 2 : ℝ) : EReal) * Ideal.div (rinv (X i)) (var (X i)))) := by
  have hx : ∀ i j, V0 (Proc.devRef .tc main_arg0) (ix3 0 i j) = (X i j : EReal) := h.x
  pointwise [res_main_v111]
  rw [reduce_ends]
  pointwise
  simp only [hx, v98_eq h, v8_eq h, v7_eq h, bits_neg_half, bits_1024]
  rfl

/-- The result of the derivative at the layer's input. -/
theorem dx_eq (h : Holds V0 w X T) (i : Fin 8192) (j : Fin 1024) :
    addf (addf (addf (res_main_v60 V0) (mulf (res_main_v98 V0) (broadcastInDim S1x8192x1024 ![0, 1, 2] bcast_S1x8192x1_S1x8192x1024_0_1_2 (res_main_v8 V0)))) (mulf (V0 (Proc.devRef .tc main_arg0)) (res_main_v111 V0))) (mulf (res_main_v111 V0) (V0 (Proc.devRef .tc main_arg0))) (ix3 0 i j)
      = (dx w (X i) (T i) j : EReal) := by
  have hx : ∀ i j, V0 (Proc.devRef .tc main_arg0) (ix3 0 i j) = (X i j : EReal) := h.x
  pointwise
  simp only [hx, v60_eq h, v98_eq h, v8_eq h, v111_eq h]
  unfold dx
  rw [← nrmBack_chain (X i) (fun l => dhid w (X i) (T i) l * w.gpre l) j, ← add_assoc, ← add_assoc]

/-- The result of the loss. -/
theorem loss_eq (h : Holds V0 w X T) (i : S_.Idx) :
    mulf (constant S_ .f32 0x3F000000#32) (Host.reduceAdd (Host.divf (Host.reduceAdd (mulf (res_main_v46 V0) (res_main_v46 V0)) (constant S_ .f32 0x00000000#32) reducesTo_S1x8192x1024_S1x8192_d2 h_S_) (broadcastInDim S1x8192 ![] bcast_S_S1x8192 (constant S_ .f32 0x44800000#32))) (constant S_ .f32 0x00000000#32) reducesTo_S1x8192_S_d0_1 h_S_) i
      = (loss w X T : EReal) := by
  pointwise
  simp only [Fin.sum_univ_one, Fin.isValue, v46_eq h, bits_half, bits_1024]
  rfl

/-- The result of the derivative at the first gain. -/
theorem dgpre_eq (h : Holds V0 w X T) (j : Fin 1024) :
    broadcastInDim S1x1024 ![1] bcast_S1024_S1x1024_1 (Host.reduceAdd (shapeCast _ (Host.reduceAdd (mulf (res_main_v13 V0) (res_main_v92 V0)) (constant S_ .f32 0x00000000#32) reducesTo_S1x8192x1024_S1x1024_d1 h_S_) shapeCasts_S1x1024_S1x1x1024) (constant S_ .f32 0x00000000#32) reducesTo_S1x1x1024_S1024_d0_1 h_S_) (ix2 0 j)
      = (dgpre w X T j : EReal) := by
  pointwise
  rw [reduce_front]
  pointwise
  simp only [v13_eq h, v92_eq h]
  exact (Finset.sum_congr rfl fun i _ => mul_comm _ _)

/-- The result of the derivative at the second gain. -/
theorem dgpost_eq (h : Holds V0 w X T) (j : Fin 1024) :
    broadcastInDim S1x1024 ![1] bcast_S1024_S1x1024_1 (Host.reduceAdd (shapeCast _ (Host.reduceAdd (mulf (res_main_v41 V0) (res_main_v60 V0)) (constant S_ .f32 0x00000000#32) reducesTo_S1x8192x1024_S1x1024_d1 h_S_) shapeCasts_S1x1024_S1x1x1024) (constant S_ .f32 0x00000000#32) reducesTo_S1x1x1024_S1024_d0_1 h_S_) (ix2 0 j)
      = (dgpost w X T j : EReal) := by
  pointwise
  rw [reduce_front]
  pointwise
  simp only [v41_eq h, v60_eq h]
  exact (Finset.sum_congr rfl fun i _ => mul_comm _ _)

/-- The result of the derivative at the first matrix. -/
theorem dup_eq (h : Holds V0 w X T) (j : Fin 1024) (k : Fin 4096) :
    broadcastInDim S1x1024x4096 ![1, 2] bcast_S1024x4096_S1x1024x4096_1_2 (transpose S1024x4096 [1, 0] (Host.dotGeneral (φ₁ := .f32) (φ₂ := .f32) dot_S1x8192x4096_S1x8192x1024_S4096x1024_01_01_2_2_n_n none (res_main_v89 V0) (res_main_v16 V0)) transposes_S4096x1024_S1024x4096_1_0) (ix3 0 j k)
      = (dup w X T j k : EReal) := by
  pointwise
  simp only [Fin.sum_univ_one, Fin.isValue, v89_eq h, v16_eq h]
  exact (Finset.sum_congr rfl fun i _ => mul_comm _ _)

/-- The result of the derivative at the second matrix. -/
theorem ddown_eq (h : Holds V0 w X T) (k : Fin 4096) (j : Fin 1024) :
    broadcastInDim S1x4096x1024 ![1, 2] bcast_S4096x1024_S1x4096x1024_1_2 (transpose S4096x1024 [1, 0] (Host.dotGeneral (φ₁ := .f32) (φ₂ := .f32) dot_S1x8192x1024_S1x8192x4096_S1024x4096_01_01_2_2_n_n none (res_main_v81 V0) (res_main_v23 V0)) transposes_S1024x4096_S4096x1024_1_0) (ix3 0 k j)
      = (ddown w X T k j : EReal) := by
  pointwise
  simp only [Fin.sum_univ_one, Fin.isValue, v81_eq h, v23_eq h]
  exact (Finset.sum_congr rfl fun i _ => mul_comm _ _)

end Cert.Reference2Ideal.Rows

end
-- ==== Proof.MlpClaim.lean ====
module

public import proofs.«01_k».proof.Defs
public import proofs.«01_k».proof.Proof.MlpFinal
public import proofs.«01_k».proof.Proof.MlpRef
public import Idealize.ShloMosaic.Lib.Claim

@[expose] public section

/-!
# The squared-relu layer: the two kernels against the derivative of the layer's loss

On the same arguments both programs end with the same six results: the loss, and its derivatives in the layer's input,
its two gains and its two matrices.
-/

set_option maxRecDepth 16384

noncomputable section

open Idealize.ShloMosaic Idealize.ShloMosaic.TcCoe Idealize.SL.Sem

namespace Cert.Mlp

open Cert.Lift

open Cert.Kernel2Ideal in
/-- Whatever the arguments are, their entries are some extended reals. -/
theorem holds (m : (ℓ : Loc nD τ sig) → Buf (Elt Ideal) ℓ) (c : Dev nD) : ∃ w X T, Cert.Kernel2Ideal.Final.Holds m c w X T :=
  ⟨⟨fun j => (show FVec Ideal S1x1024 .f32 from m ((c : Thread nD τ).loc main_arg1)) (ix2 0 j),
    fun j => (show FVec Ideal S1x1024 .f32 from m ((c : Thread nD τ).loc main_arg2)) (ix2 0 j),
    fun j k => (show FVec Ideal S1x1024x4096 .f32 from m ((c : Thread nD τ).loc main_arg3)) (ix3 0 j k),
    fun k j => (show FVec Ideal S1x4096x1024 .f32 from m ((c : Thread nD τ).loc main_arg4)) (ix3 0 k j)⟩,
    fun i j => (show FVec Ideal S1x8192x1024 .f32 from m ((c : Thread nD τ).loc main_arg0)) (ix3 0 i j),
    fun i j => (show FVec Ideal S1x8192x1024 .f32 from m ((c : Thread nD τ).loc main_arg5)) (ix3 0 i j),
    ⟨fun _ _ => rfl, fun _ => rfl, fun _ => rfl, fun _ _ => rfl, fun _ _ => rfl, fun _ _ => rfl⟩⟩

/-- The reference's arguments are the same extended reals. -/
theorem holds_agree {m : (ℓ : Loc Cert.Kernel2Ideal.nD Cert.Kernel2Ideal.τ Cert.Kernel2Ideal.sig) → Buf (Elt Ideal) ℓ}
    {m' : (ℓ : Loc Cert.Reference2Ideal.nD Cert.Reference2Ideal.τ Cert.Reference2Ideal.sig) → Buf (Elt Ideal) ℓ}
    {c : Dev Cert.Kernel2Ideal.nD} {w : Weights} {X T : Fin 8192 → Fin 1024 → EReal} (h : Cert.Kernel2Ideal.Final.Holds m c w X T)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Rows.Holds (StableHlo.launchContents m' c) w X T where
  x i j := (congrFun e0 (ix3 0 i j)).trans (h.x i j)
  gpre j := (congrFun e1 (ix2 0 j)).trans (h.gpre j)
  gpost j := (congrFun e2 (ix2 0 j)).trans (h.gpost j)
  up j k := (congrFun e3 (ix3 0 j k)).trans (h.up j k)
  down k j := (congrFun e4 (ix3 0 k j)).trans (h.down k j)
  t i j := (congrFun e5 (ix3 0 i j)).trans (h.t i j)

/-- An array of one outer entry, known entry by entry. -/
theorem ext3 {A B : ℕ} {f g : (⟨3, ![1, A, B]⟩ : Shape).Idx → EReal} (h : ∀ i j, f (ix3 0 i j) = g (ix3 0 i j)) : f = g := by
  funext y
  have e : y = ix3 0 (y 1) (y 2) := by
    funext b; match b with
    | ⟨0, _⟩ => exact Fin.ext (Nat.lt_one_iff.mp (y 0).isLt)
    | ⟨1, _⟩ => rfl
    | ⟨2, _⟩ => rfl
  rw [e]; exact h _ _

/-- A row, known entry by entry. -/
theorem ext2 {B : ℕ} {f g : (⟨2, ![1, B]⟩ : Shape).Idx → EReal} (h : ∀ j, f (ix2 0 j) = g (ix2 0 j)) : f = g := by
  funext y
  have e : y = ix2 0 (y 1) := by
    funext b; match b with
    | ⟨0, _⟩ => exact Fin.ext (Nat.lt_one_iff.mp (y 0).isLt)
    | ⟨1, _⟩ => rfl
  rw [e]; exact h _

open Cert.Kernel2Ideal.Final in
theorem algebraic : Cert.algebraic_Kernel2Ideal_Reference2Ideal := by
  intro m g m' g' _ hagree
  refine ⟨_, _, _, _, _, _, Cert.Kernel2Ideal.Run.run m g, (θ_run _ _ _).mono (fun r h c => ?_) (Cert.Reference2Ideal.Value.run m' g')⟩
  obtain ⟨w, X, T, hk⟩ := holds m c
  obtain ⟨e0, e1, e2, e3, e4, e5⟩ := hagree c
  have hr := holds_agree hk e0 e1 e2 e3 e4 e5
  obtain ⟨q0, q1, q2, q3, q4, q5, qa⟩ := h c
  refine ⟨?_, ?_, ?_, ?_, ?_, ?_, qa⟩
  · rw [q0, loss_val g hk]
    funext i
    exact Cert.Reference2Ideal.Rows.loss_eq hr i
  · rw [q1, dx_val g hk]
    exact ext3 (Cert.Reference2Ideal.Rows.dx_eq hr)
  · rw [q2, dgpre_val g hk]
    exact ext2 (Cert.Reference2Ideal.Rows.dgpre_eq hr)
  · rw [q3, dgpost_val g hk]
    exact ext2 (Cert.Reference2Ideal.Rows.dgpost_eq hr)
  · rw [q4, dup_val g hk]
    exact ext3 (Cert.Reference2Ideal.Rows.dup_eq hr)
  · rw [q5, ddown_val g hk]
    exact ext3 (Cert.Reference2Ideal.Rows.ddown_eq hr)

end Cert.Mlp

end
-- ==== Proof.InRun.lean ====
module

public import proofs.«01_k».proof.Proof.Gen.Kernel3Ideal.Frame.Runs

@[expose] public section

/-!
# One point of the input projection's backward kernel

The body runs on whole staging buffers, and what its stores leave in each of its nine outputs is read off the run: at
the first point of the grid, where it clears the two running derivatives, and at a later one, where it adds to them.
-/

set_option maxRecDepth 16384

noncomputable section

namespace Cert.Kernel3Ideal.Whole

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x2560 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x1024 .f32) (harg9 : arg9.IsWhole)
  (arg10 : Memref sig .tc .vmem S64x1024 .f32) (harg10 : arg10.IsWhole)
  (arg11 : Memref sig .tc .vmem S64x1024 .f32) (harg11 : arg11.IsWhole)
  (arg12 : Memref sig .tc .vmem S64x1024 .f32) (harg12 : arg12.IsWhole)
  (arg13 : Memref sig .tc .vmem S64x1024 .f32) (harg13 : arg13.IsWhole)
  (arg14 : Memref sig .tc .vmem S64x1024 .f32) (harg14 : arg14.IsWhole)
  (arg15 : Memref sig .tc .vmem S64x1024 .f32) (harg15 : arg15.IsWhole)
  (arg16 : Memref sig .tc .vmem S64x1024 .f32) (harg16 : arg16.IsWhole)
  (arg17 : Memref sig .tc .vmem S64x1024 .f32) (harg17 : arg17.IsWhole)
  (arg18 : Memref sig .tc .vmem S512x1024 .f32) (harg18 : arg18.IsWhole)
  (arg19 : Memref sig .tc .vmem S1024x2560 .f32) (harg19 : arg19.IsWhole)
  (arg20 : Memref sig .tc .vmem S1x1024 .f32) (harg20 : arg20.IsWhole)
  (arg21 : Memref sig .tc .vmem S64x1024 .f32) (harg21 : arg21.IsWhole)
  (arg22 : Memref sig .tc .vmem S64x1024 .f32) (harg22 : arg22.IsWhole)
  (arg23 : Memref sig .tc .vmem S64x1024 .f32) (harg23 : arg23.IsWhole)
  (arg24 : Memref sig .tc .vmem S64x1024 .f32) (harg24 : arg24.IsWhole)
  (arg25 : Memref sig .tc .vmem S64x1024 .f32) (harg25 : arg25.IsWhole)
  (arg26 : Memref sig .tc .vmem S64x1024 .f32) (harg26 : arg26.IsWhole)
  (x0 : Vec F S512x1024 .f32) (x1 : Vec F S1x1024 .f32) (x2 : Vec F S1024x2560 .bf16) (x3 x4 x5 x6 x7 : Vec F S512x512 .bf16) (x8 : Vec F S512x1024 .f32) (x9 x10 x11 x12 x13 x14 x15 x16 : Vec F S64x1024 .f32)

set_option maxHeartbeats 6000000 in
/-- The first point: the stores that each output's buffer ends with, last first, and the run of the body that leaves them. -/
def runFirst (hc0 : cond0_0 i) :
    Σ' (L17 : List (View.Piece (Elt F) S512x1024 .f32)), Σ' (L18 : List (View.Piece (Elt F) S1024x2560 .f32)), Σ' (L19 : List (View.Piece (Elt F)
          S1x1024 .f32)), Σ' (L20 : List (View.Piece (Elt F) S64x1024 .f32)), Σ' (L21 : List (View.Piece (Elt F) S64x1024 .f32)), Σ' (L22 : List
          (View.Piece (Elt F) S64x1024 .f32)), Σ' (L23 : List (View.Piece (Elt F) S64x1024 .f32)), Σ' (L24 : List (View.Piece (Elt F) S64x1024
          .f32)), { L25 : List (View.Piece (Elt F) S64x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns
          (c : Thread nD τ) arg4 fullShare x3 ∗ owns (c : Thread nD τ) arg5 fullShare x4 ∗ owns (c : Thread nD τ) arg6 fullShare x5 ∗ owns (c :
          Thread nD τ) arg7 fullShare x6 ∗ owns (c : Thread nD τ) arg8 fullShare x7 ∗ owns (c : Thread nD τ) arg9 fullShare x8 ∗ owns (c : Thread nD
          τ) arg10 fullShare x9 ∗ owns (c : Thread nD τ) arg11 fullShare x10 ∗ owns (c : Thread nD τ) arg12 fullShare x11 ∗ owns (c : Thread nD τ)
          arg13 fullShare x12 ∗ owns (c : Thread nD τ) arg14 fullShare x13 ∗ owns (c : Thread nD τ) arg15 fullShare x14 ∗ owns (c : Thread nD τ)
          arg16 fullShare x15 ∗ owns (c : Thread nD τ) arg17 fullShare x16 ∗ (∃ d, owns (c : Thread nD τ) arg18 fullShare d) ∗ (∃ d, owns (c : Thread
          nD τ) arg19 fullShare d) ∗ (∃ d, owns (c : Thread nD τ) arg20 fullShare d) ∗ (∃ d, owns (c : Thread nD τ) arg21 fullShare d) ∗ (∃ d, owns
          (c : Thread nD τ) arg22 fullShare d) ∗ (∃ d, owns (c : Thread nD τ) arg23 fullShare d) ∗ (∃ d, owns (c : Thread nD τ) arg24 fullShare d) ∗
          (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗ owns (c :
          Thread nD τ) arg7 fullShare x6 ∗ owns (c : Thread nD τ) arg8 fullShare x7 ∗ owns (c : Thread nD τ) arg9 fullShare x8 ∗ owns (c : Thread nD
          τ) arg10 fullShare x9 ∗ owns (c : Thread nD τ) arg11 fullShare x10 ∗ owns (c : Thread nD τ) arg12 fullShare x11 ∗ owns (c : Thread nD τ)
          arg13 fullShare x12 ∗ owns (c : Thread nD τ) arg14 fullShare x13 ∗ owns (c : Thread nD τ) arg15 fullShare x14 ∗ owns (c : Thread nD τ)
          arg16 fullShare x15 ∗ owns (c : Thread nD τ) arg17 fullShare x16 ∗ (∃ f, arg18.view.loc (c : Thread nD τ) ↦[arg18.view.set]{fullShare}
          arg18.view.writes (Elt F) f L17) ∗ (∃ f, arg19.view.loc (c : Thread nD τ) ↦[arg19.view.set]{fullShare} arg19.view.writes (Elt F) f L18) ∗
          (∃ f, arg20.view.loc (c : Thread nD τ) ↦[arg20.view.set]{fullShare} arg20.view.writes (Elt F) f L19) ∗ (∃ f, arg21.view.loc (c : Thread nD
          τ) ↦[arg21.view.set]{fullShare} arg21.view.writes (Elt F) f L20) ∗ (∃ f, arg22.view.loc (c : Thread nD τ) ↦[arg22.view.set]{fullShare}
          arg22.view.writes (Elt F) f L21) ∗ (∃ f, arg23.view.loc (c : Thread nD τ) ↦[arg23.view.set]{fullShare} arg23.view.writes (Elt F) f L22) ∗
          (∃ f, arg24.view.loc (c : Thread nD τ) ↦[arg24.view.set]{fullShare} arg24.view.writes (Elt F) f L23) ∗ (∃ f, arg25.view.loc (c : Thread nD
          τ) ↦[arg25.view.set]{fullShare} arg25.view.writes (Elt F) f L24) ∗ (∃ f, arg26.view.loc (c : Thread nD τ) ↦[arg26.view.set]{fullShare}
          arg26.view.writes (Elt F) f L25)) -∗ K ⟨⟩))
          ⊢ wp frame (wpE (defs₀ (F := F)) Variants.none c none) E (cc0_inproj_bwd i arg1 harg1 arg2 harg2 arg3 harg3 arg4 harg4 arg5 harg5 arg6
          harg6 arg7 harg7 arg8 harg8 arg9 harg9 arg10 harg10 arg11 harg11 arg12 harg12 arg13 harg13 arg14 harg14 arg15 harg15 arg16 harg16 arg17
          harg17 arg18 harg18 arg19 harg19 arg20 harg20 arg21 harg21 arg22 harg22 arg23 harg23 arg24 harg24 arg25 harg25 arg26 harg26) K } := by
  refine ⟨?_, ?_, ?_, ?_, ?_, ?_, ?_, ?_, ?_, fun E K => ?run⟩
  case run =>
    simp only [cc0_inproj_bwd_eq_skeleton]; unfold cc0_inproj_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
          ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
          ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21,
          %f21, -, H21⟩, ⟨%d22, %f22, -, H22⟩, ⟨%d23, %f23, -, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3;
          obtain rfl := harg5.eq_unread hf4; obtain rfl := harg6.eq_unread hf5; obtain rfl := harg7.eq_unread hf6; obtain rfl := harg8.eq_unread hf7;
          obtain rfl := harg9.eq_unread hf8; obtain rfl := harg10.eq_unread hf9; obtain rfl := harg11.eq_unread hf10; obtain rfl := harg12.eq_unread
          hf11; obtain rfl := harg13.eq_unread hf12; obtain rfl := harg14.eq_unread hf13; obtain rfl := harg15.eq_unread hf14; obtain rfl :=
          harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

set_option maxHeartbeats 6000000 in
/-- A later point, over the running derivatives `xo18` and `xo19`. -/
def runLater (hc0 : ¬cond0_0 i) (xo18 : Vec F S1024x2560 .f32) (xo19 : Vec F S1x1024 .f32) :
    Σ' (L17 : List (View.Piece (Elt F) S512x1024 .f32)), Σ' (L18 : List (View.Piece (Elt F) S1024x2560 .f32)), Σ' (L19 : List (View.Piece (Elt F)
          S1x1024 .f32)), Σ' (L20 : List (View.Piece (Elt F) S64x1024 .f32)), Σ' (L21 : List (View.Piece (Elt F) S64x1024 .f32)), Σ' (L22 : List
          (View.Piece (Elt F) S64x1024 .f32)), Σ' (L23 : List (View.Piece (Elt F) S64x1024 .f32)), Σ' (L24 : List (View.Piece (Elt F) S64x1024
          .f32)), { L25 : List (View.Piece (Elt F) S64x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns
          (c : Thread nD τ) arg4 fullShare x3 ∗ owns (c : Thread nD τ) arg5 fullShare x4 ∗ owns (c : Thread nD τ) arg6 fullShare x5 ∗ owns (c :
          Thread nD τ) arg7 fullShare x6 ∗ owns (c : Thread nD τ) arg8 fullShare x7 ∗ owns (c : Thread nD τ) arg9 fullShare x8 ∗ owns (c : Thread nD
          τ) arg10 fullShare x9 ∗ owns (c : Thread nD τ) arg11 fullShare x10 ∗ owns (c : Thread nD τ) arg12 fullShare x11 ∗ owns (c : Thread nD τ)
          arg13 fullShare x12 ∗ owns (c : Thread nD τ) arg14 fullShare x13 ∗ owns (c : Thread nD τ) arg15 fullShare x14 ∗ owns (c : Thread nD τ)
          arg16 fullShare x15 ∗ owns (c : Thread nD τ) arg17 fullShare x16 ∗ (∃ d, owns (c : Thread nD τ) arg18 fullShare d) ∗ owns (c : Thread nD τ)
          arg19 fullShare xo18 ∗ owns (c : Thread nD τ) arg20 fullShare xo19 ∗ (∃ d, owns (c : Thread nD τ) arg21 fullShare d) ∗ (∃ d, owns (c :
          Thread nD τ) arg22 fullShare d) ∗ (∃ d, owns (c : Thread nD τ) arg23 fullShare d) ∗ (∃ d, owns (c : Thread nD τ) arg24 fullShare d) ∗ (∃ d,
          owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗ owns (c :
          Thread nD τ) arg7 fullShare x6 ∗ owns (c : Thread nD τ) arg8 fullShare x7 ∗ owns (c : Thread nD τ) arg9 fullShare x8 ∗ owns (c : Thread nD
          τ) arg10 fullShare x9 ∗ owns (c : Thread nD τ) arg11 fullShare x10 ∗ owns (c : Thread nD τ) arg12 fullShare x11 ∗ owns (c : Thread nD τ)
          arg13 fullShare x12 ∗ owns (c : Thread nD τ) arg14 fullShare x13 ∗ owns (c : Thread nD τ) arg15 fullShare x14 ∗ owns (c : Thread nD τ)
          arg16 fullShare x15 ∗ owns (c : Thread nD τ) arg17 fullShare x16 ∗ (∃ f, arg18.view.loc (c : Thread nD τ) ↦[arg18.view.set]{fullShare}
          arg18.view.writes (Elt F) f L17) ∗ (∃ f, arg19.view.loc (c : Thread nD τ) ↦[arg19.view.set]{fullShare} arg19.view.writes (Elt F) f L18) ∗
          (∃ f, arg20.view.loc (c : Thread nD τ) ↦[arg20.view.set]{fullShare} arg20.view.writes (Elt F) f L19) ∗ (∃ f, arg21.view.loc (c : Thread nD
          τ) ↦[arg21.view.set]{fullShare} arg21.view.writes (Elt F) f L20) ∗ (∃ f, arg22.view.loc (c : Thread nD τ) ↦[arg22.view.set]{fullShare}
          arg22.view.writes (Elt F) f L21) ∗ (∃ f, arg23.view.loc (c : Thread nD τ) ↦[arg23.view.set]{fullShare} arg23.view.writes (Elt F) f L22) ∗
          (∃ f, arg24.view.loc (c : Thread nD τ) ↦[arg24.view.set]{fullShare} arg24.view.writes (Elt F) f L23) ∗ (∃ f, arg25.view.loc (c : Thread nD
          τ) ↦[arg25.view.set]{fullShare} arg25.view.writes (Elt F) f L24) ∗ (∃ f, arg26.view.loc (c : Thread nD τ) ↦[arg26.view.set]{fullShare}
          arg26.view.writes (Elt F) f L25)) -∗ K ⟨⟩))
          ⊢ wp frame (wpE (defs₀ (F := F)) Variants.none c none) E (cc0_inproj_bwd i arg1 harg1 arg2 harg2 arg3 harg3 arg4 harg4 arg5 harg5 arg6
          harg6 arg7 harg7 arg8 harg8 arg9 harg9 arg10 harg10 arg11 harg11 arg12 harg12 arg13 harg13 arg14 harg14 arg15 harg15 arg16 harg16 arg17
          harg17 arg18 harg18 arg19 harg19 arg20 harg20 arg21 harg21 arg22 harg22 arg23 harg23 arg24 harg24 arg25 harg25 arg26 harg26) K } := by
  refine ⟨?_, ?_, ?_, ?_, ?_, ?_, ?_, ?_, ?_, fun E K => ?run⟩
  case run =>
    simp only [cc0_inproj_bwd_eq_skeleton]; unfold cc0_inproj_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
          ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
          ⟨%f15, %hf15, H15⟩, ⟨%f16, %hf16, H16⟩, ⟨%d17, %f17, -, H17⟩, ⟨%f18, %hf18, H18⟩, ⟨%f19, %hf19, H19⟩, ⟨%d20, %f20, -, H20⟩, ⟨%d21, %f21, -,
          H21⟩, ⟨%d22, %f22, -, H22⟩, ⟨%d23, %f23, -, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3;
          obtain rfl := harg5.eq_unread hf4; obtain rfl := harg6.eq_unread hf5; obtain rfl := harg7.eq_unread hf6; obtain rfl := harg8.eq_unread hf7;
          obtain rfl := harg9.eq_unread hf8; obtain rfl := harg10.eq_unread hf9; obtain rfl := harg11.eq_unread hf10; obtain rfl := harg12.eq_unread
          hf11; obtain rfl := harg13.eq_unread hf12; obtain rfl := harg14.eq_unread hf13; obtain rfl := harg15.eq_unread hf14; obtain rfl :=
          harg16.eq_unread hf15; obtain rfl := harg17.eq_unread hf16; obtain rfl := harg19.eq_unread hf18; obtain rfl := harg20.eq_unread hf19
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.Kernel3Ideal.Whole

end
-- ==== Proof.InOuts.lean ====
module

public import proofs.«01_k».proof.Proof.InRun

@[expose] public section

/-!
# What a point leaves in the nine outputs

The stores of a point cover each output's buffer, so its contents are those stores read back.
-/

set_option maxRecDepth 16384

noncomputable section

namespace Cert.Kernel3Ideal.Whole

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x2560 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x1024 .f32) (harg9 : arg9.IsWhole)
  (arg10 : Memref sig .tc .vmem S64x1024 .f32) (harg10 : arg10.IsWhole)
  (arg11 : Memref sig .tc .vmem S64x1024 .f32) (harg11 : arg11.IsWhole)
  (arg12 : Memref sig .tc .vmem S64x1024 .f32) (harg12 : arg12.IsWhole)
  (arg13 : Memref sig .tc .vmem S64x1024 .f32) (harg13 : arg13.IsWhole)
  (arg14 : Memref sig .tc .vmem S64x1024 .f32) (harg14 : arg14.IsWhole)
  (arg15 : Memref sig .tc .vmem S64x1024 .f32) (harg15 : arg15.IsWhole)
  (arg16 : Memref sig .tc .vmem S64x1024 .f32) (harg16 : arg16.IsWhole)
  (arg17 : Memref sig .tc .vmem S64x1024 .f32) (harg17 : arg17.IsWhole)
  (arg18 : Memref sig .tc .vmem S512x1024 .f32) (harg18 : arg18.IsWhole)
  (arg19 : Memref sig .tc .vmem S1024x2560 .f32) (harg19 : arg19.IsWhole)
  (arg20 : Memref sig .tc .vmem S1x1024 .f32) (harg20 : arg20.IsWhole)
  (arg21 : Memref sig .tc .vmem S64x1024 .f32) (harg21 : arg21.IsWhole)
  (arg22 : Memref sig .tc .vmem S64x1024 .f32) (harg22 : arg22.IsWhole)
  (arg23 : Memref sig .tc .vmem S64x1024 .f32) (harg23 : arg23.IsWhole)
  (arg24 : Memref sig .tc .vmem S64x1024 .f32) (harg24 : arg24.IsWhole)
  (arg25 : Memref sig .tc .vmem S64x1024 .f32) (harg25 : arg25.IsWhole)
  (arg26 : Memref sig .tc .vmem S64x1024 .f32) (harg26 : arg26.IsWhole)
  (x0 : Vec F S512x1024 .f32) (x1 : Vec F S1x1024 .f32) (x2 : Vec F S1024x2560 .bf16) (x3 x4 x5 x6 x7 : Vec F S512x512 .bf16) (x8 : Vec F S512x1024 .f32) (x9 x10 x11 x12 x13 x14 x15 x16 : Vec F S64x1024 .f32)

theorem firstCover17 (hc0 : cond0_0 i) (y : S512x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).1, y ∈ pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0).1
          S512x1024.size (by sl_kernel_rfl) y

/-- The first point: the input's derivative. -/
def firstOut17 (hc0 : cond0_0 i) : Vec F S512x1024 .f32 :=
  VO0_17.read (Elt F) (VO0_17.writes (Elt F) VO0_17.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).1)

theorem firstCover18 (hc0 : cond0_0 i) (y : S1024x2560.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).2.1, y ∈ pc.1.set
          :=
  View.cover_of_tiledBy (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0).2.1
          ![1024, 512] (by sl_kernel_rfl) y

/-- The first point: the projection's derivative. -/
def firstOut18 (hc0 : cond0_0 i) : Vec F S1024x2560 .f32 :=
  VO0_18.read (Elt F) (VO0_18.writes (Elt F) VO0_18.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.1)

theorem firstCover19 (hc0 : cond0_0 i) (y : S1x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).2.2.1, y ∈
          pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16
          hc0).2.2.1 S1x1024.size (by sl_kernel_rfl) y

/-- The first point: the gain's derivative. -/
def firstOut19 (hc0 : cond0_0 i) : Vec F S1x1024 .f32 :=
  VO0_19.read (Elt F) (VO0_19.writes (Elt F) VO0_19.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.2.1)

theorem firstCover20 (hc0 : cond0_0 i) (y : S64x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).2.2.2.1, y ∈
          pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16
          hc0).2.2.2.1 S64x1024.size (by sl_kernel_rfl) y

/-- The first point: the first weight's step. -/
def firstOut20 (hc0 : cond0_0 i) : Vec F S64x1024 .f32 :=
  VO0_20.read (Elt F) (VO0_20.writes (Elt F) VO0_20.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.2.2.1)

theorem firstCover21 (hc0 : cond0_0 i) (y : S64x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).2.2.2.2.1, y ∈
          pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16
          hc0).2.2.2.2.1 S64x1024.size (by sl_kernel_rfl) y

/-- The first point: the second weight's step. -/
def firstOut21 (hc0 : cond0_0 i) : Vec F S64x1024 .f32 :=
  VO0_21.read (Elt F) (VO0_21.writes (Elt F) VO0_21.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.2.2.2.1)

theorem firstCover22 (hc0 : cond0_0 i) (y : S64x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).2.2.2.2.2.1, y ∈
          pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16
          hc0).2.2.2.2.2.1 S64x1024.size (by sl_kernel_rfl) y

/-- The first point: the first weight's first moment. -/
def firstOut22 (hc0 : cond0_0 i) : Vec F S64x1024 .f32 :=
  VO0_22.read (Elt F) (VO0_22.writes (Elt F) VO0_22.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.2.2.2.2.1)

theorem firstCover23 (hc0 : cond0_0 i) (y : S64x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).2.2.2.2.2.2.1, y
          ∈ pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16
          hc0).2.2.2.2.2.2.1 S64x1024.size (by sl_kernel_rfl) y

/-- The first point: the second weight's first moment. -/
def firstOut23 (hc0 : cond0_0 i) : Vec F S64x1024 .f32 :=
  VO0_23.read (Elt F) (VO0_23.writes (Elt F) VO0_23.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.2.2.2.2.2.1)

theorem firstCover24 (hc0 : cond0_0 i) (y : S64x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0).2.2.2.2.2.2.2.1,
          y ∈ pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16
          hc0).2.2.2.2.2.2.2.1 S64x1024.size (by sl_kernel_rfl) y

/-- The first point: the first weight's second moment. -/
def firstOut24 (hc0 : cond0_0 i) : Vec F S64x1024 .f32 :=
  VO0_24.read (Elt F) (VO0_24.writes (Elt F) VO0_24.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.2.2.2.2.2.2.1)

theorem firstCover25 (hc0 : cond0_0 i) (y : S64x1024.Idx) :
    ∃ pc ∈ (runFirst c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16
          hc0).2.2.2.2.2.2.2.2.1, y ∈ pc.1.set :=
  View.cover_of_tiledL (runFirst c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16
          hc0).2.2.2.2.2.2.2.2.1 S64x1024.size (by sl_kernel_rfl) y

/-- The first point: the second weight's second moment. -/
def firstOut25 (hc0 : cond0_0 i) : Vec F S64x1024 .f32 :=
  VO0_25.read (Elt F) (VO0_25.writes (Elt F) VO0_25.junk (runFirst c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0).2.2.2.2.2.2.2.2.1)

theorem laterCover17 (hc0 : ¬cond0_0 i) (xo18 : Vec F S1024x2560 .f32) (xo19 : Vec F S1x1024 .f32) (y : S512x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18 xo19).1, y ∈
          pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).1 S512x1024.size (by sl_kernel_rfl) y

/-- A later point: the input's derivative. -/
def laterOut17 (hc0 : ¬cond0_0 i) (xo18 : Vec F S1024x2560 .f32) (xo19 : Vec F S1x1024 .f32) : Vec F S512x1024 .f32 :=
  VO0_17.read (Elt F) (VO0_17.writes (Elt F) VO0_17.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).1)

theorem laterCover18 (hc0 : ¬cond0_0 i) (xo18 : Vec F S1024x2560 .f32) (xo19 : Vec F S1x1024 .f32) (y : S1024x2560.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18 xo19).2.1, y
          ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.1 S1024x512.size (by sl_kernel_rfl) y

/-- A later point: the projection's derivative. -/
def laterOut18 (hc0 : ¬cond0_0 i) (xo18 : Vec F S1024x2560 .f32) (xo19 : Vec F S1x1024 .f32) : Vec F S1024x2560 .f32 :=
  VO0_18.read (Elt F) (VO0_18.writes (Elt F) VO0_18.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.1)

theorem laterCover19 (hc0 : ¬cond0_0 i) (xo18 : Vec F S1024x2560 .f32) (xo19 : Vec F S1x1024 .f32) (y : S1x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18 xo19).2.2.1,
          y ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.2.1 S1x1024.size (by sl_kernel_rfl) y

/-- A later point: the gain's derivative. -/
def laterOut19 (hc0 : ¬cond0_0 i) (xo18 : Vec F S1024x2560 .f32) (xo19 : Vec F S1x1024 .f32) : Vec F S1x1024 .f32 :=
  VO0_19.read (Elt F) (VO0_19.writes (Elt F) VO0_19.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.2.1)

theorem laterCover20 (hc0 : ¬cond0_0 i) (xo18 : Vec F S1024x2560 .f32) (xo19 : Vec F S1x1024 .f32) (y : S64x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18
          xo19).2.2.2.1, y ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.2.2.1 S64x1024.size (by sl_kernel_rfl) y

/-- A later point: the first weight's step. -/
def laterOut20 (hc0 : ¬cond0_0 i) (xo18 : Vec F S1024x2560 .f32) (xo19 : Vec F S1x1024 .f32) : Vec F S64x1024 .f32 :=
  VO0_20.read (Elt F) (VO0_20.writes (Elt F) VO0_20.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.2.2.1)

theorem laterCover21 (hc0 : ¬cond0_0 i) (xo18 : Vec F S1024x2560 .f32) (xo19 : Vec F S1x1024 .f32) (y : S64x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18
          xo19).2.2.2.2.1, y ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.2.2.2.1 S64x1024.size (by sl_kernel_rfl) y

/-- A later point: the second weight's step. -/
def laterOut21 (hc0 : ¬cond0_0 i) (xo18 : Vec F S1024x2560 .f32) (xo19 : Vec F S1x1024 .f32) : Vec F S64x1024 .f32 :=
  VO0_21.read (Elt F) (VO0_21.writes (Elt F) VO0_21.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.2.2.2.1)

theorem laterCover22 (hc0 : ¬cond0_0 i) (xo18 : Vec F S1024x2560 .f32) (xo19 : Vec F S1x1024 .f32) (y : S64x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18
          xo19).2.2.2.2.2.1, y ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.2.2.2.2.1 S64x1024.size (by sl_kernel_rfl) y

/-- A later point: the first weight's first moment. -/
def laterOut22 (hc0 : ¬cond0_0 i) (xo18 : Vec F S1024x2560 .f32) (xo19 : Vec F S1x1024 .f32) : Vec F S64x1024 .f32 :=
  VO0_22.read (Elt F) (VO0_22.writes (Elt F) VO0_22.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.2.2.2.2.1)

theorem laterCover23 (hc0 : ¬cond0_0 i) (xo18 : Vec F S1024x2560 .f32) (xo19 : Vec F S1x1024 .f32) (y : S64x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18
          xo19).2.2.2.2.2.2.1, y ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.2.2.2.2.2.1 S64x1024.size (by sl_kernel_rfl) y

/-- A later point: the second weight's first moment. -/
def laterOut23 (hc0 : ¬cond0_0 i) (xo18 : Vec F S1024x2560 .f32) (xo19 : Vec F S1x1024 .f32) : Vec F S64x1024 .f32 :=
  VO0_23.read (Elt F) (VO0_23.writes (Elt F) VO0_23.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.2.2.2.2.2.1)

theorem laterCover24 (hc0 : ¬cond0_0 i) (xo18 : Vec F S1024x2560 .f32) (xo19 : Vec F S1x1024 .f32) (y : S64x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18
          xo19).2.2.2.2.2.2.2.1, y ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.2.2.2.2.2.2.1 S64x1024.size (by sl_kernel_rfl) y

/-- A later point: the first weight's second moment. -/
def laterOut24 (hc0 : ¬cond0_0 i) (xo18 : Vec F S1024x2560 .f32) (xo19 : Vec F S1x1024 .f32) : Vec F S64x1024 .f32 :=
  VO0_24.read (Elt F) (VO0_24.writes (Elt F) VO0_24.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.2.2.2.2.2.2.1)

theorem laterCover25 (hc0 : ¬cond0_0 i) (xo18 : Vec F S1024x2560 .f32) (xo19 : Vec F S1x1024 .f32) (y : S64x1024.Idx) :
    ∃ pc ∈ (runLater c i arg1 harg1 arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 harg21 arg22
          harg22 arg23 harg23 arg24 harg24 arg25 harg25 arg26 harg26 x0 x1 x2 x3 x4 x5 x6 x7 x8 x9 x10 x11 x12 x13 x14 x15 x16 hc0 xo18
          xo19).2.2.2.2.2.2.2.2.1, y ∈ pc.1.set :=
  View.cover_of_tiledL (runLater c i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21
          harg21 arg22 harg22 arg23 harg23 arg24 harg24 arg25 harg25 arg26 harg26 x0 x1 x2 x3 x4 x5 x6 x7 x8 x9 x10 x11 x12 x13 x14 x15 x16 hc0 xo18
          xo19).2.2.2.2.2.2.2.2.1 S64x1024.size (by sl_kernel_rfl) y

/-- A later point: the second weight's second moment. -/
def laterOut25 (hc0 : ¬cond0_0 i) (xo18 : Vec F S1024x2560 .f32) (xo19 : Vec F S1x1024 .f32) : Vec F S64x1024 .f32 :=
  VO0_25.read (Elt F) (VO0_25.writes (Elt F) VO0_25.junk (runLater c i arg1 harg1 arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 x0 x1 x2 x3 x4 x5 x6 x7 x8 x9 x10
          x11 x12 x13 x14 x15 x16 hc0 xo18 xo19).2.2.2.2.2.2.2.2.1)

end Cert.Kernel3Ideal.Whole

end
-- ==== Proof.InWhole.lean ====
module

public import proofs.«01_k».proof.Proof.InOuts
public import Idealize.ShloMosaic.Lib.Claim

@[expose] public section

/-!
# The whole run of the input projection's backward kernel

What the nine outputs hold after each point, the body at any point over that, and the launch: every run ends with each
output array written from what its points left, and with the arguments as they were.
-/

set_option maxRecDepth 16384

noncomputable section

namespace Cert.Kernel3Ideal.Whole

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves in the outputs, in window order. -/
abbrev Outs (F : FTy → Type) : Type := Vec F S512x1024 .f32 × Vec F S1024x2560 .f32 × Vec F S1x1024 .f32 × Vec F S64x1024 .f32 × Vec F S64x1024 .f32 × Vec F S64x1024 .f32 × Vec F S64x1024 .f32 × Vec F S64x1024 .f32 × Vec F S64x1024 .f32

/-- The outputs after the first point. -/
def firstOuts (c : Dev nD) (t : Fin cfg0.N) (h0 : t.val % 16 = 0) : Outs F :=
  (firstOut17 c (grid0.coords t) (ms0_0 t) (hs0_0 t) (ms0_1 t) (hs0_1 t) (ms0_2 t) (hs0_2 t) (ms0_3 t) (hs0_3 t) (ms0_4 t) (hs0_4 t) (ms0_5 t) (hs0_5
          t) (ms0_6 t) (hs0_6 t) (ms0_7 t) (hs0_7 t) (ms0_8 t) (hs0_8 t) (ms0_9 t) (hs0_9 t) (ms0_10 t) (hs0_10 t) (ms0_11 t) (hs0_11 t) (ms0_12 t)
          (hs0_12 t) (ms0_13 t) (hs0_13 t) (ms0_14 t) (hs0_14 t) (ms0_15 t) (hs0_15 t) (ms0_16 t) (hs0_16 t) (ms0_17 t) (hs0_17 t) (ms0_18 t) (hs0_18
          t) (ms0_19 t) (hs0_19 t) (ms0_20 t) (hs0_20 t) (ms0_21 t) (hs0_21 t) (ms0_22 t) (hs0_22 t) (ms0_23 t) (hs0_23 t) (ms0_24 t) (hs0_24 t)
          (ms0_25 t) (hs0_25 t) (iblk m c 0 t) (iblk m c 1 t) (iblk m c 2 t) (iblk m c 3 t) (iblk m c 4 t) (iblk m c 5 t) (iblk m c 6 t) (iblk m c 7
          t) (iblk m c 8 t) (iblk m c 9 t) (iblk m c 10 t) (iblk m c 11 t) (iblk m c 12 t) (iblk m c 13 t) (iblk m c 14 t) (iblk m c 15 t) (iblk m c
          16 t) ((hcond0_0 t).mpr h0), firstOut18 c (grid0.coords t) (ms0_0 t) (hs0_0 t) (ms0_1 t) (hs0_1 t) (ms0_2 t) (hs0_2 t) (ms0_3 t) (hs0_3 t)
          (ms0_4 t) (hs0_4 t) (ms0_5 t) (hs0_5 t) (ms0_6 t) (hs0_6 t) (ms0_7 t) (hs0_7 t) (ms0_8 t) (hs0_8 t) (ms0_9 t) (hs0_9 t) (ms0_10 t) (hs0_10
          t) (ms0_11 t) (hs0_11 t) (ms0_12 t) (hs0_12 t) (ms0_13 t) (hs0_13 t) (ms0_14 t) (hs0_14 t) (ms0_15 t) (hs0_15 t) (ms0_16 t) (hs0_16 t)
          (ms0_17 t) (hs0_17 t) (ms0_18 t) (hs0_18 t) (ms0_19 t) (hs0_19 t) (ms0_20 t) (hs0_20 t) (ms0_21 t) (hs0_21 t) (ms0_22 t) (hs0_22 t) (ms0_23
          t) (hs0_23 t) (ms0_24 t) (hs0_24 t) (ms0_25 t) (hs0_25 t) (iblk m c 0 t) (iblk m c 1 t) (iblk m c 2 t) (iblk m c 3 t) (iblk m c 4 t) (iblk
          m c 5 t) (iblk m c 6 t) (iblk m c 7 t) (iblk m c 8 t) (iblk m c 9 t) (iblk m c 10 t) (iblk m c 11 t) (iblk m c 12 t) (iblk m c 13 t) (iblk
          m c 14 t) (iblk m c 15 t) (iblk m c 16 t) ((hcond0_0 t).mpr h0), firstOut19 c (grid0.coords t) (ms0_0 t) (hs0_0 t) (ms0_1 t) (hs0_1 t)
          (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
          (ms0_9 t) (hs0_9 t) (ms0_10 t) (hs0_10 t) (ms0_11 t) (hs0_11 t) (ms0_12 t) (hs0_12 t) (ms0_13 t) (hs0_13 t) (ms0_14 t) (hs0_14 t) (ms0_15
          t) (hs0_15 t) (ms0_16 t) (hs0_16 t) (ms0_17 t) (hs0_17 t) (ms0_18 t) (hs0_18 t) (ms0_19 t) (hs0_19 t) (ms0_20 t) (hs0_20 t) (ms0_21 t)
          (hs0_21 t) (ms0_22 t) (hs0_22 t) (ms0_23 t) (hs0_23 t) (ms0_24 t) (hs0_24 t) (ms0_25 t) (hs0_25 t) (iblk m c 0 t) (iblk m c 1 t) (iblk m c
          2 t) (iblk m c 3 t) (iblk m c 4 t) (iblk m c 5 t) (iblk m c 6 t) (iblk m c 7 t) (iblk m c 8 t) (iblk m c 9 t) (iblk m c 10 t) (iblk m c 11
          t) (iblk m c 12 t) (iblk m c 13 t) (iblk m c 14 t) (iblk m c 15 t) (iblk m c 16 t) ((hcond0_0 t).mpr h0), firstOut20 c (grid0.coords t)
          (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
          (ms0_7 t) (hs0_7 t) (ms0_8 t) (hs0_8 t) (ms0_9 t) (hs0_9 t) (ms0_10 t) (hs0_10 t) (ms0_11 t) (hs0_11 t) (ms0_12 t) (hs0_12 t) (ms0_13 t)
          (hs0_13 t) (ms0_14 t) (hs0_14 t) (ms0_15 t) (hs0_15 t) (ms0_16 t) (hs0_16 t) (ms0_17 t) (hs0_17 t) (ms0_18 t) (hs0_18 t) (ms0_19 t) (hs0_19
          t) (ms0_20 t) (hs0_20 t) (ms0_21 t) (hs0_21 t) (ms0_22 t) (hs0_22 t) (ms0_23 t) (hs0_23 t) (ms0_24 t) (hs0_24 t) (ms0_25 t) (hs0_25 t)
          (iblk m c 0 t) (iblk m c 1 t) (iblk m c 2 t) (iblk m c 3 t) (iblk m c 4 t) (iblk m c 5 t) (iblk m c 6 t) (iblk m c 7 t) (iblk m c 8 t)
          (iblk m c 9 t) (iblk m c 10 t) (iblk m c 11 t) (iblk m c 12 t) (iblk m c 13 t) (iblk m c 14 t) (iblk m c 15 t) (iblk m c 16 t) ((hcond0_0
          t).mpr h0), firstOut21 c (grid0.coords t) (ms0_0 t) (hs0_0 t) (ms0_1 t) (hs0_1 t) (ms0_2 t) (hs0_2 t) (ms0_3 t) (hs0_3 t) (ms0_4 t) (hs0_4
          t) (ms0_5 t) (hs0_5 t) (ms0_6 t) (hs0_6 t) (ms0_7 t) (hs0_7 t) (ms0_8 t) (hs0_8 t) (ms0_9 t) (hs0_9 t) (ms0_10 t) (hs0_10 t) (ms0_11 t)
          (hs0_11 t) (ms0_12 t) (hs0_12 t) (ms0_13 t) (hs0_13 t) (ms0_14 t) (hs0_14 t) (ms0_15 t) (hs0_15 t) (ms0_16 t) (hs0_16 t) (ms0_17 t) (hs0_17
          t) (ms0_18 t) (hs0_18 t) (ms0_19 t) (hs0_19 t) (ms0_20 t) (hs0_20 t) (ms0_21 t) (hs0_21 t) (ms0_22 t) (hs0_22 t) (ms0_23 t) (hs0_23 t)
          (ms0_24 t) (hs0_24 t) (ms0_25 t) (hs0_25 t) (iblk m c 0 t) (iblk m c 1 t) (iblk m c 2 t) (iblk m c 3 t) (iblk m c 4 t) (iblk m c 5 t) (iblk
          m c 6 t) (iblk m c 7 t) (iblk m c 8 t) (iblk m c 9 t) (iblk m c 10 t) (iblk m c 11 t) (iblk m c 12 t) (iblk m c 13 t) (iblk m c 14 t) (iblk
          m c 15 t) (iblk m c 16 t) ((hcond0_0 t).mpr h0), firstOut22 c (grid0.coords t) (ms0_0 t) (hs0_0 t) (ms0_1 t) (hs0_1 t) (ms0_2 t) (hs0_2 t)
          (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
          (ms0_10 t) (hs0_10 t) (ms0_11 t) (hs0_11 t) (ms0_12 t) (hs0_12 t) (ms0_13 t) (hs0_13 t) (ms0_14 t) (hs0_14 t) (ms0_15 t) (hs0_15 t) (ms0_16
          t) (hs0_16 t) (ms0_17 t) (hs0_17 t) (ms0_18 t) (hs0_18 t) (ms0_19 t) (hs0_19 t) (ms0_20 t) (hs0_20 t) (ms0_21 t) (hs0_21 t) (ms0_22 t)
          (hs0_22 t) (ms0_23 t) (hs0_23 t) (ms0_24 t) (hs0_24 t) (ms0_25 t) (hs0_25 t) (iblk m c 0 t) (iblk m c 1 t) (iblk m c 2 t) (iblk m c 3 t)
          (iblk m c 4 t) (iblk m c 5 t) (iblk m c 6 t) (iblk m c 7 t) (iblk m c 8 t) (iblk m c 9 t) (iblk m c 10 t) (iblk m c 11 t) (iblk m c 12 t)
          (iblk m c 13 t) (iblk m c 14 t) (iblk m c 15 t) (iblk m c 16 t) ((hcond0_0 t).mpr h0), firstOut23 c (grid0.coords t) (ms0_0 t) (hs0_0 t)
          (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
          (ms0_8 t) (hs0_8 t) (ms0_9 t) (hs0_9 t) (ms0_10 t) (hs0_10 t) (ms0_11 t) (hs0_11 t) (ms0_12 t) (hs0_12 t) (ms0_13 t) (hs0_13 t) (ms0_14 t)
          (hs0_14 t) (ms0_15 t) (hs0_15 t) (ms0_16 t) (hs0_16 t) (ms0_17 t) (hs0_17 t) (ms0_18 t) (hs0_18 t) (ms0_19 t) (hs0_19 t) (ms0_20 t) (hs0_20
          t) (ms0_21 t) (hs0_21 t) (ms0_22 t) (hs0_22 t) (ms0_23 t) (hs0_23 t) (ms0_24 t) (hs0_24 t) (ms0_25 t) (hs0_25 t) (iblk m c 0 t) (iblk m c 1
          t) (iblk m c 2 t) (iblk m c 3 t) (iblk m c 4 t) (iblk m c 5 t) (iblk m c 6 t) (iblk m c 7 t) (iblk m c 8 t) (iblk m c 9 t) (iblk m c 10 t)
          (iblk m c 11 t) (iblk m c 12 t) (iblk m c 13 t) (iblk m c 14 t) (iblk m c 15 t) (iblk m c 16 t) ((hcond0_0 t).mpr h0), firstOut24 c
          (grid0.coords t) (ms0_0 t) (hs0_0 t) (ms0_1 t) (hs0_1 t) (ms0_2 t) (hs0_2 t) (ms0_3 t) (hs0_3 t) (ms0_4 t) (hs0_4 t) (ms0_5 t) (hs0_5 t)
          (ms0_6 t) (hs0_6 t) (ms0_7 t) (hs0_7 t) (ms0_8 t) (hs0_8 t) (ms0_9 t) (hs0_9 t) (ms0_10 t) (hs0_10 t) (ms0_11 t) (hs0_11 t) (ms0_12 t)
          (hs0_12 t) (ms0_13 t) (hs0_13 t) (ms0_14 t) (hs0_14 t) (ms0_15 t) (hs0_15 t) (ms0_16 t) (hs0_16 t) (ms0_17 t) (hs0_17 t) (ms0_18 t) (hs0_18
          t) (ms0_19 t) (hs0_19 t) (ms0_20 t) (hs0_20 t) (ms0_21 t) (hs0_21 t) (ms0_22 t) (hs0_22 t) (ms0_23 t) (hs0_23 t) (ms0_24 t) (hs0_24 t)
          (ms0_25 t) (hs0_25 t) (iblk m c 0 t) (iblk m c 1 t) (iblk m c 2 t) (iblk m c 3 t) (iblk m c 4 t) (iblk m c 5 t) (iblk m c 6 t) (iblk m c 7
          t) (iblk m c 8 t) (iblk m c 9 t) (iblk m c 10 t) (iblk m c 11 t) (iblk m c 12 t) (iblk m c 13 t) (iblk m c 14 t) (iblk m c 15 t) (iblk m c
          16 t) ((hcond0_0 t).mpr h0), firstOut25 c (grid0.coords t) (ms0_0 t) (hs0_0 t) (ms0_1 t) (hs0_1 t) (ms0_2 t) (hs0_2 t) (ms0_3 t) (hs0_3 t)
          (ms0_4 t) (hs0_4 t) (ms0_5 t) (hs0_5 t) (ms0_6 t) (hs0_6 t) (ms0_7 t) (hs0_7 t) (ms0_8 t) (hs0_8 t) (ms0_9 t) (hs0_9 t) (ms0_10 t) (hs0_10
          t) (ms0_11 t) (hs0_11 t) (ms0_12 t) (hs0_12 t) (ms0_13 t) (hs0_13 t) (ms0_14 t) (hs0_14 t) (ms0_15 t) (hs0_15 t) (ms0_16 t) (hs0_16 t)
          (ms0_17 t) (hs0_17 t) (ms0_18 t) (hs0_18 t) (ms0_19 t) (hs0_19 t) (ms0_20 t) (hs0_20 t) (ms0_21 t) (hs0_21 t) (ms0_22 t) (hs0_22 t) (ms0_23
          t) (hs0_23 t) (ms0_24 t) (hs0_24 t) (ms0_25 t) (hs0_25 t) (iblk m c 0 t) (iblk m c 1 t) (iblk m c 2 t) (iblk m c 3 t) (iblk m c 4 t) (iblk
          m c 5 t) (iblk m c 6 t) (iblk m c 7 t) (iblk m c 8 t) (iblk m c 9 t) (iblk m c 10 t) (iblk m c 11 t) (iblk m c 12 t) (iblk m c 13 t) (iblk
          m c 14 t) (iblk m c 15 t) (iblk m c 16 t) ((hcond0_0 t).mpr h0))

/-- The outputs after a later point, over the running derivatives before it. -/
def laterOuts (c : Dev nD) (t : Fin cfg0.N) (h0 : ¬t.val % 16 = 0) (xo18 : Vec F S1024x2560 .f32) (xo19 : Vec F S1x1024 .f32) : Outs F :=
  (laterOut17 c (grid0.coords t) (ms0_0 t) (hs0_0 t) (ms0_1 t) (hs0_1 t) (ms0_2 t) (hs0_2 t) (ms0_3 t) (hs0_3 t) (ms0_4 t) (hs0_4 t) (ms0_5 t) (hs0_5
          t) (ms0_6 t) (hs0_6 t) (ms0_7 t) (hs0_7 t) (ms0_8 t) (hs0_8 t) (ms0_9 t) (hs0_9 t) (ms0_10 t) (hs0_10 t) (ms0_11 t) (hs0_11 t) (ms0_12 t)
          (hs0_12 t) (ms0_13 t) (hs0_13 t) (ms0_14 t) (hs0_14 t) (ms0_15 t) (hs0_15 t) (ms0_16 t) (hs0_16 t) (ms0_17 t) (hs0_17 t) (ms0_18 t) (hs0_18
          t) (ms0_19 t) (hs0_19 t) (ms0_20 t) (hs0_20 t) (ms0_21 t) (hs0_21 t) (ms0_22 t) (hs0_22 t) (ms0_23 t) (hs0_23 t) (ms0_24 t) (hs0_24 t)
          (ms0_25 t) (hs0_25 t) (iblk m c 0 t) (iblk m c 1 t) (iblk m c 2 t) (iblk m c 3 t) (iblk m c 4 t) (iblk m c 5 t) (iblk m c 6 t) (iblk m c 7
          t) (iblk m c 8 t) (iblk m c 9 t) (iblk m c 10 t) (iblk m c 11 t) (iblk m c 12 t) (iblk m c 13 t) (iblk m c 14 t) (iblk m c 15 t) (iblk m c
          16 t) (fun h => h0 ((hcond0_0 t).mp h)) xo18 xo19, laterOut18 c (grid0.coords t) (ms0_0 t) (hs0_0 t) (ms0_1 t) (hs0_1 t) (ms0_2 t) (hs0_2
          t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9
          t) (ms0_10 t) (hs0_10 t) (ms0_11 t) (hs0_11 t) (ms0_12 t) (hs0_12 t) (ms0_13 t) (hs0_13 t) (ms0_14 t) (hs0_14 t) (ms0_15 t) (hs0_15 t)
          (ms0_16 t) (hs0_16 t) (ms0_17 t) (hs0_17 t) (ms0_18 t) (hs0_18 t) (ms0_19 t) (hs0_19 t) (ms0_20 t) (hs0_20 t) (ms0_21 t) (hs0_21 t) (ms0_22
          t) (hs0_22 t) (ms0_23 t) (hs0_23 t) (ms0_24 t) (hs0_24 t) (ms0_25 t) (hs0_25 t) (iblk m c 0 t) (iblk m c 1 t) (iblk m c 2 t) (iblk m c 3 t)
          (iblk m c 4 t) (iblk m c 5 t) (iblk m c 6 t) (iblk m c 7 t) (iblk m c 8 t) (iblk m c 9 t) (iblk m c 10 t) (iblk m c 11 t) (iblk m c 12 t)
          (iblk m c 13 t) (iblk m c 14 t) (iblk m c 15 t) (iblk m c 16 t) (fun h => h0 ((hcond0_0 t).mp h)) xo18 xo19, laterOut19 c (grid0.coords t)
          (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
          (ms0_7 t) (hs0_7 t) (ms0_8 t) (hs0_8 t) (ms0_9 t) (hs0_9 t) (ms0_10 t) (hs0_10 t) (ms0_11 t) (hs0_11 t) (ms0_12 t) (hs0_12 t) (ms0_13 t)
          (hs0_13 t) (ms0_14 t) (hs0_14 t) (ms0_15 t) (hs0_15 t) (ms0_16 t) (hs0_16 t) (ms0_17 t) (hs0_17 t) (ms0_18 t) (hs0_18 t) (ms0_19 t) (hs0_19
          t) (ms0_20 t) (hs0_20 t) (ms0_21 t) (hs0_21 t) (ms0_22 t) (hs0_22 t) (ms0_23 t) (hs0_23 t) (ms0_24 t) (hs0_24 t) (ms0_25 t) (hs0_25 t)
          (iblk m c 0 t) (iblk m c 1 t) (iblk m c 2 t) (iblk m c 3 t) (iblk m c 4 t) (iblk m c 5 t) (iblk m c 6 t) (iblk m c 7 t) (iblk m c 8 t)
          (iblk m c 9 t) (iblk m c 10 t) (iblk m c 11 t) (iblk m c 12 t) (iblk m c 13 t) (iblk m c 14 t) (iblk m c 15 t) (iblk m c 16 t) (fun h => h0
          ((hcond0_0 t).mp h)) xo18 xo19, laterOut20 c (grid0.coords t) (ms0_0 t) (hs0_0 t) (ms0_1 t) (hs0_1 t) (ms0_2 t) (hs0_2 t) (ms0_3 t) (hs0_3
          t) (ms0_4 t) (hs0_4 t) (ms0_5 t) (hs0_5 t) (ms0_6 t) (hs0_6 t) (ms0_7 t) (hs0_7 t) (ms0_8 t) (hs0_8 t) (ms0_9 t) (hs0_9 t) (ms0_10 t)
          (hs0_10 t) (ms0_11 t) (hs0_11 t) (ms0_12 t) (hs0_12 t) (ms0_13 t) (hs0_13 t) (ms0_14 t) (hs0_14 t) (ms0_15 t) (hs0_15 t) (ms0_16 t) (hs0_16
          t) (ms0_17 t) (hs0_17 t) (ms0_18 t) (hs0_18 t) (ms0_19 t) (hs0_19 t) (ms0_20 t) (hs0_20 t) (ms0_21 t) (hs0_21 t) (ms0_22 t) (hs0_22 t)
          (ms0_23 t) (hs0_23 t) (ms0_24 t) (hs0_24 t) (ms0_25 t) (hs0_25 t) (iblk m c 0 t) (iblk m c 1 t) (iblk m c 2 t) (iblk m c 3 t) (iblk m c 4
          t) (iblk m c 5 t) (iblk m c 6 t) (iblk m c 7 t) (iblk m c 8 t) (iblk m c 9 t) (iblk m c 10 t) (iblk m c 11 t) (iblk m c 12 t) (iblk m c 13
          t) (iblk m c 14 t) (iblk m c 15 t) (iblk m c 16 t) (fun h => h0 ((hcond0_0 t).mp h)) xo18 xo19, laterOut21 c (grid0.coords t) (ms0_0 t)
          (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
          (hs0_7 t) (ms0_8 t) (hs0_8 t) (ms0_9 t) (hs0_9 t) (ms0_10 t) (hs0_10 t) (ms0_11 t) (hs0_11 t) (ms0_12 t) (hs0_12 t) (ms0_13 t) (hs0_13 t)
          (ms0_14 t) (hs0_14 t) (ms0_15 t) (hs0_15 t) (ms0_16 t) (hs0_16 t) (ms0_17 t) (hs0_17 t) (ms0_18 t) (hs0_18 t) (ms0_19 t) (hs0_19 t) (ms0_20
          t) (hs0_20 t) (ms0_21 t) (hs0_21 t) (ms0_22 t) (hs0_22 t) (ms0_23 t) (hs0_23 t) (ms0_24 t) (hs0_24 t) (ms0_25 t) (hs0_25 t) (iblk m c 0 t)
          (iblk m c 1 t) (iblk m c 2 t) (iblk m c 3 t) (iblk m c 4 t) (iblk m c 5 t) (iblk m c 6 t) (iblk m c 7 t) (iblk m c 8 t) (iblk m c 9 t)
          (iblk m c 10 t) (iblk m c 11 t) (iblk m c 12 t) (iblk m c 13 t) (iblk m c 14 t) (iblk m c 15 t) (iblk m c 16 t) (fun h => h0 ((hcond0_0
          t).mp h)) xo18 xo19, laterOut22 c (grid0.coords t) (ms0_0 t) (hs0_0 t) (ms0_1 t) (hs0_1 t) (ms0_2 t) (hs0_2 t) (ms0_3 t) (hs0_3 t) (ms0_4
          t) (hs0_4 t) (ms0_5 t) (hs0_5 t) (ms0_6 t) (hs0_6 t) (ms0_7 t) (hs0_7 t) (ms0_8 t) (hs0_8 t) (ms0_9 t) (hs0_9 t) (ms0_10 t) (hs0_10 t)
          (ms0_11 t) (hs0_11 t) (ms0_12 t) (hs0_12 t) (ms0_13 t) (hs0_13 t) (ms0_14 t) (hs0_14 t) (ms0_15 t) (hs0_15 t) (ms0_16 t) (hs0_16 t) (ms0_17
          t) (hs0_17 t) (ms0_18 t) (hs0_18 t) (ms0_19 t) (hs0_19 t) (ms0_20 t) (hs0_20 t) (ms0_21 t) (hs0_21 t) (ms0_22 t) (hs0_22 t) (ms0_23 t)
          (hs0_23 t) (ms0_24 t) (hs0_24 t) (ms0_25 t) (hs0_25 t) (iblk m c 0 t) (iblk m c 1 t) (iblk m c 2 t) (iblk m c 3 t) (iblk m c 4 t) (iblk m c
          5 t) (iblk m c 6 t) (iblk m c 7 t) (iblk m c 8 t) (iblk m c 9 t) (iblk m c 10 t) (iblk m c 11 t) (iblk m c 12 t) (iblk m c 13 t) (iblk m c
          14 t) (iblk m c 15 t) (iblk m c 16 t) (fun h => h0 ((hcond0_0 t).mp h)) xo18 xo19, laterOut23 c (grid0.coords t) (ms0_0 t) (hs0_0 t) (ms0_1
          t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8
          t) (hs0_8 t) (ms0_9 t) (hs0_9 t) (ms0_10 t) (hs0_10 t) (ms0_11 t) (hs0_11 t) (ms0_12 t) (hs0_12 t) (ms0_13 t) (hs0_13 t) (ms0_14 t) (hs0_14
          t) (ms0_15 t) (hs0_15 t) (ms0_16 t) (hs0_16 t) (ms0_17 t) (hs0_17 t) (ms0_18 t) (hs0_18 t) (ms0_19 t) (hs0_19 t) (ms0_20 t) (hs0_20 t)
          (ms0_21 t) (hs0_21 t) (ms0_22 t) (hs0_22 t) (ms0_23 t) (hs0_23 t) (ms0_24 t) (hs0_24 t) (ms0_25 t) (hs0_25 t) (iblk m c 0 t) (iblk m c 1 t)
          (iblk m c 2 t) (iblk m c 3 t) (iblk m c 4 t) (iblk m c 5 t) (iblk m c 6 t) (iblk m c 7 t) (iblk m c 8 t) (iblk m c 9 t) (iblk m c 10 t)
          (iblk m c 11 t) (iblk m c 12 t) (iblk m c 13 t) (iblk m c 14 t) (iblk m c 15 t) (iblk m c 16 t) (fun h => h0 ((hcond0_0 t).mp h)) xo18
          xo19, laterOut24 c (grid0.coords t) (ms0_0 t) (hs0_0 t) (ms0_1 t) (hs0_1 t) (ms0_2 t) (hs0_2 t) (ms0_3 t) (hs0_3 t) (ms0_4 t) (hs0_4 t)
          (ms0_5 t) (hs0_5 t) (ms0_6 t) (hs0_6 t) (ms0_7 t) (hs0_7 t) (ms0_8 t) (hs0_8 t) (ms0_9 t) (hs0_9 t) (ms0_10 t) (hs0_10 t) (ms0_11 t)
          (hs0_11 t) (ms0_12 t) (hs0_12 t) (ms0_13 t) (hs0_13 t) (ms0_14 t) (hs0_14 t) (ms0_15 t) (hs0_15 t) (ms0_16 t) (hs0_16 t) (ms0_17 t) (hs0_17
          t) (ms0_18 t) (hs0_18 t) (ms0_19 t) (hs0_19 t) (ms0_20 t) (hs0_20 t) (ms0_21 t) (hs0_21 t) (ms0_22 t) (hs0_22 t) (ms0_23 t) (hs0_23 t)
          (ms0_24 t) (hs0_24 t) (ms0_25 t) (hs0_25 t) (iblk m c 0 t) (iblk m c 1 t) (iblk m c 2 t) (iblk m c 3 t) (iblk m c 4 t) (iblk m c 5 t) (iblk
          m c 6 t) (iblk m c 7 t) (iblk m c 8 t) (iblk m c 9 t) (iblk m c 10 t) (iblk m c 11 t) (iblk m c 12 t) (iblk m c 13 t) (iblk m c 14 t) (iblk
          m c 15 t) (iblk m c 16 t) (fun h => h0 ((hcond0_0 t).mp h)) xo18 xo19, laterOut25 c (grid0.coords t) (ms0_0 t) (hs0_0 t) (ms0_1 t) (hs0_1
          t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8
          t) (ms0_9 t) (hs0_9 t) (ms0_10 t) (hs0_10 t) (ms0_11 t) (hs0_11 t) (ms0_12 t) (hs0_12 t) (ms0_13 t) (hs0_13 t) (ms0_14 t) (hs0_14 t)
          (ms0_15 t) (hs0_15 t) (ms0_16 t) (hs0_16 t) (ms0_17 t) (hs0_17 t) (ms0_18 t) (hs0_18 t) (ms0_19 t) (hs0_19 t) (ms0_20 t) (hs0_20 t) (ms0_21
          t) (hs0_21 t) (ms0_22 t) (hs0_22 t) (ms0_23 t) (hs0_23 t) (ms0_24 t) (hs0_24 t) (ms0_25 t) (hs0_25 t) (iblk m c 0 t) (iblk m c 1 t) (iblk m
          c 2 t) (iblk m c 3 t) (iblk m c 4 t) (iblk m c 5 t) (iblk m c 6 t) (iblk m c 7 t) (iblk m c 8 t) (iblk m c 9 t) (iblk m c 10 t) (iblk m c
          11 t) (iblk m c 12 t) (iblk m c 13 t) (iblk m c 14 t) (iblk m c 15 t) (iblk m c 16 t) (fun h => h0 ((hcond0_0 t).mp h)) xo18 xo19)

/-- The outputs after point `n`. -/
def outsAt0 (c : Dev nD) : (n : ℕ) → n < cfg0.N → Outs F
  | 0, hn => firstOuts m c ⟨0, hn⟩ (Nat.zero_mod _)
  | n + 1, hn =>
    if h0 : (n + 1) % 16 = 0 then firstOuts m c ⟨n + 1, hn⟩ h0
    else laterOuts m c ⟨n + 1, hn⟩ h0 (outsAt0 c n (Nat.lt_of_succ_lt hn)).2.1 (outsAt0 c n (Nat.lt_of_succ_lt hn)).2.2.1

theorem outsAt0_A (c : Dev nD) (t : Fin cfg0.N) (h0 : t.val % 16 = 0) : outsAt0 m c t.val t.isLt = firstOuts m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = laterOuts m c t h0 (outsAt0 m c (t.val - 1) (Nat.lt_of_le_of_lt (Nat.sub_le _ _) t.isLt)).2.1
      (outsAt0 m c (t.val - 1) (Nat.lt_of_le_of_lt (Nat.sub_le _ _) t.isLt)).2.2.1 := by
  obtain ⟨n, hn⟩ := t
  cases n with
  | zero => exact absurd (Nat.zero_mod _) h0
  | succ n => exact (dif_neg h0).trans rfl

/-- The proof data of the pipeline: the arrays as launched, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨18, _⟩ => (outsAt0 m c t.val t.isLt).2.1
    | ⟨19, _⟩ => (outsAt0 m c t.val t.isLt).2.2.1
    | ⟨20, _⟩ => (outsAt0 m c t.val t.isLt).2.2.2.1
    | ⟨21, _⟩ => (outsAt0 m c t.val t.isLt).2.2.2.2.1
    | ⟨22, _⟩ => (outsAt0 m c t.val t.isLt).2.2.2.2.2.1
    | ⟨23, _⟩ => (outsAt0 m c t.val t.isLt).2.2.2.2.2.2.1
    | ⟨24, _⟩ => (outsAt0 m c t.val t.isLt).2.2.2.2.2.2.2.1
    | ⟨25, _⟩ => (outsAt0 m c t.val t.isLt).2.2.2.2.2.2.2.2
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2.1 := by dsimp only [dats]
theorem after0_19 (c : Dev nD) (t : Fin cfg0.N) : (dats m 0 c).after 19 t = (outsAt0 m c t.val t.isLt).2.2.1 := by dsimp only [dats]
theorem after0_20 (c : Dev nD) (t : Fin cfg0.N) : (dats m 0 c).after 20 t = (outsAt0 m c t.val t.isLt).2.2.2.1 := by dsimp only [dats]
theorem after0_21 (c : Dev nD) (t : Fin cfg0.N) : (dats m 0 c).after 21 t = (outsAt0 m c t.val t.isLt).2.2.2.2.1 := by dsimp only [dats]
theorem after0_22 (c : Dev nD) (t : Fin cfg0.N) : (dats m 0 c).after 22 t = (outsAt0 m c t.val t.isLt).2.2.2.2.2.1 := by dsimp only [dats]
theorem after0_23 (c : Dev nD) (t : Fin cfg0.N) : (dats m 0 c).after 23 t = (outsAt0 m c t.val t.isLt).2.2.2.2.2.2.1 := by dsimp only [dats]
theorem after0_24 (c : Dev nD) (t : Fin cfg0.N) : (dats m 0 c).after 24 t = (outsAt0 m c t.val t.isLt).2.2.2.2.2.2.2.1 := by dsimp only [dats]
theorem after0_25 (c : Dev nD) (t : Fin cfg0.N) : (dats m 0 c).after 25 t = (outsAt0 m c t.val t.isLt).2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 16 = 0) (d) :
    (dats m 0 c).before 19 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11,
          before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13,
          after0_14, after0_15, after0_16, after0_17, after0_18, after0_19, after0_20, after0_21, after0_22, after0_23, after0_24, after0_25]
  have hN : t.val < 16 := lt_of_lt_of_eq t.isLt (show cfg0.N = 16 from N_0)
  by_cases h0 : t.val % 16 = 0
  · rw [outsAt0_A m c t h0]
    unfold firstOuts firstOut17 firstOut18 firstOut19 firstOut20 firstOut21 firstOut22 firstOut23 firstOut24 firstOut25; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11,
          H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩,
          ⟨%d22, H22⟩, ⟨%d23, H23⟩, ⟨%d24, H24⟩, ⟨%d25, H25⟩⟩
    iapply ((runFirst c (grid0.coords t) _ _ _ _ _ _ _ _ _ _ _ _ _ _ _ _ _ _ _ _ _ _ _ _ _ _ _ _ _ _ _ _ _ _ _ _ _ _ _ _ _ _ _ _ _ _ _ _ _ _ _ _
          (iblk m c 0 t) (iblk m c 1 t) (iblk m c 2 t) (iblk m c 3 t) (iblk m c 4 t) (iblk m c 5 t) (iblk m c 6 t) (iblk m c 7 t) (iblk m c 8 t)
          (iblk m c 9 t) (iblk m c 10 t) (iblk m c 11 t) (iblk m c 12 t) (iblk m c 13 t) (iblk m c 14 t) (iblk m c 15 t) (iblk m c 16 t) ((hcond0_0
          t).mpr h0)).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iintro ⟨H0, H1, H2, H3, H4, H5, H6, H7, H8, H9, H10, H11, H12, H13, H14, H15, H16, ⟨%e17, H17⟩, ⟨%e18, H18⟩, ⟨%e19, H19⟩, ⟨%e20, H20⟩, ⟨%e21,
          H21⟩, ⟨%e22, H22⟩, ⟨%e23, H23⟩, ⟨%e24, H24⟩, ⟨%e25, H25⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · unfold owns; iexists _; isplitr
      swap; · iexact H17
      ipureintro; exact View.read_writes_of_cover _ _ _ _ _ (firstCover17 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (firstCover18 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (firstCover19 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (firstCover20 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (firstCover21 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    isplitl [H22]
    · unfold owns; iexists _; isplitr
      swap; · iexact H22
      ipureintro; exact View.read_writes_of_cover _ _ _ _ _ (firstCover22 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    isplitl [H23]
    · unfold owns; iexists _; isplitr
      swap; · iexact H23
      ipureintro; exact View.read_writes_of_cover _ _ _ _ _ (firstCover23 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    isplitl [H24]
    · unfold owns; iexists _; isplitr
      swap; · iexact H24
      ipureintro; exact View.read_writes_of_cover _ _ _ _ _ (firstCover24 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _)
    unfold owns; iexists _; isplitr
    swap; · iexact H25
    ipureintro; exact View.read_writes_of_cover _ _ _ _ _ (firstCover25 c _ _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _)
  · rw [outsAt0_B m c t h0]
    simp only [before0_18_B m c t h0, before0_19_B m c t h0]
    unfold laterOuts laterOut17 laterOut18 laterOut19 laterOut20 laterOut21 laterOut22 laterOut23 laterOut24 laterOut25; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11,
          H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩,
          ⟨%d22, H22⟩, ⟨%d23, H23⟩, ⟨%d24, H24⟩, ⟨%d25, H25⟩⟩
    iapply ((runLater c (grid0.coords t) _ _ _ _ _ _ _ _ _ _ _ _ _ _ _ _ _ _ _ _ _ _ _ _ _ _ _ _ _ _ _ _ _ _ _ _ _ _ _ _ _ _ _ _ _ _ _ _ _ _ _ _
          (iblk m c 0 t) (iblk m c 1 t) (iblk m c 2 t) (iblk m c 3 t) (iblk m c 4 t) (iblk m c 5 t) (iblk m c 6 t) (iblk m c 7 t) (iblk m c 8 t)
          (iblk m c 9 t) (iblk m c 10 t) (iblk m c 11 t) (iblk m c 12 t) (iblk m c 13 t) (iblk m c 14 t) (iblk m c 15 t) (iblk m c 16 t) (fun h => h0
          ((hcond0_0 t).mp h)) _ _).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iintro ⟨H0, H1, H2, H3, H4, H5, H6, H7, H8, H9, H10, H11, H12, H13, H14, H15, H16, ⟨%e17, H17⟩, ⟨%e18, H18⟩, ⟨%e19, H19⟩, ⟨%e20, H20⟩, ⟨%e21,
          H21⟩, ⟨%e22, H22⟩, ⟨%e23, H23⟩, ⟨%e24, H24⟩, ⟨%e25, H25⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · unfold owns; iexists _; isplitr
      swap; · iexact H17
      ipureintro; exact View.read_writes_of_cover _ _ _ _ _ (laterCover17 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (laterCover18 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (laterCover19 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (laterCover20 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (laterCover21 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    isplitl [H22]
    · unfold owns; iexists _; isplitr
      swap; · iexact H22
      ipureintro; exact View.read_writes_of_cover _ _ _ _ _ (laterCover22 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    isplitl [H23]
    · unfold owns; iexists _; isplitr
      swap; · iexact H23
      ipureintro; exact View.read_writes_of_cover _ _ _ _ _ (laterCover23 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    isplitl [H24]
    · unfold owns; iexists _; isplitr
      swap; · iexact H24
      ipureintro; exact View.read_writes_of_cover _ _ _ _ _ (laterCover24 c _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _ _)
    unfold owns; iexists _; isplitr
    swap; · iexact H25
    ipureintro; exact View.read_writes_of_cover _ _ _ _ _ (laterCover25 c _ _ _ _ _ _ _ _ _ _ _ _ _ _ _ _ _ _ _ _ _ _ _ _ _ _ _ _ _ _ _ _ _ _ _ _ _ _
          _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The same, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem =
          fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

set_option maxHeartbeats 4000000 in
/-- Every run ends with each output array as its points leave it, and the arguments as they were. -/
theorem run_blocks : θ_run defs (onTc (τ := τ) (main (F := F))) ⟨m, fun _ => 0, ρ⟩ fun r => ∀ c : Dev nD,
      r.2.mem ((c : Thread nD τ).loc main_v14_0) = (dats m 0 c).arrAt 17 cfg0.N
      ∧ r.2.mem ((c : Thread nD τ).loc main_v14_1) = (dats m 0 c).arrAt 18 cfg0.N
      ∧ r.2.mem ((c : Thread nD τ).loc main_v14_2) = (dats m 0 c).arrAt 19 cfg0.N
      ∧ r.2.mem ((c : Thread nD τ).loc main_v14_3) = (dats m 0 c).arrAt 20 cfg0.N
      ∧ r.2.mem ((c : Thread nD τ).loc main_v14_4) = (dats m 0 c).arrAt 21 cfg0.N
      ∧ r.2.mem ((c : Thread nD τ).loc main_v14_5) = (dats m 0 c).arrAt 22 cfg0.N
      ∧ r.2.mem ((c : Thread nD τ).loc main_v14_6) = (dats m 0 c).arrAt 23 cfg0.N
      ∧ r.2.mem ((c : Thread nD τ).loc main_v14_7) = (dats m 0 c).arrAt 24 cfg0.N
      ∧ r.2.mem ((c : Thread nD τ).loc main_v14_8) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1 17,
      (h c).1 18,
      (h c).1 19,
      (h c).1 20,
      (h c).1 21,
      (h c).1 22,
      (h c).1 23,
      (h c).1 24,
      (h c).1 25,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c)))⟩)
    (run_main m ρ)

end Cert.Kernel3Ideal.Whole

end
-- ==== Proof.InFrame.lean ====
module

public import proofs.«01_k».proof.Defs
public import proofs.«01_k».proof.Proof.Gen.Kernel3
public import proofs.«01_k».proof.Proof.InWhole

@[expose] public section

/-!
# The frame of the input projection's backward kernel on the machine's floats

The two programs have the same text, and the run holds over any float values.
-/

set_option maxRecDepth 16384

noncomputable section

namespace Cert.InProj

open Idealize.ShloMosaic Idealize.ShloMosaic.TcCoe Idealize.SL.Sem

open Cert.Kernel3.Gen Cert.Kernel3Ideal.Gen

set_option maxHeartbeats 4000000 in
/-- The call's code is the same in both programs. -/
theorem code_same : @Cert.Kernel3.cc0_inproj_bwd Bits _ Cert.Kernel3.Gen.facts
    = @Cert.Kernel3Ideal.cc0_inproj_bwd Bits _ Cert.Kernel3Ideal.Gen.facts := rfl

set_option maxHeartbeats 4000000 in
/-- So is the table that holds it. -/
theorem table_same : @Cert.Kernel3.defs₀ Bits _ Cert.Kernel3.Gen.facts
    = @Cert.Kernel3Ideal.defs₀ Bits _ Cert.Kernel3Ideal.Gen.facts := by
  refine congrArg Defs.onTc ?_
  funext l a
  match l, a with
  | 0, (t, s) => rfl

set_option maxHeartbeats 4000000 in
/-- So are the procedures. -/
theorem defs_same : @Cert.Kernel3.defs Bits _ Cert.Kernel3.Gen.facts
    = @Cert.Kernel3Ideal.defs Bits _ Cert.Kernel3Ideal.Gen.facts :=
  congrArg (Pipeline.defs (Cert.Kernel3Ideal.pcfgs (F := Bits))) table_same

set_option maxHeartbeats 4000000 in
/-- So is the host code around it. -/
theorem main_same : @Cert.Kernel3.main Bits _ Cert.Kernel3.Gen.facts
    = @Cert.Kernel3Ideal.main Bits _ Cert.Kernel3Ideal.Gen.facts := rfl

set_option maxHeartbeats 4000000 in
/-- The kernel terminates, its arguments unchanged and every semaphore counter at zero. -/
theorem frame_kernel : Cert.quiescent_Kernel3 (hKernel3 := Cert.Kernel3.Gen.facts) := by
  intro m ρ _
  rw [defs_same, main_same]
  exact Cert.Kernel3Ideal.Whole.frame (F := Bits) m ρ

end Cert.InProj

end
-- ==== Proof.AdamMath.lean ====
module

public import proofs.«01_k».proof.Proof.Lift

@[expose] public section

/-!
# The AdamW step, entry by entry

A weight, its gradient and its two moments make one step: both moments are updated, and the step divides the first by
the root of the second, each corrected for its start at zero, and adds the weight decay. The words are the single
precision constants of both programs.

The host's expression of the three results, on arrays of whatever shape, is this step at every entry.
-/

noncomputable section

open Idealize.ShloMosaic Idealize.ShloMosaic.Tactic

namespace Cert.Adam

/-- A constant, from its single precision word. -/
def word (w : BitVec 32) : Ideal .f32 := Scalar.ofBits .f32 w

/-- The new first moment: nine tenths of the old, a tenth of the gradient. -/
def first (m g : Ideal .f32) : Ideal .f32 :=
  FloatOps.addf (FloatOps.mulf (word 0x3F666666#32) m) (FloatOps.mulf (word 0x3DCCCCCD#32) g)

/-- The new second moment: most of the old, and a thousandth of the gradient's square. -/
def second (v g : Ideal .f32) : Ideal .f32 :=
  FloatOps.addf (FloatOps.mulf (word 0x3F7FBE77#32) v) (FloatOps.mulf (word 0x3A83126F#32) (FloatOps.mulf g g))

/-- The step of the weight, against the corrected moments and the decay. -/
def step (w g m v : Ideal .f32) : Ideal .f32 :=
  FloatOps.mulf (word 0xBA83126F#32)
    (FloatOps.addf
      (FloatOps.divf (FloatOps.divf (first m g) (word 0x3F26BD02#32))
        (FloatOps.addf (FloatOps.sqrt (FloatOps.divf (second v g) (word 0x3C231ACC#32))) (word 0x322BCC77#32)))
      (FloatOps.mulf (word 0x3C23D70A#32) w))

variable {S : Shape}

/-- A scalar spread over the shape `S`, as the host writes it. -/
abbrev spread (h : (⟨0, ![]⟩ : Shape).BroadcastsInDim S (![] : Fin 0 → Fin S.rank)) (w : BitVec 32) : FVec Ideal S .f32 :=
  broadcastInDim S ![] h (constant ⟨0, ![]⟩ .f32 w)

variable (h : (⟨0, ![]⟩ : Shape).BroadcastsInDim S (![] : Fin 0 → Fin S.rank)) (w g m v : FVec Ideal S .f32)

/-- The host's new first moment. -/
abbrev hostFirst : FVec Ideal S .f32 := addf (mulf (spread h 0x3F666666#32) m) (mulf (spread h 0x3DCCCCCD#32) g)

/-- The host's new second moment. -/
abbrev hostSecond : FVec Ideal S .f32 :=
  addf (mulf (spread h 0x3F7FBE77#32) v) (mulf (spread h 0x3A83126F#32) (mulf g g))

/-- The host's step. -/
abbrev hostStep : FVec Ideal S .f32 :=
  mulf (spread h 0xBA83126F#32)
    (addf
      (Host.divf (Host.divf (hostFirst h g m) (spread h 0x3F26BD02#32))
        (addf (Host.sqrt (Host.divf (hostSecond h g v) (spread h 0x3C231ACC#32))) (spread h 0x322BCC77#32)))
      (mulf (spread h 0x3C23D70A#32) w))

theorem hostFirst_eq : hostFirst h g m = fun i => first (m i) (g i) := by
  funext i; rfl

theorem hostSecond_eq : hostSecond h g v = fun i => second (v i) (g i) := by
  funext i; rfl

theorem hostStep_eq : hostStep h w g m v = fun i => step (w i) (g i) (m i) (v i) := by
  funext i; rfl

end Cert.Adam

end
-- ==== Proof.InMath.lean ====
module

public import proofs.«01_k».proof.Proof.MlpMath
public import Idealize.ShloMosaic.Lib.Pipeline.ValueKit

@[expose] public section

/-!
# The backward pass of the block's input projection, row by row

The block projects each normalised row to five pieces of 512 columns at once. Going back, the five pieces' derivatives,
joined, are multiplied by the transposed projection and carried through the normalisation.
-/

noncomputable section

namespace Cert.InProj

open Cert.Lift Cert.Mlp

/-- Five pieces of 512 entries, joined to a row of 2560. -/
def join (a b c d e : Fin 512 → EReal) (k : Fin 2560) : EReal :=
  if h0 : k.val < 512 then a ⟨k.val, h0⟩
  else if h1 : k.val - 512 < 512 then b ⟨k.val - 512, h1⟩
  else if h2 : k.val - 512 - 512 < 512 then c ⟨k.val - 512 - 512, h2⟩
  else if h3 : k.val - 512 - 512 - 512 < 512 then d ⟨k.val - 512 - 512 - 512, h3⟩
  else e ⟨k.val - 512 - 512 - 512 - 512, by omega⟩

/-- Column `k` of the `p`-th piece. -/
def col (p : Fin 5) (k : Fin 512) : Fin 2560 := ⟨512 * p.val + k.val, by omega⟩

variable (a b c d e : Fin 512 → EReal)

theorem join_0 (k : Fin 512) : join a b c d e (col 0 k) = a k := by
  have h : (col 0 k).val < 512 := by simp [col]
  rw [join, dif_pos h]; exact congrArg a (Fin.ext (by simp [col]))

theorem join_1 (k : Fin 512) : join a b c d e (col 1 k) = b k := by
  have hk : (col 1 k).val = 512 + k.val := by simp [col]
  rw [join, dif_neg (by omega), dif_pos (by omega)]; exact congrArg b (Fin.ext (by simp only [hk]; omega))

theorem join_2 (k : Fin 512) : join a b c d e (col 2 k) = c k := by
  have hk : (col 2 k).val = 1024 + k.val := by simp [col]
  rw [join, dif_neg (by omega), dif_neg (by omega), dif_pos (by omega)]; exact congrArg c (Fin.ext (by simp only [hk]; omega))

theorem join_3 (k : Fin 512) : join a b c d e (col 3 k) = d k := by
  have hk : (col 3 k).val = 1536 + k.val := by simp [col]
  rw [join, dif_neg (by omega), dif_neg (by omega), dif_neg (by omega), dif_pos (by omega)]
  exact congrArg d (Fin.ext (by simp only [hk]; omega))

theorem join_4 (k : Fin 512) : join a b c d e (col 4 k) = e k := by
  have hk : (col 4 k).val = 2048 + k.val := by simp [col]
  rw [join, dif_neg (by omega), dif_neg (by omega), dif_neg (by omega), dif_neg (by omega)]
  exact congrArg e (Fin.ext (by simp only [hk]; omega))

/-- Every column lies in one of the five pieces. -/
theorem exists_col (k : Fin 2560) : ∃ p l, k = col p l :=
  ⟨⟨k.val / 512, by omega⟩, ⟨k.val % 512, Nat.mod_lt _ (by norm_num)⟩, Fin.ext (by simp only [col]; omega)⟩

/-- A sum over the columns, piece by piece. -/
theorem sum_cols (f : Fin 2560 → EReal) : ∑ k, f k
    = (∑ k, f (col 0 k)) + (∑ k, f (col 1 k)) + (∑ k, f (col 2 k)) + (∑ k, f (col 3 k)) + ∑ k, f (col 4 k) := by
  rw [← Fin.sum_univ_five fun p => ∑ k, f (col p k)]
  symm
  refine Fin.sum_mul_add_congr fun p k hl => congrArg f (Fin.ext ?_)
  simp only [col]; omega

variable (W : Fin 1024 → Fin 2560 → EReal) (g : Fin 1024 → EReal)

/-- The derivative at the row entering the projection. -/
def dhid (D : Fin 2560 → EReal) (j : Fin 1024) : EReal := ∑ k, D k * W j k
/-- The derivative at the block's input, the residual's added. -/
def dx (x : Fin 1024 → EReal) (D : Fin 2560 → EReal) (r : Fin 1024 → EReal) (j : Fin 1024) : EReal :=
  r j + nrmBack (rinv x) (nrm x) (fun l => dhid W D l * g l) j
/-- The derivative of the gain: a sum over the rows. -/
def dgain (X : Fin 8192 → Fin 1024 → EReal) (D : Fin 8192 → Fin 2560 → EReal) (j : Fin 1024) : EReal :=
  ∑ i, dhid W (D i) j * nrm (X i) j
/-- The derivative of the projection: a sum over the rows. -/
def dproj (X : Fin 8192 → Fin 1024 → EReal) (D : Fin 8192 → Fin 2560 → EReal) (j : Fin 1024) (k : Fin 2560) : EReal :=
  ∑ i, nrm (X i) j * g j * D i k

end Cert.InProj

end
-- ==== Proof.InCols.lean ====
module

public import proofs.«01_k».proof.Proof.InMath
public import proofs.«01_k».proof.Proof.Gen.Kernel3Ideal.Skeleton
public import Idealize.ShloMosaic.Lib.Pipeline.ReadBack

@[expose] public section

/-!
# An array written in five pieces of columns

The derivative of the projection is stored piece by piece, 512 columns at a time. Five such stores leave, at every
index, the one array whose pieces they are.
-/

set_option maxRecDepth 16384

noncomputable section

open Idealize.ShloMosaic Idealize.ShloMosaic.TcCoe Idealize.SL.Sem

namespace Cert.Kernel3Ideal.Cols

open Cert.Kernel3Ideal Cert.Kernel3Ideal.Gen Cert.InProj

/-- The index that a piece of columns starting at `o` gives its own index. -/
theorem emb_col (o : ℕ) (inb : ∀ a, (![0, o] : Fin 2 → ℕ) a + S1024x512.size a ≤ S1024x2560.size a) (p : Fin 5) (hp : o = 512 * p.val)
    (j : Fin 1024) (k : Fin 512) :
    (Rect.unit (s := S1024x2560) ![0, o] S1024x512.size inb).emb (ix2 j k) = ix2 j (col p k) := by
  funext a; apply Fin.ext
  rw [ValueKit.rect_emb_unit_val]
  match a with
  | ⟨0, _⟩ => exact Nat.zero_add _
  | ⟨1, _⟩ => exact congrArg (· + k.val) hp

/-- A column of the piece starting at `o` lies in that piece. -/
theorem mem_col (o : ℕ) (inb : ∀ a, (![0, o] : Fin 2 → ℕ) a + S1024x512.size a ≤ S1024x2560.size a) (p : Fin 5) (hp : o = 512 * p.val)
    (j : Fin 1024) (k : Fin 512) : ix2 j (col p k) ∈ (Rect.unit (s := S1024x2560) ![0, o] S1024x512.size inb).set := by
  rw [← emb_col o inb p hp j k]
  rw [← Rect.map_emb_univ]
  exact Finset.mem_map_of_mem _ (Finset.mem_univ _)

/-- Five pieces of columns of one array, over any earlier stores, leave that array. -/
theorem canon_cols (G : S1024x2560.Idx → EReal) (p0 p1 p2 p3 p4 : FVec Ideal S1024x512 .f32) (i0 i1 i2 i3 i4)
    (h0 : ∀ j k, p0 (ix2 j k) = G (ix2 j (col 0 k))) (h1 : ∀ j k, p1 (ix2 j k) = G (ix2 j (col 1 k)))
    (h2 : ∀ j k, p2 (ix2 j k) = G (ix2 j (col 2 k))) (h3 : ∀ j k, p3 (ix2 j k) = G (ix2 j (col 3 k)))
    (h4 : ∀ j k, p4 (ix2 j k) = G (ix2 j (col 4 k)))
    (L : List (View.Piece (Elt Ideal) S1024x2560 .f32)) (y : S1024x2560.Idx) :
    View.canon (⟨Rect.unit ![0, 2048] ![1024, 512] i4, p4⟩ :: ⟨Rect.unit ![0, 1536] ![1024, 512] i3, p3⟩
      :: ⟨Rect.unit ![0, 1024] ![1024, 512] i2, p2⟩ :: ⟨Rect.unit ![0, 512] ![1024, 512] i1, p1⟩
      :: ⟨Rect.unit ![0, 0] ![1024, 512] i0, p0⟩ :: L : List (View.Piece (Elt Ideal) S1024x2560 .f32)) y = G y := by
  have e : ∀ x : S1024x512.Idx, x = ix2 (x 0) (x 1) := fun x => by
    funext a; match a with
    | ⟨0, _⟩ => rfl
    | ⟨1, _⟩ => rfl
  refine View.canon_append_of_piecesOf G L [⟨Rect.unit ![0, 2048] ![1024, 512] i4, p4⟩, ⟨Rect.unit ![0, 1536] ![1024, 512] i3, p3⟩,
    ⟨Rect.unit ![0, 1024] ![1024, 512] i2, p2⟩, ⟨Rect.unit ![0, 512] ![1024, 512] i1, p1⟩,
    ⟨Rect.unit ![0, 0] ![1024, 512] i0, p0⟩] ?_ y ?_
  · refine ⟨fun x => ?_, fun x => ?_, fun x => ?_, fun x => ?_, fun x => ?_, trivial⟩
    · rw [e x]; exact (h4 _ _).trans (congrArg G (emb_col 2048 i4 4 rfl _ _).symm)
    · rw [e x]; exact (h3 _ _).trans (congrArg G (emb_col 1536 i3 3 rfl _ _).symm)
    · rw [e x]; exact (h2 _ _).trans (congrArg G (emb_col 1024 i2 2 rfl _ _).symm)
    · rw [e x]; exact (h1 _ _).trans (congrArg G (emb_col 512 i1 1 rfl _ _).symm)
    · rw [e x]; exact (h0 _ _).trans (congrArg G (emb_col 0 i0 0 rfl _ _).symm)
  · obtain ⟨p, k, hk⟩ := exists_col (y 1)
    have hy : y = ix2 (y 0) (col p k) := by
      funext a; match a with
      | ⟨0, _⟩ => rfl
      | ⟨1, _⟩ => exact hk
    rw [hy]
    match p with
    | 0 => exact ⟨_, .tail _ (.tail _ (.tail _ (.tail _ (.head _)))), mem_col 0 i0 0 rfl _ _⟩
    | 1 => exact ⟨_, .tail _ (.tail _ (.tail _ (.head _))), mem_col 512 i1 1 rfl _ _⟩
    | 2 => exact ⟨_, .tail _ (.tail _ (.head _)), mem_col 1024 i2 2 rfl _ _⟩
    | 3 => exact ⟨_, .tail _ (.head _), mem_col 1536 i3 3 rfl _ _⟩
    | 4 => exact ⟨_, .head _, mem_col 2048 i4 4 rfl _ _⟩

/-- A piece of columns, read. -/
theorem ld_col {e : EltTy} (v : S1024x2560.Idx → Elt Ideal e) (o : ℕ)
    (inb : ∀ a, (![0, o] : Fin 2 → ℕ) a + S1024x512.size a ≤ S1024x2560.size a) (p : Fin 5) (hp : o = 512 * p.val)
    (j : Fin 1024) (k : Fin 512) :
    View.ld v (Rect.unit (s := S1024x2560) ![0, o] S1024x512.size inb) (ix2 j k) = v (ix2 j (col p k)) :=
  congrArg v (emb_col o inb p hp j k)

end Cert.Kernel3Ideal.Cols

end
-- ==== Proof.InPay.lean ====
module

public import proofs.«01_k».proof.Proof.InMath
public import proofs.«01_k».proof.Proof.Gen.Kernel3Ideal.Skeleton

@[expose] public section

/-!
# What the kernel of the input projection's backward pass stores

Each value the kernel body computes from a block of rows, read at one row and one column, is the row formula of `InMath`
at that row.
-/

set_option maxRecDepth 16384

noncomputable section

open Idealize.ShloMosaic Idealize.ShloMosaic.TcCoe Idealize.SL.Sem

namespace Cert.Kernel3Ideal.Pay

open Cert.Kernel3Ideal Cert.Kernel3Ideal.Gen Cert.Lift Cert.Mlp Cert.InProj

variable (g : Fin 1024 → EReal) (W : Fin 1024 → Fin 2560 → EReal) (X : Fin 512 → Fin 1024 → EReal) (D : Fin 512 → Fin 2560 → EReal)
  {v3 : FVec Ideal S512x1024 .f32} {v15 : FVec Ideal S1x1024 .f32} {v19 v29 v40 v51 v62 : FVec Ideal S512x512 .bf16}
  {v26 v36 v47 v58 v69 : FVec Ideal S1024x512 .bf16}
  (h3 : ∀ i j, v3 (ix2 i j) = (X i j : EReal)) (h15 : ∀ j, v15 (ix2 0 j) = (g j : EReal))
  (h19 : ∀ i k, v19 (ix2 i k) = (D i (col 0 k) : EReal)) (h29 : ∀ i k, v29 (ix2 i k) = (D i (col 1 k) : EReal))
  (h40 : ∀ i k, v40 (ix2 i k) = (D i (col 2 k) : EReal)) (h51 : ∀ i k, v51 (ix2 i k) = (D i (col 3 k) : EReal))
  (h62 : ∀ i k, v62 (ix2 i k) = (D i (col 4 k) : EReal))
  (h26 : ∀ j k, v26 (ix2 j k) = (W j (col 0 k) : EReal)) (h36 : ∀ j k, v36 (ix2 j k) = (W j (col 1 k) : EReal))
  (h47 : ∀ j k, v47 (ix2 j k) = (W j (col 2 k) : EReal)) (h58 : ∀ j k, v58 (ix2 j k) = (W j (col 3 k) : EReal))
  (h69 : ∀ j k, v69 (ix2 j k) = (W j (col 4 k) : EReal))

include h3 in
theorem rinv_eq (i : Fin 512) : k0_pay14 (F := Ideal) v3 (ix2 i 0) = (rinv (X i) : EReal) := by
  pointwise [k0_pay14, k0_pay13]
  simp only [h3, bits_1024, bits_eps]
  rfl

include h3 in
theorem nrm_eq (i : Fin 512) (j : Fin 1024) : k0_pay15 (F := Ideal) v3 (ix2 i j) = (nrm (X i) j : EReal) := by
  pointwise [k0_pay15, k0_pay13]
  simp only [h3, rinv_eq X h3]
  rfl

include h3 h15 in
theorem hid_eq (i : Fin 512) (j : Fin 1024) : k0_pay16 (F := Ideal) v3 v15 (ix2 i j) = (nrm (X i) j * g j : EReal) := by
  pointwise [k0_pay16]
  simp only [nrm_eq X h3, h15]

include h3 h15 h19 in
/-- The running derivative of the projection, first piece. -/
theorem dproj0_eq (acc : FVec Ideal S1024x512 .f32) (j : Fin 1024) (k : Fin 512) :
    k0_pay18 (F := Ideal) v3 v15 v19 acc (ix2 j k) = acc (ix2 j k) + ((∑ i, nrm (X i) j * g j * D i (col 0 k) : EReal)) := by
  pointwise [k0_pay18, k0_pay17]
  simp only [hid_eq g X h3 h15, h19]

include h3 h15 h29 in
/-- Second piece. -/
theorem dproj1_eq (acc : FVec Ideal S1024x512 .f32) (j : Fin 1024) (k : Fin 512) :
    k0_pay21 (F := Ideal) v3 v15 v29 acc (ix2 j k)
      = acc (ix2 j k) + ((∑ i, nrm (X i) j * g j * D i (col 1 k) : EReal)) := by
  pointwise [k0_pay21, k0_pay20]
  simp only [hid_eq g X h3 h15, h29]

include h3 h15 h40 in
/-- Third piece. -/
theorem dproj2_eq (acc : FVec Ideal S1024x512 .f32) (j : Fin 1024) (k : Fin 512) :
    k0_pay23 (F := Ideal) (k0_pay16 v3 v15) v40 acc (ix2 j k)
      = acc (ix2 j k) + ((∑ i, nrm (X i) j * g j * D i (col 2 k) : EReal)) := by
  pointwise [k0_pay23, k0_pay22]
  simp only [hid_eq g X h3 h15, h40]

include h3 h15 h51 in
/-- Fourth piece. -/
theorem dproj3_eq (acc : FVec Ideal S1024x512 .f32) (j : Fin 1024) (k : Fin 512) :
    k0_pay25 (F := Ideal) (k0_pay16 v3 v15) v51 acc (ix2 j k)
      = acc (ix2 j k) + ((∑ i, nrm (X i) j * g j * D i (col 3 k) : EReal)) := by
  pointwise [k0_pay25, k0_pay24]
  simp only [hid_eq g X h3 h15, h51]

include h3 h15 h62 in
/-- Fifth piece. -/
theorem dproj4_eq (acc : FVec Ideal S1024x512 .f32) (j : Fin 1024) (k : Fin 512) :
    k0_pay1 (F := Ideal) (k0_pay16 v3 v15) (k0_pay27 v62) (k0_pay28 acc) (constant S1024x512 .f32 0x00000000#32) (ix2 j k)
      = acc (ix2 j k) + ((∑ i, nrm (X i) j * g j * D i (col 4 k) : EReal)) := by
  pointwise [k0_pay1, k0_pay27, k0_pay28]
  simp only [hid_eq g X h3 h15, h62]

include h19 h29 h40 h51 h62 h26 h36 h47 h58 h69 in
theorem dhid_eq (i : Fin 512) (j : Fin 1024) :
    k0_pay2 (F := Ideal) (k0_pay26 (k0_pay19 v19 v26) (k0_pay20 v29) v36 v40 v47 v51 v58) (k0_pay27 v62) v69 (ix2 i j)
      = (dhid W (D i) j : EReal) := by
  pointwise [k0_pay2, k0_pay26, k0_pay19, k0_pay20, k0_pay17, k0_pay22, k0_pay24, k0_pay27]
  simp only [h19, h29, h40, h51, h62, h26, h36, h47, h58, h69]
  rw [InProj.dhid, sum_cols]

variable {v61 : FVec Ideal S512x1024 .f32} (h61 : ∀ i j, k0_pay2 (F := Ideal) v61 (k0_pay27 v62) v69 (ix2 i j) = (dhid W (D i) j : EReal))

include h3 h61 in
/-- The running derivative of the gain. -/
theorem dgain_eq (acc : FVec Ideal S1x1024 .f32) (j : Fin 1024) :
    k0_pay3 (F := Ideal) (k0_pay15 v3) v61 (k0_pay27 v62) v69 acc (ix2 0 j)
      = acc (ix2 0 j) + ((∑ i, dhid W (D i) j * nrm (X i) j : EReal)) := by
  pointwise [k0_pay3]
  simp only [h61, nrm_eq X h3]

include h3 h15 h61 in
theorem dx_eq (R : Fin 512 → Fin 1024 → EReal) {v92 : FVec Ideal S512x1024 .f32} (h92 : ∀ i j, v92 (ix2 i j) = (R i j : EReal))
    (i : Fin 512) (j : Fin 1024) :
    k0_pay4 (F := Ideal) (k0_pay14 v3) (k0_pay15 v3) v15 v61 (k0_pay27 v62) v69 v92 (ix2 i j) = (dx W g (X i) (D i) (R i) j : EReal) := by
  pointwise [k0_pay4]
  simp only [h61, nrm_eq X h3, rinv_eq X h3, h15, h92, bits_1024]
  rfl

end Cert.Kernel3Ideal.Pay

end
-- ==== Proof.InBwd.lean ====
module

public import proofs.«01_k».proof.Proof.InCols
public import proofs.«01_k».proof.Proof.InPay
public import proofs.«01_k».proof.Proof.MlpFwd
public import proofs.«01_k».proof.Proof.InWhole

@[expose] public section

/-!
# What the kernel of the input projection's backward pass leaves in its arrays

Its grid walks the 8192 rows in blocks of 512. The derivative at the block's input is written block by block; the
derivatives of the projection and of the gain are sums over the rows, written back at the last point.
-/

set_option maxRecDepth 16384

noncomputable section

open Idealize.ShloMosaic Idealize.ShloMosaic.TcCoe Idealize.SL.Sem
open Idealize.ShloMosaic.Pipeline (Dat Cfg Window)

namespace Cert.Kernel3Ideal.Bwd

open Cert.Kernel3Ideal Cert.Kernel3Ideal.Gen Cert.Kernel3Ideal.Whole Cert.Lift Cert.InProj
open Cert.Mlp (nrm)
open Cert.Kernel2Ideal.Fwd (at_coords)

variable (m : (ℓ : Loc nD τ sig) → Buf (Elt Ideal) ℓ) (c : Dev nD)
  (W : Fin 1024 → Fin 2560 → EReal) (g : Fin 1024 → EReal) (X R : Fin 8192 → Fin 1024 → EReal) (D : Fin 8192 → Fin 2560 → EReal)

/-- The arrays the kernel reads hold these extended reals. -/
structure Inputs : Prop where
  x : ∀ i j, (V m c main_v10 : FVec Ideal S8192x1024 .f32) (ix2 i j) = (X i j : EReal)
  g : ∀ j, (V m c main_arg1 : FVec Ideal S1x1024 .f32) (ix2 0 j) = (g j : EReal)
  w : ∀ j k, (V m c main_v12 : FVec Ideal S1024x2560 .bf16) (ix2 j k) = (W j k : EReal)
  d0 : ∀ i k, (V m c main_v1 : FVec Ideal S8192x512 .bf16) (ix2 i k) = (D i (col 0 k) : EReal)
  d1 : ∀ i k, (V m c main_v3 : FVec Ideal S8192x512 .bf16) (ix2 i k) = (D i (col 1 k) : EReal)
  d2 : ∀ i k, (V m c main_v5 : FVec Ideal S8192x512 .bf16) (ix2 i k) = (D i (col 2 k) : EReal)
  d3 : ∀ i k, (V m c main_v7 : FVec Ideal S8192x512 .bf16) (ix2 i k) = (D i (col 3 k) : EReal)
  d4 : ∀ i k, (V m c main_v9 : FVec Ideal S8192x512 .bf16) (ix2 i k) = (D i (col 4 k) : EReal)
  r : ∀ i j, (V m c main_v13 : FVec Ideal S8192x1024 .f32) (ix2 i j) = (R i j : EReal)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_17.index t = ![t.val, 0] ∧ win0_18.index t = ![0, 0] ∧ win0_19.index t = ![0, 0] :=
  (by decide +kernel : ∀ t : Fin grid0.N, _)

theorem val_lt (t : Fin cfg0.N) : t.val < 16 := lt_of_lt_of_eq t.isLt N_0

/-- Row `i` of the block of point `t`. -/
def row (t : Fin cfg0.N) (i : Fin 512) : Fin 8192 := ⟨t.val * 512 + i.val, by have := val_lt t; omega⟩

/-- The blocks' rows are all the rows. -/
theorem sum_rows (f : Fin 8192 → EReal) (q : Fin 16 → Fin cfg0.N) (hq : ∀ s, (q s).val = s.val) :
    ∑ s : Fin 16, ∑ i : Fin 512, f (row (q s) i) = ∑ i, f i :=
  Fin.sum_mul_add_congr fun s k hl => congrArg f (Fin.ext (by simp only [row, hq]))

theorem pay5_zero (y) : k0_pay5 (F := Ideal) y = 0 := by
  pointwise [k0_pay5]

theorem pay6_zero (y) : k0_pay6 (F := Ideal) y = 0 := by
  pointwise [k0_pay6]

/-- A piece of columns, read after the array is filled with zeros. -/
theorem fill_zero {sp : Space} (v : View sig .tc sp S1024x2560 .f32) (o : ℕ)
    (inb : ∀ a, (![0, o] : Fin 2 → ℕ) a + S1024x512.size a ≤ S1024x2560.size a)
    (inb' : ∀ a, (![0, 0] : Fin 2 → ℕ) a + S1024x2560.size a ≤ S1024x2560.size a) (j : Fin 1024) (k : Fin 512) :
    v.readCov (Val := Elt Ideal) [⟨Rect.unit ![0, 0] S1024x2560.size inb', k0_pay5 (F := Ideal)⟩]
      (Rect.unit (s := S1024x2560) ![0, o] S1024x512.size inb).toLoadRect (ix2 j k) = (0 : EReal) := by
  rw [View.readCov_fill v inb' _ _ _ (by decide)]
  exact pay5_zero _

variable {m c W g X R D} (h : Inputs m c W g X R D)
include h

theorem x_blk (t : Fin cfg0.N) (i : Fin 512) (j : Fin 1024) :
    (iblk m c 0 t : FVec Ideal S512x1024 .f32) (ix2 i j) = (X (row t i) j : EReal) := by
  rw [← h.x]; blk_point [iblk, idx t, row]

theorem g_blk (t : Fin cfg0.N) (j : Fin 1024) : (iblk m c 1 t : FVec Ideal S1x1024 .f32) (ix2 0 j) = (g j : EReal) := by
  rw [← h.g]; blk_point [iblk, idx t]

theorem w_blk (t : Fin cfg0.N) (j : Fin 1024) (k : Fin 2560) :
    (iblk m c 2 t : FVec Ideal S1024x2560 .bf16) (ix2 j k) = (W j k : EReal) := by
  rw [← h.w]; blk_point [iblk, idx t]

theorem d0_blk (t : Fin cfg0.N) (i k : Fin 512) :
    (iblk m c 3 t : FVec Ideal S512x512 .bf16) (ix2 i k) = (D (row t i) (col 0 k) : EReal) := by
  rw [← h.d0]; blk_point [iblk, idx t, row]

theorem d1_blk (t : Fin cfg0.N) (i k : Fin 512) :
    (iblk m c 4 t : FVec Ideal S512x512 .bf16) (ix2 i k) = (D (row t i) (col 1 k) : EReal) := by
  rw [← h.d1]; blk_point [iblk, idx t, row]

theorem d2_blk (t : Fin cfg0.N) (i k : Fin 512) :
    (iblk m c 5 t : FVec Ideal S512x512 .bf16) (ix2 i k) = (D (row t i) (col 2 k) : EReal) := by
  rw [← h.d2]; blk_point [iblk, idx t, row]

theorem d3_blk (t : Fin cfg0.N) (i k : Fin 512) :
    (iblk m c 6 t : FVec Ideal S512x512 .bf16) (ix2 i k) = (D (row t i) (col 3 k) : EReal) := by
  rw [← h.d3]; blk_point [iblk, idx t, row]

theorem d4_blk (t : Fin cfg0.N) (i k : Fin 512) :
    (iblk m c 7 t : FVec Ideal S512x512 .bf16) (ix2 i k) = (D (row t i) (col 4 k) : EReal) := by
  rw [← h.d4]; blk_point [iblk, idx t, row]

theorem r_blk (t : Fin cfg0.N) (i : Fin 512) (j : Fin 1024) :
    (iblk m c 8 t : FVec Ideal S512x1024 .f32) (ix2 i j) = (R (row t i) j : EReal) := by
  rw [← h.r]; blk_point [iblk, idx t, row]

/-- A piece of the projection's columns, read from its block. -/
theorem w_col (t : Fin cfg0.N) (o : ℕ) (inb : ∀ a, (![0, o] : Fin 2 → ℕ) a + S1024x512.size a ≤ S1024x2560.size a) (p : Fin 5)
    (hp : o = 512 * p.val) (j : Fin 1024) (k : Fin 512) :
    View.ld (iblk m c 2 t) (Rect.unit (s := S1024x2560) ![0, o] S1024x512.size inb) (ix2 j k) = (W j (col p k) : EReal) :=
  (Cols.ld_col (iblk m c 2 t) o inb p hp j k).trans (w_blk h t _ _)

/-- The derivative entering the projection, at a point's rows. -/
theorem dhid_at (t : Fin cfg0.N) (i : Fin 512) (j : Fin 1024) :
    k0_pay2 (F := Ideal) (k0_pay26 (k0_pay19 (iblk m c 3 t) (View.ld (iblk m c 2 t) (Rect.unit ![0, 0] ![1024, 512] inb_S1024x2560_S1024x512_0_0)))
        (k0_pay20 (iblk m c 4 t)) (View.ld (iblk m c 2 t) (Rect.unit ![0, 512] ![1024, 512] inb_S1024x2560_S1024x512_0_512)) (iblk m c 5 t)
        (View.ld (iblk m c 2 t) (Rect.unit ![0, 1024] ![1024, 512] inb_S1024x2560_S1024x512_0_1024)) (iblk m c 6 t)
        (View.ld (iblk m c 2 t) (Rect.unit ![0, 1536] ![1024, 512] inb_S1024x2560_S1024x512_0_1536)))
      (k0_pay27 (iblk m c 7 t)) (View.ld (iblk m c 2 t) (Rect.unit ![0, 2048] ![1024, 512] inb_S1024x2560_S1024x512_0_2048)) (ix2 i j)
      = (dhid W (D (row t i)) j : EReal) :=
  Pay.dhid_eq W (fun i => D (row t i)) (d0_blk h t) (d1_blk h t) (d2_blk h t) (d3_blk h t) (d4_blk h t)
    (w_col h t 0 _ 0 rfl) (w_col h t 512 _ 1 rfl) (w_col h t 1024 _ 2 rfl) (w_col h t 1536 _ 3 rfl) (w_col h t 2048 _ 4 rfl) i j

/-- What a point adds to the derivative of the gain. -/
theorem dgain_at (t : Fin cfg0.N) (acc : FVec Ideal S1x1024 .f32) (j : Fin 1024) :
    k0_pay3 (F := Ideal) (k0_pay15 (iblk m c 0 t)) (k0_pay26 (k0_pay19 (iblk m c 3 t) (View.ld (iblk m c 2 t) (Rect.unit ![0, 0] ![1024, 512] inb_S1024x2560_S1024x512_0_0)))
        (k0_pay20 (iblk m c 4 t)) (View.ld (iblk m c 2 t) (Rect.unit ![0, 512] ![1024, 512] inb_S1024x2560_S1024x512_0_512)) (iblk m c 5 t)
        (View.ld (iblk m c 2 t) (Rect.unit ![0, 1024] ![1024, 512] inb_S1024x2560_S1024x512_0_1024)) (iblk m c 6 t)
        (View.ld (iblk m c 2 t) (Rect.unit ![0, 1536] ![1024, 512] inb_S1024x2560_S1024x512_0_1536)))
      (k0_pay27 (iblk m c 7 t)) (View.ld (iblk m c 2 t) (Rect.unit ![0, 2048] ![1024, 512] inb_S1024x2560_S1024x512_0_2048)) acc (ix2 0 j)
      = acc (ix2 0 j) + ((∑ i, dhid W (D (row t i)) j * nrm (X (row t i)) j : EReal)) :=
  Pay.dgain_eq W (fun i => X (row t i)) (fun i => D (row t i)) (x_blk h t) (dhid_at h t) acc j

/-- What a point stores for the derivative at the block's input. -/
theorem dx_at (t : Fin cfg0.N) (i : Fin 512) (j : Fin 1024) :
    k0_pay4 (F := Ideal) (k0_pay14 (iblk m c 0 t)) (k0_pay15 (iblk m c 0 t)) (iblk m c 1 t)
      (k0_pay26 (k0_pay19 (iblk m c 3 t) (View.ld (iblk m c 2 t) (Rect.unit ![0, 0] ![1024, 512] inb_S1024x2560_S1024x512_0_0)))
        (k0_pay20 (iblk m c 4 t)) (View.ld (iblk m c 2 t) (Rect.unit ![0, 512] ![1024, 512] inb_S1024x2560_S1024x512_0_512)) (iblk m c 5 t)
        (View.ld (iblk m c 2 t) (Rect.unit ![0, 1024] ![1024, 512] inb_S1024x2560_S1024x512_0_1024)) (iblk m c 6 t)
        (View.ld (iblk m c 2 t) (Rect.unit ![0, 1536] ![1024, 512] inb_S1024x2560_S1024x512_0_1536)))
      (k0_pay27 (iblk m c 7 t)) (View.ld (iblk m c 2 t) (Rect.unit ![0, 2048] ![1024, 512] inb_S1024x2560_S1024x512_0_2048)) (iblk m c 8 t) (ix2 i j)
      = (dx W g (X (row t i)) (D (row t i)) (R (row t i)) j : EReal) :=
  Pay.dx_eq g W (fun i => X (row t i)) (fun i => D (row t i)) (x_blk h t) (g_blk h t) (dhid_at h t) (fun i => R (row t i)) (r_blk h t) i j

/-- The derivative at the block's input, row by row. -/
theorem dx_final : (dats m 0 c).arrAt 17 cfg0.N = fun y => ((dx W g (X (y 0)) (D (y 0)) (R (y 0)) (y 1) : EReal)) := by
  refine (dats m 0 c).arrAt_eq_of_covers 17 _ (by decide +kernel) fun t hf y => ?_
  blk_simp
  rw [after0_17]
  idx_vars y
  by_cases h0 : t.val % 16 = 0
  · rw [outsAt0_A m c t h0, firstOuts]
    frame_out
    refine (dx_at h t y0 y1).trans ?_
    exact at_coords (fun r k => ((dx W g (X r) (D r) (R r) k : EReal))) (by blk_simp [idx t, row]) (by blk_simp [idx t])
  · rw [outsAt0_B m c t h0, laterOuts]
    frame_out
    refine (dx_at h t y0 y1).trans ?_
    exact at_coords (fun r k => ((dx W g (X r) (D r) (R r) k : EReal))) (by blk_simp [idx t, row]) (by blk_simp [idx t])

/-- The derivative of the gain: a sum over all rows. -/
theorem dgain_final : (dats m 0 c).arrAt 19 cfg0.N = fun y => ((dgain W X D (y 1) : EReal)) := by
  refine (dats m 0 c).arrAt_eq_of_covers 19 _ (by decide +kernel) fun t hf y => ?_
  blk_simp
  rw [after0_19, Pipeline.eq_sum_fin_of_reset_step_apply_of_flush (fun n h => (outsAt0 m c n h).2.2.1) 16 (fun _ => 0)
    (fun t y => ((∑ i, dhid W (D (row t i)) (y 1) * nrm (X (row t i)) (y 1) : EReal)))
    (fun t h0 y => by
      rw [outsAt0_A m c t h0]; frame_out; idx_vars y; obtain rfl : y0 = 0 := Subsingleton.elim _ _
      exact (dgain_at h t _ y1).trans (congrArg (· + _) (pay6_zero _)))
    (fun t h0 y => by
      rw [outsAt0_B m c t h0]; frame_out; idx_vars y; obtain rfl : y0 = 0 := Subsingleton.elim _ _
      exact dgain_at h t _ y1)
    t ((flush0_19 t).mp hf) _, zero_add]
  show (_ : EReal) = _
  refine ((sum_rows (fun i => dhid W (D i) (y 1) * nrm (X i) (y 1)) _ fun s => ?_).trans ?_)
  · have := val_lt t; dsimp only; omega
  · exact at_coords (a := (0 : Fin 1)) (a' := 0) (fun _ j => ∑ i, dhid W (D i) j * nrm (X i) j) rfl (by blk_simp [idx t])

/-- The first point starts the derivative of the projection from zero. -/
theorem dproj_first (t : Fin cfg0.N) (h0 : t.val % 16 = 0) (y : S1024x2560.Idx) :
    (outsAt0 m c t.val t.isLt).2.1 y = 0 + ((∑ i, nrm (X (row t i)) (y 0) * g (y 0) * D (row t i) (y 1) : EReal)) := by
  rw [outsAt0_A m c t h0]; frame_out
  simp (discharger := decide) only [↓View.readCov_skip]
  refine Cols.canon_cols (fun z => 0 + ((∑ i, nrm (X (row t i)) (z 0) * g (z 0) * D (row t i) (z 1) : EReal)))
    _ _ _ _ _ _ _ _ _ _ (fun j k => ?_) (fun j k => ?_) (fun j k => ?_) (fun j k => ?_) (fun j k => ?_) _ y
  · rw [Pay.dproj0_eq g (fun i => X (row t i)) (fun i => D (row t i)) (x_blk h t) (g_blk h t) (d0_blk h t)]
    exact congrArg (· + _) (fill_zero _ 0 _ _ j k)
  · rw [Pay.dproj1_eq g (fun i => X (row t i)) (fun i => D (row t i)) (x_blk h t) (g_blk h t) (d1_blk h t)]
    exact congrArg (· + _) (fill_zero _ 512 _ _ j k)
  · rw [Pay.dproj2_eq g (fun i => X (row t i)) (fun i => D (row t i)) (x_blk h t) (g_blk h t) (d2_blk h t)]
    exact congrArg (· + _) (fill_zero _ 1024 _ _ j k)
  · rw [Pay.dproj3_eq g (fun i => X (row t i)) (fun i => D (row t i)) (x_blk h t) (g_blk h t) (d3_blk h t)]
    exact congrArg (· + _) (fill_zero _ 1536 _ _ j k)
  · rw [Pay.dproj4_eq g (fun i => X (row t i)) (fun i => D (row t i)) (x_blk h t) (g_blk h t) (d4_blk h t)]
    exact congrArg (· + _) (fill_zero _ 2048 _ _ j k)

/-- Every later point adds its rows' products. -/
theorem dproj_next (t : Fin cfg0.N) (h0 : ¬t.val % 16 = 0) (y : S1024x2560.Idx) :
    (outsAt0 m c t.val t.isLt).2.1 y = (outsAt0 m c (t.val - 1) (lt_of_le_of_lt (Nat.sub_le _ _) t.isLt)).2.1 y
      + ((∑ i, nrm (X (row t i)) (y 0) * g (y 0) * D (row t i) (y 1) : EReal)) := by
  rw [outsAt0_B m c t h0]; frame_out
  refine Cols.canon_cols (fun z => (outsAt0 m c (t.val - 1) _).2.1 z + ((∑ i, nrm (X (row t i)) (z 0) * g (z 0) * D (row t i) (z 1) : EReal)))
    _ _ _ _ _ _ _ _ _ _ (fun j k => ?_) (fun j k => ?_) (fun j k => ?_) (fun j k => ?_) (fun j k => ?_) [] y
  · rw [Pay.dproj0_eq g (fun i => X (row t i)) (fun i => D (row t i)) (x_blk h t) (g_blk h t) (d0_blk h t)]
    exact congrArg (· + _) (Cols.ld_col _ 0 _ 0 rfl j k)
  · rw [Pay.dproj1_eq g (fun i => X (row t i)) (fun i => D (row t i)) (x_blk h t) (g_blk h t) (d1_blk h t)]
    exact congrArg (· + _) (Cols.ld_col _ 512 _ 1 rfl j k)
  · rw [Pay.dproj2_eq g (fun i => X (row t i)) (fun i => D (row t i)) (x_blk h t) (g_blk h t) (d2_blk h t)]
    exact congrArg (· + _) (Cols.ld_col _ 1024 _ 2 rfl j k)
  · rw [Pay.dproj3_eq g (fun i => X (row t i)) (fun i => D (row t i)) (x_blk h t) (g_blk h t) (d3_blk h t)]
    exact congrArg (· + _) (Cols.ld_col _ 1536 _ 3 rfl j k)
  · rw [Pay.dproj4_eq g (fun i => X (row t i)) (fun i => D (row t i)) (x_blk h t) (g_blk h t) (d4_blk h t)]
    exact congrArg (· + _) (Cols.ld_col _ 2048 _ 4 rfl j k)

/-- The derivative of the projection: a sum over all rows. -/
theorem dproj_final : (dats m 0 c).arrAt 18 cfg0.N = fun y => ((dproj g X D (y 0) (y 1) : EReal)) := by
  refine (dats m 0 c).arrAt_eq_of_covers 18 _ (by decide +kernel) fun t hf y => ?_
  blk_simp
  rw [after0_18, Pipeline.eq_sum_fin_of_reset_step_apply_of_flush (fun n h => (outsAt0 m c n h).2.1) 16 (fun _ => 0)
    (fun t y => ((∑ i, nrm (X (row t i)) (y 0) * g (y 0) * D (row t i) (y 1) : EReal)))
    (dproj_first h) (dproj_next h)
    t ((flush0_18 t).mp hf) _, zero_add]
  show (_ : EReal) = _
  refine ((sum_rows (fun i => nrm (X i) (y 0) * g (y 0) * D i (y 1)) _ fun s => ?_).trans ?_)
  · have := val_lt t; dsimp only; omega
  · exact at_coords (fun j k => ∑ i, nrm (X i) j * g j * D i k) (by blk_simp [idx t]) (by blk_simp [idx t])

end Cert.Kernel3Ideal.Bwd

end
-- ==== Proof.InLate.lean ====
module

public import proofs.«01_k».proof.Proof.AdamMath
public import proofs.«01_k».proof.Proof.InBwd

@[expose] public section

/-!
# The AdamW step inside the kernel of the input projection's backward pass

At every point of its grid the kernel also steps a block of 64 rows of the MLP's two weights. The blocks are all the
rows, so the six arrays it leaves are the step and the two new moments at every entry.
-/

set_option maxRecDepth 16384

noncomputable section

open Idealize.ShloMosaic Idealize.ShloMosaic.TcCoe Idealize.SL.Sem
open Idealize.ShloMosaic.Pipeline (Dat Cfg Window)

namespace Cert.Kernel3Ideal.Late

open Cert.Kernel3Ideal Cert.Kernel3Ideal.Gen Cert.Kernel3Ideal.Whole Cert.Kernel3Ideal.Bwd Cert.Adam
open Cert.Kernel2Ideal.Fwd (at_coords)

variable (m : (ℓ : Loc nD τ sig) → Buf (Elt Ideal) ℓ) (c : Dev nD)

/-- The blocks of the step's arrays are 64 rows, by the grid. -/
theorem idxLate : ∀ t : Fin cfg0.N, win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_20.index t = ![t.val, 0] ∧ win0_21.index t = ![t.val, 0] ∧ win0_22.index t = ![t.val, 0]
    ∧ win0_23.index t = ![t.val, 0] ∧ win0_24.index t = ![t.val, 0] ∧ win0_25.index t = ![t.val, 0] :=
  (by decide +kernel : ∀ t : Fin grid0.N, _)

/-- Row `i` of the 64 rows of point `t`. -/
def late (t : Fin cfg0.N) (i : Fin 64) : Fin 1024 := ⟨t.val * 64 + i.val, by have := val_lt t; omega⟩

/-- The first weight, as launched. -/
def W1 (i j : Fin 1024) : EReal := (show FVec Ideal S1024x1024 .f32 from m ((c : Thread nD τ).loc main_arg9)) (ix2 i j)

/-- The second weight, as launched. -/
def W2 (i j : Fin 1024) : EReal := (show FVec Ideal S1024x1024 .f32 from m ((c : Thread nD τ).loc main_arg10)) (ix2 i j)

/-- The first weight's gradient, as launched. -/
def G1 (i j : Fin 1024) : EReal := (show FVec Ideal S1024x1024 .f32 from m ((c : Thread nD τ).loc main_arg11)) (ix2 i j)

/-- The second weight's gradient, as launched. -/
def G2 (i j : Fin 1024) : EReal := (show FVec Ideal S1024x1024 .f32 from m ((c : Thread nD τ).loc main_arg12)) (ix2 i j)

/-- The first weight's first moment, as launched. -/
def M1 (i j : Fin 1024) : EReal := (show FVec Ideal S1024x1024 .f32 from m ((c : Thread nD τ).loc main_arg13)) (ix2 i j)

/-- The second weight's first moment, as launched. -/
def M2 (i j : Fin 1024) : EReal := (show FVec Ideal S1024x1024 .f32 from m ((c : Thread nD τ).loc main_arg14)) (ix2 i j)

/-- The first weight's second moment, as launched. -/
def V1 (i j : Fin 1024) : EReal := (show FVec Ideal S1024x1024 .f32 from m ((c : Thread nD τ).loc main_arg15)) (ix2 i j)

/-- The second weight's second moment, as launched. -/
def V2 (i j : Fin 1024) : EReal := (show FVec Ideal S1024x1024 .f32 from m ((c : Thread nD τ).loc main_arg16)) (ix2 i j)

theorem w1_blk (t : Fin cfg0.N) (i : Fin 64) (j : Fin 1024) :
    (iblk m c 9 t : FVec Ideal S64x1024 .f32) (ix2 i j) = (W1 m c (late t i) j : EReal) := by
  have e : (V m c main_arg9 : FVec Ideal S1024x1024 .f32) (ix2 (late t i) j) = (W1 m c (late t i) j : EReal) := by
    rw [show V m c main_arg9 = _ from V_main_arg9 m c]; rfl
  rw [← e]; blk_point [iblk, idxLate t, late]

theorem w2_blk (t : Fin cfg0.N) (i : Fin 64) (j : Fin 1024) :
    (iblk m c 10 t : FVec Ideal S64x1024 .f32) (ix2 i j) = (W2 m c (late t i) j : EReal) := by
  have e : (V m c main_arg10 : FVec Ideal S1024x1024 .f32) (ix2 (late t i) j) = (W2 m c (late t i) j : EReal) := by
    rw [show V m c main_arg10 = _ from V_main_arg10 m c]; rfl
  rw [← e]; blk_point [iblk, idxLate t, late]

theorem g1_blk (t : Fin cfg0.N) (i : Fin 64) (j : Fin 1024) :
    (iblk m c 11 t : FVec Ideal S64x1024 .f32) (ix2 i j) = (G1 m c (late t i) j : EReal) := by
  have e : (V m c main_arg11 : FVec Ideal S1024x1024 .f32) (ix2 (late t i) j) = (G1 m c (late t i) j : EReal) := by
    rw [show V m c main_arg11 = _ from V_main_arg11 m c]; rfl
  rw [← e]; blk_point [iblk, idxLate t, late]

theorem g2_blk (t : Fin cfg0.N) (i : Fin 64) (j : Fin 1024) :
    (iblk m c 12 t : FVec Ideal S64x1024 .f32) (ix2 i j) = (G2 m c (late t i) j : EReal) := by
  have e : (V m c main_arg12 : FVec Ideal S1024x1024 .f32) (ix2 (late t i) j) = (G2 m c (late t i) j : EReal) := by
    rw [show V m c main_arg12 = _ from V_main_arg12 m c]; rfl
  rw [← e]; blk_point [iblk, idxLate t, late]

theorem m1_blk (t : Fin cfg0.N) (i : Fin 64) (j : Fin 1024) :
    (iblk m c 13 t : FVec Ideal S64x1024 .f32) (ix2 i j) = (M1 m c (late t i) j : EReal) := by
  have e : (V m c main_arg13 : FVec Ideal S1024x1024 .f32) (ix2 (late t i) j) = (M1 m c (late t i) j : EReal) := by
    rw [show V m c main_arg13 = _ from V_main_arg13 m c]; rfl
  rw [← e]; blk_point [iblk, idxLate t, late]

theorem m2_blk (t : Fin cfg0.N) (i : Fin 64) (j : Fin 1024) :
    (iblk m c 14 t : FVec Ideal S64x1024 .f32) (ix2 i j) = (M2 m c (late t i) j : EReal) := by
  have e : (V m c main_arg14 : FVec Ideal S1024x1024 .f32) (ix2 (late t i) j) = (M2 m c (late t i) j : EReal) := by
    rw [show V m c main_arg14 = _ from V_main_arg14 m c]; rfl
  rw [← e]; blk_point [iblk, idxLate t, late]

theorem v1_blk (t : Fin cfg0.N) (i : Fin 64) (j : Fin 1024) :
    (iblk m c 15 t : FVec Ideal S64x1024 .f32) (ix2 i j) = (V1 m c (late t i) j : EReal) := by
  have e : (V m c main_arg15 : FVec Ideal S1024x1024 .f32) (ix2 (late t i) j) = (V1 m c (late t i) j : EReal) := by
    rw [show V m c main_arg15 = _ from V_main_arg15 m c]; rfl
  rw [← e]; blk_point [iblk, idxLate t, late]

theorem v2_blk (t : Fin cfg0.N) (i : Fin 64) (j : Fin 1024) :
    (iblk m c 16 t : FVec Ideal S64x1024 .f32) (ix2 i j) = (V2 m c (late t i) j : EReal) := by
  have e : (V m c main_arg16 : FVec Ideal S1024x1024 .f32) (ix2 (late t i) j) = (V2 m c (late t i) j : EReal) := by
    rw [show V m c main_arg16 = _ from V_main_arg16 m c]; rfl
  rw [← e]; blk_point [iblk, idxLate t, late]

theorem step1_at (t : Fin cfg0.N) (i : Fin 64) (j : Fin 1024) :
    k0_pay9 (F := Ideal) (iblk m c 9 t) (iblk m c 11 t) (iblk m c 13 t) (iblk m c 15 t) (ix2 i j)
      = (step (W1 m c (late t i) j) (G1 m c (late t i) j) (M1 m c (late t i) j) (V1 m c (late t i) j) : EReal) := by
  rw [← w1_blk, ← g1_blk, ← m1_blk, ← v1_blk]; rfl

theorem step2_at (t : Fin cfg0.N) (i : Fin 64) (j : Fin 1024) :
    k0_pay12 (F := Ideal) (iblk m c 10 t) (iblk m c 12 t) (iblk m c 14 t) (iblk m c 16 t) (ix2 i j)
      = (step (W2 m c (late t i) j) (G2 m c (late t i) j) (M2 m c (late t i) j) (V2 m c (late t i) j) : EReal) := by
  rw [← w2_blk, ← g2_blk, ← m2_blk, ← v2_blk]; rfl

theorem first1_at (t : Fin cfg0.N) (i : Fin 64) (j : Fin 1024) :
    k0_pay7 (F := Ideal) (iblk m c 11 t) (iblk m c 13 t) (ix2 i j)
      = (first (M1 m c (late t i) j) (G1 m c (late t i) j) : EReal) := by
  rw [← m1_blk, ← g1_blk]; rfl

theorem first2_at (t : Fin cfg0.N) (i : Fin 64) (j : Fin 1024) :
    k0_pay10 (F := Ideal) (iblk m c 12 t) (iblk m c 14 t) (ix2 i j)
      = (first (M2 m c (late t i) j) (G2 m c (late t i) j) : EReal) := by
  rw [← m2_blk, ← g2_blk]; rfl

theorem second1_at (t : Fin cfg0.N) (i : Fin 64) (j : Fin 1024) :
    k0_pay8 (F := Ideal) (iblk m c 11 t) (iblk m c 15 t) (ix2 i j)
      = (second (V1 m c (late t i) j) (G1 m c (late t i) j) : EReal) := by
  rw [← v1_blk, ← g1_blk]; rfl

theorem second2_at (t : Fin cfg0.N) (i : Fin 64) (j : Fin 1024) :
    k0_pay11 (F := Ideal) (iblk m c 12 t) (iblk m c 16 t) (ix2 i j)
      = (second (V2 m c (late t i) j) (G2 m c (late t i) j) : EReal) := by
  rw [← v2_blk, ← g2_blk]; rfl

/-- The step of the first weight. -/
theorem step1_final : (dats m 0 c).arrAt 20 cfg0.N = fun y => ((step (W1 m c (y 0) (y 1)) (G1 m c (y 0) (y 1)) (M1 m c (y 0) (y 1)) (V1 m c (y 0) (y 1)) : EReal)) := by
  refine (dats m 0 c).arrAt_eq_of_covers 20 _ (by decide +kernel) fun t hf y => ?_
  blk_simp
  rw [after0_20]
  idx_vars y
  by_cases h0 : t.val % 16 = 0
  · rw [outsAt0_A m c t h0, firstOuts]
    frame_out
    refine (step1_at m c t y0 y1).trans ?_
    exact at_coords (fun r k => ((step (W1 m c r k) (G1 m c r k) (M1 m c r k) (V1 m c r k) : EReal))) (by blk_simp [idxLate t, late]) (by blk_simp [idxLate t])
  · rw [outsAt0_B m c t h0, laterOuts]
    frame_out
    refine (step1_at m c t y0 y1).trans ?_
    exact at_coords (fun r k => ((step (W1 m c r k) (G1 m c r k) (M1 m c r k) (V1 m c r k) : EReal))) (by blk_simp [idxLate t, late]) (by blk_simp [idxLate t])

/-- The step of the second weight. -/
theorem step2_final : (dats m 0 c).arrAt 21 cfg0.N = fun y => ((step (W2 m c (y 0) (y 1)) (G2 m c (y 0) (y 1)) (M2 m c (y 0) (y 1)) (V2 m c (y 0) (y 1)) : EReal)) := by
  refine (dats m 0 c).arrAt_eq_of_covers 21 _ (by decide +kernel) fun t hf y => ?_
  blk_simp
  rw [after0_21]
  idx_vars y
  by_cases h0 : t.val % 16 = 0
  · rw [outsAt0_A m c t h0, firstOuts]
    frame_out
    refine (step2_at m c t y0 y1).trans ?_
    exact at_coords (fun r k => ((step (W2 m c r k) (G2 m c r k) (M2 m c r k) (V2 m c r k) : EReal))) (by blk_simp [idxLate t, late]) (by blk_simp [idxLate t])
  · rw [outsAt0_B m c t h0, laterOuts]
    frame_out
    refine (step2_at m c t y0 y1).trans ?_
    exact at_coords (fun r k => ((step (W2 m c r k) (G2 m c r k) (M2 m c r k) (V2 m c r k) : EReal))) (by blk_simp [idxLate t, late]) (by blk_simp [idxLate t])

/-- The new first moment of the first weight. -/
theorem first1_final : (dats m 0 c).arrAt 22 cfg0.N = fun y => ((first (M1 m c (y 0) (y 1)) (G1 m c (y 0) (y 1)) : EReal)) := by
  refine (dats m 0 c).arrAt_eq_of_covers 22 _ (by decide +kernel) fun t hf y => ?_
  blk_simp
  rw [after0_22]
  idx_vars y
  by_cases h0 : t.val % 16 = 0
  · rw [outsAt0_A m c t h0, firstOuts]
    frame_out
    refine (first1_at m c t y0 y1).trans ?_
    exact at_coords (fun r k => ((first (M1 m c r k) (G1 m c r k) : EReal))) (by blk_simp [idxLate t, late]) (by blk_simp [idxLate t])
  · rw [outsAt0_B m c t h0, laterOuts]
    frame_out
    refine (first1_at m c t y0 y1).trans ?_
    exact at_coords (fun r k => ((first (M1 m c r k) (G1 m c r k) : EReal))) (by blk_simp [idxLate t, late]) (by blk_simp [idxLate t])

/-- The new first moment of the second weight. -/
theorem first2_final : (dats m 0 c).arrAt 23 cfg0.N = fun y => ((first (M2 m c (y 0) (y 1)) (G2 m c (y 0) (y 1)) : EReal)) := by
  refine (dats m 0 c).arrAt_eq_of_covers 23 _ (by decide +kernel) fun t hf y => ?_
  blk_simp
  rw [after0_23]
  idx_vars y
  by_cases h0 : t.val % 16 = 0
  · rw [outsAt0_A m c t h0, firstOuts]
    frame_out
    refine (first2_at m c t y0 y1).trans ?_
    exact at_coords (fun r k => ((first (M2 m c r k) (G2 m c r k) : EReal))) (by blk_simp [idxLate t, late]) (by blk_simp [idxLate t])
  · rw [outsAt0_B m c t h0, laterOuts]
    frame_out
    refine (first2_at m c t y0 y1).trans ?_
    exact at_coords (fun r k => ((first (M2 m c r k) (G2 m c r k) : EReal))) (by blk_simp [idxLate t, late]) (by blk_simp [idxLate t])

/-- The new second moment of the first weight. -/
theorem second1_final : (dats m 0 c).arrAt 24 cfg0.N = fun y => ((second (V1 m c (y 0) (y 1)) (G1 m c (y 0) (y 1)) : EReal)) := by
  refine (dats m 0 c).arrAt_eq_of_covers 24 _ (by decide +kernel) fun t hf y => ?_
  blk_simp
  rw [after0_24]
  idx_vars y
  by_cases h0 : t.val % 16 = 0
  · rw [outsAt0_A m c t h0, firstOuts]
    frame_out
    refine (second1_at m c t y0 y1).trans ?_
    exact at_coords (fun r k => ((second (V1 m c r k) (G1 m c r k) : EReal))) (by blk_simp [idxLate t, late]) (by blk_simp [idxLate t])
  · rw [outsAt0_B m c t h0, laterOuts]
    frame_out
    refine (second1_at m c t y0 y1).trans ?_
    exact at_coords (fun r k => ((second (V1 m c r k) (G1 m c r k) : EReal))) (by blk_simp [idxLate t, late]) (by blk_simp [idxLate t])

/-- The new second moment of the second weight. -/
theorem second2_final : (dats m 0 c).arrAt 25 cfg0.N = fun y => ((second (V2 m c (y 0) (y 1)) (G2 m c (y 0) (y 1)) : EReal)) := by
  refine (dats m 0 c).arrAt_eq_of_covers 25 _ (by decide +kernel) fun t hf y => ?_
  blk_simp
  rw [after0_25]
  idx_vars y
  by_cases h0 : t.val % 16 = 0
  · rw [outsAt0_A m c t h0, firstOuts]
    frame_out
    refine (second2_at m c t y0 y1).trans ?_
    exact at_coords (fun r k => ((second (V2 m c r k) (G2 m c r k) : EReal))) (by blk_simp [idxLate t, late]) (by blk_simp [idxLate t])
  · rw [outsAt0_B m c t h0, laterOuts]
    frame_out
    refine (second2_at m c t y0 y1).trans ?_
    exact at_coords (fun r k => ((second (V2 m c r k) (G2 m c r k) : EReal))) (by blk_simp [idxLate t, late]) (by blk_simp [idxLate t])

end Cert.Kernel3Ideal.Late

end
-- ==== Proof.InRef.lean ====
module

public import proofs.«01_k».proof.Proof.InMath
public import proofs.«01_k».proof.Proof.MlpRef
public import proofs.«01_k».proof.Proof.Gen.Reference3Ideal.Run

@[expose] public section

/-!
# What the reference of the input projection computes

The values of the projection's derivative, operation by operation, read at one row and one column: the row formulas of
`InMath`, and for the weights their sums over the rows.
-/

set_option maxRecDepth 16384

noncomputable section

open Idealize.ShloMosaic Idealize.ShloMosaic.TcCoe Idealize.SL.Sem

namespace Cert.Reference3Ideal.Rows

open Cert.Reference3Ideal Cert.Reference3Ideal.Gen Cert.Reference3Ideal.Value Cert.Lift Cert.Mlp Cert.InProj
open Cert.Reference2Ideal.Rows (reduce_ends reduce_front bits_neg_half)

/-! ## The reference's intermediate arrays -/

/-- Each row's mean square. -/
def aVar (x : FVec Ideal S1x8192x1024 .f32) : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))

/-- Each row's inverse root. -/
def aRinv (x : FVec Ideal S1x8192x1024 .f32) : FVec Ideal S1x8192x1 .f32 := Host.rsqrt (aVar x)

/-- The normalised rows. -/
def aNrm (x : FVec Ideal S1x8192x1024 .f32) : FVec Ideal S1x8192x1024 .f32 :=
  mulf x (broadcastInDim S1x8192x1024 ![0, 1, 2] bcast_S1x8192x1_S1x8192x1024_0_1_2 (aRinv x))

/-- The gain, spread over the rows. -/
def aGain (g : FVec Ideal S1x1024 .f32) : FVec Ideal S1x8192x1024 .f32 :=
  broadcastInDim S1x8192x1024 ![0, 1, 2] bcast_S1x1x1024_S1x8192x1024_0_1_2 (broadcastInDim S1x1x1024 ![2] bcast_S1024_S1x1x1024_2 (shapeCast _ g shapeCasts_S1x1024_S1024))

/-- The five pieces, joined. -/
def aJoin (a b c d e : FVec Ideal S1x8192x512 .f32) : FVec Ideal S1x8192x2560 .f32 :=
  concatenate S1x8192x2560 2 [⟨S1x8192x512, a⟩, ⟨S1x8192x512, b⟩, ⟨S1x8192x512, c⟩, ⟨S1x8192x512, d⟩, ⟨S1x8192x512, e⟩] concatenates_S1x8192x512_S1x8192x512_S1x8192x512_S1x8192x512_S1x8192x512_S1x8192x2560_d2

/-- The derivative entering the projection. -/
def aHid (D : FVec Ideal S1x8192x2560 .f32) (w : FVec Ideal S1x1024x2560 .f32) : FVec Ideal S1x8192x1024 .f32 :=
  Host.dotGeneral dot_S1x8192x2560_S1024x2560_S1x8192x1024_2_1_01_0_n_n none D (shapeCast _ w shapeCasts_S1x1024x2560_S1024x2560)

/-- Each row's factor on the row itself, spread over the columns. -/
def aFac (x d : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1 (Host.reduceAdd (Host.divf (mulf (shapeCast _ (Host.reduceAdd (mulf x d) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (aRinv x) (aVar x)))) (broadcastInDim S1x8192x1 ![] bcast_S_S1x8192x1 (constant S_ .f32 0x44800000#32))) (constant S_ .f32 0x00000000#32) reducesTo_S1x8192x1_S8192_d0_2 h_S_))

/-- The derivative at the block's input. -/
def aDx (x d r : FVec Ideal S1x8192x1024 .f32) : FVec Ideal S8192x1024 .f32 :=
  shapeCast _ (addf (addf (addf r (mulf d (broadcastInDim S1x8192x1024 ![0, 1, 2] bcast_S1x8192x1_S1x8192x1024_0_1_2 (aRinv x)))) (mulf x (aFac x d))) (mulf (aFac x d) x)) shapeCasts_S1x8192x1024_S8192x1024

/-- The derivative at the gain. -/
def aDgain (n d : FVec Ideal S1x8192x1024 .f32) : FVec Ideal S1x1024 .f32 :=
  broadcastInDim S1x1024 ![1] bcast_S1024_S1x1024_1 (Host.reduceAdd (shapeCast _ (Host.reduceAdd (mulf n d) (constant S_ .f32 0x00000000#32) reducesTo_S1x8192x1024_S1x1024_d1 h_S_) shapeCasts_S1x1024_S1x1x1024) (constant S_ .f32 0x00000000#32) reducesTo_S1x1x1024_S1024_d0_1 h_S_)

/-- The derivative at the projection. -/
def aDproj (D : FVec Ideal S1x8192x2560 .f32) (h : FVec Ideal S1x8192x1024 .f32) : FVec Ideal S1024x2560 .f32 :=
  shapeCast _ (broadcastInDim S1x1024x2560 ![1, 2] bcast_S1024x2560_S1x1024x2560_1_2 (transpose S1024x2560 [1, 0] (Host.dotGeneral dot_S1x8192x2560_S1x8192x1024_S2560x1024_01_01_2_2_n_n none D h) transposes_S2560x1024_S1024x2560_1_0)) shapeCasts_S1x1024x2560_S1024x2560

/-! ## The same, read at a row -/

variable {x : FVec Ideal S1x8192x1024 .f32} {X : Fin 8192 → Fin 1024 → EReal} (hx : ∀ i j, x (ix3 0 i j) = (X i j : EReal))

include hx in
theorem var_eq (i : Fin 8192) : aVar x (ix3 0 i 0) = (var (X i) : EReal) := by
  pointwise [aVar]
  simp only [hx, bits_1024, bits_eps]
  rfl

include hx in
theorem rinv_eq (i : Fin 8192) : aRinv x (ix3 0 i 0) = (rinv (X i) : EReal) := by
  pointwise [aRinv]
  rw [var_eq hx]; rfl

include hx in
theorem nrm_eq (i : Fin 8192) (j : Fin 1024) : aNrm x (ix3 0 i j) = (nrm (X i) j : EReal) := by
  pointwise [aNrm]
  simp only [hx, rinv_eq hx]
  rfl

theorem gain_eq {g : FVec Ideal S1x1024 .f32} {G : Fin 1024 → EReal} (hg : ∀ j, g (ix2 0 j) = (G j : EReal)) (i : Fin 8192)
    (j : Fin 1024) : aGain g (ix3 0 i j) = (G j : EReal) := by
  pointwise [aGain]
  exact hg j

theorem join_eq {a b c d e : FVec Ideal S1x8192x512 .f32} {A B C D E : Fin 8192 → Fin 512 → EReal}
    (ha : ∀ i k, a (ix3 0 i k) = (A i k : EReal)) (hb : ∀ i k, b (ix3 0 i k) = (B i k : EReal))
    (hc : ∀ i k, c (ix3 0 i k) = (C i k : EReal)) (hd : ∀ i k, d (ix3 0 i k) = (D i k : EReal))
    (he : ∀ i k, e (ix3 0 i k) = (E i k : EReal)) (i : Fin 8192) (k : Fin 2560) :
    aJoin a b c d e (ix3 0 i k) = (join (A i) (B i) (C i) (D i) (E i) k : EReal) := by
  pointwise [aJoin]
  simp only [ha, hb, hc, hd, he]
  rfl

theorem hid_eq {D : FVec Ideal S1x8192x2560 .f32} {w : FVec Ideal S1x1024x2560 .f32} {DD : Fin 8192 → Fin 2560 → EReal}
    {W : Fin 1024 → Fin 2560 → EReal} (hD : ∀ i k, D (ix3 0 i k) = (DD i k : EReal)) (hw : ∀ j k, w (ix3 0 j k) = (W j k : EReal))
    (i : Fin 8192) (j : Fin 1024) : aHid D w (ix3 0 i j) = (InProj.dhid W (DD i) j : EReal) := by
  pointwise [aHid]
  simp only [hD, hw]
  rfl

variable {d : FVec Ideal S1x8192x1024 .f32} {d' : Fin 8192 → Fin 1024 → EReal} (hd : ∀ i j, d (ix3 0 i j) = (d' i j : EReal))

include hx hd in
theorem fac_eq (i : Fin 8192) (j : Fin 1024) : aFac x d (ix3 0 i j)
    = mean ((∑ l, X i l * d' i l) * (((-1 / 2 : ℝ) : EReal) * Ideal.div (rinv (X i)) (var (X i)))) := by
  pointwise [aFac]
  rw [reduce_ends]
  pointwise
  simp only [hx, hd, rinv_eq hx, var_eq hx, bits_neg_half, bits_1024]
  rfl

include hx hd in
theorem dx_eq {r : FVec Ideal S1x8192x1024 .f32} {R : Fin 8192 → Fin 1024 → EReal} (hr : ∀ i j, r (ix3 0 i j) = (R i j : EReal))
    (i : Fin 8192) (j : Fin 1024) : aDx x d r (ix2 i j) = R i j + nrmBack (rinv (X i)) (nrm (X i)) (d' i) j := by
  pointwise [aDx]
  simp only [hx, hd, hr, rinv_eq hx, fac_eq hx hd]
  rw [← nrmBack_chain (X i) (d' i) j, ← add_assoc, ← add_assoc]

include hd in
theorem dgain_eq {n : FVec Ideal S1x8192x1024 .f32} {N : Fin 8192 → Fin 1024 → EReal} (hn : ∀ i j, n (ix3 0 i j) = (N i j : EReal))
    (j : Fin 1024) : aDgain n d (ix2 0 j) = (∑ i, d' i j * N i j : EReal) := by
  pointwise [aDgain]
  rw [reduce_front]
  pointwise
  simp only [hn, hd]
  exact Finset.sum_congr rfl fun i _ => mul_comm _ _

include hd in
theorem dproj_eq {D : FVec Ideal S1x8192x2560 .f32} {DD : Fin 8192 → Fin 2560 → EReal} (hD : ∀ i k, D (ix3 0 i k) = (DD i k : EReal))
    (j : Fin 1024) (k : Fin 2560) : aDproj D d (ix2 j k) = (∑ i, d' i j * DD i k : EReal) := by
  pointwise [aDproj]
  simp only [Fin.sum_univ_one, Fin.isValue, hD, hd]
  exact Finset.sum_congr rfl fun i _ => mul_comm _ _

/-! ## The three results -/

variable {g : FVec Ideal S1x1024 .f32} {w : FVec Ideal S1x1024x2560 .f32} {p0 p1 p2 p3 p4 : FVec Ideal S1x8192x512 .f32}
  {r : FVec Ideal S1x8192x1024 .f32} {G : Fin 1024 → EReal} {W : Fin 1024 → Fin 2560 → EReal}
  {P0 P1 P2 P3 P4 : Fin 8192 → Fin 512 → EReal} {R : Fin 8192 → Fin 1024 → EReal}
  (hg : ∀ j, g (ix2 0 j) = (G j : EReal)) (hw : ∀ j k, w (ix3 0 j k) = (W j k : EReal))
  (h0 : ∀ i k, p0 (ix3 0 i k) = (P0 i k : EReal)) (h1 : ∀ i k, p1 (ix3 0 i k) = (P1 i k : EReal))
  (h2 : ∀ i k, p2 (ix3 0 i k) = (P2 i k : EReal)) (h3 : ∀ i k, p3 (ix3 0 i k) = (P3 i k : EReal))
  (h4 : ∀ i k, p4 (ix3 0 i k) = (P4 i k : EReal)) (hr : ∀ i j, r (ix3 0 i j) = (R i j : EReal))

include hg hw h0 h1 h2 h3 h4 in
/-- The derivative at the normalised row. -/
theorem dnrm_eq (i : Fin 8192) (j : Fin 1024) : mulf (aHid (aJoin p0 p1 p2 p3 p4) w) (aGain g) (ix3 0 i j)
    = (InProj.dhid W (join (P0 i) (P1 i) (P2 i) (P3 i) (P4 i)) j * G j : EReal) := by
  pointwise
  rw [hid_eq (join_eq h0 h1 h2 h3 h4) hw, gain_eq hg]

include hx hg hw h0 h1 h2 h3 h4 hr in
theorem dx_total (i : Fin 8192) (j : Fin 1024) : aDx x (mulf (aHid (aJoin p0 p1 p2 p3 p4) w) (aGain g)) r (ix2 i j)
    = (InProj.dx W G (X i) (join (P0 i) (P1 i) (P2 i) (P3 i) (P4 i)) (R i) j : EReal) :=
  dx_eq hx (dnrm_eq hg hw h0 h1 h2 h3 h4) hr i j

include hx hw h0 h1 h2 h3 h4 in
theorem dgain_total (j : Fin 1024) : aDgain (aNrm x) (aHid (aJoin p0 p1 p2 p3 p4) w) (ix2 0 j)
    = (dgain W X (fun i => join (P0 i) (P1 i) (P2 i) (P3 i) (P4 i)) j : EReal) :=
  dgain_eq (hid_eq (join_eq h0 h1 h2 h3 h4) hw) (nrm_eq hx) j

include hx hg h0 h1 h2 h3 h4 in
theorem dproj_total (j : Fin 1024) (k : Fin 2560) : aDproj (aJoin p0 p1 p2 p3 p4) (mulf (aNrm x) (aGain g)) (ix2 j k)
    = (dproj G X (fun i => join (P0 i) (P1 i) (P2 i) (P3 i) (P4 i)) j k : EReal) :=
  dproj_eq (d' := fun i j => nrm (X i) j * G j) (fun i j => by pointwise; rw [nrm_eq hx, gain_eq hg]) (join_eq h0 h1 h2 h3 h4) j k

end Cert.Reference3Ideal.Rows

end
-- ==== Proof.InClaim.lean ====
module

public import proofs.«01_k».proof.Defs
public import proofs.«01_k».proof.Proof.InLate
public import proofs.«01_k».proof.Proof.InRef
public import proofs.«01_k».proof.Proof.MlpClaim

@[expose] public section

/-!
# The input projection's backward pass: the kernel against the derivative of the normalised projection

On the same arguments both programs end with the same nine results: the derivatives in the block's input, in the gain
and in the projection, and the AdamW step of the MLP's two weights with their new moments.
-/

set_option maxRecDepth 16384

noncomputable section

open Idealize.ShloMosaic Idealize.ShloMosaic.TcCoe Idealize.ShloMosaic.Tactic Idealize.SL.Sem

namespace Cert.Kernel3Ideal.Final

open Cert.Kernel3Ideal Cert.Kernel3Ideal.Gen Cert.Kernel3Ideal.Whole Cert.Lift Cert.InProj

variable (m : (ℓ : Loc nD τ sig) → Buf (Elt Ideal) ℓ) (c : Dev nD)

/-- The block's input, as launched. -/
def X (i : Fin 8192) (j : Fin 1024) : EReal := (show FVec Ideal S1x8192x1024 .f32 from m ((c : Thread nD τ).loc main_arg0)) (ix3 0 i j)
/-- The gain. -/
def G (j : Fin 1024) : EReal := (show FVec Ideal S1x1024 .f32 from m ((c : Thread nD τ).loc main_arg1)) (ix2 0 j)
/-- The projection. -/
def W (j : Fin 1024) (k : Fin 2560) : EReal := (show FVec Ideal S1x1024x2560 .f32 from m ((c : Thread nD τ).loc main_arg2)) (ix3 0 j k)
/-- The first of the five derivatives that enter. -/
def A (i : Fin 8192) (k : Fin 512) : EReal := (show FVec Ideal S1x8192x512 .f32 from m ((c : Thread nD τ).loc main_arg3)) (ix3 0 i k)
/-- The second. -/
def B (i : Fin 8192) (k : Fin 512) : EReal := (show FVec Ideal S1x8192x512 .f32 from m ((c : Thread nD τ).loc main_arg4)) (ix3 0 i k)
/-- The third. -/
def C (i : Fin 8192) (k : Fin 512) : EReal := (show FVec Ideal S1x8192x512 .f32 from m ((c : Thread nD τ).loc main_arg5)) (ix3 0 i k)
/-- The fourth. -/
def D (i : Fin 8192) (k : Fin 512) : EReal := (show FVec Ideal S1x8192x512 .f32 from m ((c : Thread nD τ).loc main_arg6)) (ix3 0 i k)
/-- The fifth. -/
def E (i : Fin 8192) (k : Fin 512) : EReal := (show FVec Ideal S1x8192x512 .f32 from m ((c : Thread nD τ).loc main_arg7)) (ix3 0 i k)
/-- The same, joined. -/
def J (i : Fin 8192) : Fin 2560 → EReal := join (A m c i) (B m c i) (C m c i) (D m c i) (E m c i)
/-- The derivative that reaches the block's input past the projection. -/
def R (i : Fin 8192) (j : Fin 1024) : EReal := (show FVec Ideal S1x8192x1024 .f32 from m ((c : Thread nD τ).loc main_arg8)) (ix3 0 i j)

theorem v10_val : V m c main_v10
    = shapeCast _ (show FVec Ideal S1x8192x1024 .f32 from m ((c : Thread nD τ).loc main_arg0)) shapeCasts_S1x8192x1024_S8192x1024 := by
  unfold_abbrev_sides; after_results; try rfl

theorem v13_val : V m c main_v13
    = shapeCast _ (show FVec Ideal S1x8192x1024 .f32 from m ((c : Thread nD τ).loc main_arg8)) shapeCasts_S1x8192x1024_S8192x1024 := by
  unfold_abbrev_sides; after_results; try rfl

theorem v12_val : V m c main_v12
    = truncf .bf16 (shapeCast S1024x2560 (show FVec Ideal S1x1024x2560 .f32 from m ((c : Thread nD τ).loc main_arg2)) shapeCasts_S1x1024x2560_S1024x2560) bitsLt_bf16_f32 := by
  unfold_abbrev_sides; after_results; try rfl

theorem v1_val : V m c main_v1
    = truncf .bf16 (shapeCast S8192x512 (show FVec Ideal S1x8192x512 .f32 from m ((c : Thread nD τ).loc main_arg3)) shapeCasts_S1x8192x512_S8192x512) bitsLt_bf16_f32 := by
  unfold_abbrev_sides; after_results; try rfl

theorem v3_val : V m c main_v3
    = truncf .bf16 (shapeCast S8192x512 (show FVec Ideal S1x8192x512 .f32 from m ((c : Thread nD τ).loc main_arg4)) shapeCasts_S1x8192x512_S8192x512) bitsLt_bf16_f32 := by
  unfold_abbrev_sides; after_results; try rfl

theorem v5_val : V m c main_v5
    = truncf .bf16 (shapeCast S8192x512 (show FVec Ideal S1x8192x512 .f32 from m ((c : Thread nD τ).loc main_arg5)) shapeCasts_S1x8192x512_S8192x512) bitsLt_bf16_f32 := by
  unfold_abbrev_sides; after_results; try rfl

theorem v7_val : V m c main_v7
    = truncf .bf16 (shapeCast S8192x512 (show FVec Ideal S1x8192x512 .f32 from m ((c : Thread nD τ).loc main_arg6)) shapeCasts_S1x8192x512_S8192x512) bitsLt_bf16_f32 := by
  unfold_abbrev_sides; after_results; try rfl

theorem v9_val : V m c main_v9
    = truncf .bf16 (shapeCast S8192x512 (show FVec Ideal S1x8192x512 .f32 from m ((c : Thread nD τ).loc main_arg7)) shapeCasts_S1x8192x512_S8192x512) bitsLt_bf16_f32 := by
  unfold_abbrev_sides; after_results; try rfl

/-- What the kernel reads. -/
theorem inputs : Bwd.Inputs m c (W m c) (G m c) (X m c) (R m c) (J m c) where
  x i j := by
    rw [v10_val]; pointwise; exact congrArg _ (by blk_ext)
  g j := by
    rw [show V m c main_arg1 = _ from V_main_arg1 m c]; rfl
  w j k := by
    rw [v12_val]; pointwise; exact congrArg _ (by blk_ext)
  d0 i k := by
    rw [v1_val, J, join_0]; pointwise; exact congrArg _ (by blk_ext)
  d1 i k := by
    rw [v3_val, J, join_1]; pointwise; exact congrArg _ (by blk_ext)
  d2 i k := by
    rw [v5_val, J, join_2]; pointwise; exact congrArg _ (by blk_ext)
  d3 i k := by
    rw [v7_val, J, join_3]; pointwise; exact congrArg _ (by blk_ext)
  d4 i k := by
    rw [v9_val, J, join_4]; pointwise; exact congrArg _ (by blk_ext)
  r i j := by
    rw [v13_val]; pointwise; exact congrArg _ (by blk_ext)

end Cert.Kernel3Ideal.Final

namespace Cert.InProj

open Cert.Lift Cert.Kernel3Ideal.Final

/-- An array known entry by entry. -/
theorem ext2 {A B : ℕ} {f g : (⟨2, ![A, B]⟩ : Shape).Idx → EReal} (h : ∀ i j, f (ix2 i j) = g (ix2 i j)) : f = g := by
  funext y
  have e : y = ix2 (y 0) (y 1) := by
    funext b; match b with
    | ⟨0, _⟩ => rfl
    | ⟨1, _⟩ => rfl
  rw [e]; exact h _ _

/-- The reference terminates, its arguments unchanged and every semaphore counter at zero. -/
theorem frame_reference : Cert.quiescent_Reference3Ideal (hReference3Ideal := Cert.Reference3Ideal.Gen.facts) := fun m g _ =>
  (θ_run _ _ _).mono (fun _ h => ⟨fun c => (h c).2.2.2.2.2.2.2.2.2, funext fun s => by
      obtain ⟨t, s⟩ := s; exact nomatch s⟩) (Cert.Reference3Ideal.Value.run m g)

set_option maxHeartbeats 2000000 in
open Cert.Reference3Ideal.Rows in
theorem algebraic : Cert.algebraic_Kernel3Ideal_Reference3Ideal := by
  intro m g m' g' _ hagree
  refine ⟨_, _, _, _, _, _, _, _, _, (θ_run _ _ _).mono (fun r h c => ⟨(h c).1, (h c).2.2.1, (h c).2.1, (h c).2.2.2⟩) (Cert.Kernel3Ideal.Whole.run_blocks m g),
    (θ_run _ _ _).mono (fun r h c => ?_) (Cert.Reference3Ideal.Value.run m' g')⟩
  obtain ⟨e0, e1, e2, e3, e4, e5, e6, e7, e8, e9, e10, e11, e12, e13, e14, e15, e16⟩ := hagree c
  have hx : ∀ i j, _ = (X m c i j : EReal) := fun i j => congrFun e0 (ix3 0 i j)
  have hg : ∀ j, _ = (G m c j : EReal) := fun j => congrFun e1 (ix2 0 j)
  have hw : ∀ j k, _ = (W m c j k : EReal) := fun j k => congrFun e2 (ix3 0 j k)
  have h0 : ∀ i k, _ = (A m c i k : EReal) := fun i k => congrFun e3 (ix3 0 i k)
  have h1 : ∀ i k, _ = (B m c i k : EReal) := fun i k => congrFun e4 (ix3 0 i k)
  have h2 : ∀ i k, _ = (C m c i k : EReal) := fun i k => congrFun e5 (ix3 0 i k)
  have h3 : ∀ i k, _ = (D m c i k : EReal) := fun i k => congrFun e6 (ix3 0 i k)
  have h4 : ∀ i k, _ = (E m c i k : EReal) := fun i k => congrFun e7 (ix3 0 i k)
  have hr : ∀ i j, _ = (R m c i j : EReal) := fun i j => congrFun e8 (ix3 0 i j)
  obtain ⟨q0, q1, q2, q3, q4, q5, q6, q7, q8, qa⟩ := h c
  refine ⟨?_, ?_, ?_, ?_, ?_, ?_, ?_, ?_, ?_, qa⟩
  · rw [q0, Cert.Kernel3Ideal.Bwd.dx_final (inputs m c)]
    exact ext2 (dx_total hx hg hw h0 h1 h2 h3 h4 hr)
  · rw [q1, Cert.Kernel3Ideal.Bwd.dgain_final (inputs m c)]
    exact Cert.Mlp.ext2 (dgain_total hx hw h0 h1 h2 h3 h4)
  · rw [q2, Cert.Kernel3Ideal.Bwd.dproj_final (inputs m c)]
    exact ext2 (dproj_total hx hg h0 h1 h2 h3 h4)
  · rw [q3, e9, e11, e13, e15, Cert.Kernel3Ideal.Late.step1_final]
    exact ext2 fun i j => congrFun (Cert.Adam.hostStep_eq _ _ _ _ _) (ix2 i j)
  · rw [q4, e10, e12, e14, e16, Cert.Kernel3Ideal.Late.step2_final]
    exact ext2 fun i j => congrFun (Cert.Adam.hostStep_eq _ _ _ _ _) (ix2 i j)
  · rw [q5, e13, e11, Cert.Kernel3Ideal.Late.first1_final]
    exact ext2 fun i j => congrFun (Cert.Adam.hostFirst_eq _ _ _) (ix2 i j)
  · rw [q6, e14, e12, Cert.Kernel3Ideal.Late.first2_final]
    exact ext2 fun i j => congrFun (Cert.Adam.hostFirst_eq _ _ _) (ix2 i j)
  · rw [q7, e15, e11, Cert.Kernel3Ideal.Late.second1_final]
    exact ext2 fun i j => congrFun (Cert.Adam.hostSecond_eq _ _ _) (ix2 i j)
  · rw [q8, e16, e12, Cert.Kernel3Ideal.Late.second2_final]
    exact ext2 fun i j => congrFun (Cert.Adam.hostSecond_eq _ _ _) (ix2 i j)

end Cert.InProj

end
-- ==== Proof.MixMath.lean ====
module

public import proofs.«01_k».proof.Proof.MlpMath

@[expose] public section

/-!
# The mixer's output and its derivative on one row, over the extended reals

One row has 512 entries `r` from the retention and 512 entries `x` from the state space. The latter go through the gelu,
a matrix and a gated linear unit; both halves, joined, are multiplied by the output matrix and normalised. Then the
derivative of this, applied to a row `d`, backwards through the same steps.
-/

noncomputable section

namespace Cert.Mix

open Cert.Lift Cert.Mlp

/-! ## Rows of two halves -/

/-- Column `k` of the left half. -/
def left (k : Fin 512) : Fin 1024 := ⟨k.val, by omega⟩
/-- Column `k` of the right half. -/
def right (k : Fin 512) : Fin 1024 := ⟨512 + k.val, by omega⟩
/-- Two halves, joined. -/
def pair (a b : Fin 512 → EReal) (l : Fin 1024) : EReal :=
  if h : l.val < 512 then a ⟨l.val, h⟩ else b ⟨l.val - 512, by omega⟩

theorem pair_left (a b : Fin 512 → EReal) (k : Fin 512) : pair a b (left k) = a k := by
  rw [pair, dif_pos (show (left k).val < 512 from k.isLt)]; rfl

theorem pair_right (a b : Fin 512 → EReal) (k : Fin 512) : pair a b (right k) = b k := by
  have hk : (right k).val = 512 + k.val := rfl
  rw [pair, dif_neg (by omega)]; exact congrArg b (Fin.ext (by simp only [hk]; omega))

/-- Every column lies in one of the halves. -/
theorem exists_half (l : Fin 1024) : (∃ k, l = left k) ∨ ∃ k, l = right k := by
  by_cases h : l.val < 512
  · exact .inl ⟨⟨l.val, h⟩, rfl⟩
  · exact .inr ⟨⟨l.val - 512, by omega⟩, Fin.ext (by simp only [right]; omega)⟩

/-- A sum over the columns, half by half. -/
theorem sum_halves (f : Fin 1024 → EReal) : ∑ l, f l = (∑ k, f (left k)) + ∑ k, f (right k) :=
  Fin.sum_univ_add (fun l : Fin (512 + 512) => f l)

/-! ## The gelu and the sigmoid -/

/-- The gelu's outer factor, the rational its word is. -/
def outer : ℝ := 6693141 / 2 ^ 23
/-- The gelu's cubic coefficient. -/
def cubic : ℝ := 8943 / 200000
/-- Three times the cubic coefficient. -/
def slope : ℝ := 26829 / 200000

theorem bits_outer : Idealize.ShloMosaic.Ideal.ofBits .f32 0x3F4C422A#32 = ((outer : ℝ) : EReal) := by
  simp [Idealize.ShloMosaic.Ideal.ofBits, Idealize.ShloMosaic.Ideal.ieee, -EReal.coe_mul, outer]; norm_num

theorem bits_three : Idealize.ShloMosaic.Ideal.ofBits .f32 0x40400000#32 = ((3 : ℝ) : EReal) := by
  simp [Idealize.ShloMosaic.Ideal.ofBits, Idealize.ShloMosaic.Ideal.ieee, -EReal.coe_mul]; norm_num

theorem bits_8943 : Idealize.ShloMosaic.Ideal.ofBits .f32 0x460BBC00#32 = ((8943 : ℝ) : EReal) := by
  simp [Idealize.ShloMosaic.Ideal.ofBits, Idealize.ShloMosaic.Ideal.ieee, -EReal.coe_mul]; norm_num

theorem bits_200000 : Idealize.ShloMosaic.Ideal.ofBits .f32 0x48435000#32 = ((200000 : ℝ) : EReal) := by
  simp [Idealize.ShloMosaic.Ideal.ofBits, Idealize.ShloMosaic.Ideal.ieee, -EReal.coe_mul]; norm_num

/-- The quotient that writes the cubic coefficient. -/
theorem quotient : Idealize.ShloMosaic.Ideal.div (Idealize.ShloMosaic.Ideal.ofBits .f32 0x460BBC00#32)
    (Idealize.ShloMosaic.Ideal.ofBits .f32 0x48435000#32) = ((cubic : ℝ) : EReal) := by
  rw [bits_8943, bits_200000, div_real (by norm_num)]; rfl

/-- The hyperbolic tangent inside the gelu. -/
def th (x : EReal) : EReal := Idealize.ShloMosaic.Ideal.tanh ((outer : EReal) * (x + (cubic : EReal) * (x * x * x)))
/-- The gelu. -/
def gelu (x : EReal) : EReal := x * (((1 / 2 : ℝ) : EReal) * (1 + th x))
/-- Its derivative. -/
def geluGrad (x : EReal) : EReal :=
  ((1 / 2 : ℝ) : EReal) * (1 + th x) + ((1 / 2 : ℝ) : EReal) * x * (1 - th x * th x) * ((outer : EReal) * (1 + (slope : EReal) * (x * x)))
/-- The sigmoid. -/
def sigmoid (z : EReal) : EReal := Idealize.ShloMosaic.Ideal.div 1 (1 + Idealize.ShloMosaic.Ideal.exp (-z))

/-! ## The row -/

/-- The gain and the two matrices. -/
structure Weights where
  g : Fin 1024 → EReal
  glu : Fin 512 → Fin 1024 → EReal
  out : Fin 1024 → Fin 1024 → EReal

variable (w : Weights) (r x : Fin 512 → EReal) (d : Fin 1024 → EReal)

/-- The product entering the gated linear unit. -/
def lin (n : Fin 1024) : EReal := ∑ k, gelu (x k) * w.glu k n
/-- The unit's linear half. -/
def val (k : Fin 512) : EReal := lin w x (left k)
/-- The unit's gate. -/
def gate (k : Fin 512) : EReal := sigmoid (lin w x (right k))
/-- The row entering the output matrix. -/
def joined : Fin 1024 → EReal := pair r fun k => val w x k * gate w x k
/-- The row before the normalisation. -/
def mix (j : Fin 1024) : EReal := ∑ l, joined w r x l * w.out l j
/-- The derivative at that row. -/
def dmix : Fin 1024 → EReal := nrmBack (rinv (mix w r x)) (nrm (mix w r x)) fun j => d j * w.g j
/-- The derivative at the row entering the output matrix. -/
def djoined (l : Fin 1024) : EReal := ∑ j, dmix w r x d j * w.out l j
/-- The derivative at the retention's entries. -/
def dr (k : Fin 512) : EReal := djoined w r x d (left k)
/-- The derivative at the product entering the gated linear unit. -/
def dlin : Fin 1024 → EReal := pair (fun k => djoined w r x d (right k) * gate w x k)
  fun k => djoined w r x d (right k) * val w x k * gate w x k * (1 - gate w x k)
/-- The derivative at the gelu's value. -/
def dgelu (k : Fin 512) : EReal := ∑ n, dlin w r x d n * w.glu k n
/-- The derivative at the state space's entries. -/
def dx (k : Fin 512) : EReal := dgelu w r x d k * geluGrad (x k)

section Batch

variable (w : Weights) (R X : Fin 8192 → Fin 512 → EReal) (D : Fin 8192 → Fin 1024 → EReal)

/-- The derivative of the output matrix: a sum over the rows. -/
def dout (l j : Fin 1024) : EReal := ∑ i, joined w (R i) (X i) l * dmix w (R i) (X i) (D i) j
/-- The derivative of the unit's matrix. -/
def dglu (k : Fin 512) (n : Fin 1024) : EReal := ∑ i, gelu (X i k) * dlin w (R i) (X i) (D i) n
/-- The derivative of the gain. -/
def dgain (j : Fin 1024) : EReal := ∑ i, D i j * nrm (mix w (R i) (X i)) j

end Batch

/-! ## Where the entries are real -/

/-- Neither infinity. -/
def IsReal (e : EReal) : Prop := ∃ a : ℝ, e = (a : EReal)

theorem IsReal.coe (a : ℝ) : IsReal (a : EReal) := ⟨a, rfl⟩
theorem IsReal.zero : IsReal 0 := ⟨0, rfl⟩
theorem IsReal.one : IsReal 1 := ⟨1, rfl⟩

variable {a b : EReal}

theorem IsReal.add (ha : IsReal a) (hb : IsReal b) : IsReal (a + b) := by
  obtain ⟨s, rfl⟩ := ha; obtain ⟨t, rfl⟩ := hb; exact ⟨s + t, (EReal.coe_add _ _).symm⟩
theorem IsReal.sub (ha : IsReal a) (hb : IsReal b) : IsReal (a - b) := by
  obtain ⟨s, rfl⟩ := ha; obtain ⟨t, rfl⟩ := hb; exact ⟨s - t, (EReal.coe_sub _ _).symm⟩
theorem IsReal.mul (ha : IsReal a) (hb : IsReal b) : IsReal (a * b) := by
  obtain ⟨s, rfl⟩ := ha; obtain ⟨t, rfl⟩ := hb; exact ⟨s * t, (EReal.coe_mul _ _).symm⟩

theorem IsReal.sum {ι : Type*} {s : Finset ι} {f : ι → EReal} (h : ∀ i, IsReal (f i)) : IsReal (∑ i ∈ s, f i) := by
  choose v hv using h
  exact ⟨∑ i ∈ s, v i, by rw [← sum_coe]; exact Finset.sum_congr rfl fun i _ => hv i⟩

theorem IsReal.th (h : IsReal a) : IsReal (th a) := by
  obtain ⟨s, rfl⟩ := h
  exact ⟨Real.tanh (outer * (s + cubic * (s * s * s))), by
    rw [Mix.th, ← Idealize.ShloMosaic.Ideal.tanh_coe]; push_cast; rfl⟩

theorem IsReal.gelu (h : IsReal a) : IsReal (gelu a) := h.mul ((IsReal.coe _).mul (IsReal.one.add h.th))

theorem IsReal.sigmoid (h : IsReal a) : IsReal (sigmoid a) := by
  obtain ⟨s, rfl⟩ := h
  refine ⟨1 / (1 + Real.exp (-s)), ?_⟩
  rw [← div_real (by positivity), Mix.sigmoid]
  push_cast; rfl

theorem IsReal.mean (h : IsReal a) : IsReal (mean a) := by rw [mean_eq]; exact h.mul (.coe _)

theorem IsReal.nrmBack {r : EReal} {n d : Fin 1024 → EReal} (hr : IsReal r) (hn : ∀ j, IsReal (n j)) (hd : ∀ j, IsReal (d j)) (j : Fin 1024) :
    IsReal (nrmBack r n d j) :=
  hr.mul ((hd j).sub ((hn j).mul (IsReal.mean (IsReal.sum fun l => (hd l).mul (hn l)))))

/-- The reciprocal root of a row's mean square is real, whatever the row. -/
theorem rinv_fin (y : Fin 1024 → EReal) : IsReal (rinv y) := by
  unfold rinv
  rcases var_cases y with h | ⟨v, hv, h⟩
  · rw [h]; exact .zero
  · rw [h, rsqrt_pos hv]; exact .coe _

/-- So is the normalised row: an infinite entry makes the reciprocal root zero. -/
theorem nrm_fin (y : Fin 1024 → EReal) (j : Fin 1024) : IsReal (nrm y j) := by
  unfold nrm
  rcases var_cases y with h | ⟨v, hv, h⟩
  · rw [rinv, h, show Idealize.ShloMosaic.Ideal.rsqrt ⊤ = 0 from rfl, mul_zero]; exact .zero
  · refine IsReal.mul ?_ (rinv_fin y)
    have hle : y j * y j ≤ ∑ l, y l * y l := Finset.single_le_sum (f := fun l => y l * y l) (fun l _ => sq_nonneg_ereal (y l)) (Finset.mem_univ j)
    by_contra hn
    have ht : y j * y j = ⊤ := by
      generalize y j = e at hn
      induction e with
      | bot => rfl
      | top => rfl
      | coe s => exact absurd (IsReal.coe s) hn
    have hs : ∑ l, y l * y l = ⊤ := top_le_iff.mp (ht ▸ hle)
    rw [var, hs, mean_eq, EReal.top_mul_coe_of_pos (by norm_num), EReal.top_add_coe] at h
    exact EReal.coe_ne_top v h.symm

variable {w r x d} (hg : ∀ j, IsReal (w.g j)) (hw : ∀ k n, IsReal (w.glu k n)) (ho : ∀ l j, IsReal (w.out l j)) (hx : ∀ k, IsReal (x k))
  (hd : ∀ j, IsReal (d j))

include hg hw ho hx hd in
/-- The derivative at the gelu's value is real once the row's state space entries, the row `d` and the weights are. -/
theorem dgelu_fin (k : Fin 512) : IsReal (dgelu w r x d k) := by
  have hl : ∀ n, IsReal (lin w x n) := fun n => .sum fun k => (hx k).gelu.mul (hw k n)
  have hm : ∀ j, IsReal (dmix w r x d j) := IsReal.nrmBack (rinv_fin _) (nrm_fin _) fun j => (hd j).mul (hg j)
  have hj : ∀ l, IsReal (djoined w r x d l) := fun l => .sum fun j => (hm j).mul (ho l j)
  refine .sum fun n => IsReal.mul ?_ (hw k n)
  rcases exists_half n with ⟨k, rfl⟩ | ⟨k, rfl⟩
  · rw [dlin, pair_left]; exact (hj _).mul (hl _).sigmoid
  · rw [dlin, pair_right]; exact (((hj _).mul (hl _)).mul (hl _).sigmoid).mul (IsReal.one.sub (hl _).sigmoid)

/-- The derivative of the gelu as the chain rule writes it, each of its terms multiplied by `D` on its own. -/
theorem geluGrad_chain {D x : EReal} (hD : IsReal D) (hx : IsReal x) :
    D * (((1 / 2 : ℝ) : EReal) * (1 + th x))
      + (outer : EReal) * (((1 / 2 : ℝ) : EReal) * (x * D) * ((1 + th x) * (1 - th x)))
      + (cubic : EReal) * ((outer : EReal) * (((1 / 2 : ℝ) : EReal) * (x * D) * ((1 + th x) * (1 - th x)))) * (((3 : ℝ) : EReal) * (x * x))
      = D * geluGrad x := by
  unfold geluGrad
  obtain ⟨t, ht⟩ := hx.th
  rw [ht]
  obtain ⟨D, rfl⟩ := hD
  obtain ⟨x, rfl⟩ := hx
  rw [← EReal.coe_one]
  simp only [← EReal.coe_mul, ← EReal.coe_add, ← EReal.coe_sub]
  congr 1
  unfold cubic slope
  ring

/-- The kernel's order of the gelu's factors. -/
theorem gelu_half (x : EReal) : ((1 / 2 : ℝ) : EReal) * x * (1 + th x) = gelu x := by
  unfold gelu; rw [mul_comm _ x, mul_assoc]

end Cert.Mix

end
-- ==== Proof.MixRows.lean ====
module

public import proofs.«01_k».proof.Proof.MixMath
public import proofs.«01_k».proof.Proof.Gen.Kernel4Ideal.Skeleton
public import Idealize.ShloMosaic.Lib.Pipeline.ReadBack
public import Idealize.ShloMosaic.Lib.Pipeline.ValueKit

@[expose] public section

/-!
# An array written in two pieces of rows

The derivative of the output matrix is stored in two pieces, 512 rows at a time. The two stores leave, at every index,
the one array whose pieces they are.
-/

set_option maxRecDepth 16384

noncomputable section

open Idealize.ShloMosaic Idealize.ShloMosaic.TcCoe Idealize.SL.Sem

namespace Cert.Kernel4Ideal.Halves

open Cert.Kernel4Ideal Cert.Kernel4Ideal.Gen Cert.Mix

/-- The index that the upper piece gives its own index. -/
theorem emb_left (inb : ∀ a, (![0, 0] : Fin 2 → ℕ) a + S512x1024.size a ≤ S1024x1024.size a) (k : Fin 512) (j : Fin 1024) :
    (Rect.unit (s := S1024x1024) ![0, 0] S512x1024.size inb).emb (ix2 k j) = ix2 (left k) j := by
  funext a; apply Fin.ext
  rw [ValueKit.rect_emb_unit_val]
  match a with
  | ⟨0, _⟩ => exact Nat.zero_add _
  | ⟨1, _⟩ => exact Nat.zero_add _

/-- The index that the lower piece gives its own index. -/
theorem emb_right (inb : ∀ a, (![512, 0] : Fin 2 → ℕ) a + S512x1024.size a ≤ S1024x1024.size a) (k : Fin 512) (j : Fin 1024) :
    (Rect.unit (s := S1024x1024) ![512, 0] S512x1024.size inb).emb (ix2 k j) = ix2 (right k) j := by
  funext a; apply Fin.ext
  rw [ValueKit.rect_emb_unit_val]
  match a with
  | ⟨0, _⟩ => rfl
  | ⟨1, _⟩ => exact Nat.zero_add _

/-- A row of the upper half lies in the upper piece. -/
theorem mem_left (inb : ∀ a, (![0, 0] : Fin 2 → ℕ) a + S512x1024.size a ≤ S1024x1024.size a) (k : Fin 512) (j : Fin 1024) :
    ix2 (left k) j ∈ (Rect.unit (s := S1024x1024) ![0, 0] S512x1024.size inb).set := by
  rw [← emb_left inb k j]
  rw [← Rect.map_emb_univ]
  exact Finset.mem_map_of_mem _ (Finset.mem_univ _)

/-- A row of the lower half lies in the lower piece. -/
theorem mem_right (inb : ∀ a, (![512, 0] : Fin 2 → ℕ) a + S512x1024.size a ≤ S1024x1024.size a) (k : Fin 512) (j : Fin 1024) :
    ix2 (right k) j ∈ (Rect.unit (s := S1024x1024) ![512, 0] S512x1024.size inb).set := by
  rw [← emb_right inb k j]
  rw [← Rect.map_emb_univ]
  exact Finset.mem_map_of_mem _ (Finset.mem_univ _)

/-- Two pieces of rows of one array, over any earlier stores, leave that array. -/
theorem canon_halves (G : S1024x1024.Idx → EReal) (p0 p1 : FVec Ideal S512x1024 .f32) (i0 i1)
    (h0 : ∀ k j, p0 (ix2 k j) = G (ix2 (left k) j)) (h1 : ∀ k j, p1 (ix2 k j) = G (ix2 (right k) j))
    (L : List (View.Piece (Elt Ideal) S1024x1024 .f32)) (y : S1024x1024.Idx) :
    View.canon (⟨Rect.unit ![512, 0] ![512, 1024] i1, p1⟩ :: ⟨Rect.unit ![0, 0] ![512, 1024] i0, p0⟩ :: L
      : List (View.Piece (Elt Ideal) S1024x1024 .f32)) y = G y := by
  have e : ∀ x : S512x1024.Idx, x = ix2 (x 0) (x 1) := fun x => by
    funext a; match a with
    | ⟨0, _⟩ => rfl
    | ⟨1, _⟩ => rfl
  refine View.canon_append_of_piecesOf G L [⟨Rect.unit ![512, 0] ![512, 1024] i1, p1⟩, ⟨Rect.unit ![0, 0] ![512, 1024] i0, p0⟩] ?_ y ?_
  · refine ⟨fun x => ?_, fun x => ?_, trivial⟩
    · rw [e x]; exact (h1 _ _).trans (congrArg G (emb_right i1 _ _).symm)
    · rw [e x]; exact (h0 _ _).trans (congrArg G (emb_left i0 _ _).symm)
  · have hy : ∀ l, y 0 = l → y = ix2 l (y 1) := fun l hl => by
      funext a; match a with
      | ⟨0, _⟩ => exact hl
      | ⟨1, _⟩ => rfl
    rcases exists_half (y 0) with ⟨k, hk⟩ | ⟨k, hk⟩
    · rw [hy _ hk]; exact ⟨_, .tail _ (.head _), mem_left i0 k (y 1)⟩
    · rw [hy _ hk]; exact ⟨_, .head _, mem_right i1 k (y 1)⟩

/-- The upper piece, read. -/
theorem ld_left {e : EltTy} (v : S1024x1024.Idx → Elt Ideal e)
    (inb : ∀ a, (![0, 0] : Fin 2 → ℕ) a + S512x1024.size a ≤ S1024x1024.size a) (k : Fin 512) (j : Fin 1024) :
    View.ld v (Rect.unit (s := S1024x1024) ![0, 0] S512x1024.size inb) (ix2 k j) = v (ix2 (left k) j) :=
  congrArg v (emb_left inb k j)

/-- The lower piece, read. -/
theorem ld_right {e : EltTy} (v : S1024x1024.Idx → Elt Ideal e)
    (inb : ∀ a, (![512, 0] : Fin 2 → ℕ) a + S512x1024.size a ≤ S1024x1024.size a) (k : Fin 512) (j : Fin 1024) :
    View.ld v (Rect.unit (s := S1024x1024) ![512, 0] S512x1024.size inb) (ix2 k j) = v (ix2 (right k) j) :=
  congrArg v (emb_right inb k j)

end Cert.Kernel4Ideal.Halves

end
-- ==== Proof.MixPay.lean ====
module

public import proofs.«01_k».proof.Proof.MixMath
public import proofs.«01_k».proof.Proof.Gen.Kernel4Ideal.Skeleton

@[expose] public section

/-!
# What the kernel of the mixer's backward pass stores

Each value the kernel body computes from a block of rows, read at one row and one column, is the row formula of `MixMath`
at that row. The kernel recomputes the gelu and the gated linear unit; the row before the normalisation it reads.
-/

set_option maxRecDepth 16384

noncomputable section

open Idealize.ShloMosaic Idealize.ShloMosaic.TcCoe Idealize.SL.Sem

namespace Cert.Kernel4Ideal.Pay

open Cert.Kernel4Ideal Cert.Kernel4Ideal.Gen Cert.Lift Cert.Mix
open Cert.Mlp (nrm rinv nrmBack)

/-- The kernel's cubic coefficient. -/
theorem named_cubic : Named.named (F := Ideal) Cert.Kernel4Ideal.κ "gelu_cubic" (φ := .f32) 0x3D372713#32 = ((cubic : ℝ) : EReal) :=
  IdealRules.named_const.ideal_named_scalar _ _ _ _ rfl

/-- The kernel's tripled cubic coefficient. -/
theorem named_slope : Named.named (F := Ideal) Cert.Kernel4Ideal.κ "gelu_cubic_slope" (φ := .f32) 0x3E095D4F#32 = ((slope : ℝ) : EReal) :=
  IdealRules.named_const.ideal_named_scalar _ _ _ _ rfl

variable (w : Weights) (R X : Fin 512 → Fin 512 → EReal) (D : Fin 512 → Fin 1024 → EReal)
  {v3 : FVec Ideal S512x1024 .bf16} {v16 : FVec Ideal S1x1024 .f32} {v17 : FVec Ideal S512x1024 .f32}
  {v39 : FVec Ideal S1024x1024 .bf16} {v45 : FVec Ideal S512x512 .f32} {v61 : FVec Ideal S512x1024 .bf16} {v75 : FVec Ideal S512x512 .bf16}
  (h3 : ∀ i j, v3 (ix2 i j) = (mix w (R i) (X i) j : EReal)) (h16 : ∀ j, v16 (ix2 0 j) = (w.g j : EReal))
  (h17 : ∀ i j, v17 (ix2 i j) = (D i j : EReal)) (h39 : ∀ l j, v39 (ix2 l j) = (w.out l j : EReal))
  (h45 : ∀ i k, v45 (ix2 i k) = (X i k : EReal)) (h61 : ∀ k n, v61 (ix2 k n) = (w.glu k n : EReal))
  (h75 : ∀ i k, v75 (ix2 i k) = (R i k : EReal))

include h3 in
theorem rinv_eq (i : Fin 512) : k0_pay6 (F := Ideal) v3 (ix2 i 0) = (rinv (mix w (R i) (X i)) : EReal) := by
  pointwise [k0_pay6, k0_pay5]
  simp only [h3, bits_1024, bits_eps]
  rfl

include h3 in
theorem nrm_eq (i : Fin 512) (j : Fin 1024) : k0_pay7 (F := Ideal) v3 (ix2 i j) = (nrm (mix w (R i) (X i)) j : EReal) := by
  pointwise [k0_pay7, k0_pay5]
  simp only [h3, rinv_eq w R X h3]
  rfl

include h3 h17 in
/-- The running derivative of the gain. -/
theorem dgain_eq (acc : FVec Ideal S1x1024 .f32) (j : Fin 1024) :
    k0_pay9 (F := Ideal) v3 v17 acc (ix2 0 j) = acc (ix2 0 j) + ((∑ i, D i j * nrm (mix w (R i) (X i)) j : EReal)) := by
  pointwise [k0_pay9, k0_pay8]
  simp only [nrm_eq w R X h3, h17]

include h3 h16 h17 in
theorem dmix_eq (i : Fin 512) (j : Fin 1024) : k0_pay10 (F := Ideal) v3 v16 v17 (ix2 i j) = (dmix w (R i) (X i) (D i) j : EReal) := by
  pointwise [k0_pay10, k0_pay8]
  simp only [nrm_eq w R X h3, rinv_eq w R X h3, h16, h17, bits_1024]
  rfl

variable {v38 : FVec Ideal S512x1024 .bf16} (h38 : ∀ i j, v38 (ix2 i j) = (dmix w (R i) (X i) (D i) j : EReal))

include h38 h39 in
theorem djoined_eq (i : Fin 512) (l : Fin 1024) : k0_pay11 (F := Ideal) v38 v39 (ix2 i l) = (djoined w (R i) (X i) (D i) l : EReal) := by
  pointwise [k0_pay11]
  simp only [h38, h39]
  rfl

include h38 h39 in
theorem dr_eq (i k : Fin 512) : k0_pay12 (F := Ideal) v38 v39 (ix2 i k) = (dr w (R i) (X i) (D i) k : EReal) := by
  refine Eq.trans ?_ (djoined_eq w R X D h39 h38 i (left k))
  pointwise [k0_pay12]
  rfl

include h38 h39 in
theorem dunit_eq (i k : Fin 512) : k0_pay13 (F := Ideal) v38 v39 (ix2 i k) = (djoined w (R i) (X i) (D i) (right k) : EReal) := by
  refine Eq.trans ?_ (djoined_eq w R X D h39 h38 i (right k))
  pointwise [k0_pay13]
  rfl

include h45 in
theorem gelu_eq (i k : Fin 512) : k0_pay15 (F := Ideal) v45 (ix2 i k) = (gelu (X i k) : EReal) := by
  pointwise [k0_pay15, k0_pay14]
  simp only [h45, named_cubic, bits_outer, bits_half]
  exact gelu_half (X i k)

include h45 h61 in
theorem lin_eq (i : Fin 512) (n : Fin 1024) : k0_pay16 (F := Ideal) v45 v61 (ix2 i n) = (lin w (X i) n : EReal) := by
  pointwise [k0_pay16]
  simp only [gelu_eq X h45, h61]
  rfl

include h45 h61 in
theorem val_eq (i k : Fin 512) : k0_pay17 (F := Ideal) v45 v61 (ix2 i k) = (val w (X i) k : EReal) := by
  refine Eq.trans ?_ (lin_eq w X h45 h61 i (left k))
  pointwise [k0_pay17]
  rfl

include h45 h61 in
theorem gate_eq (i k : Fin 512) : k0_pay18 (F := Ideal) v45 v61 (ix2 i k) = (gate w (X i) k : EReal) := by
  have e := lin_eq w X h45 h61 i (right k)
  pointwise [k0_pay18]
  rw [gate, ← e, sigmoid, ← zero_sub]
  rfl

include h75 h38 in
/-- The running derivative of the output matrix, upper half. -/
theorem dout0_eq (acc : FVec Ideal S512x1024 .f32) (k : Fin 512) (j : Fin 1024) :
    k0_pay21 (F := Ideal) v38 (k0_pay19 acc) (k0_pay20 v75) (ix2 k j)
      = acc (ix2 k j) + ((∑ i, joined w (R i) (X i) (left k) * dmix w (R i) (X i) (D i) j : EReal)) := by
  pointwise [k0_pay21, k0_pay19, k0_pay20]
  simp only [h75, h38, joined, pair_left]

include h45 h61 h38 in
/-- Lower half. -/
theorem dout1_eq (acc : FVec Ideal S512x1024 .f32) (k : Fin 512) (j : Fin 1024) :
    k0_pay22 (F := Ideal) v38 (k0_pay17 v45 v61) (k0_pay18 v45 v61) acc (ix2 k j)
      = acc (ix2 k j) + ((∑ i, joined w (R i) (X i) (right k) * dmix w (R i) (X i) (D i) j : EReal)) := by
  pointwise [k0_pay22]
  simp only [val_eq w X h45 h61, gate_eq w X h45 h61, h38, joined, pair_right]

variable {v44 v64 v72 : FVec Ideal S512x512 .f32} (h44 : ∀ i k, v44 (ix2 i k) = (djoined w (R i) (X i) (D i) (right k) : EReal))
  (h64 : ∀ i k, v64 (ix2 i k) = (val w (X i) k : EReal)) (h72 : ∀ i k, v72 (ix2 i k) = (gate w (X i) k : EReal))

include h44 h64 h72 in
theorem dlin_eq (i : Fin 512) (n : Fin 1024) : k0_pay23 (F := Ideal) v44 v64 v72 (ix2 i n) = (dlin w (R i) (X i) (D i) n : EReal) := by
  pointwise [k0_pay23]
  simp only [h44, h64, h72]
  rfl

include h45 h44 h64 h72 in
/-- The running derivative of the unit's matrix. -/
theorem dglu_eq (acc : FVec Ideal S512x1024 .f32) (k : Fin 512) (n : Fin 1024) :
    k0_pay24 (F := Ideal) v44 (k0_pay15 v45) v64 v72 acc (ix2 k n)
      = acc (ix2 k n) + ((∑ i, gelu (X i k) * dlin w (R i) (X i) (D i) n : EReal)) := by
  pointwise [k0_pay24]
  simp only [gelu_eq X h45, dlin_eq w R X D h44 h64 h72]

include h61 h44 h64 h72 in
theorem dgelu_eq (i k : Fin 512) : k0_pay25 (F := Ideal) v44 v64 v72 v61 (ix2 i k) = (dgelu w (R i) (X i) (D i) k : EReal) := by
  pointwise [k0_pay25]
  simp only [h61, dlin_eq w R X D h44 h64 h72]
  rfl

include h45 in
theorem th_eq (i k : Fin 512) : k0_pay26 (F := Ideal) (k0_pay14 v45) (ix2 i k) = (th (X i k) : EReal) := by
  pointwise [k0_pay26, k0_pay14]
  simp only [h45, named_cubic, bits_outer]
  rfl

include h45 h61 h44 h64 h72 in
theorem dx_eq (i k : Fin 512) :
    k0_pay1 (F := Ideal) (k0_pay14 v45) (k0_pay25 v44 v64 v72 v61) (k0_pay26 (k0_pay14 v45)) (k0_pay27 (k0_pay14 v45))
      (Scalar.ofBits .f32 0x3F000000#32) (ix2 i k) = (dx w (R i) (X i) (D i) k : EReal) := by
  pointwise [k0_pay1, k0_pay27]
  simp only [dgelu_eq w R X D h61 h44 h64 h72, th_eq X h45]
  pointwise [k0_pay14]
  simp only [h45, named_slope, bits_outer, bits_half]
  rfl

end Cert.Kernel4Ideal.Pay

end
-- ==== Proof.MixBwd.lean ====
module

public import proofs.«01_k».proof.Proof.MixRows
public import proofs.«01_k».proof.Proof.MixPay
public import proofs.«01_k».proof.Proof.MlpFwd
public import proofs.«01_k».proof.Proof.Gen.Kernel4Ideal.Value

@[expose] public section

/-!
# What the kernel of the mixer's backward pass leaves in its arrays

Its grid walks the 8192 rows in blocks of 512. The derivatives at the two inputs are written block by block; those of the
two matrices and of the gain are sums over the rows, written back at the last point.
-/

set_option maxRecDepth 16384

noncomputable section

open Idealize.ShloMosaic Idealize.ShloMosaic.TcCoe Idealize.SL.Sem
open Idealize.ShloMosaic.Pipeline (Dat Cfg Window)

namespace Cert.Kernel4Ideal.Bwd

open Cert.Kernel4Ideal Cert.Kernel4Ideal.Gen Cert.Lift Cert.Mix
open Cert.Mlp (nrm)
open Cert.Kernel2Ideal.Fwd (at_coords)

variable (m : (ℓ : Loc nD τ sig) → Buf (Elt Ideal) ℓ) (c : Dev nD)
  (w : Weights) (R X : Fin 8192 → Fin 512 → EReal) (D : Fin 8192 → Fin 1024 → EReal)

/-- The arrays the kernel reads hold these extended reals. -/
structure Inputs : Prop where
  d : ∀ i j, (V m c main_v38 : FVec Ideal S8192x1024 .f32) (ix2 i j) = (D i j : EReal)
  mix : ∀ i j, (V m c main_v39 : FVec Ideal S8192x1024 .bf16) (ix2 i j) = (mix w (R i) (X i) j : EReal)
  g : ∀ j, (V m c main_arg2 : FVec Ideal S1x1024 .f32) (ix2 0 j) = (w.g j : EReal)
  x : ∀ i k, (V m c main_v2 : FVec Ideal S8192x512 .f32) (ix2 i k) = (X i k : EReal)
  r : ∀ i k, (V m c main_v1 : FVec Ideal S8192x512 .bf16) (ix2 i k) = (R i k : EReal)
  glu : ∀ k n, (V m c main_v4 : FVec Ideal S512x1024 .bf16) (ix2 k n) = (w.glu k n : EReal)
  out : ∀ l j, (V m c main_v6 : FVec Ideal S1024x1024 .bf16) (ix2 l j) = (w.out l j : EReal)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0]
    ∧ win0_11.index t = ![0, 0] :=
  (by decide +kernel : ∀ t : Fin grid0.N, _)

theorem val_lt (t : Fin cfg0.N) : t.val < 16 := lt_of_lt_of_eq t.isLt N_0

/-- Row `i` of the block of point `t`. -/
def row (t : Fin cfg0.N) (i : Fin 512) : Fin 8192 := ⟨t.val * 512 + i.val, by have := val_lt t; omega⟩

/-- The blocks' rows are all the rows. -/
theorem sum_rows (f : Fin 8192 → EReal) (q : Fin 16 → Fin cfg0.N) (hq : ∀ s, (q s).val = s.val) :
    ∑ s : Fin 16, ∑ i : Fin 512, f (row (q s) i) = ∑ i, f i :=
  Fin.sum_mul_add_congr fun s k hl => congrArg f (Fin.ext (by simp only [row, hq]))

theorem pay2_zero (y) : k0_pay2 (F := Ideal) y = 0 := by
  pointwise [k0_pay2]

theorem pay3_zero (y) : k0_pay3 (F := Ideal) y = 0 := by
  pointwise [k0_pay3]

theorem pay4_zero (y) : k0_pay4 (F := Ideal) y = 0 := by
  pointwise [k0_pay4]

/-- A piece of rows, read after the array is filled with zeros. -/
theorem fill_zero {sp : Space} (v : View sig .tc sp S1024x1024 .f32) (o : ℕ)
    (inb : ∀ a, (![o, 0] : Fin 2 → ℕ) a + S512x1024.size a ≤ S1024x1024.size a)
    (inb' : ∀ a, (![0, 0] : Fin 2 → ℕ) a + S1024x1024.size a ≤ S1024x1024.size a) (k : Fin 512) (j : Fin 1024) :
    v.readCov (Val := Elt Ideal) [⟨Rect.unit ![0, 0] S1024x1024.size inb', k0_pay2 (F := Ideal)⟩]
      (Rect.unit (s := S1024x1024) ![o, 0] S512x1024.size inb).toLoadRect (ix2 k j) = (0 : EReal) := by
  rw [View.readCov_fill v inb' _ _ _ (by decide)]
  exact pay2_zero _

variable {m c w R X D} (h : Inputs m c w R X D)
include h

theorem d_blk (t : Fin cfg0.N) (i : Fin 512) (j : Fin 1024) :
    (iblk m c 0 t : FVec Ideal S512x1024 .f32) (ix2 i j) = (D (row t i) j : EReal) := by
  rw [← h.d]; blk_point [iblk, idx t, row]

theorem mix_blk (t : Fin cfg0.N) (i : Fin 512) (j : Fin 1024) :
    (iblk m c 1 t : FVec Ideal S512x1024 .bf16) (ix2 i j) = (mix w (R (row t i)) (X (row t i)) j : EReal) := by
  rw [← h.mix]; blk_point [iblk, idx t, row]

theorem g_blk (t : Fin cfg0.N) (j : Fin 1024) : (iblk m c 2 t : FVec Ideal S1x1024 .f32) (ix2 0 j) = (w.g j : EReal) := by
  rw [← h.g]; blk_point [iblk, idx t]

theorem x_blk (t : Fin cfg0.N) (i k : Fin 512) : (iblk m c 3 t : FVec Ideal S512x512 .f32) (ix2 i k) = (X (row t i) k : EReal) := by
  rw [← h.x]; blk_point [iblk, idx t, row]

theorem r_blk (t : Fin cfg0.N) (i k : Fin 512) : (iblk m c 4 t : FVec Ideal S512x512 .bf16) (ix2 i k) = (R (row t i) k : EReal) := by
  rw [← h.r]; blk_point [iblk, idx t, row]

theorem glu_blk (t : Fin cfg0.N) (k : Fin 512) (n : Fin 1024) :
    (iblk m c 5 t : FVec Ideal S512x1024 .bf16) (ix2 k n) = (w.glu k n : EReal) := by
  rw [← h.glu]; blk_point [iblk, idx t]

theorem out_blk (t : Fin cfg0.N) (l j : Fin 1024) :
    (iblk m c 6 t : FVec Ideal S1024x1024 .bf16) (ix2 l j) = (w.out l j : EReal) := by
  rw [← h.out]; blk_point [iblk, idx t]

/-! ## A point's values -/

theorem dmix_at (t : Fin cfg0.N) (i : Fin 512) (j : Fin 1024) :
    k0_pay10 (F := Ideal) (iblk m c 1 t) (iblk m c 2 t) (iblk m c 0 t) (ix2 i j)
      = (dmix w (R (row t i)) (X (row t i)) (D (row t i)) j : EReal) :=
  Pay.dmix_eq w (fun i => R (row t i)) (fun i => X (row t i)) (fun i => D (row t i)) (mix_blk h t) (g_blk h t) (d_blk h t) i j

theorem dr_at (t : Fin cfg0.N) (i k : Fin 512) :
    k0_pay12 (F := Ideal) (k0_pay10 (iblk m c 1 t) (iblk m c 2 t) (iblk m c 0 t)) (iblk m c 6 t) (ix2 i k)
      = (dr w (R (row t i)) (X (row t i)) (D (row t i)) k : EReal) :=
  Pay.dr_eq w (fun i => R (row t i)) (fun i => X (row t i)) (fun i => D (row t i)) (out_blk h t) (dmix_at h t) i k

theorem dunit_at (t : Fin cfg0.N) (i k : Fin 512) :
    k0_pay13 (F := Ideal) (k0_pay10 (iblk m c 1 t) (iblk m c 2 t) (iblk m c 0 t)) (iblk m c 6 t) (ix2 i k)
      = (djoined w (R (row t i)) (X (row t i)) (D (row t i)) (right k) : EReal) :=
  Pay.dunit_eq w (fun i => R (row t i)) (fun i => X (row t i)) (fun i => D (row t i)) (out_blk h t) (dmix_at h t) i k

theorem val_at (t : Fin cfg0.N) (i k : Fin 512) :
    k0_pay17 (F := Ideal) (iblk m c 3 t) (iblk m c 5 t) (ix2 i k) = (val w (X (row t i)) k : EReal) :=
  Pay.val_eq w (fun i => X (row t i)) (x_blk h t) (glu_blk h t) i k

theorem gate_at (t : Fin cfg0.N) (i k : Fin 512) :
    k0_pay18 (F := Ideal) (iblk m c 3 t) (iblk m c 5 t) (ix2 i k) = (gate w (X (row t i)) k : EReal) :=
  Pay.gate_eq w (fun i => X (row t i)) (x_blk h t) (glu_blk h t) i k

theorem dx_at (t : Fin cfg0.N) (i k : Fin 512) :
    k0_pay1 (F := Ideal) (k0_pay14 (iblk m c 3 t))
      (k0_pay25 (k0_pay13 (k0_pay10 (iblk m c 1 t) (iblk m c 2 t) (iblk m c 0 t)) (iblk m c 6 t))
        (k0_pay17 (iblk m c 3 t) (iblk m c 5 t)) (k0_pay18 (iblk m c 3 t) (iblk m c 5 t)) (iblk m c 5 t))
      (k0_pay26 (k0_pay14 (iblk m c 3 t))) (k0_pay27 (k0_pay14 (iblk m c 3 t))) (Scalar.ofBits .f32 0x3F000000#32) (ix2 i k)
      = (dx w (R (row t i)) (X (row t i)) (D (row t i)) k : EReal) :=
  Pay.dx_eq w (fun i => R (row t i)) (fun i => X (row t i)) (fun i => D (row t i)) (x_blk h t) (glu_blk h t)
    (dunit_at h t) (val_at h t) (gate_at h t) i k

/-- What a point adds to the derivative of the unit's matrix. -/
theorem dglu_at (t : Fin cfg0.N) (acc : FVec Ideal S512x1024 .f32) (k : Fin 512) (n : Fin 1024) :
    k0_pay24 (F := Ideal) (k0_pay13 (k0_pay10 (iblk m c 1 t) (iblk m c 2 t) (iblk m c 0 t)) (iblk m c 6 t)) (k0_pay15 (iblk m c 3 t))
      (k0_pay17 (iblk m c 3 t) (iblk m c 5 t)) (k0_pay18 (iblk m c 3 t) (iblk m c 5 t)) acc (ix2 k n)
      = acc (ix2 k n) + ((∑ i, gelu (X (row t i) k) * dlin w (R (row t i)) (X (row t i)) (D (row t i)) n : EReal)) :=
  Pay.dglu_eq w (fun i => R (row t i)) (fun i => X (row t i)) (fun i => D (row t i)) (x_blk h t)
    (dunit_at h t) (val_at h t) (gate_at h t) acc k n

/-- What a point adds to the derivative of the gain. -/
theorem dgain_at (t : Fin cfg0.N) (acc : FVec Ideal S1x1024 .f32) (j : Fin 1024) :
    k0_pay9 (F := Ideal) (iblk m c 1 t) (iblk m c 0 t) acc (ix2 0 j)
      = acc (ix2 0 j) + ((∑ i, D (row t i) j * nrm (mix w (R (row t i)) (X (row t i))) j : EReal)) :=
  Pay.dgain_eq w (fun i => R (row t i)) (fun i => X (row t i)) (fun i => D (row t i)) (mix_blk h t) (d_blk h t) acc j

/-- What a point adds to the derivative of the output matrix, upper half. -/
theorem dout0_at (t : Fin cfg0.N) (acc : FVec Ideal S512x1024 .f32) (k : Fin 512) (j : Fin 1024) :
    k0_pay21 (F := Ideal) (k0_pay10 (iblk m c 1 t) (iblk m c 2 t) (iblk m c 0 t)) (k0_pay19 acc) (k0_pay20 (iblk m c 4 t)) (ix2 k j)
      = acc (ix2 k j) + ((∑ i, joined w (R (row t i)) (X (row t i)) (left k) * dmix w (R (row t i)) (X (row t i)) (D (row t i)) j : EReal)) :=
  Pay.dout0_eq w (fun i => R (row t i)) (fun i => X (row t i)) (fun i => D (row t i)) (r_blk h t) (dmix_at h t) acc k j

/-- Lower half. -/
theorem dout1_at (t : Fin cfg0.N) (acc : FVec Ideal S512x1024 .f32) (k : Fin 512) (j : Fin 1024) :
    k0_pay22 (F := Ideal) (k0_pay10 (iblk m c 1 t) (iblk m c 2 t) (iblk m c 0 t)) (k0_pay17 (iblk m c 3 t) (iblk m c 5 t))
      (k0_pay18 (iblk m c 3 t) (iblk m c 5 t)) acc (ix2 k j)
      = acc (ix2 k j) + ((∑ i, joined w (R (row t i)) (X (row t i)) (right k) * dmix w (R (row t i)) (X (row t i)) (D (row t i)) j : EReal)) :=
  Pay.dout1_eq w (fun i => R (row t i)) (fun i => X (row t i)) (fun i => D (row t i)) (x_blk h t) (glu_blk h t) (dmix_at h t) acc k j

/-! ## The arrays at the end -/

/-- The derivative at the retention's entries, row by row. -/
theorem dr_final : (dats m 0 c).arrAt 7 cfg0.N = fun y => ((dr w (R (y 0)) (X (y 0)) (D (y 0)) (y 1) : EReal)) := by
  refine (dats m 0 c).arrAt_eq_of_covers 7 _ (by decide +kernel) fun t hf y => ?_
  blk_simp
  rw [after0_7]
  idx_vars y
  by_cases h0 : t.val % 16 = 0
  · rw [outsAt0_A m c t h0]
    frame_out
    refine (dr_at h t y0 y1).trans ?_
    exact at_coords (fun r k => ((dr w (R r) (X r) (D r) k : EReal))) (by blk_simp [idx t, row]) (by blk_simp [idx t])
  · rw [outsAt0_B m c t h0]
    frame_out
    refine (dr_at h t y0 y1).trans ?_
    exact at_coords (fun r k => ((dr w (R r) (X r) (D r) k : EReal))) (by blk_simp [idx t, row]) (by blk_simp [idx t])

/-- The derivative at the state space's entries, row by row. -/
theorem dx_final : (dats m 0 c).arrAt 8 cfg0.N = fun y => ((dx w (R (y 0)) (X (y 0)) (D (y 0)) (y 1) : EReal)) := by
  refine (dats m 0 c).arrAt_eq_of_covers 8 _ (by decide +kernel) fun t hf y => ?_
  blk_simp
  rw [after0_8]
  idx_vars y
  by_cases h0 : t.val % 16 = 0
  · rw [outsAt0_A m c t h0]
    frame_out
    refine (dx_at h t y0 y1).trans ?_
    exact at_coords (fun r k => ((dx w (R r) (X r) (D r) k : EReal))) (by blk_simp [idx t, row]) (by blk_simp [idx t])
  · rw [outsAt0_B m c t h0]
    frame_out
    refine (dx_at h t y0 y1).trans ?_
    exact at_coords (fun r k => ((dx w (R r) (X r) (D r) k : EReal))) (by blk_simp [idx t, row]) (by blk_simp [idx t])

/-- The derivative of the gain: a sum over all rows. -/
theorem dgain_final : (dats m 0 c).arrAt 11 cfg0.N = fun y => ((dgain w R X D (y 1) : EReal)) := by
  refine (dats m 0 c).arrAt_eq_of_covers 11 _ (by decide +kernel) fun t hf y => ?_
  blk_simp
  rw [after0_11, Pipeline.eq_sum_fin_of_reset_step_apply_of_flush (fun n h => (outsAt0 m c n h).2.2.2.2) 16 (fun _ => 0)
    (fun t y => ((∑ i, D (row t i) (y 1) * nrm (mix w (R (row t i)) (X (row t i))) (y 1) : EReal)))
    (fun t h0 y => by
      rw [outsAt0_A m c t h0]; frame_out; idx_vars y; obtain rfl : y0 = 0 := Subsingleton.elim _ _
      exact (dgain_at h t _ y1).trans (congrArg (· + _) (pay4_zero _)))
    (fun t h0 y => by
      rw [outsAt0_B m c t h0]; frame_out; idx_vars y; obtain rfl : y0 = 0 := Subsingleton.elim _ _
      exact dgain_at h t _ y1)
    t ((flush0_11 t).mp hf) _, zero_add]
  show (_ : EReal) = _
  refine ((sum_rows (fun i => D i (y 1) * nrm (mix w (R i) (X i)) (y 1)) _ fun s => ?_).trans ?_)
  · have := val_lt t; dsimp only; omega
  · exact at_coords (a := (0 : Fin 1)) (a' := 0) (fun _ j => ∑ i, D i j * nrm (mix w (R i) (X i)) j) rfl (by blk_simp [idx t])

/-- The derivative of the unit's matrix: a sum over all rows. -/
theorem dglu_final : (dats m 0 c).arrAt 10 cfg0.N = fun y => ((dglu w R X D (y 0) (y 1) : EReal)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 16 (fun _ => 0)
    (fun t y => ((∑ i, gelu (X (row t i) (y 0)) * dlin w (R (row t i)) (X (row t i)) (D (row t i)) (y 1) : EReal)))
    (fun t h0 y => by
      rw [outsAt0_A m c t h0]; frame_out; idx_vars y
      exact (dglu_at h t _ y0 y1).trans (congrArg (· + _) (pay3_zero _)))
    (fun t h0 y => by
      rw [outsAt0_B m c t h0]; frame_out; idx_vars y
      exact dglu_at h t _ y0 y1)
    t ((flush0_10 t).mp hf) _, zero_add]
  show (_ : EReal) = _
  refine ((sum_rows (fun i => gelu (X i (y 0)) * dlin w (R i) (X i) (D i) (y 1)) _ fun s => ?_).trans ?_)
  · have := val_lt t; dsimp only; omega
  · exact at_coords (fun k n => ∑ i, gelu (X i k) * dlin w (R i) (X i) (D i) n) (by blk_simp [idx t]) (by blk_simp [idx t])

/-- The first point starts the derivative of the output matrix from zero. -/
theorem dout_first (t : Fin cfg0.N) (h0 : t.val % 16 = 0) (y : S1024x1024.Idx) :
    (outsAt0 m c t.val t.isLt).2.2.1 y
      = 0 + ((∑ i, joined w (R (row t i)) (X (row t i)) (y 0) * dmix w (R (row t i)) (X (row t i)) (D (row t i)) (y 1) : EReal)) := by
  rw [outsAt0_A m c t h0]; frame_out
  simp (discharger := decide) only [↓View.readCov_skip]
  refine Halves.canon_halves (fun z => 0 + ((∑ i, joined w (R (row t i)) (X (row t i)) (z 0) * dmix w (R (row t i)) (X (row t i)) (D (row t i)) (z 1) : EReal)))
    _ _ _ _ (fun k j => ?_) (fun k j => ?_) _ y
  · rw [dout0_at h t]
    exact congrArg (· + _) (fill_zero _ 0 _ _ k j)
  · rw [dout1_at h t]
    exact congrArg (· + _) (fill_zero _ 512 _ _ k j)

/-- Every later point adds its rows' products. -/
theorem dout_next (t : Fin cfg0.N) (h0 : ¬t.val % 16 = 0) (y : S1024x1024.Idx) :
    (outsAt0 m c t.val t.isLt).2.2.1 y = (outsAt0 m c (t.val - 1) (lt_of_le_of_lt (Nat.sub_le _ _) t.isLt)).2.2.1 y
      + ((∑ i, joined w (R (row t i)) (X (row t i)) (y 0) * dmix w (R (row t i)) (X (row t i)) (D (row t i)) (y 1) : EReal)) := by
  rw [outsAt0_B m c t h0]; frame_out
  refine Halves.canon_halves (fun z => (outsAt0 m c (t.val - 1) _).2.2.1 z
      + ((∑ i, joined w (R (row t i)) (X (row t i)) (z 0) * dmix w (R (row t i)) (X (row t i)) (D (row t i)) (z 1) : EReal)))
    _ _ _ _ (fun k j => ?_) (fun k j => ?_) [] y
  · rw [dout0_at h t]
    exact congrArg (· + _) (Halves.ld_left _ _ k j)
  · rw [dout1_at h t]
    exact congrArg (· + _) (Halves.ld_right _ _ k j)

/-- The derivative of the output matrix: a sum over all rows. -/
theorem dout_final : (dats m 0 c).arrAt 9 cfg0.N = fun y => ((dout w R X D (y 0) (y 1) : EReal)) := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => 0)
    (fun t y => ((∑ i, joined w (R (row t i)) (X (row t i)) (y 0) * dmix w (R (row t i)) (X (row t i)) (D (row t i)) (y 1) : EReal)))
    (dout_first h) (dout_next h)
    t ((flush0_9 t).mp hf) _, zero_add]
  show (_ : EReal) = _
  refine ((sum_rows (fun i => joined w (R i) (X i) (y 0) * dmix w (R i) (X i) (D i) (y 1)) _ fun s => ?_).trans ?_)
  · have := val_lt t; dsimp only; omega
  · exact at_coords (fun l j => ∑ i, joined w (R i) (X i) l * dmix w (R i) (X i) (D i) j) (by blk_simp [idx t]) (by blk_simp [idx t])

end Cert.Kernel4Ideal.Bwd

end
-- ==== Proof.MixHost.lean ====
module

public import proofs.«01_k».proof.Proof.MixBwd

@[expose] public section

/-!
# What the mixer's backward kernel reads

The arguments without their outer axis, and the row before the normalisation, which is computed from them before the
kernel runs.
-/

set_option maxRecDepth 16384

noncomputable section

open Idealize.ShloMosaic Idealize.ShloMosaic.TcCoe Idealize.ShloMosaic.Tactic Idealize.SL.Sem

namespace Cert.Kernel4Ideal.Final

open Cert.Kernel4Ideal Cert.Kernel4Ideal.Gen Cert.Lift Cert.Mlp Cert.Mix

variable (m : (ℓ : Loc nD τ sig) → Buf (Elt Ideal) ℓ) (c : Dev nD)

/-- The retention's entries, as launched. -/
def R (i : Fin 8192) (k : Fin 512) : EReal := (show FVec Ideal S1x8192x512 .f32 from m ((c : Thread nD τ).loc main_arg0)) (ix3 0 i k)
/-- The state space's. -/
def X (i : Fin 8192) (k : Fin 512) : EReal := (show FVec Ideal S1x8192x512 .f32 from m ((c : Thread nD τ).loc main_arg1)) (ix3 0 i k)
/-- The gain and the two matrices. -/
def W : Mix.Weights where
  g j := (show FVec Ideal S1x1024 .f32 from m ((c : Thread nD τ).loc main_arg2)) (ix2 0 j)
  glu k n := (show FVec Ideal S1x512x1024 .f32 from m ((c : Thread nD τ).loc main_arg3)) (ix3 0 k n)
  out l j := (show FVec Ideal S1x1024x1024 .f32 from m ((c : Thread nD τ).loc main_arg4)) (ix3 0 l j)
/-- The derivative that enters. -/
def D (i : Fin 8192) (j : Fin 1024) : EReal := (show FVec Ideal S1x8192x1024 .f32 from m ((c : Thread nD τ).loc main_arg5)) (ix3 0 i j)

theorem v1_val : V m c main_v1
    = truncf .bf16 (shapeCast S8192x512 (show FVec Ideal S1x8192x512 .f32 from m ((c : Thread nD τ).loc main_arg0)) shapeCasts_S1x8192x512_S8192x512) bitsLt_bf16_f32 := by
  unfold_abbrev_sides; after_results; try rfl

theorem v2_val : V m c main_v2
    = shapeCast _ (show FVec Ideal S1x8192x512 .f32 from m ((c : Thread nD τ).loc main_arg1)) shapeCasts_S1x8192x512_S8192x512 := by
  unfold_abbrev_sides; after_results; try rfl

theorem v4_val : V m c main_v4
    = truncf .bf16 (shapeCast S512x1024 (show FVec Ideal S1x512x1024 .f32 from m ((c : Thread nD τ).loc main_arg3)) shapeCasts_S1x512x1024_S512x1024) bitsLt_bf16_f32 := by
  unfold_abbrev_sides; after_results; try rfl

theorem v6_val : V m c main_v6
    = truncf .bf16 (shapeCast S1024x1024 (show FVec Ideal S1x1024x1024 .f32 from m ((c : Thread nD τ).loc main_arg4)) shapeCasts_S1x1024x1024_S1024x1024) bitsLt_bf16_f32 := by
  unfold_abbrev_sides; after_results; try rfl

theorem v38_val : V m c main_v38
    = shapeCast _ (show FVec Ideal S1x8192x1024 .f32 from m ((c : Thread nD τ).loc main_arg5)) shapeCasts_S1x8192x1024_S8192x1024 := by
  unfold_abbrev_sides; after_results; try rfl

theorem v17_val : @Eq (FVec Ideal S8192x512 .f32) (V m c main_v17)
    (Host.tanh (mulf (broadcastInDim S8192x512 ![] bcast_S_S8192x512 (constant S_ .f32 0x3F4C422A#32))
      (addf (V m c main_v2) (mulf (broadcastInDim S8192x512 ![] bcast_S_S8192x512 (Host.divf (constant S_ .f32 0x460BBC00#32) (constant S_ .f32 0x48435000#32)))
        (mulf (mulf (V m c main_v2) (V m c main_v2)) (V m c main_v2)))))) := by
  unfold_abbrev_sides; after_results; try rfl

theorem v21_val : @Eq (FVec Ideal S8192x512 .bf16) (V m c main_v21)
    (truncf .bf16 (mulf (mulf (broadcastInDim S8192x512 ![] bcast_S_S8192x512 (constant S_ .f32 0x3F000000#32)) (V m c main_v2))
      (addf (broadcastInDim S8192x512 ![] bcast_S_S8192x512 (constant S_ .f32 0x3F800000#32)) (V m c main_v17))) bitsLt_bf16_f32) := by
  unfold_abbrev_sides; after_results; try rfl

theorem v22_val : @Eq (FVec Ideal S8192x1024 .f32) (V m c main_v22)
    (Host.dotGeneral (φ₁ := .bf16) (φ₂ := .bf16) dot_S8192x512_S512x1024_S8192x1024_1_0_0_1_n_n none (V m c main_v21) (V m c main_v4)) := by
  unfold_abbrev_sides; after_results; try rfl

theorem v32_val : @Eq (FVec Ideal S8192x512 .bf16) (V m c main_v32)
    (truncf .bf16 (mulf (extractStridedSlice S8192x512 ![0, 0] (V m c main_v22) slices_S8192x1024_S8192x512_0_0)
      (Host.divf (broadcastInDim S8192x512 ![] bcast_S_S8192x512 (constant S_ .f32 0x3F800000#32))
        (addf (broadcastInDim S8192x512 ![] bcast_S_S8192x512 (constant S_ .f32 0x3F800000#32))
          (Host.exp (Host.negf (extractStridedSlice S8192x512 ![0, 512] (V m c main_v22) slices_S8192x1024_S8192x512_0_512)))))) bitsLt_bf16_f32) := by
  unfold_abbrev_sides; after_results; try rfl

theorem v39_val : @Eq (FVec Ideal S8192x1024 .bf16) (V m c main_v39)
    (truncf .bf16 (addf
      (Host.dotGeneral (φ₁ := .bf16) (φ₂ := .bf16) dot_S8192x512_S512x1024_S8192x1024_1_0_0_1_n_n none (V m c main_v1)
        (extractStridedSlice S512x1024 ![0, 0] (V m c main_v6) slices_S1024x1024_S512x1024_0_0))
      (Host.dotGeneral (φ₁ := .bf16) (φ₂ := .bf16) dot_S8192x512_S512x1024_S8192x1024_1_0_0_1_n_n none (V m c main_v32)
        (extractStridedSlice S512x1024 ![512, 0] (V m c main_v6) slices_S1024x1024_S512x1024_512_0))) bitsLt_bf16_f32) := by
  unfold_abbrev_sides; after_results; try rfl

theorem r_eq (i : Fin 8192) (k : Fin 512) : (V m c main_v1 : FVec Ideal S8192x512 .bf16) (ix2 i k) = (R m c i k : EReal) := by
  rw [v1_val]; pointwise; exact congrArg _ (by blk_ext)

theorem x_eq (i : Fin 8192) (k : Fin 512) : (V m c main_v2 : FVec Ideal S8192x512 .f32) (ix2 i k) = (X m c i k : EReal) := by
  rw [v2_val]; pointwise; exact congrArg _ (by blk_ext)

theorem glu_eq (k : Fin 512) (n : Fin 1024) : (V m c main_v4 : FVec Ideal S512x1024 .bf16) (ix2 k n) = ((W m c).glu k n : EReal) := by
  rw [v4_val]; pointwise; exact congrArg _ (by blk_ext)

theorem out_eq (l j : Fin 1024) : (V m c main_v6 : FVec Ideal S1024x1024 .bf16) (ix2 l j) = ((W m c).out l j : EReal) := by
  rw [v6_val]; pointwise; exact congrArg _ (by blk_ext)

/-! ## The steps before the kernel, on any arrays -/

theorem host_th (x : FVec Ideal S8192x512 .f32) (i : Fin 8192) (k : Fin 512) :
    (Host.tanh (mulf (broadcastInDim S8192x512 ![] bcast_S_S8192x512 (constant S_ .f32 0x3F4C422A#32))
      (addf x (mulf (broadcastInDim S8192x512 ![] bcast_S_S8192x512 (Host.divf (constant S_ .f32 0x460BBC00#32) (constant S_ .f32 0x48435000#32)))
        (mulf (mulf x x) x)))) : FVec Ideal S8192x512 .f32) (ix2 i k) = (th (x (ix2 i k)) : EReal) := by
  pointwise
  rw [bits_outer, quotient]
  rfl

theorem host_gelu (x t : FVec Ideal S8192x512 .f32) (i : Fin 8192) (k : Fin 512) :
    (truncf .bf16 (mulf (mulf (broadcastInDim S8192x512 ![] bcast_S_S8192x512 (constant S_ .f32 0x3F000000#32)) x)
      (addf (broadcastInDim S8192x512 ![] bcast_S_S8192x512 (constant S_ .f32 0x3F800000#32)) t)) bitsLt_bf16_f32 : FVec Ideal S8192x512 .bf16) (ix2 i k)
      = (((1 / 2 : ℝ) : EReal) * x (ix2 i k) * (1 + t (ix2 i k)) : EReal) := by
  pointwise
  rw [bits_half]

theorem host_dot (x : FVec Ideal S8192x512 .bf16) (y : FVec Ideal S512x1024 .bf16) (i : Fin 8192) (j : Fin 1024) :
    (Host.dotGeneral (φ₁ := .bf16) (φ₂ := .bf16) dot_S8192x512_S512x1024_S8192x1024_1_0_0_1_n_n none x y : FVec Ideal S8192x1024 .f32) (ix2 i j)
      = (∑ k, x (ix2 i k) * y (ix2 k j) : EReal) := by
  pointwise

theorem host_left (z : FVec Ideal S8192x1024 .f32) (i : Fin 8192) (k : Fin 512) :
    (extractStridedSlice S8192x512 ![0, 0] z slices_S8192x1024_S8192x512_0_0) (ix2 i k) = z (ix2 i (left k)) := by
  pointwise
  exact congrArg z (by blk_ext [left])

theorem host_right (z : FVec Ideal S8192x1024 .f32) (i : Fin 8192) (k : Fin 512) :
    (extractStridedSlice S8192x512 ![0, 512] z slices_S8192x1024_S8192x512_0_512) (ix2 i k) = z (ix2 i (right k)) := by
  pointwise
  exact congrArg z (by blk_ext [right])

theorem host_upper (z : FVec Ideal S1024x1024 .bf16) (k : Fin 512) (j : Fin 1024) :
    (extractStridedSlice S512x1024 ![0, 0] z slices_S1024x1024_S512x1024_0_0) (ix2 k j) = z (ix2 (left k) j) := by
  pointwise
  exact congrArg z (by blk_ext [left])

theorem host_lower (z : FVec Ideal S1024x1024 .bf16) (k : Fin 512) (j : Fin 1024) :
    (extractStridedSlice S512x1024 ![512, 0] z slices_S1024x1024_S512x1024_512_0) (ix2 k j) = z (ix2 (right k) j) := by
  pointwise
  exact congrArg z (by blk_ext [right])

theorem host_gated (a b : FVec Ideal S8192x512 .f32) (i : Fin 8192) (k : Fin 512) :
    (truncf .bf16 (mulf a (Host.divf (broadcastInDim S8192x512 ![] bcast_S_S8192x512 (constant S_ .f32 0x3F800000#32))
        (addf (broadcastInDim S8192x512 ![] bcast_S_S8192x512 (constant S_ .f32 0x3F800000#32)) (Host.exp (Host.negf b))))) bitsLt_bf16_f32
        : FVec Ideal S8192x512 .bf16) (ix2 i k)
      = (a (ix2 i k) * sigmoid (b (ix2 i k)) : EReal) := by
  pointwise
  rfl

theorem host_add (a b : FVec Ideal S8192x1024 .f32) (i : Fin 8192) (j : Fin 1024) :
    (truncf .bf16 (addf a b) bitsLt_bf16_f32 : FVec Ideal S8192x1024 .bf16) (ix2 i j) = (a (ix2 i j) + b (ix2 i j) : EReal) := by
  pointwise

/-! ## The row before the normalisation -/

theorem gelu_eq (i : Fin 8192) (k : Fin 512) : (V m c main_v21 : FVec Ideal S8192x512 .bf16) (ix2 i k) = (gelu (X m c i k) : EReal) := by
  have t := congrFun (v17_val m c) (ix2 i k)
  refine (congrFun (v21_val m c) (ix2 i k)).trans ((host_gelu _ _ i k).trans ?_)
  have e : (V m c main_v17 : FVec Ideal S8192x512 .f32) (ix2 i k) = (th (X m c i k) : EReal) :=
    (t.trans (host_th _ i k)).trans (congrArg th (x_eq m c i k))
  exact (congrArg₂ (fun x t : EReal => ((1 / 2 : ℝ) : EReal) * x * (1 + t)) (x_eq m c i k) e).trans (gelu_half _)

theorem lin_eq (i : Fin 8192) (n : Fin 1024) : (V m c main_v22 : FVec Ideal S8192x1024 .f32) (ix2 i n) = (lin (W m c) (X m c i) n : EReal) :=
  (congrFun (v22_val m c) (ix2 i n)).trans ((host_dot _ _ i n).trans
    (Finset.sum_congr rfl fun k _ => congrArg₂ (fun a b : EReal => a * b) (gelu_eq m c i k) (glu_eq m c k n)))

theorem gated_eq (i : Fin 8192) (k : Fin 512) :
    (V m c main_v32 : FVec Ideal S8192x512 .bf16) (ix2 i k) = (val (W m c) (X m c i) k * gate (W m c) (X m c i) k : EReal) :=
  (congrFun (v32_val m c) (ix2 i k)).trans ((host_gated _ _ i k).trans (congrArg₂ (fun a b : EReal => a * sigmoid b)
    ((host_left _ i k).trans (lin_eq m c i (left k))) ((host_right _ i k).trans (lin_eq m c i (right k)))))

theorem mix_eq (i : Fin 8192) (j : Fin 1024) :
    (V m c main_v39 : FVec Ideal S8192x1024 .bf16) (ix2 i j) = (mix (W m c) (R m c i) (X m c i) j : EReal) := by
  refine (congrFun (v39_val m c) (ix2 i j)).trans ((host_add _ _ i j).trans ?_)
  rw [mix, sum_halves]
  refine congrArg₂ (fun a b : EReal => a + b)
    ((host_dot _ _ i j).trans (Finset.sum_congr rfl fun k _ => ?_)) ((host_dot _ _ i j).trans (Finset.sum_congr rfl fun k _ => ?_))
  · rw [joined, pair_left]
    exact congrArg₂ (fun a b : EReal => a * b) (r_eq m c i k) ((host_upper _ k j).trans (out_eq m c (left k) j))
  · rw [joined, pair_right]
    exact congrArg₂ (fun a b : EReal => a * b) (gated_eq m c i k) ((host_lower _ k j).trans (out_eq m c (right k) j))

/-- What the kernel reads. -/
theorem inputs : Bwd.Inputs m c (W m c) (R m c) (X m c) (D m c) where
  d i j := by
    rw [v38_val]; pointwise; exact congrArg _ (by blk_ext)
  mix := mix_eq m c
  g j := by
    rw [show V m c main_arg2 = _ from V_main_arg2 m c]; rfl
  x := x_eq m c
  r := r_eq m c
  glu := glu_eq m c
  out := out_eq m c

end Cert.Kernel4Ideal.Final

end
-- ==== Proof.MixPre.lean ====
module

public import proofs.«01_k».proof.Proof.Gen.Pre_finite
public import proofs.«01_k».proof.Proof.MixMath
public import proofs.«01_k».proof.Proof.Lift

@[expose] public section

/-!
# What the precondition says: the entries of five arrays are real

The precondition compares every entry's absolute value with infinity and joins the answers. Here its single bit is read
back, entry by entry.
-/

noncomputable section

namespace Cert.Mix

open Idealize.ShloMosaic

/-- Both of two answers. -/
theorem both {a b : BitVec 1} : IntOp.andi a b = 1#1 → a = 1#1 ∧ b = 1#1 := by
  revert a b; decide

/-- All of the answers that are joined. -/
theorem all_of_fold {ι : Type*} (s : Finset ι) (f : ι → BitVec 1) (b : BitVec 1) (h : s.fold IntOp.andi b f = 1#1) : ∀ i ∈ s, f i = 1#1 := by
  classical
  induction s using Finset.induction_on with
  | empty => exact fun i hi => absurd hi (Finset.notMem_empty i)
  | insert a s ha ih =>
    rw [Finset.fold_insert ha] at h
    intro i hi
    rcases Finset.mem_insert.mp hi with rfl | hi
    · exact (both h).1
    · exact ih (both h).2 i hi

/-- All of the answers joined over a whole array. -/
theorem all_of_reduce {s t : Shape} {axes : List (Fin s.rank)} (x : IVec s 1) (z : IVec t 1) (h : s.ReducesTo axes t) (hu : 0 < t.numel)
    (j : t.Idx) (ht : ∀ i k : t.Idx, i = k) (e : Host.reduce IntOp.andi x z h hu j = 1#1) (i : s.Idx) : x i = 1#1 := by
  rw [Host.reduce_eq_fold] at e
  exact all_of_fold _ _ _ e i (Finset.mem_filter.mpr ⟨Finset.mem_univ i, ht _ _⟩)

/-- An absolute value below infinity is that of a real. -/
theorem isReal_of_lt {x : EReal} (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  induction x with
  | bot => exact absurd h (by simp [Ideal.cmp])
  | top => exact absurd h (by simp [Ideal.cmp])
  | coe a => exact .coe a

end Cert.Mix

namespace Cert.Pre_finite

open Idealize.ShloMosaic Cert.Mix Cert.Pre_finite.Gen

/-- All entries of an array are real. -/
theorem entries {s : Shape} {axes : List (Fin s.rank)} (x : FVec Ideal s .f32) (hb : S_.BroadcastsInDim s (![] : Fin 0 → Fin s.rank))
    (h : s.ReducesTo axes S_) (j : S_.Idx)
    (e : Host.reduce IntOp.andi (cmpf .olt (Host.absf x) (broadcastInDim s ![] hb (constant S_ .f32 0x7F800000#32))) (constantI S_ 1 1#1) h Gen.h_S_ j = 1#1)
    (i : s.Idx) : IsReal (x i) :=
  isReal_of_lt (all_of_reduce _ _ h _ j (fun _ _ => funext fun a => a.elim0) e i)

/-- The precondition's five arrays. -/
theorem real {r x : FVec Ideal S1x8192x512 .f32} {g : FVec Ideal S1x1024 .f32} {u : FVec Ideal S1x512x1024 .f32}
    {o : FVec Ideal S1x1024x1024 .f32} {d : FVec Ideal S1x8192x1024 .f32} (h : fn (F := Ideal) r x g u o d = fun _ => 1#1) :
    (∀ i, IsReal (x i)) ∧ (∀ i, IsReal (g i)) ∧ (∀ i, IsReal (u i)) ∧ (∀ i, IsReal (o i)) ∧ ∀ i, IsReal (d i) := by
  have h := congrFun h (fun a => a.elim0)
  obtain ⟨h, hd⟩ := both h
  obtain ⟨h, ho⟩ := both h
  obtain ⟨h, hu⟩ := both h
  obtain ⟨hx, hg⟩ := both h
  exact ⟨entries x _ _ _ hx, entries g _ _ _ hg, entries u _ _ _ hu, entries o _ _ _ ho, entries d _ _ _ hd⟩

end Cert.Pre_finite

end
-- ==== Proof.MixRef.lean ====
module

public import proofs.«01_k».proof.Proof.MixMath
public import proofs.«01_k».proof.Proof.MlpRef
public import proofs.«01_k».proof.Proof.Gen.Reference4Ideal.Run

@[expose] public section

/-!
# What the reference of the mixer computes

The values of the mixer's derivative, operation by operation, read at one row and one column: the row formulas of
`MixMath`, and for the weights their sums over the rows.
-/

set_option maxRecDepth 16384

noncomputable section

open Idealize.ShloMosaic Idealize.ShloMosaic.TcCoe Idealize.SL.Sem

namespace Cert.Reference4Ideal.Rows

open Cert.Reference4Ideal Cert.Reference4Ideal.Gen Cert.Reference4Ideal.Value Cert.Lift Cert.Mix
open Cert.Mlp (nrm rinv nrmBack var mean nrmBack_chain)
open Cert.Reference2Ideal.Rows (reduce_ends reduce_front bits_neg_half)

variable (V : Valuation τ sig (Elt Ideal)) (w : Weights) (R X : Fin 8192 → Fin 512 → EReal) (D : Fin 8192 → Fin 1024 → EReal)

/-- The reference's arguments hold these extended reals. -/
structure Args : Prop where
  r : ∀ i k, (V (Proc.devRef .tc main_arg0) : FVec Ideal S1x8192x512 .f32) (ix3 0 i k) = (R i k : EReal)
  x : ∀ i k, (V (Proc.devRef .tc main_arg1) : FVec Ideal S1x8192x512 .f32) (ix3 0 i k) = (X i k : EReal)
  g : ∀ j, (V (Proc.devRef .tc main_arg2) : FVec Ideal S1x1024 .f32) (ix2 0 j) = (w.g j : EReal)
  glu : ∀ k n, (V (Proc.devRef .tc main_arg3) : FVec Ideal S1x512x1024 .f32) (ix3 0 k n) = (w.glu k n : EReal)
  out : ∀ l j, (V (Proc.devRef .tc main_arg4) : FVec Ideal S1x1024x1024 .f32) (ix3 0 l j) = (w.out l j : EReal)
  d : ∀ i j, (V (Proc.devRef .tc main_arg5) : FVec Ideal S1x8192x1024 .f32) (ix3 0 i j) = (D i j : EReal)

variable {V w R X D} (h : Args V w R X D)

theorem cubic_eq (y) : (res_main_v0 V : FVec Ideal S_ .f32) y = ((cubic : ℝ) : EReal) := by
  refine Eq.trans ?_ quotient
  pointwise [res_main_v0]

include h

theorem th_eq (i : Fin 8192) (k : Fin 512) : (res_main_v11 V : FVec Ideal S1x8192x512 .f32) (ix3 0 i k) = (th (X i k) : EReal) := by
  pointwise [res_main_v11]
  simp only [h.x, cubic_eq, bits_outer]
  rfl

theorem half_eq (i : Fin 8192) (k : Fin 512) :
    (res_main_v20 V : FVec Ideal S1x8192x512 .f32) (ix3 0 i k) = (((1 / 2 : ℝ) : EReal) * (1 + th (X i k)) : EReal) := by
  pointwise [res_main_v20]
  simp only [th_eq h, bits_half]

theorem gelu_eq (i : Fin 8192) (k : Fin 512) : (res_main_v21 V : FVec Ideal S1x8192x512 .f32) (ix3 0 i k) = (gelu (X i k) : EReal) := by
  pointwise [res_main_v21]
  simp only [h.x, half_eq h]
  rfl

theorem glu_eq (k : Fin 512) (n : Fin 1024) : (res_main_v22 V : FVec Ideal S512x1024 .f32) (ix2 k n) = (w.glu k n : EReal) := by
  rw [← h.glu]
  pointwise [res_main_v22]

theorem lin_eq (i : Fin 8192) (n : Fin 1024) : (res_main_v23 V : FVec Ideal S1x8192x1024 .f32) (ix3 0 i n) = (lin w (X i) n : EReal) := by
  pointwise [res_main_v23]
  simp only [gelu_eq h, glu_eq h]
  rfl

theorem val_eq (i : Fin 8192) (k : Fin 512) : (res_main_v24 V : FVec Ideal S1x8192x512 .f32) (ix3 0 i k) = (val w (X i) k : EReal) := by
  refine Eq.trans ?_ (lin_eq h i (left k))
  pointwise [res_main_v24]
  rfl

theorem gate_eq (i : Fin 8192) (k : Fin 512) : (res_main_v31 V : FVec Ideal S1x8192x512 .f32) (ix3 0 i k) = (gate w (X i) k : EReal) := by
  have e := lin_eq h i (right k)
  pointwise [res_main_v31]
  rw [gate, ← e, sigmoid]
  rfl

theorem joined_eq (i : Fin 8192) (l : Fin 1024) :
    (res_main_v36 V : FVec Ideal S1x8192x1024 .f32) (ix3 0 i l) = (joined w (R i) (X i) l : EReal) := by
  pointwise [res_main_v36]
  simp only [h.r, val_eq h, gate_eq h]
  rfl

theorem out_eq (l j : Fin 1024) : (res_main_v37 V : FVec Ideal S1024x1024 .f32) (ix2 l j) = (w.out l j : EReal) := by
  rw [← h.out]
  pointwise [res_main_v37]

theorem mix_eq (i : Fin 8192) (j : Fin 1024) :
    (res_main_v38 V : FVec Ideal S1x8192x1024 .f32) (ix3 0 i j) = (mix w (R i) (X i) j : EReal) := by
  pointwise [res_main_v38]
  simp only [joined_eq h, out_eq h]
  rfl

theorem var_eq (i : Fin 8192) : (res_main_v46 V : FVec Ideal S1x8192x1 .f32) (ix3 0 i 0) = (var (mix w (R i) (X i)) : EReal) := by
  pointwise [res_main_v46]
  simp only [mix_eq h, bits_1024, bits_eps]
  rfl

theorem rinv_eq (i : Fin 8192) : (res_main_v47 V : FVec Ideal S1x8192x1 .f32) (ix3 0 i 0) = (rinv (mix w (R i) (X i)) : EReal) := by
  pointwise [res_main_v47]
  rw [var_eq h]; rfl

theorem nrm_eq (i : Fin 8192) (j : Fin 1024) :
    (res_main_v52 V : FVec Ideal S1x8192x1024 .f32) (ix3 0 i j) = (nrm (mix w (R i) (X i)) j : EReal) := by
  pointwise [res_main_v52]
  simp only [mix_eq h, rinv_eq h]
  rfl

theorem gain_eq (j : Fin 1024) : (res_main_v53 V : FVec Ideal S1x1x1024 .f32) (ix3 0 0 j) = (w.g j : EReal) := by
  rw [← h.g]
  pointwise [res_main_v53]

theorem dnrm_eq (i : Fin 8192) (j : Fin 1024) :
    (res_main_v60 V : FVec Ideal S1x8192x1024 .f32) (ix3 0 i j) = (D i j * w.g j : EReal) := by
  pointwise [res_main_v60]
  rw [h.d, gain_eq h]

theorem fac_eq (i : Fin 8192) (j : Fin 1024) : (res_main_v72 V : FVec Ideal S1x8192x1024 .f32) (ix3 0 i j)
    = mean ((∑ l, mix w (R i) (X i) l * (D i l * w.g l)) * (((-1 / 2 : ℝ) : EReal)
      * Ideal.div (rinv (mix w (R i) (X i))) (var (mix w (R i) (X i))))) := by
  pointwise [res_main_v72]
  rw [reduce_ends]
  pointwise
  simp only [mix_eq h, dnrm_eq h, rinv_eq h, var_eq h, bits_neg_half, bits_1024]
  rfl

theorem dmix_eq (i : Fin 8192) (j : Fin 1024) :
    (res_main_v76 V : FVec Ideal S1x8192x1024 .f32) (ix3 0 i j) = (dmix w (R i) (X i) (D i) j : EReal) := by
  pointwise [res_main_v76]
  simp only [mix_eq h, dnrm_eq h, rinv_eq h, fac_eq h]
  exact nrmBack_chain (mix w (R i) (X i)) (fun j => D i j * w.g j) j

theorem djoined_eq (i : Fin 8192) (l : Fin 1024) :
    (res_main_v80 V : FVec Ideal S1x8192x1024 .f32) (ix3 0 i l) = (djoined w (R i) (X i) (D i) l : EReal) := by
  pointwise [res_main_v80]
  simp only [dmix_eq h, out_eq h]
  rfl

theorem dunit_eq (i : Fin 8192) (k : Fin 512) :
    (res_main_v83 V : FVec Ideal S1x8192x512 .f32) (ix3 0 i k) = (djoined w (R i) (X i) (D i) (right k) : EReal) := by
  refine Eq.trans ?_ (djoined_eq h i (right k))
  pointwise [res_main_v83]
  rfl

theorem dlin_eq (i : Fin 8192) (n : Fin 1024) :
    (res_main_v87 V : FVec Ideal S1x8192x1024 .f32) (ix3 0 i n) = (dlin w (R i) (X i) (D i) n : EReal) := by
  pointwise [res_main_v87]
  simp only [dunit_eq h, val_eq h, gate_eq h]
  rcases exists_half n with ⟨k, rfl⟩ | ⟨k, rfl⟩
  · rw [dlin, pair_left, dif_pos (show (left k).val < 512 from k.isLt)]; rfl
  · have hk : (right k).val = 512 + k.val := rfl
    rw [dlin, pair_right, dif_neg (by omega)]
    have e : (⟨(right k).val - 512, by omega⟩ : Fin 512) = k := Fin.ext (by simp only [hk]; omega)
    rw [e]
    ac_rfl

theorem dgelu_eq (i : Fin 8192) (k : Fin 512) :
    (res_main_v90 V : FVec Ideal S1x8192x512 .f32) (ix3 0 i k) = (dgelu w (R i) (X i) (D i) k : EReal) := by
  pointwise [res_main_v90]
  simp only [dlin_eq h, glu_eq h]
  rfl

theorem dth_eq (i : Fin 8192) (k : Fin 512) : (res_main_v98 V : FVec Ideal S1x8192x512 .f32) (ix3 0 i k)
    = (outer : EReal) * (((1 / 2 : ℝ) : EReal) * (X i k * dgelu w (R i) (X i) (D i) k) * ((1 + th (X i k)) * (1 - th (X i k)))) := by
  pointwise [res_main_v98]
  simp only [h.x, dgelu_eq h, th_eq h, bits_outer, bits_half]

/-! ## The five results -/

theorem dr_total (i : Fin 8192) (k : Fin 512) :
    (shapeCast _ (extractStridedSlice S1x8192x512 ![0, 0, 0] (res_main_v80 V : FVec Ideal S1x8192x1024 .f32) slices_S1x8192x1024_S1x8192x512_0_0_0) shapeCasts_S1x8192x512_S8192x512 : FVec Ideal S8192x512 .f32) (ix2 i k)
      = (dr w (R i) (X i) (D i) k : EReal) := by
  refine Eq.trans ?_ (djoined_eq h i (left k))
  pointwise
  rfl

theorem dout_total (l j : Fin 1024) :
    (shapeCast _ (broadcastInDim S1x1024x1024 ![1, 2] bcast_S1024x1024_S1x1024x1024_1_2 (transpose S1024x1024 [1, 0] (Host.dotGeneral (φ₁ := .f32) (φ₂ := .f32) dot_S1x8192x1024_S1x8192x1024_S1024x1024_01_01_2_2_n_n none (res_main_v76 V) (res_main_v36 V)) transposes_S1024x1024_S1024x1024_1_0)) shapeCasts_S1x1024x1024_S1024x1024 : FVec Ideal S1024x1024 .f32) (ix2 l j)
      = (dout w R X D l j : EReal) := by
  pointwise
  simp only [Fin.sum_univ_one, Fin.isValue, dmix_eq h, joined_eq h]
  exact Finset.sum_congr rfl fun i _ => mul_comm _ _

theorem dglu_total (k : Fin 512) (n : Fin 1024) :
    (shapeCast _ (broadcastInDim S1x512x1024 ![1, 2] bcast_S512x1024_S1x512x1024_1_2 (transpose S512x1024 [1, 0] (Host.dotGeneral (φ₁ := .f32) (φ₂ := .f32) dot_S1x8192x1024_S1x8192x512_S1024x512_01_01_2_2_n_n none (res_main_v87 V) (res_main_v21 V)) transposes_S1024x512_S512x1024_1_0)) shapeCasts_S1x512x1024_S512x1024 : FVec Ideal S512x1024 .f32) (ix2 k n)
      = (dglu w R X D k n : EReal) := by
  pointwise
  simp only [Fin.sum_univ_one, Fin.isValue, dlin_eq h, gelu_eq h]
  exact Finset.sum_congr rfl fun i _ => mul_comm _ _

theorem dgain_total (j : Fin 1024) :
    (broadcastInDim S1x1024 ![1] bcast_S1024_S1x1024_1 (Host.reduceAdd (shapeCast _ (Host.reduceAdd (mulf (res_main_v52 V : FVec Ideal S1x8192x1024 .f32) (V (Proc.devRef .tc main_arg5))) (constant S_ .f32 0x00000000#32) reducesTo_S1x8192x1024_S1x1024_d1 h_S_) shapeCasts_S1x1024_S1x1x1024) (constant S_ .f32 0x00000000#32) reducesTo_S1x1x1024_S1024_d0_1 h_S_) : FVec Ideal S1x1024 .f32) (ix2 0 j)
      = (dgain w R X D j : EReal) := by
  pointwise
  rw [reduce_front]
  pointwise
  simp only [nrm_eq h, h.d]
  exact Finset.sum_congr rfl fun i _ => mul_comm _ _

/-- The derivative at the state space's entries, where these, the derivative that enters and the weights are real. -/
theorem dx_total (hg : ∀ j, IsReal (w.g j)) (hw : ∀ k n, IsReal (w.glu k n)) (ho : ∀ l j, IsReal (w.out l j))
    (hx : ∀ i k, IsReal (X i k)) (hd : ∀ i j, IsReal (D i j)) (i : Fin 8192) (k : Fin 512) :
    (shapeCast _ (addf (addf (mulf (res_main_v90 V : FVec Ideal S1x8192x512 .f32) (res_main_v20 V)) (res_main_v98 V)) (mulf (mulf (broadcastInDim S1x8192x512 ![] bcast_S_S1x8192x512 (res_main_v0 V)) (res_main_v98 V)) (mulf (broadcastInDim S1x8192x512 ![] bcast_S_S1x8192x512 (constant S_ .f32 0x40400000#32)) (mulf (V (Proc.devRef .tc main_arg1)) (V (Proc.devRef .tc main_arg1)))))) shapeCasts_S1x8192x512_S8192x512 : FVec Ideal S8192x512 .f32) (ix2 i k)
      = (dx w (R i) (X i) (D i) k : EReal) := by
  pointwise
  simp only [h.x, dgelu_eq h, half_eq h, dth_eq h, cubic_eq, bits_three]
  exact geluGrad_chain (dgelu_fin hg hw ho (hx i) (hd i) k) (hx i k)

end Cert.Reference4Ideal.Rows

end
-- ==== Proof.MixClaim.lean ====
module

public import proofs.«01_k».proof.Defs
public import proofs.«01_k».proof.Proof.MixHost
public import proofs.«01_k».proof.Proof.MixPre
public import proofs.«01_k».proof.Proof.MixRef
public import proofs.«01_k».proof.Proof.InClaim

@[expose] public section

/-!
# The mixer's backward pass: the kernel against the derivative of the mixer's output

On the same arguments, five of them with real entries, both programs end with the same five results: the derivatives in
the retention's entries, in the state space's, in the output matrix, in the unit's matrix and in the gain.
-/

set_option maxRecDepth 16384

noncomputable section

open Idealize.ShloMosaic Idealize.ShloMosaic.TcCoe Idealize.ShloMosaic.Tactic Idealize.SL.Sem

namespace Cert.Mix

open Cert.Lift Cert.Kernel4Ideal.Final

/-- The two constants the kernel names have the values it names. -/
theorem preserves : Cert.preserves_Kernel4_Kernel4Ideal :=
  ⟨IdealRules.named_const.statement Cert.Kernel4Ideal.κ "gelu_cubic" .f32 0x3D372713#32 ((8943 / 200000 : ℝ) : EReal) rfl,
    IdealRules.named_const.statement Cert.Kernel4Ideal.κ "gelu_cubic_slope" .f32 0x3E095D4F#32 ((26829 / 200000 : ℝ) : EReal) rfl⟩

/-- The reference terminates, its arguments unchanged and every semaphore counter at zero. -/
theorem frame_reference : Cert.quiescent_Reference4Ideal (hReference4Ideal := Cert.Reference4Ideal.Gen.facts) := fun m g _ =>
  (θ_run _ _ _).mono (fun _ h => ⟨fun c => (h c).2.2.2.2.2, funext fun s => by
      obtain ⟨t, s⟩ := s; exact nomatch s⟩) (Cert.Reference4Ideal.Value.run m g)

open Cert.Reference4Ideal.Rows in
theorem algebraic : Cert.algebraic_Kernel4Ideal_Reference4Ideal_pre_finite := by
  intro m g m' g' hpre hagree
  refine ⟨_, _, _, _, _, Cert.Kernel4Ideal.Value.run_blocks m g,
    (θ_run _ _ _).mono (fun r h c => ?_) (Cert.Reference4Ideal.Value.run m' g')⟩
  obtain ⟨hx, hg, hw, ho, hd⟩ := Cert.Pre_finite.real (hpre c)
  obtain ⟨e0, e1, e2, e3, e4, e5⟩ := hagree c
  have a : Args (StableHlo.launchContents m' c) (W m c) (R m c) (X m c) (D m c) :=
    ⟨fun i k => congrFun e0 (ix3 0 i k), fun i k => congrFun e1 (ix3 0 i k), fun j => congrFun e2 (ix2 0 j),
      fun k n => congrFun e3 (ix3 0 k n), fun l j => congrFun e4 (ix3 0 l j), fun i j => congrFun e5 (ix3 0 i j)⟩
  obtain ⟨q0, q1, q2, q3, q4, qa⟩ := h c
  refine ⟨?_, ?_, ?_, ?_, ?_, qa⟩
  · rw [q0, Cert.Kernel4Ideal.Bwd.dr_final (inputs m c)]
    exact Cert.InProj.ext2 (dr_total a)
  · rw [q1, Cert.Kernel4Ideal.Bwd.dx_final (inputs m c)]
    exact Cert.InProj.ext2 (dx_total a (fun j => hg _) (fun k n => hw _) (fun l j => ho _) (fun i k => hx _) (fun i j => hd _))
  · rw [q2, Cert.Kernel4Ideal.Bwd.dout_final (inputs m c)]
    exact Cert.InProj.ext2 (dout_total a)
  · rw [q3, Cert.Kernel4Ideal.Bwd.dglu_final (inputs m c)]
    exact Cert.InProj.ext2 (dglu_total a)
  · rw [q4, Cert.Kernel4Ideal.Bwd.dgain_final (inputs m c)]
    exact Cert.Mlp.ext2 (dgain_total a)

end Cert.Mix

end
-- ==== Proof.AdamBig.lean ====
module

public import proofs.«01_k».proof.Defs
public import proofs.«01_k».proof.Proof.AdamMath
public import proofs.«01_k».proof.Proof.Gen.Kernel5Ideal.Value
public import proofs.«01_k».proof.Proof.Gen.Reference5Ideal.Run

@[expose] public section

/-!
# The AdamW step of the three projections' weights

The kernel steps the weights tile by tile and the reference at once. On the same arguments both end with the same
nine arrays: the steps of the three weights, then their first moments, then their second.
-/

set_option maxRecDepth 16384

noncomputable section

open Idealize.ShloMosaic Idealize.ShloMosaic.TcCoe Idealize.ShloMosaic.Tactic Idealize.SL.Sem

namespace Cert.AdamBig

open Cert.Adam

/-- The reference terminates, its arguments unchanged and every semaphore counter at zero. -/
theorem frame_reference : Cert.quiescent_Reference5Ideal (hReference5Ideal := Cert.Reference5Ideal.Gen.facts) := fun m g _ =>
  (θ_run _ _ _).mono (fun _ h => ⟨fun c => (h c).2.2.2.2.2.2.2.2.2, funext fun s => by
      obtain ⟨t, s⟩ := s; exact nomatch s⟩) (Cert.Reference5Ideal.Value.run m g)

open Cert.Reference5Ideal Cert.Reference5Ideal.Gen in
theorem algebraic : Cert.algebraic_Kernel5Ideal_Reference5Ideal := by
  intro m g m' g' _ hagree
  refine ⟨_, _, _, _, _, _, _, _, _, Cert.Kernel5Ideal.Value.run m g,
    (θ_run _ _ _).mono (fun r h c => ?_) (Cert.Reference5Ideal.Value.run m' g')⟩
  obtain ⟨e0, e1, e2, e3, e4, e5, e6, e7, e8, e9, e10, e11⟩ := hagree c
  obtain ⟨q0, q1, q2, q3, q4, q5, q6, q7, q8, qa⟩ := h c
  refine ⟨?_, ?_, ?_, ?_, ?_, ?_, ?_, ?_, ?_, ?_⟩
  · rw [q0, e0, e3, e6, e9]; exact hostStep_eq _ _ _ _ _
  · rw [q1, e1, e4, e7, e10]; exact hostStep_eq _ _ _ _ _
  · rw [q2, e2, e5, e8, e11]; exact hostStep_eq _ _ _ _ _
  · rw [q3, e3, e6]; exact hostFirst_eq _ _ _
  · rw [q4, e4, e7]; exact hostFirst_eq _ _ _
  · rw [q5, e5, e8]; exact hostFirst_eq _ _ _
  · rw [q6, e3, e9]; exact hostSecond_eq _ _ _
  · rw [q7, e4, e10]; exact hostSecond_eq _ _ _
  · rw [q8, e5, e11]; exact hostSecond_eq _ _ _
  · exact qa

end Cert.AdamBig

end
-- ==== Proof.SmallOut.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Claim
public import Idealize.ShloMosaic.Lib.Ring
public import Idealize.ShloMosaic.Lib.Tactic

@[expose] public section

/-!
# What the AdamW kernel of the small weights leaves in its outputs

Each of the thirteen weights has three outputs: the stepped weight, its first moment and its second. Each is stored
once and whole, from the weight, its gradient and its moments.
-/

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a block of this shape. -/
abbrev whole0 : Rect S1x1024 := Rect.unit (s := S1x1024) ![0, 0] S1x1024.size inb_S1x1024_S1x1024_0_0

/-- The whole of a block of this shape. -/
abbrev whole1 : Rect S1x512 := Rect.unit (s := S1x512) ![0, 0] S1x512.size inb_S1x512_S1x512_0_0

/-- The whole of a block of this shape. -/
abbrev whole2 : Rect S1x32x64 := Rect.unit (s := S1x32x64) ![0, 0, 0] S1x32x64.size inb_S1x32x64_S1x32x64_0_0_0

/-- The whole of a block of this shape. -/
abbrev whole3 : Rect S1x32 := Rect.unit (s := S1x32) ![0, 0] S1x32.size inb_S1x32_S1x32_0_0

/-- The whole of a block of this shape. -/
abbrev whole4 : Rect S1x32x64x16 := Rect.unit (s := S1x32x64x16) ![0, 0, 0, 0] S1x32x64x16.size inb_S1x32x64x16_S1x32x64x16_0_0_0_0

/-- The whole of a block of this shape. -/
abbrev whole5 : Rect S1x32x16x64 := Rect.unit (s := S1x32x16x64) ![0, 0, 0, 0] S1x32x16x64.size inb_S1x32x16x64_S1x32x16x64_0_0_0_0

/-- One store of it covers the block. -/
theorem cover0 (p0 : Vec F S1x1024 .f32) (y : S1x1024.Idx) :
    ∃ pc ∈ ([⟨whole0, p0⟩] : List (View.Piece (Elt F) S1x1024 .f32)), y ∈ pc.1.set :=
  View.cover_of_tiled [⟨whole0, p0⟩] S1x1024.size (by rfl) y

/-- One store of it covers the block. -/
theorem cover1 (p0 : Vec F S1x512 .f32) (y : S1x512.Idx) :
    ∃ pc ∈ ([⟨whole1, p0⟩] : List (View.Piece (Elt F) S1x512 .f32)), y ∈ pc.1.set :=
  View.cover_of_tiled [⟨whole1, p0⟩] S1x512.size (by rfl) y

/-- One store of it covers the block. -/
theorem cover2 (p0 : Vec F S1x32x64 .f32) (y : S1x32x64.Idx) :
    ∃ pc ∈ ([⟨whole2, p0⟩] : List (View.Piece (Elt F) S1x32x64 .f32)), y ∈ pc.1.set :=
  View.cover_of_tiled [⟨whole2, p0⟩] S1x32x64.size (by rfl) y

/-- One store of it covers the block. -/
theorem cover3 (p0 : Vec F S1x32 .f32) (y : S1x32.Idx) :
    ∃ pc ∈ ([⟨whole3, p0⟩] : List (View.Piece (Elt F) S1x32 .f32)), y ∈ pc.1.set :=
  View.cover_of_tiled [⟨whole3, p0⟩] S1x32.size (by rfl) y

/-- One store of it covers the block. -/
theorem cover4 (p0 : Vec F S1x32x64x16 .f32) (y : S1x32x64x16.Idx) :
    ∃ pc ∈ ([⟨whole4, p0⟩] : List (View.Piece (Elt F) S1x32x64x16 .f32)), y ∈ pc.1.set :=
  View.cover_of_tiled [⟨whole4, p0⟩] S1x32x64x16.size (by rfl) y

/-- One store of it covers the block. -/
theorem cover5 (p0 : Vec F S1x32x16x64 .f32) (y : S1x32x16x64.Idx) :
    ∃ pc ∈ ([⟨whole5, p0⟩] : List (View.Piece (Elt F) S1x32x16x64 .f32)), y ∈ pc.1.set :=
  View.cover_of_tiled [⟨whole5, p0⟩] S1x32x16x64.size (by rfl) y

/-- The first weight after its step. -/
def out52 (x0 x13 x26 x39 : Vec F S1x1024 .f32) : Vec F S1x1024 .f32 :=
  View.canon [⟨whole0, k0_pay5 (View.ld x0 whole0) (View.ld x13 whole0) (View.ld x26 whole0) (View.ld x39 whole0)⟩]

/-- The second weight after its step. -/
def out53 (x1 x14 x27 x40 : Vec F S1x1024 .f32) : Vec F S1x1024 .f32 :=
  View.canon [⟨whole0, k0_pay8 (View.ld x1 whole0) (View.ld x14 whole0) (View.ld x27 whole0) (View.ld x40 whole0)⟩]

/-- The third weight after its step. -/
def out54 (x2 x15 x28 x41 : Vec F S1x512 .f32) : Vec F S1x512 .f32 :=
  View.canon [⟨whole1, k0_pay11 (View.ld x2 whole1) (View.ld x15 whole1) (View.ld x28 whole1) (View.ld x41 whole1)⟩]

/-- The fourth weight after its step. -/
def out55 (x3 x16 x29 x42 : Vec F S1x32x64 .f32) : Vec F S1x32x64 .f32 :=
  View.canon [⟨whole2, k0_pay14 (View.ld x3 whole2) (View.ld x16 whole2) (View.ld x29 whole2) (View.ld x42 whole2)⟩]

/-- The fifth weight after its step. -/
def out56 (x4 x17 x30 x43 : Vec F S1x32x64 .f32) : Vec F S1x32x64 .f32 :=
  View.canon [⟨whole2, k0_pay17 (View.ld x4 whole2) (View.ld x17 whole2) (View.ld x30 whole2) (View.ld x43 whole2)⟩]

/-- The sixth weight after its step. -/
def out57 (x5 x18 x31 x44 : Vec F S1x32 .f32) : Vec F S1x32 .f32 :=
  View.canon [⟨whole3, k0_pay20 (View.ld x5 whole3) (View.ld x18 whole3) (View.ld x31 whole3) (View.ld x44 whole3)⟩]

/-- The seventh weight after its step. -/
def out58 (x6 x19 x32 x45 : Vec F S1x32x64x16 .f32) : Vec F S1x32x64x16 .f32 :=
  View.canon [⟨whole4, k0_pay23 (View.ld x6 whole4) (View.ld x19 whole4) (View.ld x32 whole4) (View.ld x45 whole4)⟩]

/-- The eighth weight after its step. -/
def out59 (x7 x20 x33 x46 : Vec F S1x32x64x16 .f32) : Vec F S1x32x64x16 .f32 :=
  View.canon [⟨whole4, k0_pay26 (View.ld x7 whole4) (View.ld x20 whole4) (View.ld x33 whole4) (View.ld x46 whole4)⟩]

/-- The ninth weight after its step. -/
def out60 (x8 x21 x34 x47 : Vec F S1x32x16x64 .f32) : Vec F S1x32x16x64 .f32 :=
  View.canon [⟨whole5, k0_pay31 (View.ld x8 whole5) (k0_pay29 (View.ld x21 whole5) (View.ld x34 whole5)) (k0_pay30 (View.ld x21 whole5) (View.ld x47 whole5))⟩]

/-- The tenth weight after its step. -/
def out61 (x9 x22 x35 x48 : Vec F S1x32x16x64 .f32) : Vec F S1x32x16x64 .f32 :=
  View.canon [⟨whole5, k0_pay36 (View.ld x9 whole5) (k0_pay32 (View.ld x22 whole5) (View.ld x35 whole5)) (k0_pay33 (View.ld x48 whole5)) (k0_pay34 (View.ld x22 whole5))⟩]

/-- The eleventh weight after its step. -/
def out62 (x10 x23 x36 x49 : Vec F S1x512 .f32) : Vec F S1x512 .f32 :=
  View.canon [⟨whole1, k0_pay39 (View.ld x10 whole1) (View.ld x23 whole1) (View.ld x49 whole1) (k0_pay37 (View.ld x23 whole1) (View.ld x36 whole1)) (Scalar.ofBits .f32 0x3F7FBE77#32)⟩]

/-- The twelfth weight after its step. -/
def out63 (x11 x24 x37 x50 : Vec F S1x1024 .f32) : Vec F S1x1024 .f32 :=
  View.canon [⟨whole0, k0_pay44 (View.ld x11 whole0) (k0_pay40 (View.ld x24 whole0) (View.ld x37 whole0)) (k0_pay41 (View.ld x50 whole0)) (k0_pay42 (View.ld x24 whole0))⟩]

/-- The thirteenth weight after its step. -/
def out64 (x12 x25 x38 x51 : Vec F S1x1024 .f32) : Vec F S1x1024 .f32 :=
  View.canon [⟨whole0, k0_pay2 (View.ld x12 whole0) (k0_pay45 (View.ld x25 whole0) (View.ld x38 whole0)) (k0_pay46 (View.ld x51 whole0)) (k0_pay47 (View.ld x25 whole0))⟩]

/-- The first weight's new first moment. -/
def out65 (x13 x26 : Vec F S1x1024 .f32) : Vec F S1x1024 .f32 :=
  View.canon [⟨whole0, k0_pay3 (View.ld x13 whole0) (View.ld x26 whole0)⟩]

/-- The second weight's new first moment. -/
def out66 (x14 x27 : Vec F S1x1024 .f32) : Vec F S1x1024 .f32 :=
  View.canon [⟨whole0, k0_pay6 (View.ld x14 whole0) (View.ld x27 whole0)⟩]

/-- The third weight's new first moment. -/
def out67 (x15 x28 : Vec F S1x512 .f32) : Vec F S1x512 .f32 :=
  View.canon [⟨whole1, k0_pay9 (View.ld x15 whole1) (View.ld x28 whole1)⟩]

/-- The fourth weight's new first moment. -/
def out68 (x16 x29 : Vec F S1x32x64 .f32) : Vec F S1x32x64 .f32 :=
  View.canon [⟨whole2, k0_pay12 (View.ld x16 whole2) (View.ld x29 whole2)⟩]

/-- The fifth weight's new first moment. -/
def out69 (x17 x30 : Vec F S1x32x64 .f32) : Vec F S1x32x64 .f32 :=
  View.canon [⟨whole2, k0_pay15 (View.ld x17 whole2) (View.ld x30 whole2)⟩]

/-- The sixth weight's new first moment. -/
def out70 (x18 x31 : Vec F S1x32 .f32) : Vec F S1x32 .f32 :=
  View.canon [⟨whole3, k0_pay18 (View.ld x18 whole3) (View.ld x31 whole3)⟩]

/-- The seventh weight's new first moment. -/
def out71 (x19 x32 : Vec F S1x32x64x16 .f32) : Vec F S1x32x64x16 .f32 :=
  View.canon [⟨whole4, k0_pay21 (View.ld x19 whole4) (View.ld x32 whole4)⟩]

/-- The eighth weight's new first moment. -/
def out72 (x20 x33 : Vec F S1x32x64x16 .f32) : Vec F S1x32x64x16 .f32 :=
  View.canon [⟨whole4, k0_pay24 (View.ld x20 whole4) (View.ld x33 whole4)⟩]

/-- The ninth weight's new first moment. -/
def out73 (x21 x34 : Vec F S1x32x16x64 .f32) : Vec F S1x32x16x64 .f32 :=
  View.canon [⟨whole5, k0_pay27 (View.ld x21 whole5) (View.ld x34 whole5)⟩]

/-- The tenth weight's new first moment. -/
def out74 (x22 x35 : Vec F S1x32x16x64 .f32) : Vec F S1x32x16x64 .f32 :=
  View.canon [⟨whole5, k0_pay32 (View.ld x22 whole5) (View.ld x35 whole5)⟩]

/-- The eleventh weight's new first moment. -/
def out75 (x23 x36 : Vec F S1x512 .f32) : Vec F S1x512 .f32 :=
  View.canon [⟨whole1, k0_pay37 (View.ld x23 whole1) (View.ld x36 whole1)⟩]

/-- The twelfth weight's new first moment. -/
def out76 (x24 x37 : Vec F S1x1024 .f32) : Vec F S1x1024 .f32 :=
  View.canon [⟨whole0, k0_pay40 (View.ld x24 whole0) (View.ld x37 whole0)⟩]

/-- The thirteenth weight's new first moment. -/
def out77 (x25 x38 : Vec F S1x1024 .f32) : Vec F S1x1024 .f32 :=
  View.canon [⟨whole0, k0_pay45 (View.ld x25 whole0) (View.ld x38 whole0)⟩]

/-- The first weight's new second moment. -/
def out78 (x13 x39 : Vec F S1x1024 .f32) : Vec F S1x1024 .f32 :=
  View.canon [⟨whole0, k0_pay4 (View.ld x13 whole0) (View.ld x39 whole0)⟩]

/-- The second weight's new second moment. -/
def out79 (x14 x40 : Vec F S1x1024 .f32) : Vec F S1x1024 .f32 :=
  View.canon [⟨whole0, k0_pay7 (View.ld x14 whole0) (View.ld x40 whole0)⟩]

/-- The third weight's new second moment. -/
def out80 (x15 x41 : Vec F S1x512 .f32) : Vec F S1x512 .f32 :=
  View.canon [⟨whole1, k0_pay10 (View.ld x15 whole1) (View.ld x41 whole1)⟩]

/-- The fourth weight's new second moment. -/
def out81 (x16 x42 : Vec F S1x32x64 .f32) : Vec F S1x32x64 .f32 :=
  View.canon [⟨whole2, k0_pay13 (View.ld x16 whole2) (View.ld x42 whole2)⟩]

/-- The fifth weight's new second moment. -/
def out82 (x17 x43 : Vec F S1x32x64 .f32) : Vec F S1x32x64 .f32 :=
  View.canon [⟨whole2, k0_pay16 (View.ld x17 whole2) (View.ld x43 whole2)⟩]

/-- The sixth weight's new second moment. -/
def out83 (x18 x44 : Vec F S1x32 .f32) : Vec F S1x32 .f32 :=
  View.canon [⟨whole3, k0_pay19 (View.ld x18 whole3) (View.ld x44 whole3)⟩]

/-- The seventh weight's new second moment. -/
def out84 (x19 x45 : Vec F S1x32x64x16 .f32) : Vec F S1x32x64x16 .f32 :=
  View.canon [⟨whole4, k0_pay22 (View.ld x19 whole4) (View.ld x45 whole4)⟩]

/-- The eighth weight's new second moment. -/
def out85 (x20 x46 : Vec F S1x32x64x16 .f32) : Vec F S1x32x64x16 .f32 :=
  View.canon [⟨whole4, k0_pay25 (View.ld x20 whole4) (View.ld x46 whole4)⟩]

/-- The ninth weight's new second moment. -/
def out86 (x21 x47 : Vec F S1x32x16x64 .f32) : Vec F S1x32x16x64 .f32 :=
  View.canon [⟨whole5, k0_pay28 (View.ld x21 whole5) (View.ld x47 whole5)⟩]

/-- The tenth weight's new second moment. -/
def out87 (x22 x48 : Vec F S1x32x16x64 .f32) : Vec F S1x32x16x64 .f32 :=
  View.canon [⟨whole5, k0_pay35 (k0_pay33 (View.ld x48 whole5)) (k0_pay34 (View.ld x22 whole5))⟩]

/-- The eleventh weight's new second moment. -/
def out88 (x23 x49 : Vec F S1x512 .f32) : Vec F S1x512 .f32 :=
  View.canon [⟨whole1, k0_pay38 (View.ld x23 whole1) (View.ld x49 whole1) (Scalar.ofBits .f32 0x3F7FBE77#32)⟩]

/-- The twelfth weight's new second moment. -/
def out89 (x24 x50 : Vec F S1x1024 .f32) : Vec F S1x1024 .f32 :=
  View.canon [⟨whole0, k0_pay43 (k0_pay41 (View.ld x50 whole0)) (k0_pay42 (View.ld x24 whole0))⟩]

/-- The thirteenth weight's new second moment. -/
def out90 (x25 x51 : Vec F S1x1024 .f32) : Vec F S1x1024 .f32 :=
  View.canon [⟨whole0, k0_pay1 (k0_pay46 (View.ld x51 whole0)) (k0_pay47 (View.ld x25 whole0))⟩]

end Cert.Kernel6Ideal.Small

end
-- ==== Proof.SmallRun.lean ====
module

public import proofs.«01_k».proof.Proof.SmallOut

@[expose] public section

/-!
# The body of the AdamW kernel of the small weights, once

Every input is loaded whole and every output stored whole, so one run of the body decides all thirty-nine outputs.
-/

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, given its fifty-two inputs' blocks, leaves them as they were and each output as defined from them. -/
theorem sound_kernel (c : Dev nD) (E : Set ℕ) (arg0 : Memref sig .tc .vmem S1x1024 .f32) (harg0 : arg0.IsWhole) (arg1 : Memref sig .tc .vmem
      S1x1024 .f32) (harg1 : arg1.IsWhole) (arg2 : Memref sig .tc .vmem S1x512 .f32) (harg2 : arg2.IsWhole) (arg3 : Memref sig .tc .vmem S1x32x64
      .f32) (harg3 : arg3.IsWhole) (arg4 : Memref sig .tc .vmem S1x32x64 .f32) (harg4 : arg4.IsWhole) (arg5 : Memref sig .tc .vmem S1x32 .f32)
      (harg5 : arg5.IsWhole) (arg6 : Memref sig .tc .vmem S1x32x64x16 .f32) (harg6 : arg6.IsWhole) (arg7 : Memref sig .tc .vmem S1x32x64x16 .f32)
      (harg7 : arg7.IsWhole) (arg8 : Memref sig .tc .vmem S1x32x16x64 .f32) (harg8 : arg8.IsWhole) (arg9 : Memref sig .tc .vmem S1x32x16x64 .f32)
      (harg9 : arg9.IsWhole) (arg10 : Memref sig .tc .vmem S1x512 .f32) (harg10 : arg10.IsWhole) (arg11 : Memref sig .tc .vmem S1x1024 .f32)
      (harg11 : arg11.IsWhole) (arg12 : Memref sig .tc .vmem S1x1024 .f32) (harg12 : arg12.IsWhole) (arg13 : Memref sig .tc .vmem S1x1024 .f32)
      (harg13 : arg13.IsWhole) (arg14 : Memref sig .tc .vmem S1x1024 .f32) (harg14 : arg14.IsWhole) (arg15 : Memref sig .tc .vmem S1x512 .f32)
      (harg15 : arg15.IsWhole) (arg16 : Memref sig .tc .vmem S1x32x64 .f32) (harg16 : arg16.IsWhole) (arg17 : Memref sig .tc .vmem S1x32x64 .f32)
      (harg17 : arg17.IsWhole) (arg18 : Memref sig .tc .vmem S1x32 .f32) (harg18 : arg18.IsWhole) (arg19 : Memref sig .tc .vmem S1x32x64x16 .f32)
      (harg19 : arg19.IsWhole) (arg20 : Memref sig .tc .vmem S1x32x64x16 .f32) (harg20 : arg20.IsWhole) (arg21 : Memref sig .tc .vmem S1x32x16x64
      .f32) (harg21 : arg21.IsWhole) (arg22 : Memref sig .tc .vmem S1x32x16x64 .f32) (harg22 : arg22.IsWhole) (arg23 : Memref sig .tc .vmem S1x512
      .f32) (harg23 : arg23.IsWhole) (arg24 : Memref sig .tc .vmem S1x1024 .f32) (harg24 : arg24.IsWhole) (arg25 : Memref sig .tc .vmem S1x1024
      .f32) (harg25 : arg25.IsWhole) (arg26 : Memref sig .tc .vmem S1x1024 .f32) (harg26 : arg26.IsWhole) (arg27 : Memref sig .tc .vmem S1x1024
      .f32) (harg27 : arg27.IsWhole) (arg28 : Memref sig .tc .vmem S1x512 .f32) (harg28 : arg28.IsWhole) (arg29 : Memref sig .tc .vmem S1x32x64
      .f32) (harg29 : arg29.IsWhole) (arg30 : Memref sig .tc .vmem S1x32x64 .f32) (harg30 : arg30.IsWhole) (arg31 : Memref sig .tc .vmem S1x32
      .f32) (harg31 : arg31.IsWhole) (arg32 : Memref sig .tc .vmem S1x32x64x16 .f32) (harg32 : arg32.IsWhole) (arg33 : Memref sig .tc .vmem
      S1x32x64x16 .f32) (harg33 : arg33.IsWhole) (arg34 : Memref sig .tc .vmem S1x32x16x64 .f32) (harg34 : arg34.IsWhole) (arg35 : Memref sig .tc
      .vmem S1x32x16x64 .f32) (harg35 : arg35.IsWhole) (arg36 : Memref sig .tc .vmem S1x512 .f32) (harg36 : arg36.IsWhole) (arg37 : Memref sig .tc
      .vmem S1x1024 .f32) (harg37 : arg37.IsWhole) (arg38 : Memref sig .tc .vmem S1x1024 .f32) (harg38 : arg38.IsWhole) (arg39 : Memref sig .tc
      .vmem S1x1024 .f32) (harg39 : arg39.IsWhole) (arg40 : Memref sig .tc .vmem S1x1024 .f32) (harg40 : arg40.IsWhole) (arg41 : Memref sig .tc
      .vmem S1x512 .f32) (harg41 : arg41.IsWhole) (arg42 : Memref sig .tc .vmem S1x32x64 .f32) (harg42 : arg42.IsWhole) (arg43 : Memref sig .tc
      .vmem S1x32x64 .f32) (harg43 : arg43.IsWhole) (arg44 : Memref sig .tc .vmem S1x32 .f32) (harg44 : arg44.IsWhole) (arg45 : Memref sig .tc
      .vmem S1x32x64x16 .f32) (harg45 : arg45.IsWhole) (arg46 : Memref sig .tc .vmem S1x32x64x16 .f32) (harg46 : arg46.IsWhole) (arg47 : Memref sig
      .tc .vmem S1x32x16x64 .f32) (harg47 : arg47.IsWhole) (arg48 : Memref sig .tc .vmem S1x32x16x64 .f32) (harg48 : arg48.IsWhole) (arg49 : Memref
      sig .tc .vmem S1x512 .f32) (harg49 : arg49.IsWhole) (arg50 : Memref sig .tc .vmem S1x1024 .f32) (harg50 : arg50.IsWhole) (arg51 : Memref sig
      .tc .vmem S1x1024 .f32) (harg51 : arg51.IsWhole) (arg52 : Memref sig .tc .vmem S1x1024 .f32) (harg52 : arg52.IsWhole) (arg53 : Memref sig .tc
      .vmem S1x1024 .f32) (harg53 : arg53.IsWhole) (arg54 : Memref sig .tc .vmem S1x512 .f32) (harg54 : arg54.IsWhole) (arg55 : Memref sig .tc
      .vmem S1x32x64 .f32) (harg55 : arg55.IsWhole) (arg56 : Memref sig .tc .vmem S1x32x64 .f32) (harg56 : arg56.IsWhole) (arg57 : Memref sig .tc
      .vmem S1x32 .f32) (harg57 : arg57.IsWhole) (arg58 : Memref sig .tc .vmem S1x32x64x16 .f32) (harg58 : arg58.IsWhole) (arg59 : Memref sig .tc
      .vmem S1x32x64x16 .f32) (harg59 : arg59.IsWhole) (arg60 : Memref sig .tc .vmem S1x32x16x64 .f32) (harg60 : arg60.IsWhole) (arg61 : Memref sig
      .tc .vmem S1x32x16x64 .f32) (harg61 : arg61.IsWhole) (arg62 : Memref sig .tc .vmem S1x512 .f32) (harg62 : arg62.IsWhole) (arg63 : Memref sig
      .tc .vmem S1x1024 .f32) (harg63 : arg63.IsWhole) (arg64 : Memref sig .tc .vmem S1x1024 .f32) (harg64 : arg64.IsWhole) (arg65 : Memref sig .tc
      .vmem S1x1024 .f32) (harg65 : arg65.IsWhole) (arg66 : Memref sig .tc .vmem S1x1024 .f32) (harg66 : arg66.IsWhole) (arg67 : Memref sig .tc
      .vmem S1x512 .f32) (harg67 : arg67.IsWhole) (arg68 : Memref sig .tc .vmem S1x32x64 .f32) (harg68 : arg68.IsWhole) (arg69 : Memref sig .tc
      .vmem S1x32x64 .f32) (harg69 : arg69.IsWhole) (arg70 : Memref sig .tc .vmem S1x32 .f32) (harg70 : arg70.IsWhole) (arg71 : Memref sig .tc
      .vmem S1x32x64x16 .f32) (harg71 : arg71.IsWhole) (arg72 : Memref sig .tc .vmem S1x32x64x16 .f32) (harg72 : arg72.IsWhole) (arg73 : Memref sig
      .tc .vmem S1x32x16x64 .f32) (harg73 : arg73.IsWhole) (arg74 : Memref sig .tc .vmem S1x32x16x64 .f32) (harg74 : arg74.IsWhole) (arg75 : Memref
      sig .tc .vmem S1x512 .f32) (harg75 : arg75.IsWhole) (arg76 : Memref sig .tc .vmem S1x1024 .f32) (harg76 : arg76.IsWhole) (arg77 : Memref sig
      .tc .vmem S1x1024 .f32) (harg77 : arg77.IsWhole) (arg78 : Memref sig .tc .vmem S1x1024 .f32) (harg78 : arg78.IsWhole) (arg79 : Memref sig .tc
      .vmem S1x1024 .f32) (harg79 : arg79.IsWhole) (arg80 : Memref sig .tc .vmem S1x512 .f32) (harg80 : arg80.IsWhole) (arg81 : Memref sig .tc
      .vmem S1x32x64 .f32) (harg81 : arg81.IsWhole) (arg82 : Memref sig .tc .vmem S1x32x64 .f32) (harg82 : arg82.IsWhole) (arg83 : Memref sig .tc
      .vmem S1x32 .f32) (harg83 : arg83.IsWhole) (arg84 : Memref sig .tc .vmem S1x32x64x16 .f32) (harg84 : arg84.IsWhole) (arg85 : Memref sig .tc
      .vmem S1x32x64x16 .f32) (harg85 : arg85.IsWhole) (arg86 : Memref sig .tc .vmem S1x32x16x64 .f32) (harg86 : arg86.IsWhole) (arg87 : Memref sig
      .tc .vmem S1x32x16x64 .f32) (harg87 : arg87.IsWhole) (arg88 : Memref sig .tc .vmem S1x512 .f32) (harg88 : arg88.IsWhole) (arg89 : Memref sig
      .tc .vmem S1x1024 .f32) (harg89 : arg89.IsWhole) (arg90 : Memref sig .tc .vmem S1x1024 .f32) (harg90 : arg90.IsWhole)
    (x0 : Vec F S1x1024 .f32) (x1 : Vec F S1x1024 .f32) (x2 : Vec F S1x512 .f32) (x3 : Vec F S1x32x64 .f32) (x4 : Vec F S1x32x64 .f32) (x5 : Vec F
          S1x32 .f32) (x6 : Vec F S1x32x64x16 .f32) (x7 : Vec F S1x32x64x16 .f32) (x8 : Vec F S1x32x16x64 .f32) (x9 : Vec F S1x32x16x64 .f32) (x10
          : Vec F S1x512 .f32) (x11 : Vec F S1x1024 .f32) (x12 : Vec F S1x1024 .f32) (x13 : Vec F S1x1024 .f32) (x14 : Vec F S1x1024 .f32) (x15 :
          Vec F S1x512 .f32) (x16 : Vec F S1x32x64 .f32) (x17 : Vec F S1x32x64 .f32) (x18 : Vec F S1x32 .f32) (x19 : Vec F S1x32x64x16 .f32) (x20 :
          Vec F S1x32x64x16 .f32) (x21 : Vec F S1x32x16x64 .f32) (x22 : Vec F S1x32x16x64 .f32) (x23 : Vec F S1x512 .f32) (x24 : Vec F S1x1024
          .f32) (x25 : Vec F S1x1024 .f32) (x26 : Vec F S1x1024 .f32) (x27 : Vec F S1x1024 .f32) (x28 : Vec F S1x512 .f32) (x29 : Vec F S1x32x64
          .f32) (x30 : Vec F S1x32x64 .f32) (x31 : Vec F S1x32 .f32) (x32 : Vec F S1x32x64x16 .f32) (x33 : Vec F S1x32x64x16 .f32) (x34 : Vec F
          S1x32x16x64 .f32) (x35 : Vec F S1x32x16x64 .f32) (x36 : Vec F S1x512 .f32) (x37 : Vec F S1x1024 .f32) (x38 : Vec F S1x1024 .f32) (x39 :
          Vec F S1x1024 .f32) (x40 : Vec F S1x1024 .f32) (x41 : Vec F S1x512 .f32) (x42 : Vec F S1x32x64 .f32) (x43 : Vec F S1x32x64 .f32) (x44 :
          Vec F S1x32 .f32) (x45 : Vec F S1x32x64x16 .f32) (x46 : Vec F S1x32x64x16 .f32) (x47 : Vec F S1x32x16x64 .f32) (x48 : Vec F S1x32x16x64
          .f32) (x49 : Vec F S1x512 .f32) (x50 : Vec F S1x1024 .f32) (x51 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c
          : Thread nD τ) arg3 fullShare x3 ∗ owns (c : Thread nD τ) arg4 fullShare x4 ∗ owns (c : Thread nD τ) arg5 fullShare x5 ∗ owns (c : Thread
          nD τ) arg6 fullShare x6 ∗ owns (c : Thread nD τ) arg7 fullShare x7 ∗ owns (c : Thread nD τ) arg8 fullShare x8 ∗ owns (c : Thread nD τ)
          arg9 fullShare x9 ∗ owns (c : Thread nD τ) arg10 fullShare x10 ∗ owns (c : Thread nD τ) arg11 fullShare x11 ∗ owns (c : Thread nD τ)
          arg12 fullShare x12 ∗ owns (c : Thread nD τ) arg13 fullShare x13 ∗ owns (c : Thread nD τ) arg14 fullShare x14 ∗ owns (c : Thread nD τ)
          arg15 fullShare x15 ∗ owns (c : Thread nD τ) arg16 fullShare x16 ∗ owns (c : Thread nD τ) arg17 fullShare x17 ∗ owns (c : Thread nD τ)
          arg18 fullShare x18 ∗ owns (c : Thread nD τ) arg19 fullShare x19 ∗ owns (c : Thread nD τ) arg20 fullShare x20 ∗ owns (c : Thread nD τ)
          arg21 fullShare x21 ∗ owns (c : Thread nD τ) arg22 fullShare x22 ∗ owns (c : Thread nD τ) arg23 fullShare x23 ∗ owns (c : Thread nD τ)
          arg24 fullShare x24 ∗ owns (c : Thread nD τ) arg25 fullShare x25 ∗ owns (c : Thread nD τ) arg26 fullShare x26 ∗ owns (c : Thread nD τ)
          arg27 fullShare x27 ∗ owns (c : Thread nD τ) arg28 fullShare x28 ∗ owns (c : Thread nD τ) arg29 fullShare x29 ∗ owns (c : Thread nD τ)
          arg30 fullShare x30 ∗ owns (c : Thread nD τ) arg31 fullShare x31 ∗ owns (c : Thread nD τ) arg32 fullShare x32 ∗ owns (c : Thread nD τ)
          arg33 fullShare x33 ∗ owns (c : Thread nD τ) arg34 fullShare x34 ∗ owns (c : Thread nD τ) arg35 fullShare x35 ∗ owns (c : Thread nD τ)
          arg36 fullShare x36 ∗ owns (c : Thread nD τ) arg37 fullShare x37 ∗ owns (c : Thread nD τ) arg38 fullShare x38 ∗ owns (c : Thread nD τ)
          arg39 fullShare x39 ∗ owns (c : Thread nD τ) arg40 fullShare x40 ∗ owns (c : Thread nD τ) arg41 fullShare x41 ∗ owns (c : Thread nD τ)
          arg42 fullShare x42 ∗ owns (c : Thread nD τ) arg43 fullShare x43 ∗ owns (c : Thread nD τ) arg44 fullShare x44 ∗ owns (c : Thread nD τ)
          arg45 fullShare x45 ∗ owns (c : Thread nD τ) arg46 fullShare x46 ∗ owns (c : Thread nD τ) arg47 fullShare x47 ∗ owns (c : Thread nD τ)
          arg48 fullShare x48 ∗ owns (c : Thread nD τ) arg49 fullShare x49 ∗ owns (c : Thread nD τ) arg50 fullShare x50 ∗ owns (c : Thread nD τ)
          arg51 fullShare x51 ∗ (∃ d, owns (c : Thread nD τ) arg52 fullShare d) ∗ (∃ d, owns (c : Thread nD τ) arg53 fullShare d) ∗ (∃ d, owns (c :
          Thread nD τ) arg54 fullShare d) ∗ (∃ d, owns (c : Thread nD τ) arg55 fullShare d) ∗ (∃ d, owns (c : Thread nD τ) arg56 fullShare d) ∗ (∃
          d, owns (c : Thread nD τ) arg57 fullShare d) ∗ (∃ d, owns (c : Thread nD τ) arg58 fullShare d) ∗ (∃ d, owns (c : Thread nD τ) arg59
          fullShare d) ∗ (∃ d, owns (c : Thread nD τ) arg60 fullShare d) ∗ (∃ d, owns (c : Thread nD τ) arg61 fullShare d) ∗ (∃ d, owns (c : Thread
          nD τ) arg62 fullShare d) ∗ (∃ d, owns (c : Thread nD τ) arg63 fullShare d) ∗ (∃ d, owns (c : Thread nD τ) arg64 fullShare d) ∗ (∃ d, owns
          (c : Thread nD τ) arg65 fullShare d) ∗ (∃ d, owns (c : Thread nD τ) arg66 fullShare d) ∗ (∃ d, owns (c : Thread nD τ) arg67 fullShare d)
          ∗ (∃ d, owns (c : Thread nD τ) arg68 fullShare d) ∗ (∃ d, owns (c : Thread nD τ) arg69 fullShare d) ∗ (∃ d, owns (c : Thread nD τ) arg70
          fullShare d) ∗ (∃ d, owns (c : Thread nD τ) arg71 fullShare d) ∗ (∃ d, owns (c : Thread nD τ) arg72 fullShare d) ∗ (∃ d, owns (c : Thread
          nD τ) arg73 fullShare d) ∗ (∃ d, owns (c : Thread nD τ) arg74 fullShare d) ∗ (∃ d, owns (c : Thread nD τ) arg75 fullShare d) ∗ (∃ d, owns
          (c : Thread nD τ) arg76 fullShare d) ∗ (∃ d, owns (c : Thread nD τ) arg77 fullShare d) ∗ (∃ d, owns (c : Thread nD τ) arg78 fullShare d)
          ∗ (∃ d, owns (c : Thread nD τ) arg79 fullShare d) ∗ (∃ d, owns (c : Thread nD τ) arg80 fullShare d) ∗ (∃ d, owns (c : Thread nD τ) arg81
          fullShare d) ∗ (∃ d, owns (c : Thread nD τ) arg82 fullShare d) ∗ (∃ d, owns (c : Thread nD τ) arg83 fullShare d) ∗ (∃ d, owns (c : Thread
          nD τ) arg84 fullShare d) ∗ (∃ d, owns (c : Thread nD τ) arg85 fullShare d) ∗ (∃ d, owns (c : Thread nD τ) arg86 fullShare d) ∗ (∃ d, owns
          (c : Thread nD τ) arg87 fullShare d) ∗ (∃ d, owns (c : Thread nD τ) arg88 fullShare d) ∗ (∃ d, owns (c : Thread nD τ) arg89 fullShare d)
          ∗ (∃ d, owns (c : Thread nD τ) arg90 fullShare d)
        ∗ (iprop(owns (c : Thread nD τ) arg0 fullShare x0 ∗ owns (c : Thread nD τ) arg1 fullShare x1 ∗ owns (c : Thread nD τ) arg2 fullShare x2 ∗
              owns (c : Thread nD τ) arg3 fullShare x3 ∗ owns (c : Thread nD τ) arg4 fullShare x4 ∗ owns (c : Thread nD τ) arg5 fullShare x5 ∗ owns
              (c : Thread nD τ) arg6 fullShare x6 ∗ owns (c : Thread nD τ) arg7 fullShare x7 ∗ owns (c : Thread nD τ) arg8 fullShare x8 ∗ owns (c :
              Thread nD τ) arg9 fullShare x9 ∗ owns (c : Thread nD τ) arg10 fullShare x10 ∗ owns (c : Thread nD τ) arg11 fullShare x11 ∗ owns (c :
              Thread nD τ) arg12 fullShare x12 ∗ owns (c : Thread nD τ) arg13 fullShare x13 ∗ owns (c : Thread nD τ) arg14 fullShare x14 ∗ owns (c
              : Thread nD τ) arg15 fullShare x15 ∗ owns (c : Thread nD τ) arg16 fullShare x16 ∗ owns (c : Thread nD τ) arg17 fullShare x17 ∗ owns
              (c : Thread nD τ) arg18 fullShare x18 ∗ owns (c : Thread nD τ) arg19 fullShare x19 ∗ owns (c : Thread nD τ) arg20 fullShare x20 ∗
              owns (c : Thread nD τ) arg21 fullShare x21 ∗ owns (c : Thread nD τ) arg22 fullShare x22 ∗ owns (c : Thread nD τ) arg23 fullShare x23
              ∗ owns (c : Thread nD τ) arg24 fullShare x24 ∗ owns (c : Thread nD τ) arg25 fullShare x25 ∗ owns (c : Thread nD τ) arg26 fullShare
              x26 ∗ owns (c : Thread nD τ) arg27 fullShare x27 ∗ owns (c : Thread nD τ) arg28 fullShare x28 ∗ owns (c : Thread nD τ) arg29
              fullShare x29 ∗ owns (c : Thread nD τ) arg30 fullShare x30 ∗ owns (c : Thread nD τ) arg31 fullShare x31 ∗ owns (c : Thread nD τ)
              arg32 fullShare x32 ∗ owns (c : Thread nD τ) arg33 fullShare x33 ∗ owns (c : Thread nD τ) arg34 fullShare x34 ∗ owns (c : Thread nD
              τ) arg35 fullShare x35 ∗ owns (c : Thread nD τ) arg36 fullShare x36 ∗ owns (c : Thread nD τ) arg37 fullShare x37 ∗ owns (c : Thread
              nD τ) arg38 fullShare x38 ∗ owns (c : Thread nD τ) arg39 fullShare x39 ∗ owns (c : Thread nD τ) arg40 fullShare x40 ∗ owns (c :
              Thread nD τ) arg41 fullShare x41 ∗ owns (c : Thread nD τ) arg42 fullShare x42 ∗ owns (c : Thread nD τ) arg43 fullShare x43 ∗ owns (c
              : Thread nD τ) arg44 fullShare x44 ∗ owns (c : Thread nD τ) arg45 fullShare x45 ∗ owns (c : Thread nD τ) arg46 fullShare x46 ∗ owns
              (c : Thread nD τ) arg47 fullShare x47 ∗ owns (c : Thread nD τ) arg48 fullShare x48 ∗ owns (c : Thread nD τ) arg49 fullShare x49 ∗
              owns (c : Thread nD τ) arg50 fullShare x50 ∗ owns (c : Thread nD τ) arg51 fullShare x51 ∗ owns (c : Thread nD τ) arg52 fullShare
              (out52 x0 x13 x26 x39) ∗ owns (c : Thread nD τ) arg53 fullShare (out53 x1 x14 x27 x40) ∗ owns (c : Thread nD τ) arg54 fullShare
              (out54 x2 x15 x28 x41) ∗ owns (c : Thread nD τ) arg55 fullShare (out55 x3 x16 x29 x42) ∗ owns (c : Thread nD τ) arg56 fullShare
              (out56 x4 x17 x30 x43) ∗ owns (c : Thread nD τ) arg57 fullShare (out57 x5 x18 x31 x44) ∗ owns (c : Thread nD τ) arg58 fullShare
              (out58 x6 x19 x32 x45) ∗ owns (c : Thread nD τ) arg59 fullShare (out59 x7 x20 x33 x46) ∗ owns (c : Thread nD τ) arg60 fullShare
              (out60 x8 x21 x34 x47) ∗ owns (c : Thread nD τ) arg61 fullShare (out61 x9 x22 x35 x48) ∗ owns (c : Thread nD τ) arg62 fullShare
              (out62 x10 x23 x36 x49) ∗ owns (c : Thread nD τ) arg63 fullShare (out63 x11 x24 x37 x50) ∗ owns (c : Thread nD τ) arg64 fullShare
              (out64 x12 x25 x38 x51) ∗ owns (c : Thread nD τ) arg65 fullShare (out65 x13 x26) ∗ owns (c : Thread nD τ) arg66 fullShare (out66 x14
              x27) ∗ owns (c : Thread nD τ) arg67 fullShare (out67 x15 x28) ∗ owns (c : Thread nD τ) arg68 fullShare (out68 x16 x29) ∗ owns (c :
              Thread nD τ) arg69 fullShare (out69 x17 x30) ∗ owns (c : Thread nD τ) arg70 fullShare (out70 x18 x31) ∗ owns (c : Thread nD τ) arg71
              fullShare (out71 x19 x32) ∗ owns (c : Thread nD τ) arg72 fullShare (out72 x20 x33) ∗ owns (c : Thread nD τ) arg73 fullShare (out73
              x21 x34) ∗ owns (c : Thread nD τ) arg74 fullShare (out74 x22 x35) ∗ owns (c : Thread nD τ) arg75 fullShare (out75 x23 x36) ∗ owns (c
              : Thread nD τ) arg76 fullShare (out76 x24 x37) ∗ owns (c : Thread nD τ) arg77 fullShare (out77 x25 x38) ∗ owns (c : Thread nD τ)
              arg78 fullShare (out78 x13 x39) ∗ owns (c : Thread nD τ) arg79 fullShare (out79 x14 x40) ∗ owns (c : Thread nD τ) arg80 fullShare
              (out80 x15 x41) ∗ owns (c : Thread nD τ) arg81 fullShare (out81 x16 x42) ∗ owns (c : Thread nD τ) arg82 fullShare (out82 x17 x43) ∗
              owns (c : Thread nD τ) arg83 fullShare (out83 x18 x44) ∗ owns (c : Thread nD τ) arg84 fullShare (out84 x19 x45) ∗ owns (c : Thread nD
              τ) arg85 fullShare (out85 x20 x46) ∗ owns (c : Thread nD τ) arg86 fullShare (out86 x21 x47) ∗ owns (c : Thread nD τ) arg87 fullShare
              (out87 x22 x48) ∗ owns (c : Thread nD τ) arg88 fullShare (out88 x23 x49) ∗ owns (c : Thread nD τ) arg89 fullShare (out89 x24 x50) ∗
              owns (c : Thread nD τ) arg90 fullShare (out90 x25 x51)) -∗ K ⟨⟩))
      ⊢ wp frame (wpE (defs₀ (F := F)) Variants.none c none) E (cc0_adamw_small arg0 harg0 arg1 harg1 arg2 harg2 arg3 harg3 arg4 harg4 arg5 harg5
            arg6 harg6 arg7 harg7 arg8 harg8 arg9 harg9 arg10 harg10 arg11 harg11 arg12 harg12 arg13 harg13 arg14 harg14 arg15 harg15 arg16 harg16
            arg17 harg17 arg18 harg18 arg19 harg19 arg20 harg20 arg21 harg21 arg22 harg22 arg23 harg23 arg24 harg24 arg25 harg25 arg26 harg26 arg27
            harg27 arg28 harg28 arg29 harg29 arg30 harg30 arg31 harg31 arg32 harg32 arg33 harg33 arg34 harg34 arg35 harg35 arg36 harg36 arg37
            harg37 arg38 harg38 arg39 harg39 arg40 harg40 arg41 harg41 arg42 harg42 arg43 harg43 arg44 harg44 arg45 harg45 arg46 harg46 arg47
            harg47 arg48 harg48 arg49 harg49 arg50 harg50 arg51 harg51 arg52 harg52 arg53 harg53 arg54 harg54 arg55 harg55 arg56 harg56 arg57
            harg57 arg58 harg58 arg59 harg59 arg60 harg60 arg61 harg61 arg62 harg62 arg63 harg63 arg64 harg64 arg65 harg65 arg66 harg66 arg67
            harg67 arg68 harg68 arg69 harg69 arg70 harg70 arg71 harg71 arg72 harg72 arg73 harg73 arg74 harg74 arg75 harg75 arg76 harg76 arg77
            harg77 arg78 harg78 arg79 harg79 arg80 harg80 arg81 harg81 arg82 harg82 arg83 harg83 arg84 harg84 arg85 harg85 arg86 harg86 arg87
            harg87 arg88 harg88 arg89 harg89 arg90 harg90) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton,
        k0_part7_eq_skeleton, k0_part8_eq_skeleton, k0_part9_eq_skeleton, k0_part10_eq_skeleton, k0_part11_eq_skeleton, k0_part12_eq_skeleton,
        k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
        ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
        ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩,
        ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩,
        ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩,
        ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩,
        ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩,
        ⟨%f50, %hf50, H50⟩, ⟨%f51, %hf51, H51⟩, ⟨%d52, %f52, -, H52⟩, ⟨%d53, %f53, -, H53⟩, ⟨%d54, %f54, -, H54⟩, ⟨%d55, %f55, -, H55⟩, ⟨%d56,
        %f56, -, H56⟩, ⟨%d57, %f57, -, H57⟩, ⟨%d58, %f58, -, H58⟩, ⟨%d59, %f59, -, H59⟩, ⟨%d60, %f60, -, H60⟩, ⟨%d61, %f61, -, H61⟩, ⟨%d62, %f62,
        -, H62⟩, ⟨%d63, %f63, -, H63⟩, ⟨%d64, %f64, -, H64⟩, ⟨%d65, %f65, -, H65⟩, ⟨%d66, %f66, -, H66⟩, ⟨%d67, %f67, -, H67⟩, ⟨%d68, %f68, -,
        H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩,
        ⟨%d75, %f75, -, H75⟩, ⟨%d76, %f76, -, H76⟩, ⟨%d77, %f77, -, H77⟩, ⟨%d78, %f78, -, H78⟩, ⟨%d79, %f79, -, H79⟩, ⟨%d80, %f80, -, H80⟩, ⟨%d81,
        %f81, -, H81⟩, ⟨%d82, %f82, -, H82⟩, ⟨%d83, %f83, -, H83⟩, ⟨%d84, %f84, -, H84⟩, ⟨%d85, %f85, -, H85⟩, ⟨%d86, %f86, -, H86⟩, ⟨%d87, %f87,
        -, H87⟩, ⟨%d88, %f88, -, H88⟩, ⟨%d89, %f89, -, H89⟩, ⟨%d90, %f90, -, H90⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29
        hf30 hf31 hf32 hf33 hf34 hf35 hf36 hf37 hf38 hf39 hf40 hf41 hf42 hf43 hf44 hf45 hf46 hf47 hf48 hf49 hf50 hf51
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists f44; isplitr; · ipureintro; rfl
    iexact H44
  isplitl [H45]
  · iexists f45; isplitr; · ipureintro; rfl
    iexact H45
  isplitl [H46]
  · iexists f46; isplitr; · ipureintro; rfl
    iexact H46
  isplitl [H47]
  · iexists f47; isplitr; · ipureintro; rfl
    iexact H47
  isplitl [H48]
  · iexists f48; isplitr; · ipureintro; rfl
    iexact H48
  isplitl [H49]
  · iexists f49; isplitr; · ipureintro; rfl
    iexact H49
  isplitl [H50]
  · iexists f50; isplitr; · ipureintro; rfl
    iexact H50
  isplitl [H51]
  · iexists f51; isplitr; · ipureintro; rfl
    iexact H51
  isplitl [H52]
  · iexists _; isplitr
    swap; · iexact H52
    ipureintro
    refine (View.read_writes_eq_canon _ _ _ (cover0 _)).trans ?_
    rfl
  isplitl [H53]
  · iexists _; isplitr
    swap; · iexact H53
    ipureintro
    refine (View.read_writes_eq_canon _ _ _ (cover0 _)).trans ?_
    rfl
  isplitl [H54]
  · iexists _; isplitr
    swap; · iexact H54
    ipureintro
    refine (View.read_writes_eq_canon _ _ _ (cover1 _)).trans ?_
    rfl
  isplitl [H55]
  · iexists _; isplitr
    swap; · iexact H55
    ipureintro
    refine (View.read_writes_eq_canon _ _ _ (cover2 _)).trans ?_
    rfl
  isplitl [H56]
  · iexists _; isplitr
    swap; · iexact H56
    ipureintro
    refine (View.read_writes_eq_canon _ _ _ (cover2 _)).trans ?_
    rfl
  isplitl [H57]
  · iexists _; isplitr
    swap; · iexact H57
    ipureintro
    refine (View.read_writes_eq_canon _ _ _ (cover3 _)).trans ?_
    rfl
  isplitl [H58]
  · iexists _; isplitr
    swap; · iexact H58
    ipureintro
    refine (View.read_writes_eq_canon _ _ _ (cover4 _)).trans ?_
    rfl
  isplitl [H59]
  · iexists _; isplitr
    swap; · iexact H59
    ipureintro
    refine (View.read_writes_eq_canon _ _ _ (cover4 _)).trans ?_
    rfl
  isplitl [H60]
  · iexists _; isplitr
    swap; · iexact H60
    ipureintro
    refine (View.read_writes_eq_canon _ _ _ (cover5 _)).trans ?_
    rfl
  isplitl [H61]
  · iexists _; isplitr
    swap; · iexact H61
    ipureintro
    refine (View.read_writes_eq_canon _ _ _ (cover5 _)).trans ?_
    rfl
  isplitl [H62]
  · iexists _; isplitr
    swap; · iexact H62
    ipureintro
    refine (View.read_writes_eq_canon _ _ _ (cover1 _)).trans ?_
    rfl
  isplitl [H63]
  · iexists _; isplitr
    swap; · iexact H63
    ipureintro
    refine (View.read_writes_eq_canon _ _ _ (cover0 _)).trans ?_
    rfl
  isplitl [H64]
  · iexists _; isplitr
    swap; · iexact H64
    ipureintro
    refine (View.read_writes_eq_canon _ _ _ (cover0 _)).trans ?_
    rfl
  isplitl [H65]
  · iexists _; isplitr
    swap; · iexact H65
    ipureintro
    refine (View.read_writes_eq_canon _ _ _ (cover0 _)).trans ?_
    rfl
  isplitl [H66]
  · iexists _; isplitr
    swap; · iexact H66
    ipureintro
    refine (View.read_writes_eq_canon _ _ _ (cover0 _)).trans ?_
    rfl
  isplitl [H67]
  · iexists _; isplitr
    swap; · iexact H67
    ipureintro
    refine (View.read_writes_eq_canon _ _ _ (cover1 _)).trans ?_
    rfl
  isplitl [H68]
  · iexists _; isplitr
    swap; · iexact H68
    ipureintro
    refine (View.read_writes_eq_canon _ _ _ (cover2 _)).trans ?_
    rfl
  isplitl [H69]
  · iexists _; isplitr
    swap; · iexact H69
    ipureintro
    refine (View.read_writes_eq_canon _ _ _ (cover2 _)).trans ?_
    rfl
  isplitl [H70]
  · iexists _; isplitr
    swap; · iexact H70
    ipureintro
    refine (View.read_writes_eq_canon _ _ _ (cover3 _)).trans ?_
    rfl
  isplitl [H71]
  · iexists _; isplitr
    swap; · iexact H71
    ipureintro
    refine (View.read_writes_eq_canon _ _ _ (cover4 _)).trans ?_
    rfl
  isplitl [H72]
  · iexists _; isplitr
    swap; · iexact H72
    ipureintro
    refine (View.read_writes_eq_canon _ _ _ (cover4 _)).trans ?_
    rfl
  isplitl [H73]
  · iexists _; isplitr
    swap; · iexact H73
    ipureintro
    refine (View.read_writes_eq_canon _ _ _ (cover5 _)).trans ?_
    rfl
  isplitl [H74]
  · iexists _; isplitr
    swap; · iexact H74
    ipureintro
    refine (View.read_writes_eq_canon _ _ _ (cover5 _)).trans ?_
    rfl
  isplitl [H75]
  · iexists _; isplitr
    swap; · iexact H75
    ipureintro
    refine (View.read_writes_eq_canon _ _ _ (cover1 _)).trans ?_
    rfl
  isplitl [H76]
  · iexists _; isplitr
    swap; · iexact H76
    ipureintro
    refine (View.read_writes_eq_canon _ _ _ (cover0 _)).trans ?_
    rfl
  isplitl [H77]
  · iexists _; isplitr
    swap; · iexact H77
    ipureintro
    refine (View.read_writes_eq_canon _ _ _ (cover0 _)).trans ?_
    rfl
  isplitl [H78]
  · iexists _; isplitr
    swap; · iexact H78
    ipureintro
    refine (View.read_writes_eq_canon _ _ _ (cover0 _)).trans ?_
    rfl
  isplitl [H79]
  · iexists _; isplitr
    swap; · iexact H79
    ipureintro
    refine (View.read_writes_eq_canon _ _ _ (cover0 _)).trans ?_
    rfl
  isplitl [H80]
  · iexists _; isplitr
    swap; · iexact H80
    ipureintro
    refine (View.read_writes_eq_canon _ _ _ (cover1 _)).trans ?_
    rfl
  isplitl [H81]
  · iexists _; isplitr
    swap; · iexact H81
    ipureintro
    refine (View.read_writes_eq_canon _ _ _ (cover2 _)).trans ?_
    rfl
  isplitl [H82]
  · iexists _; isplitr
    swap; · iexact H82
    ipureintro
    refine (View.read_writes_eq_canon _ _ _ (cover2 _)).trans ?_
    rfl
  isplitl [H83]
  · iexists _; isplitr
    swap; · iexact H83
    ipureintro
    refine (View.read_writes_eq_canon _ _ _ (cover3 _)).trans ?_
    rfl
  isplitl [H84]
  · iexists _; isplitr
    swap; · iexact H84
    ipureintro
    refine (View.read_writes_eq_canon _ _ _ (cover4 _)).trans ?_
    rfl
  isplitl [H85]
  · iexists _; isplitr
    swap; · iexact H85
    ipureintro
    refine (View.read_writes_eq_canon _ _ _ (cover4 _)).trans ?_
    rfl
  isplitl [H86]
  · iexists _; isplitr
    swap; · iexact H86
    ipureintro
    refine (View.read_writes_eq_canon _ _ _ (cover5 _)).trans ?_
    rfl
  isplitl [H87]
  · iexists _; isplitr
    swap; · iexact H87
    ipureintro
    refine (View.read_writes_eq_canon _ _ _ (cover5 _)).trans ?_
    rfl
  isplitl [H88]
  · iexists _; isplitr
    swap; · iexact H88
    ipureintro
    refine (View.read_writes_eq_canon _ _ _ (cover1 _)).trans ?_
    rfl
  isplitl [H89]
  · iexists _; isplitr
    swap; · iexact H89
    ipureintro
    refine (View.read_writes_eq_canon _ _ _ (cover0 _)).trans ?_
    rfl
  iexists _; isplitr
  swap; · iexact H90
  ipureintro
  refine (View.read_writes_eq_canon _ _ _ (cover0 _)).trans ?_
  rfl

end Cert.Kernel6Ideal.Small

end
-- ==== Proof.SmallData.lean ====
module

public import proofs.«01_k».proof.Proof.SmallOut

@[expose] public section

/-!
# The arrays of the AdamW kernel of the small weights around its one point

The blocks are the whole arrays.
-/

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the call starts: as they were given. -/
abbrev V (c : Dev nD) (b : Ref sig .tc) : Buf (Elt F) ((c : Thread nD τ).loc b) := m ((c : Thread nD τ).loc b)

set_option maxHeartbeats 800000 in
/-- The host code is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arrays as given, and after the body each input's block and each output as defined from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, _⟩ => iblk m c 47 t
    | ⟨48, _⟩ => iblk m c 48 t
    | ⟨49, _⟩ => iblk m c 49 t
    | ⟨50, _⟩ => iblk m c 50 t
    | ⟨51, _⟩ => iblk m c 51 t
    | ⟨52, _⟩ => out52 (iblk m c 0 t) (iblk m c 13 t) (iblk m c 26 t) (iblk m c 39 t)
    | ⟨53, _⟩ => out53 (iblk m c 1 t) (iblk m c 14 t) (iblk m c 27 t) (iblk m c 40 t)
    | ⟨54, _⟩ => out54 (iblk m c 2 t) (iblk m c 15 t) (iblk m c 28 t) (iblk m c 41 t)
    | ⟨55, _⟩ => out55 (iblk m c 3 t) (iblk m c 16 t) (iblk m c 29 t) (iblk m c 42 t)
    | ⟨56, _⟩ => out56 (iblk m c 4 t) (iblk m c 17 t) (iblk m c 30 t) (iblk m c 43 t)
    | ⟨57, _⟩ => out57 (iblk m c 5 t) (iblk m c 18 t) (iblk m c 31 t) (iblk m c 44 t)
    | ⟨58, _⟩ => out58 (iblk m c 6 t) (iblk m c 19 t) (iblk m c 32 t) (iblk m c 45 t)
    | ⟨59, _⟩ => out59 (iblk m c 7 t) (iblk m c 20 t) (iblk m c 33 t) (iblk m c 46 t)
    | ⟨60, _⟩ => out60 (iblk m c 8 t) (iblk m c 21 t) (iblk m c 34 t) (iblk m c 47 t)
    | ⟨61, _⟩ => out61 (iblk m c 9 t) (iblk m c 22 t) (iblk m c 35 t) (iblk m c 48 t)
    | ⟨62, _⟩ => out62 (iblk m c 10 t) (iblk m c 23 t) (iblk m c 36 t) (iblk m c 49 t)
    | ⟨63, _⟩ => out63 (iblk m c 11 t) (iblk m c 24 t) (iblk m c 37 t) (iblk m c 50 t)
    | ⟨64, _⟩ => out64 (iblk m c 12 t) (iblk m c 25 t) (iblk m c 38 t) (iblk m c 51 t)
    | ⟨65, _⟩ => out65 (iblk m c 13 t) (iblk m c 26 t)
    | ⟨66, _⟩ => out66 (iblk m c 14 t) (iblk m c 27 t)
    | ⟨67, _⟩ => out67 (iblk m c 15 t) (iblk m c 28 t)
    | ⟨68, _⟩ => out68 (iblk m c 16 t) (iblk m c 29 t)
    | ⟨69, _⟩ => out69 (iblk m c 17 t) (iblk m c 30 t)
    | ⟨70, _⟩ => out70 (iblk m c 18 t) (iblk m c 31 t)
    | ⟨71, _⟩ => out71 (iblk m c 19 t) (iblk m c 32 t)
    | ⟨72, _⟩ => out72 (iblk m c 20 t) (iblk m c 33 t)
    | ⟨73, _⟩ => out73 (iblk m c 21 t) (iblk m c 34 t)
    | ⟨74, _⟩ => out74 (iblk m c 22 t) (iblk m c 35 t)
    | ⟨75, _⟩ => out75 (iblk m c 23 t) (iblk m c 36 t)
    | ⟨76, _⟩ => out76 (iblk m c 24 t) (iblk m c 37 t)
    | ⟨77, _⟩ => out77 (iblk m c 25 t) (iblk m c 38 t)
    | ⟨78, _⟩ => out78 (iblk m c 13 t) (iblk m c 39 t)
    | ⟨79, _⟩ => out79 (iblk m c 14 t) (iblk m c 40 t)
    | ⟨80, _⟩ => out80 (iblk m c 15 t) (iblk m c 41 t)
    | ⟨81, _⟩ => out81 (iblk m c 16 t) (iblk m c 42 t)
    | ⟨82, _⟩ => out82 (iblk m c 17 t) (iblk m c 43 t)
    | ⟨83, _⟩ => out83 (iblk m c 18 t) (iblk m c 44 t)
    | ⟨84, _⟩ => out84 (iblk m c 19 t) (iblk m c 45 t)
    | ⟨85, _⟩ => out85 (iblk m c 20 t) (iblk m c 46 t)
    | ⟨86, _⟩ => out86 (iblk m c 21 t) (iblk m c 47 t)
    | ⟨87, _⟩ => out87 (iblk m c 22 t) (iblk m c 48 t)
    | ⟨88, _⟩ => out88 (iblk m c 23 t) (iblk m c 49 t)
    | ⟨89, _⟩ => out89 (iblk m c 24 t) (iblk m c 50 t)
    | ⟨90, _⟩ => out90 (iblk m c 25 t) (iblk m c 51 t)
    | ⟨_ + 91, h⟩ => absurd h (Nat.not_lt.2 (Nat.le_add_left _ _))
  Φ _ := Pipeline.ΦA spec0 c
  q _ := fullShare
  owed _ := 0

/-- The arrays at the start are the given ones. -/
theorem A_eq (c : Dev nD) (w : Fin cfg0.W) : (dats m 0 c).A w = V m c (Pipeline.arrRef spec0 w) := by
  dsimp only [dats]

/-! ### After the body, window by window -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = iblk m c 32 t := by dsimp only [dats]
theorem after33 (c : Dev nD) (t : Fin cfg0.N) : (dats m 0 c).after 33 t = iblk m c 33 t := by dsimp only [dats]
theorem after34 (c : Dev nD) (t : Fin cfg0.N) : (dats m 0 c).after 34 t = iblk m c 34 t := by dsimp only [dats]
theorem after35 (c : Dev nD) (t : Fin cfg0.N) : (dats m 0 c).after 35 t = iblk m c 35 t := by dsimp only [dats]
theorem after36 (c : Dev nD) (t : Fin cfg0.N) : (dats m 0 c).after 36 t = iblk m c 36 t := by dsimp only [dats]
theorem after37 (c : Dev nD) (t : Fin cfg0.N) : (dats m 0 c).after 37 t = iblk m c 37 t := by dsimp only [dats]
theorem after38 (c : Dev nD) (t : Fin cfg0.N) : (dats m 0 c).after 38 t = iblk m c 38 t := by dsimp only [dats]
theorem after39 (c : Dev nD) (t : Fin cfg0.N) : (dats m 0 c).after 39 t = iblk m c 39 t := by dsimp only [dats]
theorem after40 (c : Dev nD) (t : Fin cfg0.N) : (dats m 0 c).after 40 t = iblk m c 40 t := by dsimp only [dats]
theorem after41 (c : Dev nD) (t : Fin cfg0.N) : (dats m 0 c).after 41 t = iblk m c 41 t := by dsimp only [dats]
theorem after42 (c : Dev nD) (t : Fin cfg0.N) : (dats m 0 c).after 42 t = iblk m c 42 t := by dsimp only [dats]
theorem after43 (c : Dev nD) (t : Fin cfg0.N) : (dats m 0 c).after 43 t = iblk m c 43 t := by dsimp only [dats]
theorem after44 (c : Dev nD) (t : Fin cfg0.N) : (dats m 0 c).after 44 t = iblk m c 44 t := by dsimp only [dats]
theorem after45 (c : Dev nD) (t : Fin cfg0.N) : (dats m 0 c).after 45 t = iblk m c 45 t := by dsimp only [dats]
theorem after46 (c : Dev nD) (t : Fin cfg0.N) : (dats m 0 c).after 46 t = iblk m c 46 t := by dsimp only [dats]
theorem after47 (c : Dev nD) (t : Fin cfg0.N) : (dats m 0 c).after 47 t = iblk m c 47 t := by dsimp only [dats]
theorem after48 (c : Dev nD) (t : Fin cfg0.N) : (dats m 0 c).after 48 t = iblk m c 48 t := by dsimp only [dats]
theorem after49 (c : Dev nD) (t : Fin cfg0.N) : (dats m 0 c).after 49 t = iblk m c 49 t := by dsimp only [dats]
theorem after50 (c : Dev nD) (t : Fin cfg0.N) : (dats m 0 c).after 50 t = iblk m c 50 t := by dsimp only [dats]
theorem after51 (c : Dev nD) (t : Fin cfg0.N) : (dats m 0 c).after 51 t = iblk m c 51 t := by dsimp only [dats]
theorem after52 (c : Dev nD) (t : Fin cfg0.N) : (dats m 0 c).after 52 t = out52 (iblk m c 0 t) (iblk m c 13 t) (iblk m c 26 t) (iblk m c 39 t) := by
  dsimp only [dats]
theorem after53 (c : Dev nD) (t : Fin cfg0.N) : (dats m 0 c).after 53 t = out53 (iblk m c 1 t) (iblk m c 14 t) (iblk m c 27 t) (iblk m c 40 t) := by
  dsimp only [dats]
theorem after54 (c : Dev nD) (t : Fin cfg0.N) : (dats m 0 c).after 54 t = out54 (iblk m c 2 t) (iblk m c 15 t) (iblk m c 28 t) (iblk m c 41 t) := by
  dsimp only [dats]
theorem after55 (c : Dev nD) (t : Fin cfg0.N) : (dats m 0 c).after 55 t = out55 (iblk m c 3 t) (iblk m c 16 t) (iblk m c 29 t) (iblk m c 42 t) := by
  dsimp only [dats]
theorem after56 (c : Dev nD) (t : Fin cfg0.N) : (dats m 0 c).after 56 t = out56 (iblk m c 4 t) (iblk m c 17 t) (iblk m c 30 t) (iblk m c 43 t) := by
  dsimp only [dats]
theorem after57 (c : Dev nD) (t : Fin cfg0.N) : (dats m 0 c).after 57 t = out57 (iblk m c 5 t) (iblk m c 18 t) (iblk m c 31 t) (iblk m c 44 t) := by
  dsimp only [dats]
theorem after58 (c : Dev nD) (t : Fin cfg0.N) : (dats m 0 c).after 58 t = out58 (iblk m c 6 t) (iblk m c 19 t) (iblk m c 32 t) (iblk m c 45 t) := by
  dsimp only [dats]
theorem after59 (c : Dev nD) (t : Fin cfg0.N) : (dats m 0 c).after 59 t = out59 (iblk m c 7 t) (iblk m c 20 t) (iblk m c 33 t) (iblk m c 46 t) := by
  dsimp only [dats]
theorem after60 (c : Dev nD) (t : Fin cfg0.N) : (dats m 0 c).after 60 t = out60 (iblk m c 8 t) (iblk m c 21 t) (iblk m c 34 t) (iblk m c 47 t) := by
  dsimp only [dats]
theorem after61 (c : Dev nD) (t : Fin cfg0.N) : (dats m 0 c).after 61 t = out61 (iblk m c 9 t) (iblk m c 22 t) (iblk m c 35 t) (iblk m c 48 t) := by
  dsimp only [dats]
theorem after62 (c : Dev nD) (t : Fin cfg0.N) : (dats m 0 c).after 62 t = out62 (iblk m c 10 t) (iblk m c 23 t) (iblk m c 36 t) (iblk m c 49 t) := by
  dsimp only [dats]
theorem after63 (c : Dev nD) (t : Fin cfg0.N) : (dats m 0 c).after 63 t = out63 (iblk m c 11 t) (iblk m c 24 t) (iblk m c 37 t) (iblk m c 50 t) := by
  dsimp only [dats]
theorem after64 (c : Dev nD) (t : Fin cfg0.N) : (dats m 0 c).after 64 t = out64 (iblk m c 12 t) (iblk m c 25 t) (iblk m c 38 t) (iblk m c 51 t) := by
  dsimp only [dats]
theorem after65 (c : Dev nD) (t : Fin cfg0.N) : (dats m 0 c).after 65 t = out65 (iblk m c 13 t) (iblk m c 26 t) := by
  dsimp only [dats]
theorem after66 (c : Dev nD) (t : Fin cfg0.N) : (dats m 0 c).after 66 t = out66 (iblk m c 14 t) (iblk m c 27 t) := by
  dsimp only [dats]
theorem after67 (c : Dev nD) (t : Fin cfg0.N) : (dats m 0 c).after 67 t = out67 (iblk m c 15 t) (iblk m c 28 t) := by
  dsimp only [dats]
theorem after68 (c : Dev nD) (t : Fin cfg0.N) : (dats m 0 c).after 68 t = out68 (iblk m c 16 t) (iblk m c 29 t) := by
  dsimp only [dats]
theorem after69 (c : Dev nD) (t : Fin cfg0.N) : (dats m 0 c).after 69 t = out69 (iblk m c 17 t) (iblk m c 30 t) := by
  dsimp only [dats]
theorem after70 (c : Dev nD) (t : Fin cfg0.N) : (dats m 0 c).after 70 t = out70 (iblk m c 18 t) (iblk m c 31 t) := by
  dsimp only [dats]
theorem after71 (c : Dev nD) (t : Fin cfg0.N) : (dats m 0 c).after 71 t = out71 (iblk m c 19 t) (iblk m c 32 t) := by
  dsimp only [dats]
theorem after72 (c : Dev nD) (t : Fin cfg0.N) : (dats m 0 c).after 72 t = out72 (iblk m c 20 t) (iblk m c 33 t) := by
  dsimp only [dats]
theorem after73 (c : Dev nD) (t : Fin cfg0.N) : (dats m 0 c).after 73 t = out73 (iblk m c 21 t) (iblk m c 34 t) := by
  dsimp only [dats]
theorem after74 (c : Dev nD) (t : Fin cfg0.N) : (dats m 0 c).after 74 t = out74 (iblk m c 22 t) (iblk m c 35 t) := by
  dsimp only [dats]
theorem after75 (c : Dev nD) (t : Fin cfg0.N) : (dats m 0 c).after 75 t = out75 (iblk m c 23 t) (iblk m c 36 t) := by
  dsimp only [dats]
theorem after76 (c : Dev nD) (t : Fin cfg0.N) : (dats m 0 c).after 76 t = out76 (iblk m c 24 t) (iblk m c 37 t) := by
  dsimp only [dats]
theorem after77 (c : Dev nD) (t : Fin cfg0.N) : (dats m 0 c).after 77 t = out77 (iblk m c 25 t) (iblk m c 38 t) := by
  dsimp only [dats]
theorem after78 (c : Dev nD) (t : Fin cfg0.N) : (dats m 0 c).after 78 t = out78 (iblk m c 13 t) (iblk m c 39 t) := by
  dsimp only [dats]
theorem after79 (c : Dev nD) (t : Fin cfg0.N) : (dats m 0 c).after 79 t = out79 (iblk m c 14 t) (iblk m c 40 t) := by
  dsimp only [dats]
theorem after80 (c : Dev nD) (t : Fin cfg0.N) : (dats m 0 c).after 80 t = out80 (iblk m c 15 t) (iblk m c 41 t) := by
  dsimp only [dats]
theorem after81 (c : Dev nD) (t : Fin cfg0.N) : (dats m 0 c).after 81 t = out81 (iblk m c 16 t) (iblk m c 42 t) := by
  dsimp only [dats]
theorem after82 (c : Dev nD) (t : Fin cfg0.N) : (dats m 0 c).after 82 t = out82 (iblk m c 17 t) (iblk m c 43 t) := by
  dsimp only [dats]
theorem after83 (c : Dev nD) (t : Fin cfg0.N) : (dats m 0 c).after 83 t = out83 (iblk m c 18 t) (iblk m c 44 t) := by
  dsimp only [dats]
theorem after84 (c : Dev nD) (t : Fin cfg0.N) : (dats m 0 c).after 84 t = out84 (iblk m c 19 t) (iblk m c 45 t) := by
  dsimp only [dats]
theorem after85 (c : Dev nD) (t : Fin cfg0.N) : (dats m 0 c).after 85 t = out85 (iblk m c 20 t) (iblk m c 46 t) := by
  dsimp only [dats]
theorem after86 (c : Dev nD) (t : Fin cfg0.N) : (dats m 0 c).after 86 t = out86 (iblk m c 21 t) (iblk m c 47 t) := by
  dsimp only [dats]
theorem after87 (c : Dev nD) (t : Fin cfg0.N) : (dats m 0 c).after 87 t = out87 (iblk m c 22 t) (iblk m c 48 t) := by
  dsimp only [dats]
theorem after88 (c : Dev nD) (t : Fin cfg0.N) : (dats m 0 c).after 88 t = out88 (iblk m c 23 t) (iblk m c 49 t) := by
  dsimp only [dats]
theorem after89 (c : Dev nD) (t : Fin cfg0.N) : (dats m 0 c).after 89 t = out89 (iblk m c 24 t) (iblk m c 50 t) := by
  dsimp only [dats]
theorem after90 (c : Dev nD) (t : Fin cfg0.N) : (dats m 0 c).after 90 t = out90 (iblk m c 25 t) (iblk m c 51 t) := by
  dsimp only [dats]

/-! ### Before the body every input holds its block -/

theorem before0 (c : Dev nD) (t : Fin cfg0.N) (d) : (dats m 0 c).before 0 t d = iblk m c 0 t :=
  ((dats m 0 c).before_in_eq_fetched 0 rfl (fun _ => rfl) (fun _ _ _ => rfl) (fun t => by
    rw [after0]; unfold Dat.blockOf iblk; rw [A_eq m c 0]; try rfl) t d).trans (by unfold Dat.fetched Dat.blockOf iblk; rw [A_eq m c 0]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by
    rw [after1]; unfold Dat.blockOf iblk; rw [A_eq m c 1]; try rfl) t d).trans (by unfold Dat.fetched Dat.blockOf iblk; rw [A_eq m c 1]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by
    rw [after2]; unfold Dat.blockOf iblk; rw [A_eq m c 2]; try rfl) t d).trans (by unfold Dat.fetched Dat.blockOf iblk; rw [A_eq m c 2]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by
    rw [after3]; unfold Dat.blockOf iblk; rw [A_eq m c 3]; try rfl) t d).trans (by unfold Dat.fetched Dat.blockOf iblk; rw [A_eq m c 3]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by
    rw [after4]; unfold Dat.blockOf iblk; rw [A_eq m c 4]; try rfl) t d).trans (by unfold Dat.fetched Dat.blockOf iblk; rw [A_eq m c 4]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by
    rw [after5]; unfold Dat.blockOf iblk; rw [A_eq m c 5]; try rfl) t d).trans (by unfold Dat.fetched Dat.blockOf iblk; rw [A_eq m c 5]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by
    rw [after6]; unfold Dat.blockOf iblk; rw [A_eq m c 6]; try rfl) t d).trans (by unfold Dat.fetched Dat.blockOf iblk; rw [A_eq m c 6]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by
    rw [after7]; unfold Dat.blockOf iblk; rw [A_eq m c 7]; try rfl) t d).trans (by unfold Dat.fetched Dat.blockOf iblk; rw [A_eq m c 7]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by
    rw [after8]; unfold Dat.blockOf iblk; rw [A_eq m c 8]; try rfl) t d).trans (by unfold Dat.fetched Dat.blockOf iblk; rw [A_eq m c 8]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by
    rw [after9]; unfold Dat.blockOf iblk; rw [A_eq m c 9]; try rfl) t d).trans (by unfold Dat.fetched Dat.blockOf iblk; rw [A_eq m c 9]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by
    rw [after10]; unfold Dat.blockOf iblk; rw [A_eq m c 10]; try rfl) t d).trans (by unfold Dat.fetched Dat.blockOf iblk; rw [A_eq m c 10]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by
    rw [after11]; unfold Dat.blockOf iblk; rw [A_eq m c 11]; try rfl) t d).trans (by unfold Dat.fetched Dat.blockOf iblk; rw [A_eq m c 11]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by
    rw [after12]; unfold Dat.blockOf iblk; rw [A_eq m c 12]; try rfl) t d).trans (by unfold Dat.fetched Dat.blockOf iblk; rw [A_eq m c 12]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by
    rw [after13]; unfold Dat.blockOf iblk; rw [A_eq m c 13]; try rfl) t d).trans (by unfold Dat.fetched Dat.blockOf iblk; rw [A_eq m c 13]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by
    rw [after14]; unfold Dat.blockOf iblk; rw [A_eq m c 14]; try rfl) t d).trans (by unfold Dat.fetched Dat.blockOf iblk; rw [A_eq m c 14]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by
    rw [after15]; unfold Dat.blockOf iblk; rw [A_eq m c 15]; try rfl) t d).trans (by unfold Dat.fetched Dat.blockOf iblk; rw [A_eq m c 15]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by
    rw [after16]; unfold Dat.blockOf iblk; rw [A_eq m c 16]; try rfl) t d).trans (by unfold Dat.fetched Dat.blockOf iblk; rw [A_eq m c 16]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by
    rw [after17]; unfold Dat.blockOf iblk; rw [A_eq m c 17]; try rfl) t d).trans (by unfold Dat.fetched Dat.blockOf iblk; rw [A_eq m c 17]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by
    rw [after18]; unfold Dat.blockOf iblk; rw [A_eq m c 18]; try rfl) t d).trans (by unfold Dat.fetched Dat.blockOf iblk; rw [A_eq m c 18]; try rfl)
theorem before19 (c : Dev nD) (t : Fin cfg0.N) (d) : (dats m 0 c).before 19 t d = iblk m c 19 t :=
  ((dats m 0 c).before_in_eq_fetched 19 rfl (fun _ => rfl) (fun _ _ _ => rfl) (fun t => by
    rw [after19]; unfold Dat.blockOf iblk; rw [A_eq m c 19]; try rfl) t d).trans (by unfold Dat.fetched Dat.blockOf iblk; rw [A_eq m c 19]; try rfl)
theorem before20 (c : Dev nD) (t : Fin cfg0.N) (d) : (dats m 0 c).before 20 t d = iblk m c 20 t :=
  ((dats m 0 c).before_in_eq_fetched 20 rfl (fun _ => rfl) (fun _ _ _ => rfl) (fun t => by
    rw [after20]; unfold Dat.blockOf iblk; rw [A_eq m c 20]; try rfl) t d).trans (by unfold Dat.fetched Dat.blockOf iblk; rw [A_eq m c 20]; try rfl)
theorem before21 (c : Dev nD) (t : Fin cfg0.N) (d) : (dats m 0 c).before 21 t d = iblk m c 21 t :=
  ((dats m 0 c).before_in_eq_fetched 21 rfl (fun _ => rfl) (fun _ _ _ => rfl) (fun t => by
    rw [after21]; unfold Dat.blockOf iblk; rw [A_eq m c 21]; try rfl) t d).trans (by unfold Dat.fetched Dat.blockOf iblk; rw [A_eq m c 21]; try rfl)
theorem before22 (c : Dev nD) (t : Fin cfg0.N) (d) : (dats m 0 c).before 22 t d = iblk m c 22 t :=
  ((dats m 0 c).before_in_eq_fetched 22 rfl (fun _ => rfl) (fun _ _ _ => rfl) (fun t => by
    rw [after22]; unfold Dat.blockOf iblk; rw [A_eq m c 22]; try rfl) t d).trans (by unfold Dat.fetched Dat.blockOf iblk; rw [A_eq m c 22]; try rfl)
theorem before23 (c : Dev nD) (t : Fin cfg0.N) (d) : (dats m 0 c).before 23 t d = iblk m c 23 t :=
  ((dats m 0 c).before_in_eq_fetched 23 rfl (fun _ => rfl) (fun _ _ _ => rfl) (fun t => by
    rw [after23]; unfold Dat.blockOf iblk; rw [A_eq m c 23]; try rfl) t d).trans (by unfold Dat.fetched Dat.blockOf iblk; rw [A_eq m c 23]; try rfl)
theorem before24 (c : Dev nD) (t : Fin cfg0.N) (d) : (dats m 0 c).before 24 t d = iblk m c 24 t :=
  ((dats m 0 c).before_in_eq_fetched 24 rfl (fun _ => rfl) (fun _ _ _ => rfl) (fun t => by
    rw [after24]; unfold Dat.blockOf iblk; rw [A_eq m c 24]; try rfl) t d).trans (by unfold Dat.fetched Dat.blockOf iblk; rw [A_eq m c 24]; try rfl)
theorem before25 (c : Dev nD) (t : Fin cfg0.N) (d) : (dats m 0 c).before 25 t d = iblk m c 25 t :=
  ((dats m 0 c).before_in_eq_fetched 25 rfl (fun _ => rfl) (fun _ _ _ => rfl) (fun t => by
    rw [after25]; unfold Dat.blockOf iblk; rw [A_eq m c 25]; try rfl) t d).trans (by unfold Dat.fetched Dat.blockOf iblk; rw [A_eq m c 25]; try rfl)
theorem before26 (c : Dev nD) (t : Fin cfg0.N) (d) : (dats m 0 c).before 26 t d = iblk m c 26 t :=
  ((dats m 0 c).before_in_eq_fetched 26 rfl (fun _ => rfl) (fun _ _ _ => rfl) (fun t => by
    rw [after26]; unfold Dat.blockOf iblk; rw [A_eq m c 26]; try rfl) t d).trans (by unfold Dat.fetched Dat.blockOf iblk; rw [A_eq m c 26]; try rfl)
theorem before27 (c : Dev nD) (t : Fin cfg0.N) (d) : (dats m 0 c).before 27 t d = iblk m c 27 t :=
  ((dats m 0 c).before_in_eq_fetched 27 rfl (fun _ => rfl) (fun _ _ _ => rfl) (fun t => by
    rw [after27]; unfold Dat.blockOf iblk; rw [A_eq m c 27]; try rfl) t d).trans (by unfold Dat.fetched Dat.blockOf iblk; rw [A_eq m c 27]; try rfl)
theorem before28 (c : Dev nD) (t : Fin cfg0.N) (d) : (dats m 0 c).before 28 t d = iblk m c 28 t :=
  ((dats m 0 c).before_in_eq_fetched 28 rfl (fun _ => rfl) (fun _ _ _ => rfl) (fun t => by
    rw [after28]; unfold Dat.blockOf iblk; rw [A_eq m c 28]; try rfl) t d).trans (by unfold Dat.fetched Dat.blockOf iblk; rw [A_eq m c 28]; try rfl)
theorem before29 (c : Dev nD) (t : Fin cfg0.N) (d) : (dats m 0 c).before 29 t d = iblk m c 29 t :=
  ((dats m 0 c).before_in_eq_fetched 29 rfl (fun _ => rfl) (fun _ _ _ => rfl) (fun t => by
    rw [after29]; unfold Dat.blockOf iblk; rw [A_eq m c 29]; try rfl) t d).trans (by unfold Dat.fetched Dat.blockOf iblk; rw [A_eq m c 29]; try rfl)
theorem before30 (c : Dev nD) (t : Fin cfg0.N) (d) : (dats m 0 c).before 30 t d = iblk m c 30 t :=
  ((dats m 0 c).before_in_eq_fetched 30 rfl (fun _ => rfl) (fun _ _ _ => rfl) (fun t => by
    rw [after30]; unfold Dat.blockOf iblk; rw [A_eq m c 30]; try rfl) t d).trans (by unfold Dat.fetched Dat.blockOf iblk; rw [A_eq m c 30]; try rfl)
theorem before31 (c : Dev nD) (t : Fin cfg0.N) (d) : (dats m 0 c).before 31 t d = iblk m c 31 t :=
  ((dats m 0 c).before_in_eq_fetched 31 rfl (fun _ => rfl) (fun _ _ _ => rfl) (fun t => by
    rw [after31]; unfold Dat.blockOf iblk; rw [A_eq m c 31]; try rfl) t d).trans (by unfold Dat.fetched Dat.blockOf iblk; rw [A_eq m c 31]; try rfl)
theorem before32 (c : Dev nD) (t : Fin cfg0.N) (d) : (dats m 0 c).before 32 t d = iblk m c 32 t :=
  ((dats m 0 c).before_in_eq_fetched 32 rfl (fun _ => rfl) (fun _ _ _ => rfl) (fun t => by
    rw [after32]; unfold Dat.blockOf iblk; rw [A_eq m c 32]; try rfl) t d).trans (by unfold Dat.fetched Dat.blockOf iblk; rw [A_eq m c 32]; try rfl)
theorem before33 (c : Dev nD) (t : Fin cfg0.N) (d) : (dats m 0 c).before 33 t d = iblk m c 33 t :=
  ((dats m 0 c).before_in_eq_fetched 33 rfl (fun _ => rfl) (fun _ _ _ => rfl) (fun t => by
    rw [after33]; unfold Dat.blockOf iblk; rw [A_eq m c 33]; try rfl) t d).trans (by unfold Dat.fetched Dat.blockOf iblk; rw [A_eq m c 33]; try rfl)
theorem before34 (c : Dev nD) (t : Fin cfg0.N) (d) : (dats m 0 c).before 34 t d = iblk m c 34 t :=
  ((dats m 0 c).before_in_eq_fetched 34 rfl (fun _ => rfl) (fun _ _ _ => rfl) (fun t => by
    rw [after34]; unfold Dat.blockOf iblk; rw [A_eq m c 34]; try rfl) t d).trans (by unfold Dat.fetched Dat.blockOf iblk; rw [A_eq m c 34]; try rfl)
theorem before35 (c : Dev nD) (t : Fin cfg0.N) (d) : (dats m 0 c).before 35 t d = iblk m c 35 t :=
  ((dats m 0 c).before_in_eq_fetched 35 rfl (fun _ => rfl) (fun _ _ _ => rfl) (fun t => by
    rw [after35]; unfold Dat.blockOf iblk; rw [A_eq m c 35]; try rfl) t d).trans (by unfold Dat.fetched Dat.blockOf iblk; rw [A_eq m c 35]; try rfl)
theorem before36 (c : Dev nD) (t : Fin cfg0.N) (d) : (dats m 0 c).before 36 t d = iblk m c 36 t :=
  ((dats m 0 c).before_in_eq_fetched 36 rfl (fun _ => rfl) (fun _ _ _ => rfl) (fun t => by
    rw [after36]; unfold Dat.blockOf iblk; rw [A_eq m c 36]; try rfl) t d).trans (by unfold Dat.fetched Dat.blockOf iblk; rw [A_eq m c 36]; try rfl)
theorem before37 (c : Dev nD) (t : Fin cfg0.N) (d) : (dats m 0 c).before 37 t d = iblk m c 37 t :=
  ((dats m 0 c).before_in_eq_fetched 37 rfl (fun _ => rfl) (fun _ _ _ => rfl) (fun t => by
    rw [after37]; unfold Dat.blockOf iblk; rw [A_eq m c 37]; try rfl) t d).trans (by unfold Dat.fetched Dat.blockOf iblk; rw [A_eq m c 37]; try rfl)
theorem before38 (c : Dev nD) (t : Fin cfg0.N) (d) : (dats m 0 c).before 38 t d = iblk m c 38 t :=
  ((dats m 0 c).before_in_eq_fetched 38 rfl (fun _ => rfl) (fun _ _ _ => rfl) (fun t => by
    rw [after38]; unfold Dat.blockOf iblk; rw [A_eq m c 38]; try rfl) t d).trans (by unfold Dat.fetched Dat.blockOf iblk; rw [A_eq m c 38]; try rfl)
theorem before39 (c : Dev nD) (t : Fin cfg0.N) (d) : (dats m 0 c).before 39 t d = iblk m c 39 t :=
  ((dats m 0 c).before_in_eq_fetched 39 rfl (fun _ => rfl) (fun _ _ _ => rfl) (fun t => by
    rw [after39]; unfold Dat.blockOf iblk; rw [A_eq m c 39]; try rfl) t d).trans (by unfold Dat.fetched Dat.blockOf iblk; rw [A_eq m c 39]; try rfl)
theorem before40 (c : Dev nD) (t : Fin cfg0.N) (d) : (dats m 0 c).before 40 t d = iblk m c 40 t :=
  ((dats m 0 c).before_in_eq_fetched 40 rfl (fun _ => rfl) (fun _ _ _ => rfl) (fun t => by
    rw [after40]; unfold Dat.blockOf iblk; rw [A_eq m c 40]; try rfl) t d).trans (by unfold Dat.fetched Dat.blockOf iblk; rw [A_eq m c 40]; try rfl)
theorem before41 (c : Dev nD) (t : Fin cfg0.N) (d) : (dats m 0 c).before 41 t d = iblk m c 41 t :=
  ((dats m 0 c).before_in_eq_fetched 41 rfl (fun _ => rfl) (fun _ _ _ => rfl) (fun t => by
    rw [after41]; unfold Dat.blockOf iblk; rw [A_eq m c 41]; try rfl) t d).trans (by unfold Dat.fetched Dat.blockOf iblk; rw [A_eq m c 41]; try rfl)
theorem before42 (c : Dev nD) (t : Fin cfg0.N) (d) : (dats m 0 c).before 42 t d = iblk m c 42 t :=
  ((dats m 0 c).before_in_eq_fetched 42 rfl (fun _ => rfl) (fun _ _ _ => rfl) (fun t => by
    rw [after42]; unfold Dat.blockOf iblk; rw [A_eq m c 42]; try rfl) t d).trans (by unfold Dat.fetched Dat.blockOf iblk; rw [A_eq m c 42]; try rfl)
theorem before43 (c : Dev nD) (t : Fin cfg0.N) (d) : (dats m 0 c).before 43 t d = iblk m c 43 t :=
  ((dats m 0 c).before_in_eq_fetched 43 rfl (fun _ => rfl) (fun _ _ _ => rfl) (fun t => by
    rw [after43]; unfold Dat.blockOf iblk; rw [A_eq m c 43]; try rfl) t d).trans (by unfold Dat.fetched Dat.blockOf iblk; rw [A_eq m c 43]; try rfl)
theorem before44 (c : Dev nD) (t : Fin cfg0.N) (d) : (dats m 0 c).before 44 t d = iblk m c 44 t :=
  ((dats m 0 c).before_in_eq_fetched 44 rfl (fun _ => rfl) (fun _ _ _ => rfl) (fun t => by
    rw [after44]; unfold Dat.blockOf iblk; rw [A_eq m c 44]; try rfl) t d).trans (by unfold Dat.fetched Dat.blockOf iblk; rw [A_eq m c 44]; try rfl)
theorem before45 (c : Dev nD) (t : Fin cfg0.N) (d) : (dats m 0 c).before 45 t d = iblk m c 45 t :=
  ((dats m 0 c).before_in_eq_fetched 45 rfl (fun _ => rfl) (fun _ _ _ => rfl) (fun t => by
    rw [after45]; unfold Dat.blockOf iblk; rw [A_eq m c 45]; try rfl) t d).trans (by unfold Dat.fetched Dat.blockOf iblk; rw [A_eq m c 45]; try rfl)
theorem before46 (c : Dev nD) (t : Fin cfg0.N) (d) : (dats m 0 c).before 46 t d = iblk m c 46 t :=
  ((dats m 0 c).before_in_eq_fetched 46 rfl (fun _ => rfl) (fun _ _ _ => rfl) (fun t => by
    rw [after46]; unfold Dat.blockOf iblk; rw [A_eq m c 46]; try rfl) t d).trans (by unfold Dat.fetched Dat.blockOf iblk; rw [A_eq m c 46]; try rfl)
theorem before47 (c : Dev nD) (t : Fin cfg0.N) (d) : (dats m 0 c).before 47 t d = iblk m c 47 t :=
  ((dats m 0 c).before_in_eq_fetched 47 rfl (fun _ => rfl) (fun _ _ _ => rfl) (fun t => by
    rw [after47]; unfold Dat.blockOf iblk; rw [A_eq m c 47]; try rfl) t d).trans (by unfold Dat.fetched Dat.blockOf iblk; rw [A_eq m c 47]; try rfl)
theorem before48 (c : Dev nD) (t : Fin cfg0.N) (d) : (dats m 0 c).before 48 t d = iblk m c 48 t :=
  ((dats m 0 c).before_in_eq_fetched 48 rfl (fun _ => rfl) (fun _ _ _ => rfl) (fun t => by
    rw [after48]; unfold Dat.blockOf iblk; rw [A_eq m c 48]; try rfl) t d).trans (by unfold Dat.fetched Dat.blockOf iblk; rw [A_eq m c 48]; try rfl)
theorem before49 (c : Dev nD) (t : Fin cfg0.N) (d) : (dats m 0 c).before 49 t d = iblk m c 49 t :=
  ((dats m 0 c).before_in_eq_fetched 49 rfl (fun _ => rfl) (fun _ _ _ => rfl) (fun t => by
    rw [after49]; unfold Dat.blockOf iblk; rw [A_eq m c 49]; try rfl) t d).trans (by unfold Dat.fetched Dat.blockOf iblk; rw [A_eq m c 49]; try rfl)
theorem before50 (c : Dev nD) (t : Fin cfg0.N) (d) : (dats m 0 c).before 50 t d = iblk m c 50 t :=
  ((dats m 0 c).before_in_eq_fetched 50 rfl (fun _ => rfl) (fun _ _ _ => rfl) (fun t => by
    rw [after50]; unfold Dat.blockOf iblk; rw [A_eq m c 50]; try rfl) t d).trans (by unfold Dat.fetched Dat.blockOf iblk; rw [A_eq m c 50]; try rfl)
theorem before51 (c : Dev nD) (t : Fin cfg0.N) (d) : (dats m 0 c).before 51 t d = iblk m c 51 t :=
  ((dats m 0 c).before_in_eq_fetched 51 rfl (fun _ => rfl) (fun _ _ _ => rfl) (fun t => by
    rw [after51]; unfold Dat.blockOf iblk; rw [A_eq m c 51]; try rfl) t d).trans (by unfold Dat.fetched Dat.blockOf iblk; rw [A_eq m c 51]; try rfl)

end Cert.Kernel6Ideal.Small

end
-- ==== Proof.SmallWhole.lean ====
module

public import proofs.«01_k».proof.Proof.SmallRun
public import proofs.«01_k».proof.Proof.SmallData

@[expose] public section

/-!
# The whole run of the AdamW kernel of the small weights

The call has one point. Every run of it ends with each output array as the body leaves it and the arguments as they were.
-/

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d))
    ∗ (∃ d, owns (c : Thread nD τ) (st0_77 t) fullShare ((dats m 0 c).before 77 t d))
    ∗ (∃ d, owns (c : Thread nD τ) (st0_78 t) fullShare ((dats m 0 c).before 78 t d))
    ∗ (∃ d, owns (c : Thread nD τ) (st0_79 t) fullShare ((dats m 0 c).before 79 t d))
    ∗ (∃ d, owns (c : Thread nD τ) (st0_80 t) fullShare ((dats m 0 c).before 80 t d))
    ∗ (∃ d, owns (c : Thread nD τ) (st0_81 t) fullShare ((dats m 0 c).before 81 t d))
    ∗ (∃ d, owns (c : Thread nD τ) (st0_82 t) fullShare ((dats m 0 c).before 82 t d))
    ∗ (∃ d, owns (c : Thread nD τ) (st0_83 t) fullShare ((dats m 0 c).before 83 t d))
    ∗ (∃ d, owns (c : Thread nD τ) (st0_84 t) fullShare ((dats m 0 c).before 84 t d))
    ∗ (∃ d, owns (c : Thread nD τ) (st0_85 t) fullShare ((dats m 0 c).before 85 t d))
    ∗ (∃ d, owns (c : Thread nD τ) (st0_86 t) fullShare ((dats m 0 c).before 86 t d))
    ∗ (∃ d, owns (c : Thread nD τ) (st0_87 t) fullShare ((dats m 0 c).before 87 t d))
    ∗ (∃ d, owns (c : Thread nD τ) (st0_88 t) fullShare ((dats m 0 c).before 88 t d))
    ∗ (∃ d, owns (c : Thread nD τ) (st0_89 t) fullShare ((dats m 0 c).before 89 t d))
    ∗ (∃ d, owns (c : Thread nD τ) (st0_90 t) fullShare ((dats m 0 c).before 90 t d)))

/-- What it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t)
    ∗ owns (c : Thread nD τ) (st0_77 t) fullShare ((dats m 0 c).after 77 t)
    ∗ owns (c : Thread nD τ) (st0_78 t) fullShare ((dats m 0 c).after 78 t)
    ∗ owns (c : Thread nD τ) (st0_79 t) fullShare ((dats m 0 c).after 79 t)
    ∗ owns (c : Thread nD τ) (st0_80 t) fullShare ((dats m 0 c).after 80 t)
    ∗ owns (c : Thread nD τ) (st0_81 t) fullShare ((dats m 0 c).after 81 t)
    ∗ owns (c : Thread nD τ) (st0_82 t) fullShare ((dats m 0 c).after 82 t)
    ∗ owns (c : Thread nD τ) (st0_83 t) fullShare ((dats m 0 c).after 83 t)
    ∗ owns (c : Thread nD τ) (st0_84 t) fullShare ((dats m 0 c).after 84 t)
    ∗ owns (c : Thread nD τ) (st0_85 t) fullShare ((dats m 0 c).after 85 t)
    ∗ owns (c : Thread nD τ) (st0_86 t) fullShare ((dats m 0 c).after 86 t)
    ∗ owns (c : Thread nD τ) (st0_87 t) fullShare ((dats m 0 c).after 87 t)
    ∗ owns (c : Thread nD τ) (st0_88 t) fullShare ((dats m 0 c).after 88 t)
    ∗ owns (c : Thread nD τ) (st0_89 t) fullShare ((dats m 0 c).after 89 t)
    ∗ owns (c : Thread nD τ) (st0_90 t) fullShare ((dats m 0 c).after 90 t))

set_option maxHeartbeats 16000000 in
/-- The body takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13,
        before14, before15, before16, before17, before18, before19, before20, before21, before22, before23, before24, before25, before26, before27,
        before28, before29, before30, before31, before32, before33, before34, before35, before36, before37, before38, before39, before40, before41,
        before42, before43, before44, before45, before46, before47, before48, before49, before50, before51]
  rw [show (dats m 0 c).Φ t.succ = (dats m 0 c).Φ t.castSucc from rfl,
    show (dats m 0 c).owesAt () t.succ = (dats m 0 c).owesAt () t.castSucc from rfl]
  simp only [after0, after1, after2, after3, after4, after5, after6, after7, after8, after9, after10, after11, after12, after13, after14, after15,
        after16, after17, after18, after19, after20, after21, after22, after23, after24, after25, after26, after27, after28, after29, after30,
        after31, after32, after33, after34, after35, after36, after37, after38, after39, after40, after41, after42, after43, after44, after45,
        after46, after47, after48, after49, after50, after51, after52, after53, after54, after55, after56, after57, after58, after59, after60,
        after61, after62, after63, after64, after65, after66, after67, after68, after69, after70, after71, after72, after73, after74, after75,
        after76, after77, after78, after79, after80, after81, after82, after83, after84, after85, after86, after87, after88, after89, after90]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11,
        H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩,
        ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32,
        H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩,
        ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53,
        H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩,
        ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74,
        H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩, ⟨%d84, H84⟩,
        ⟨%d85, H85⟩, ⟨%d86, H86⟩, ⟨%d87, H87⟩, ⟨%d88, H88⟩, ⟨%d89, H89⟩, ⟨%d90, H90⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _
        _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t)
        (iblk m c 2 t) (iblk m c 3 t) (iblk m c 4 t) (iblk m c 5 t) (iblk m c 6 t) (iblk m c 7 t) (iblk m c 8 t) (iblk m c 9 t) (iblk m c 10 t)
        (iblk m c 11 t) (iblk m c 12 t) (iblk m c 13 t) (iblk m c 14 t) (iblk m c 15 t) (iblk m c 16 t) (iblk m c 17 t) (iblk m c 18 t) (iblk m c
        19 t) (iblk m c 20 t) (iblk m c 21 t) (iblk m c 22 t) (iblk m c 23 t) (iblk m c 24 t) (iblk m c 25 t) (iblk m c 26 t) (iblk m c 27 t) (iblk
        m c 28 t) (iblk m c 29 t) (iblk m c 30 t) (iblk m c 31 t) (iblk m c 32 t) (iblk m c 33 t) (iblk m c 34 t) (iblk m c 35 t) (iblk m c 36 t)
        (iblk m c 37 t) (iblk m c 38 t) (iblk m c 39 t) (iblk m c 40 t) (iblk m c 41 t) (iblk m c 42 t) (iblk m c 43 t) (iblk m c 44 t) (iblk m c
        45 t) (iblk m c 46 t) (iblk m c 47 t) (iblk m c 48 t) (iblk m c 49 t) (iblk m c 50 t) (iblk m c 51 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  isplitl [H84]; · iexists _; iexact H84
  isplitl [H85]; · iexists _; iexact H85
  isplitl [H86]; · iexists _; iexact H86
  isplitl [H87]; · iexists _; iexact H87
  isplitl [H88]; · iexists _; iexact H88
  isplitl [H89]; · iexists _; iexact H89
  isplitl [H90]; · iexists _; iexact H90
  iintro ⟨H0, H1, H2, H3, H4, H5, H6, H7, H8, H9, H10, H11, H12, H13, H14, H15, H16, H17, H18, H19, H20, H21, H22, H23, H24, H25, H26, H27, H28,
        H29, H30, H31, H32, H33, H34, H35, H36, H37, H38, H39, H40, H41, H42, H43, H44, H45, H46, H47, H48, H49, H50, H51, H52, H53, H54, H55, H56,
        H57, H58, H59, H60, H61, H62, H63, H64, H65, H66, H67, H68, H69, H70, H71, H72, H73, H74, H75, H76, H77, H78, H79, H80, H81, H82, H83, H84,
        H85, H86, H87, H88, H89, H90⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  isplitl [H84]; · iexact H84
  isplitl [H85]; · iexact H85
  isplitl [H86]; · iexact H86
  isplitl [H87]; · iexact H87
  isplitl [H88]; · iexact H88
  isplitl [H89]; · iexact H89
  iexact H90

/-- The procedure called at the point is the body. -/
theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The same in the form the launch asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 8000000 in
/-- Every run ends, with every array as the points leave it and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A core's arguments are the same in both memories. -/
abbrev Kept (m m' : (ℓ : Loc nD τ sig) → Buf (Elt F) ℓ) (c : Dev nD) : Prop :=
  m' ((c : Thread nD τ).loc main_arg0) = m ((c : Thread nD τ).loc main_arg0)
    ∧ m' ((c : Thread nD τ).loc main_arg1) = m ((c : Thread nD τ).loc main_arg1)
    ∧ m' ((c : Thread nD τ).loc main_arg2) = m ((c : Thread nD τ).loc main_arg2)
    ∧ m' ((c : Thread nD τ).loc main_arg3) = m ((c : Thread nD τ).loc main_arg3)
    ∧ m' ((c : Thread nD τ).loc main_arg4) = m ((c : Thread nD τ).loc main_arg4)
    ∧ m' ((c : Thread nD τ).loc main_arg5) = m ((c : Thread nD τ).loc main_arg5)
    ∧ m' ((c : Thread nD τ).loc main_arg6) = m ((c : Thread nD τ).loc main_arg6)
    ∧ m' ((c : Thread nD τ).loc main_arg7) = m ((c : Thread nD τ).loc main_arg7)
    ∧ m' ((c : Thread nD τ).loc main_arg8) = m ((c : Thread nD τ).loc main_arg8)
    ∧ m' ((c : Thread nD τ).loc main_arg9) = m ((c : Thread nD τ).loc main_arg9)
    ∧ m' ((c : Thread nD τ).loc main_arg10) = m ((c : Thread nD τ).loc main_arg10)
    ∧ m' ((c : Thread nD τ).loc main_arg11) = m ((c : Thread nD τ).loc main_arg11)
    ∧ m' ((c : Thread nD τ).loc main_arg12) = m ((c : Thread nD τ).loc main_arg12)
    ∧ m' ((c : Thread nD τ).loc main_arg13) = m ((c : Thread nD τ).loc main_arg13)
    ∧ m' ((c : Thread nD τ).loc main_arg14) = m ((c : Thread nD τ).loc main_arg14)
    ∧ m' ((c : Thread nD τ).loc main_arg15) = m ((c : Thread nD τ).loc main_arg15)
    ∧ m' ((c : Thread nD τ).loc main_arg16) = m ((c : Thread nD τ).loc main_arg16)
    ∧ m' ((c : Thread nD τ).loc main_arg17) = m ((c : Thread nD τ).loc main_arg17)
    ∧ m' ((c : Thread nD τ).loc main_arg18) = m ((c : Thread nD τ).loc main_arg18)
    ∧ m' ((c : Thread nD τ).loc main_arg19) = m ((c : Thread nD τ).loc main_arg19)
    ∧ m' ((c : Thread nD τ).loc main_arg20) = m ((c : Thread nD τ).loc main_arg20)
    ∧ m' ((c : Thread nD τ).loc main_arg21) = m ((c : Thread nD τ).loc main_arg21)
    ∧ m' ((c : Thread nD τ).loc main_arg22) = m ((c : Thread nD τ).loc main_arg22)
    ∧ m' ((c : Thread nD τ).loc main_arg23) = m ((c : Thread nD τ).loc main_arg23)
    ∧ m' ((c : Thread nD τ).loc main_arg24) = m ((c : Thread nD τ).loc main_arg24)
    ∧ m' ((c : Thread nD τ).loc main_arg25) = m ((c : Thread nD τ).loc main_arg25)
    ∧ m' ((c : Thread nD τ).loc main_arg26) = m ((c : Thread nD τ).loc main_arg26)
    ∧ m' ((c : Thread nD τ).loc main_arg27) = m ((c : Thread nD τ).loc main_arg27)
    ∧ m' ((c : Thread nD τ).loc main_arg28) = m ((c : Thread nD τ).loc main_arg28)
    ∧ m' ((c : Thread nD τ).loc main_arg29) = m ((c : Thread nD τ).loc main_arg29)
    ∧ m' ((c : Thread nD τ).loc main_arg30) = m ((c : Thread nD τ).loc main_arg30)
    ∧ m' ((c : Thread nD τ).loc main_arg31) = m ((c : Thread nD τ).loc main_arg31)
    ∧ m' ((c : Thread nD τ).loc main_arg32) = m ((c : Thread nD τ).loc main_arg32)
    ∧ m' ((c : Thread nD τ).loc main_arg33) = m ((c : Thread nD τ).loc main_arg33)
    ∧ m' ((c : Thread nD τ).loc main_arg34) = m ((c : Thread nD τ).loc main_arg34)
    ∧ m' ((c : Thread nD τ).loc main_arg35) = m ((c : Thread nD τ).loc main_arg35)
    ∧ m' ((c : Thread nD τ).loc main_arg36) = m ((c : Thread nD τ).loc main_arg36)
    ∧ m' ((c : Thread nD τ).loc main_arg37) = m ((c : Thread nD τ).loc main_arg37)
    ∧ m' ((c : Thread nD τ).loc main_arg38) = m ((c : Thread nD τ).loc main_arg38)
    ∧ m' ((c : Thread nD τ).loc main_arg39) = m ((c : Thread nD τ).loc main_arg39)
    ∧ m' ((c : Thread nD τ).loc main_arg40) = m ((c : Thread nD τ).loc main_arg40)
    ∧ m' ((c : Thread nD τ).loc main_arg41) = m ((c : Thread nD τ).loc main_arg41)
    ∧ m' ((c : Thread nD τ).loc main_arg42) = m ((c : Thread nD τ).loc main_arg42)
    ∧ m' ((c : Thread nD τ).loc main_arg43) = m ((c : Thread nD τ).loc main_arg43)
    ∧ m' ((c : Thread nD τ).loc main_arg44) = m ((c : Thread nD τ).loc main_arg44)
    ∧ m' ((c : Thread nD τ).loc main_arg45) = m ((c : Thread nD τ).loc main_arg45)
    ∧ m' ((c : Thread nD τ).loc main_arg46) = m ((c : Thread nD τ).loc main_arg46)
    ∧ m' ((c : Thread nD τ).loc main_arg47) = m ((c : Thread nD τ).loc main_arg47)
    ∧ m' ((c : Thread nD τ).loc main_arg48) = m ((c : Thread nD τ).loc main_arg48)
    ∧ m' ((c : Thread nD τ).loc main_arg49) = m ((c : Thread nD τ).loc main_arg49)
    ∧ m' ((c : Thread nD τ).loc main_arg50) = m ((c : Thread nD τ).loc main_arg50)
    ∧ m' ((c : Thread nD τ).loc main_arg51) = m ((c : Thread nD τ).loc main_arg51)

set_option maxHeartbeats 16000000 in
/-- A final memory that the points decide holds the arguments as they were. -/
theorem kept (r : PUnit × MemSt nD τ sig (Elt F)) (h : Pipeline.FramePost cfgs (dats m) 0 (V m) r) (c : Dev nD) : Kept m r.2.mem c :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3)),
    ((h c).1 4).trans (((dats m 0 c).arrAt_in 4 rfl _).trans (A_eq m c 4)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10)),
    ((h c).1 11).trans (((dats m 0 c).arrAt_in 11 rfl _).trans (A_eq m c 11)),
    ((h c).1 12).trans (((dats m 0 c).arrAt_in 12 rfl _).trans (A_eq m c 12)),
    ((h c).1 13).trans (((dats m 0 c).arrAt_in 13 rfl _).trans (A_eq m c 13)),
    ((h c).1 14).trans (((dats m 0 c).arrAt_in 14 rfl _).trans (A_eq m c 14)),
    ((h c).1 15).trans (((dats m 0 c).arrAt_in 15 rfl _).trans (A_eq m c 15)),
    ((h c).1 16).trans (((dats m 0 c).arrAt_in 16 rfl _).trans (A_eq m c 16)),
    ((h c).1 17).trans (((dats m 0 c).arrAt_in 17 rfl _).trans (A_eq m c 17)),
    ((h c).1 18).trans (((dats m 0 c).arrAt_in 18 rfl _).trans (A_eq m c 18)),
    ((h c).1 19).trans (((dats m 0 c).arrAt_in 19 rfl _).trans (A_eq m c 19)),
    ((h c).1 20).trans (((dats m 0 c).arrAt_in 20 rfl _).trans (A_eq m c 20)),
    ((h c).1 21).trans (((dats m 0 c).arrAt_in 21 rfl _).trans (A_eq m c 21)),
    ((h c).1 22).trans (((dats m 0 c).arrAt_in 22 rfl _).trans (A_eq m c 22)),
    ((h c).1 23).trans (((dats m 0 c).arrAt_in 23 rfl _).trans (A_eq m c 23)),
    ((h c).1 24).trans (((dats m 0 c).arrAt_in 24 rfl _).trans (A_eq m c 24)),
    ((h c).1 25).trans (((dats m 0 c).arrAt_in 25 rfl _).trans (A_eq m c 25)),
    ((h c).1 26).trans (((dats m 0 c).arrAt_in 26 rfl _).trans (A_eq m c 26)),
    ((h c).1 27).trans (((dats m 0 c).arrAt_in 27 rfl _).trans (A_eq m c 27)),
    ((h c).1 28).trans (((dats m 0 c).arrAt_in 28 rfl _).trans (A_eq m c 28)),
    ((h c).1 29).trans (((dats m 0 c).arrAt_in 29 rfl _).trans (A_eq m c 29)),
    ((h c).1 30).trans (((dats m 0 c).arrAt_in 30 rfl _).trans (A_eq m c 30)),
    ((h c).1 31).trans (((dats m 0 c).arrAt_in 31 rfl _).trans (A_eq m c 31)),
    ((h c).1 32).trans (((dats m 0 c).arrAt_in 32 rfl _).trans (A_eq m c 32)),
    ((h c).1 33).trans (((dats m 0 c).arrAt_in 33 rfl _).trans (A_eq m c 33)),
    ((h c).1 34).trans (((dats m 0 c).arrAt_in 34 rfl _).trans (A_eq m c 34)),
    ((h c).1 35).trans (((dats m 0 c).arrAt_in 35 rfl _).trans (A_eq m c 35)),
    ((h c).1 36).trans (((dats m 0 c).arrAt_in 36 rfl _).trans (A_eq m c 36)),
    ((h c).1 37).trans (((dats m 0 c).arrAt_in 37 rfl _).trans (A_eq m c 37)),
    ((h c).1 38).trans (((dats m 0 c).arrAt_in 38 rfl _).trans (A_eq m c 38)),
    ((h c).1 39).trans (((dats m 0 c).arrAt_in 39 rfl _).trans (A_eq m c 39)),
    ((h c).1 40).trans (((dats m 0 c).arrAt_in 40 rfl _).trans (A_eq m c 40)),
    ((h c).1 41).trans (((dats m 0 c).arrAt_in 41 rfl _).trans (A_eq m c 41)),
    ((h c).1 42).trans (((dats m 0 c).arrAt_in 42 rfl _).trans (A_eq m c 42)),
    ((h c).1 43).trans (((dats m 0 c).arrAt_in 43 rfl _).trans (A_eq m c 43)),
    ((h c).1 44).trans (((dats m 0 c).arrAt_in 44 rfl _).trans (A_eq m c 44)),
    ((h c).1 45).trans (((dats m 0 c).arrAt_in 45 rfl _).trans (A_eq m c 45)),
    ((h c).1 46).trans (((dats m 0 c).arrAt_in 46 rfl _).trans (A_eq m c 46)),
    ((h c).1 47).trans (((dats m 0 c).arrAt_in 47 rfl _).trans (A_eq m c 47)),
    ((h c).1 48).trans (((dats m 0 c).arrAt_in 48 rfl _).trans (A_eq m c 48)),
    ((h c).1 49).trans (((dats m 0 c).arrAt_in 49 rfl _).trans (A_eq m c 49)),
    ((h c).1 50).trans (((dats m 0 c).arrAt_in 50 rfl _).trans (A_eq m c 50)),
    ((h c).1 51).trans (((dats m 0 c).arrAt_in 51 rfl _).trans (A_eq m c 51))⟩

/-- The call terminates, its arguments unchanged and every semaphore counter at zero. -/
theorem frame : θ_run defs (onTc (τ := τ) (main (F := F))) ⟨m, fun _ => 0, ρ⟩ (fun r => (∀ c : Dev nD, Kept m r.2.mem c) ∧ r.2.sem = fun _ => 0) :=
  (θ_run defs _ _).mono (fun r h => ⟨kept m r h.1, h.2⟩) (run_main_quiescent m ρ)

set_option maxHeartbeats 16000000 in
/-- Every run ends with each output array as the point leaves it, and the arguments as they were. -/
theorem run_blocks : θ_run defs (onTc (τ := τ) (main (F := F))) ⟨m, fun _ => 0, ρ⟩ fun r => ∀ c : Dev nD,
      r.2.mem ((c : Thread nD τ).loc main_v0_0) = (dats m 0 c).arrAt 52 cfg0.N
      ∧ r.2.mem ((c : Thread nD τ).loc main_v0_1) = (dats m 0 c).arrAt 53 cfg0.N
      ∧ r.2.mem ((c : Thread nD τ).loc main_v0_2) = (dats m 0 c).arrAt 54 cfg0.N
      ∧ r.2.mem ((c : Thread nD τ).loc main_v0_3) = (dats m 0 c).arrAt 55 cfg0.N
      ∧ r.2.mem ((c : Thread nD τ).loc main_v0_4) = (dats m 0 c).arrAt 56 cfg0.N
      ∧ r.2.mem ((c : Thread nD τ).loc main_v0_5) = (dats m 0 c).arrAt 57 cfg0.N
      ∧ r.2.mem ((c : Thread nD τ).loc main_v0_6) = (dats m 0 c).arrAt 58 cfg0.N
      ∧ r.2.mem ((c : Thread nD τ).loc main_v0_7) = (dats m 0 c).arrAt 59 cfg0.N
      ∧ r.2.mem ((c : Thread nD τ).loc main_v0_8) = (dats m 0 c).arrAt 60 cfg0.N
      ∧ r.2.mem ((c : Thread nD τ).loc main_v0_9) = (dats m 0 c).arrAt 61 cfg0.N
      ∧ r.2.mem ((c : Thread nD τ).loc main_v0_10) = (dats m 0 c).arrAt 62 cfg0.N
      ∧ r.2.mem ((c : Thread nD τ).loc main_v0_11) = (dats m 0 c).arrAt 63 cfg0.N
      ∧ r.2.mem ((c : Thread nD τ).loc main_v0_12) = (dats m 0 c).arrAt 64 cfg0.N
      ∧ r.2.mem ((c : Thread nD τ).loc main_v0_13) = (dats m 0 c).arrAt 65 cfg0.N
      ∧ r.2.mem ((c : Thread nD τ).loc main_v0_14) = (dats m 0 c).arrAt 66 cfg0.N
      ∧ r.2.mem ((c : Thread nD τ).loc main_v0_15) = (dats m 0 c).arrAt 67 cfg0.N
      ∧ r.2.mem ((c : Thread nD τ).loc main_v0_16) = (dats m 0 c).arrAt 68 cfg0.N
      ∧ r.2.mem ((c : Thread nD τ).loc main_v0_17) = (dats m 0 c).arrAt 69 cfg0.N
      ∧ r.2.mem ((c : Thread nD τ).loc main_v0_18) = (dats m 0 c).arrAt 70 cfg0.N
      ∧ r.2.mem ((c : Thread nD τ).loc main_v0_19) = (dats m 0 c).arrAt 71 cfg0.N
      ∧ r.2.mem ((c : Thread nD τ).loc main_v0_20) = (dats m 0 c).arrAt 72 cfg0.N
      ∧ r.2.mem ((c : Thread nD τ).loc main_v0_21) = (dats m 0 c).arrAt 73 cfg0.N
      ∧ r.2.mem ((c : Thread nD τ).loc main_v0_22) = (dats m 0 c).arrAt 74 cfg0.N
      ∧ r.2.mem ((c : Thread nD τ).loc main_v0_23) = (dats m 0 c).arrAt 75 cfg0.N
      ∧ r.2.mem ((c : Thread nD τ).loc main_v0_24) = (dats m 0 c).arrAt 76 cfg0.N
      ∧ r.2.mem ((c : Thread nD τ).loc main_v0_25) = (dats m 0 c).arrAt 77 cfg0.N
      ∧ r.2.mem ((c : Thread nD τ).loc main_v0_26) = (dats m 0 c).arrAt 78 cfg0.N
      ∧ r.2.mem ((c : Thread nD τ).loc main_v0_27) = (dats m 0 c).arrAt 79 cfg0.N
      ∧ r.2.mem ((c : Thread nD τ).loc main_v0_28) = (dats m 0 c).arrAt 80 cfg0.N
      ∧ r.2.mem ((c : Thread nD τ).loc main_v0_29) = (dats m 0 c).arrAt 81 cfg0.N
      ∧ r.2.mem ((c : Thread nD τ).loc main_v0_30) = (dats m 0 c).arrAt 82 cfg0.N
      ∧ r.2.mem ((c : Thread nD τ).loc main_v0_31) = (dats m 0 c).arrAt 83 cfg0.N
      ∧ r.2.mem ((c : Thread nD τ).loc main_v0_32) = (dats m 0 c).arrAt 84 cfg0.N
      ∧ r.2.mem ((c : Thread nD τ).loc main_v0_33) = (dats m 0 c).arrAt 85 cfg0.N
      ∧ r.2.mem ((c : Thread nD τ).loc main_v0_34) = (dats m 0 c).arrAt 86 cfg0.N
      ∧ r.2.mem ((c : Thread nD τ).loc main_v0_35) = (dats m 0 c).arrAt 87 cfg0.N
      ∧ r.2.mem ((c : Thread nD τ).loc main_v0_36) = (dats m 0 c).arrAt 88 cfg0.N
      ∧ r.2.mem ((c : Thread nD τ).loc main_v0_37) = (dats m 0 c).arrAt 89 cfg0.N
      ∧ r.2.mem ((c : Thread nD τ).loc main_v0_38) = (dats m 0 c).arrAt 90 cfg0.N
      ∧ Kept m r.2.mem c :=
  (θ_run defs _ _).mono (fun r h c => ⟨(h.1 c).1 52, (h.1 c).1 53, (h.1 c).1 54, (h.1 c).1 55, (h.1 c).1 56, (h.1 c).1 57, (h.1 c).1 58, (h.1 c).1 59, (h.1 c).1 60, (h.1 c).1 61, (h.1 c).1 62, (h.1 c).1 63, (h.1 c).1 64, (h.1 c).1 65, (h.1 c).1 66, (h.1 c).1 67, (h.1 c).1 68, (h.1 c).1 69, (h.1 c).1 70, (h.1 c).1 71, (h.1 c).1 72, (h.1 c).1 73, (h.1 c).1 74, (h.1 c).1 75, (h.1 c).1 76, (h.1 c).1 77, (h.1 c).1 78, (h.1 c).1 79, (h.1 c).1 80, (h.1 c).1 81, (h.1 c).1 82, (h.1 c).1 83, (h.1 c).1 84, (h.1 c).1 85, (h.1 c).1 86, (h.1 c).1 87, (h.1 c).1 88, (h.1 c).1 89, (h.1 c).1 90, kept m r h.1 c⟩)
    (run_main_quiescent m ρ)

end Cert.Kernel6Ideal.Small

end
-- ==== Proof.SmallFinal.lean ====
module

public import proofs.«01_k».proof.Proof.SmallData
public import Idealize.ShloMosaic.Lib.Pipeline.Value

@[expose] public section

/-!
# What the AdamW kernel of the small weights ends with

The one point's blocks are the whole arrays, so each output array is the stored value of the given arrays.
-/

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ### A block's index is its array's -/

theorem emb0 (t : Fin cfg0.N) (j : S1x1024.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 1 + 1 * (j 0).val = (j 0).val; omega
  | ⟨1, _⟩ => show win0_0.index t (1 : Fin 2) * 1024 + 1 * (j 1).val = (j 1).val; omega
theorem emb1 (t : Fin cfg0.N) (j : S1x1024.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb2 (t : Fin cfg0.N) (j : S1x512.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * (j 0).val = (j 0).val; omega
  | ⟨1, _⟩ => show win0_2.index t (1 : Fin 2) * 512 + 1 * (j 1).val = (j 1).val; omega
theorem emb3 (t : Fin cfg0.N) (j : S1x32x64.Idx) : ((cfg0.win 3).blk t).view.emb j = j := by
  obtain ⟨e0, e1, e2⟩ := (by decide +kernel : ∀ t : Fin grid0.N, win0_3.index t (0 : Fin 3) = 0 ∧ win0_3.index t (1 : Fin 3) = 0 ∧ win0_3.index t (2 : Fin 3) = 0) t
  funext a; apply Fin.ext
  match a with
  | ⟨0, _⟩ => show win0_3.index t (0 : Fin 3) * 1 + 1 * (j 0).val = (j 0).val; omega
  | ⟨1, _⟩ => show win0_3.index t (1 : Fin 3) * 32 + 1 * (j 1).val = (j 1).val; omega
  | ⟨2, _⟩ => show win0_3.index t (2 : Fin 3) * 64 + 1 * (j 2).val = (j 2).val; omega
theorem emb4 (t : Fin cfg0.N) (j : S1x32x64.Idx) : ((cfg0.win 4).blk t).view.emb j = j := by
  obtain ⟨e0, e1, e2⟩ := (by decide +kernel : ∀ t : Fin grid0.N, win0_4.index t (0 : Fin 3) = 0 ∧ win0_4.index t (1 : Fin 3) = 0 ∧ win0_4.index t (2 : Fin 3) = 0) t
  funext a; apply Fin.ext
  match a with
  | ⟨0, _⟩ => show win0_4.index t (0 : Fin 3) * 1 + 1 * (j 0).val = (j 0).val; omega
  | ⟨1, _⟩ => show win0_4.index t (1 : Fin 3) * 32 + 1 * (j 1).val = (j 1).val; omega
  | ⟨2, _⟩ => show win0_4.index t (2 : Fin 3) * 64 + 1 * (j 2).val = (j 2).val; omega
theorem emb5 (t : Fin cfg0.N) (j : S1x32.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 32 + 1 * (j 1).val = (j 1).val; omega
theorem emb6 (t : Fin cfg0.N) (j : S1x32x64x16.Idx) : ((cfg0.win 6).blk t).view.emb j = j := by
  obtain ⟨e0, e1, e2, e3⟩ := (by decide +kernel : ∀ t : Fin grid0.N, win0_6.index t (0 : Fin 4) = 0 ∧ win0_6.index t (1 : Fin 4) = 0 ∧ win0_6.index t (2 : Fin 4) = 0 ∧ win0_6.index t (3 : Fin 4) = 0) t
  funext a; apply Fin.ext
  match a with
  | ⟨0, _⟩ => show win0_6.index t (0 : Fin 4) * 1 + 1 * (j 0).val = (j 0).val; omega
  | ⟨1, _⟩ => show win0_6.index t (1 : Fin 4) * 32 + 1 * (j 1).val = (j 1).val; omega
  | ⟨2, _⟩ => show win0_6.index t (2 : Fin 4) * 64 + 1 * (j 2).val = (j 2).val; omega
  | ⟨3, _⟩ => show win0_6.index t (3 : Fin 4) * 16 + 1 * (j 3).val = (j 3).val; omega
theorem emb7 (t : Fin cfg0.N) (j : S1x32x64x16.Idx) : ((cfg0.win 7).blk t).view.emb j = j := by
  obtain ⟨e0, e1, e2, e3⟩ := (by decide +kernel : ∀ t : Fin grid0.N, win0_7.index t (0 : Fin 4) = 0 ∧ win0_7.index t (1 : Fin 4) = 0 ∧ win0_7.index t (2 : Fin 4) = 0 ∧ win0_7.index t (3 : Fin 4) = 0) t
  funext a; apply Fin.ext
  match a with
  | ⟨0, _⟩ => show win0_7.index t (0 : Fin 4) * 1 + 1 * (j 0).val = (j 0).val; omega
  | ⟨1, _⟩ => show win0_7.index t (1 : Fin 4) * 32 + 1 * (j 1).val = (j 1).val; omega
  | ⟨2, _⟩ => show win0_7.index t (2 : Fin 4) * 64 + 1 * (j 2).val = (j 2).val; omega
  | ⟨3, _⟩ => show win0_7.index t (3 : Fin 4) * 16 + 1 * (j 3).val = (j 3).val; omega
theorem emb8 (t : Fin cfg0.N) (j : S1x32x16x64.Idx) : ((cfg0.win 8).blk t).view.emb j = j := by
  obtain ⟨e0, e1, e2, e3⟩ := (by decide +kernel : ∀ t : Fin grid0.N, win0_8.index t (0 : Fin 4) = 0 ∧ win0_8.index t (1 : Fin 4) = 0 ∧ win0_8.index t (2 : Fin 4) = 0 ∧ win0_8.index t (3 : Fin 4) = 0) t
  funext a; apply Fin.ext
  match a with
  | ⟨0, _⟩ => show win0_8.index t (0 : Fin 4) * 1 + 1 * (j 0).val = (j 0).val; omega
  | ⟨1, _⟩ => show win0_8.index t (1 : Fin 4) * 32 + 1 * (j 1).val = (j 1).val; omega
  | ⟨2, _⟩ => show win0_8.index t (2 : Fin 4) * 16 + 1 * (j 2).val = (j 2).val; omega
  | ⟨3, _⟩ => show win0_8.index t (3 : Fin 4) * 64 + 1 * (j 3).val = (j 3).val; omega
theorem emb9 (t : Fin cfg0.N) (j : S1x32x16x64.Idx) : ((cfg0.win 9).blk t).view.emb j = j := by
  obtain ⟨e0, e1, e2, e3⟩ := (by decide +kernel : ∀ t : Fin grid0.N, win0_9.index t (0 : Fin 4) = 0 ∧ win0_9.index t (1 : Fin 4) = 0 ∧ win0_9.index t (2 : Fin 4) = 0 ∧ win0_9.index t (3 : Fin 4) = 0) t
  funext a; apply Fin.ext
  match a with
  | ⟨0, _⟩ => show win0_9.index t (0 : Fin 4) * 1 + 1 * (j 0).val = (j 0).val; omega
  | ⟨1, _⟩ => show win0_9.index t (1 : Fin 4) * 32 + 1 * (j 1).val = (j 1).val; omega
  | ⟨2, _⟩ => show win0_9.index t (2 : Fin 4) * 16 + 1 * (j 2).val = (j 2).val; omega
  | ⟨3, _⟩ => show win0_9.index t (3 : Fin 4) * 64 + 1 * (j 3).val = (j 3).val; omega
theorem emb10 (t : Fin cfg0.N) (j : S1x512.Idx) : ((cfg0.win 10).blk t).view.emb j = j := by
  obtain ⟨e0, e1⟩ := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 1 + 1 * (j 0).val = (j 0).val; omega
  | ⟨1, _⟩ => show win0_10.index t (1 : Fin 2) * 512 + 1 * (j 1).val = (j 1).val; omega
theorem emb11 (t : Fin cfg0.N) (j : S1x1024.Idx) : ((cfg0.win 11).blk t).view.emb j = j := by
  obtain ⟨e0, e1⟩ := (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 1 + 1 * (j 0).val = (j 0).val; omega
  | ⟨1, _⟩ => show win0_11.index t (1 : Fin 2) * 1024 + 1 * (j 1).val = (j 1).val; omega
theorem emb12 (t : Fin cfg0.N) (j : S1x1024.Idx) : ((cfg0.win 12).blk t).view.emb j = j := by
  obtain ⟨e0, e1⟩ := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 1 + 1 * (j 0).val = (j 0).val; omega
  | ⟨1, _⟩ => show win0_12.index t (1 : Fin 2) * 1024 + 1 * (j 1).val = (j 1).val; omega
theorem emb13 (t : Fin cfg0.N) (j : S1x1024.Idx) : ((cfg0.win 13).blk t).view.emb j = j := by
  obtain ⟨e0, e1⟩ := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 1 + 1 * (j 0).val = (j 0).val; omega
  | ⟨1, _⟩ => show win0_13.index t (1 : Fin 2) * 1024 + 1 * (j 1).val = (j 1).val; omega
theorem emb14 (t : Fin cfg0.N) (j : S1x1024.Idx) : ((cfg0.win 14).blk t).view.emb j = j := by
  obtain ⟨e0, e1⟩ := (by decide +kernel : ∀ t : Fin grid0.N, win0_14.index t (0 : Fin 2) = 0 ∧ win0_14.index t (1 : Fin 2) = 0) t
  funext a; apply Fin.ext
  match a with
  | ⟨0, _⟩ => show win0_14.index t (0 : Fin 2) * 1 + 1 * (j 0).val = (j 0).val; omega
  | ⟨1, _⟩ => show win0_14.index t (1 : Fin 2) * 1024 + 1 * (j 1).val = (j 1).val; omega
theorem emb15 (t : Fin cfg0.N) (j : S1x512.Idx) : ((cfg0.win 15).blk t).view.emb j = j := by
  obtain ⟨e0, e1⟩ := (by decide +kernel : ∀ t : Fin grid0.N, win0_15.index t (0 : Fin 2) = 0 ∧ win0_15.index t (1 : Fin 2) = 0) t
  funext a; apply Fin.ext
  match a with
  | ⟨0, _⟩ => show win0_15.index t (0 : Fin 2) * 1 + 1 * (j 0).val = (j 0).val; omega
  | ⟨1, _⟩ => show win0_15.index t (1 : Fin 2) * 512 + 1 * (j 1).val = (j 1).val; omega
theorem emb16 (t : Fin cfg0.N) (j : S1x32x64.Idx) : ((cfg0.win 16).blk t).view.emb j = j := by
  obtain ⟨e0, e1, e2⟩ := (by decide +kernel : ∀ t : Fin grid0.N, win0_16.index t (0 : Fin 3) = 0 ∧ win0_16.index t (1 : Fin 3) = 0 ∧ win0_16.index t (2 : Fin 3) = 0) t
  funext a; apply Fin.ext
  match a with
  | ⟨0, _⟩ => show win0_16.index t (0 : Fin 3) * 1 + 1 * (j 0).val = (j 0).val; omega
  | ⟨1, _⟩ => show win0_16.index t (1 : Fin 3) * 32 + 1 * (j 1).val = (j 1).val; omega
  | ⟨2, _⟩ => show win0_16.index t (2 : Fin 3) * 64 + 1 * (j 2).val = (j 2).val; omega
theorem emb17 (t : Fin cfg0.N) (j : S1x32x64.Idx) : ((cfg0.win 17).blk t).view.emb j = j := by
  obtain ⟨e0, e1, e2⟩ := (by decide +kernel : ∀ t : Fin grid0.N, win0_17.index t (0 : Fin 3) = 0 ∧ win0_17.index t (1 : Fin 3) = 0 ∧ win0_17.index t (2 : Fin 3) = 0) t
  funext a; apply Fin.ext
  match a with
  | ⟨0, _⟩ => show win0_17.index t (0 : Fin 3) * 1 + 1 * (j 0).val = (j 0).val; omega
  | ⟨1, _⟩ => show win0_17.index t (1 : Fin 3) * 32 + 1 * (j 1).val = (j 1).val; omega
  | ⟨2, _⟩ => show win0_17.index t (2 : Fin 3) * 64 + 1 * (j 2).val = (j 2).val; omega
theorem emb18 (t : Fin cfg0.N) (j : S1x32.Idx) : ((cfg0.win 18).blk t).view.emb j = j := by
  obtain ⟨e0, e1⟩ := (by decide +kernel : ∀ t : Fin grid0.N, win0_18.index t (0 : Fin 2) = 0 ∧ win0_18.index t (1 : Fin 2) = 0) t
  funext a; apply Fin.ext
  match a with
  | ⟨0, _⟩ => show win0_18.index t (0 : Fin 2) * 1 + 1 * (j 0).val = (j 0).val; omega
  | ⟨1, _⟩ => show win0_18.index t (1 : Fin 2) * 32 + 1 * (j 1).val = (j 1).val; omega
theorem emb19 (t : Fin cfg0.N) (j : S1x32x64x16.Idx) : ((cfg0.win 19).blk t).view.emb j = j := by
  obtain ⟨e0, e1, e2, e3⟩ := (by decide +kernel : ∀ t : Fin grid0.N, win0_19.index t (0 : Fin 4) = 0 ∧ win0_19.index t (1 : Fin 4) = 0 ∧ win0_19.index t (2 : Fin 4) = 0 ∧ win0_19.index t (3 : Fin 4) = 0) t
  funext a; apply Fin.ext
  match a with
  | ⟨0, _⟩ => show win0_19.index t (0 : Fin 4) * 1 + 1 * (j 0).val = (j 0).val; omega
  | ⟨1, _⟩ => show win0_19.index t (1 : Fin 4) * 32 + 1 * (j 1).val = (j 1).val; omega
  | ⟨2, _⟩ => show win0_19.index t (2 : Fin 4) * 64 + 1 * (j 2).val = (j 2).val; omega
  | ⟨3, _⟩ => show win0_19.index t (3 : Fin 4) * 16 + 1 * (j 3).val = (j 3).val; omega
theorem emb20 (t : Fin cfg0.N) (j : S1x32x64x16.Idx) : ((cfg0.win 20).blk t).view.emb j = j := by
  obtain ⟨e0, e1, e2, e3⟩ := (by decide +kernel : ∀ t : Fin grid0.N, win0_20.index t (0 : Fin 4) = 0 ∧ win0_20.index t (1 : Fin 4) = 0 ∧ win0_20.index t (2 : Fin 4) = 0 ∧ win0_20.index t (3 : Fin 4) = 0) t
  funext a; apply Fin.ext
  match a with
  | ⟨0, _⟩ => show win0_20.index t (0 : Fin 4) * 1 + 1 * (j 0).val = (j 0).val; omega
  | ⟨1, _⟩ => show win0_20.index t (1 : Fin 4) * 32 + 1 * (j 1).val = (j 1).val; omega
  | ⟨2, _⟩ => show win0_20.index t (2 : Fin 4) * 64 + 1 * (j 2).val = (j 2).val; omega
  | ⟨3, _⟩ => show win0_20.index t (3 : Fin 4) * 16 + 1 * (j 3).val = (j 3).val; omega
theorem emb21 (t : Fin cfg0.N) (j : S1x32x16x64.Idx) : ((cfg0.win 21).blk t).view.emb j = j := by
  obtain ⟨e0, e1, e2, e3⟩ := (by decide +kernel : ∀ t : Fin grid0.N, win0_21.index t (0 : Fin 4) = 0 ∧ win0_21.index t (1 : Fin 4) = 0 ∧ win0_21.index t (2 : Fin 4) = 0 ∧ win0_21.index t (3 : Fin 4) = 0) t
  funext a; apply Fin.ext
  match a with
  | ⟨0, _⟩ => show win0_21.index t (0 : Fin 4) * 1 + 1 * (j 0).val = (j 0).val; omega
  | ⟨1, _⟩ => show win0_21.index t (1 : Fin 4) * 32 + 1 * (j 1).val = (j 1).val; omega
  | ⟨2, _⟩ => show win0_21.index t (2 : Fin 4) * 16 + 1 * (j 2).val = (j 2).val; omega
  | ⟨3, _⟩ => show win0_21.index t (3 : Fin 4) * 64 + 1 * (j 3).val = (j 3).val; omega
theorem emb22 (t : Fin cfg0.N) (j : S1x32x16x64.Idx) : ((cfg0.win 22).blk t).view.emb j = j := by
  obtain ⟨e0, e1, e2, e3⟩ := (by decide +kernel : ∀ t : Fin grid0.N, win0_22.index t (0 : Fin 4) = 0 ∧ win0_22.index t (1 : Fin 4) = 0 ∧ win0_22.index t (2 : Fin 4) = 0 ∧ win0_22.index t (3 : Fin 4) = 0) t
  funext a; apply Fin.ext
  match a with
  | ⟨0, _⟩ => show win0_22.index t (0 : Fin 4) * 1 + 1 * (j 0).val = (j 0).val; omega
  | ⟨1, _⟩ => show win0_22.index t (1 : Fin 4) * 32 + 1 * (j 1).val = (j 1).val; omega
  | ⟨2, _⟩ => show win0_22.index t (2 : Fin 4) * 16 + 1 * (j 2).val = (j 2).val; omega
  | ⟨3, _⟩ => show win0_22.index t (3 : Fin 4) * 64 + 1 * (j 3).val = (j 3).val; omega
theorem emb23 (t : Fin cfg0.N) (j : S1x512.Idx) : ((cfg0.win 23).blk t).view.emb j = j := by
  obtain ⟨e0, e1⟩ := (by decide +kernel : ∀ t : Fin grid0.N, win0_23.index t (0 : Fin 2) = 0 ∧ win0_23.index t (1 : Fin 2) = 0) t
  funext a; apply Fin.ext
  match a with
  | ⟨0, _⟩ => show win0_23.index t (0 : Fin 2) * 1 + 1 * (j 0).val = (j 0).val; omega
  | ⟨1, _⟩ => show win0_23.index t (1 : Fin 2) * 512 + 1 * (j 1).val = (j 1).val; omega
theorem emb24 (t : Fin cfg0.N) (j : S1x1024.Idx) : ((cfg0.win 24).blk t).view.emb j = j := by
  obtain ⟨e0, e1⟩ := (by decide +kernel : ∀ t : Fin grid0.N, win0_24.index t (0 : Fin 2) = 0 ∧ win0_24.index t (1 : Fin 2) = 0) t
  funext a; apply Fin.ext
  match a with
  | ⟨0, _⟩ => show win0_24.index t (0 : Fin 2) * 1 + 1 * (j 0).val = (j 0).val; omega
  | ⟨1, _⟩ => show win0_24.index t (1 : Fin 2) * 1024 + 1 * (j 1).val = (j 1).val; omega
theorem emb25 (t : Fin cfg0.N) (j : S1x1024.Idx) : ((cfg0.win 25).blk t).view.emb j = j := by
  obtain ⟨e0, e1⟩ := (by decide +kernel : ∀ t : Fin grid0.N, win0_25.index t (0 : Fin 2) = 0 ∧ win0_25.index t (1 : Fin 2) = 0) t
  funext a; apply Fin.ext
  match a with
  | ⟨0, _⟩ => show win0_25.index t (0 : Fin 2) * 1 + 1 * (j 0).val = (j 0).val; omega
  | ⟨1, _⟩ => show win0_25.index t (1 : Fin 2) * 1024 + 1 * (j 1).val = (j 1).val; omega
theorem emb26 (t : Fin cfg0.N) (j : S1x1024.Idx) : ((cfg0.win 26).blk t).view.emb j = j := by
  obtain ⟨e0, e1⟩ := (by decide +kernel : ∀ t : Fin grid0.N, win0_26.index t (0 : Fin 2) = 0 ∧ win0_26.index t (1 : Fin 2) = 0) t
  funext a; apply Fin.ext
  match a with
  | ⟨0, _⟩ => show win0_26.index t (0 : Fin 2) * 1 + 1 * (j 0).val = (j 0).val; omega
  | ⟨1, _⟩ => show win0_26.index t (1 : Fin 2) * 1024 + 1 * (j 1).val = (j 1).val; omega
theorem emb27 (t : Fin cfg0.N) (j : S1x1024.Idx) : ((cfg0.win 27).blk t).view.emb j = j := by
  obtain ⟨e0, e1⟩ := (by decide +kernel : ∀ t : Fin grid0.N, win0_27.index t (0 : Fin 2) = 0 ∧ win0_27.index t (1 : Fin 2) = 0) t
  funext a; apply Fin.ext
  match a with
  | ⟨0, _⟩ => show win0_27.index t (0 : Fin 2) * 1 + 1 * (j 0).val = (j 0).val; omega
  | ⟨1, _⟩ => show win0_27.index t (1 : Fin 2) * 1024 + 1 * (j 1).val = (j 1).val; omega
theorem emb28 (t : Fin cfg0.N) (j : S1x512.Idx) : ((cfg0.win 28).blk t).view.emb j = j := by
  obtain ⟨e0, e1⟩ := (by decide +kernel : ∀ t : Fin grid0.N, win0_28.index t (0 : Fin 2) = 0 ∧ win0_28.index t (1 : Fin 2) = 0) t
  funext a; apply Fin.ext
  match a with
  | ⟨0, _⟩ => show win0_28.index t (0 : Fin 2) * 1 + 1 * (j 0).val = (j 0).val; omega
  | ⟨1, _⟩ => show win0_28.index t (1 : Fin 2) * 512 + 1 * (j 1).val = (j 1).val; omega
theorem emb29 (t : Fin cfg0.N) (j : S1x32x64.Idx) : ((cfg0.win 29).blk t).view.emb j = j := by
  obtain ⟨e0, e1, e2⟩ := (by decide +kernel : ∀ t : Fin grid0.N, win0_29.index t (0 : Fin 3) = 0 ∧ win0_29.index t (1 : Fin 3) = 0 ∧ win0_29.index t (2 : Fin 3) = 0) t
  funext a; apply Fin.ext
  match a with
  | ⟨0, _⟩ => show win0_29.index t (0 : Fin 3) * 1 + 1 * (j 0).val = (j 0).val; omega
  | ⟨1, _⟩ => show win0_29.index t (1 : Fin 3) * 32 + 1 * (j 1).val = (j 1).val; omega
  | ⟨2, _⟩ => show win0_29.index t (2 : Fin 3) * 64 + 1 * (j 2).val = (j 2).val; omega
theorem emb30 (t : Fin cfg0.N) (j : S1x32x64.Idx) : ((cfg0.win 30).blk t).view.emb j = j := by
  obtain ⟨e0, e1, e2⟩ := (by decide +kernel : ∀ t : Fin grid0.N, win0_30.index t (0 : Fin 3) = 0 ∧ win0_30.index t (1 : Fin 3) = 0 ∧ win0_30.index t (2 : Fin 3) = 0) t
  funext a; apply Fin.ext
  match a with
  | ⟨0, _⟩ => show win0_30.index t (0 : Fin 3) * 1 + 1 * (j 0).val = (j 0).val; omega
  | ⟨1, _⟩ => show win0_30.index t (1 : Fin 3) * 32 + 1 * (j 1).val = (j 1).val; omega
  | ⟨2, _⟩ => show win0_30.index t (2 : Fin 3) * 64 + 1 * (j 2).val = (j 2).val; omega
theorem emb31 (t : Fin cfg0.N) (j : S1x32.Idx) : ((cfg0.win 31).blk t).view.emb j = j := by
  obtain ⟨e0, e1⟩ := (by decide +kernel : ∀ t : Fin grid0.N, win0_31.index t (0 : Fin 2) = 0 ∧ win0_31.index t (1 : Fin 2) = 0) t
  funext a; apply Fin.ext
  match a with
  | ⟨0, _⟩ => show win0_31.index t (0 : Fin 2) * 1 + 1 * (j 0).val = (j 0).val; omega
  | ⟨1, _⟩ => show win0_31.index t (1 : Fin 2) * 32 + 1 * (j 1).val = (j 1).val; omega
theorem emb32 (t : Fin cfg0.N) (j : S1x32x64x16.Idx) : ((cfg0.win 32).blk t).view.emb j = j := by
  obtain ⟨e0, e1, e2, e3⟩ := (by decide +kernel : ∀ t : Fin grid0.N, win0_32.index t (0 : Fin 4) = 0 ∧ win0_32.index t (1 : Fin 4) = 0 ∧ win0_32.index t (2 : Fin 4) = 0 ∧ win0_32.index t (3 : Fin 4) = 0) t
  funext a; apply Fin.ext
  match a with
  | ⟨0, _⟩ => show win0_32.index t (0 : Fin 4) * 1 + 1 * (j 0).val = (j 0).val; omega
  | ⟨1, _⟩ => show win0_32.index t (1 : Fin 4) * 32 + 1 * (j 1).val = (j 1).val; omega
  | ⟨2, _⟩ => show win0_32.index t (2 : Fin 4) * 64 + 1 * (j 2).val = (j 2).val; omega
  | ⟨3, _⟩ => show win0_32.index t (3 : Fin 4) * 16 + 1 * (j 3).val = (j 3).val; omega
theorem emb33 (t : Fin cfg0.N) (j : S1x32x64x16.Idx) : ((cfg0.win 33).blk t).view.emb j = j := by
  obtain ⟨e0, e1, e2, e3⟩ := (by decide +kernel : ∀ t : Fin grid0.N, win0_33.index t (0 : Fin 4) = 0 ∧ win0_33.index t (1 : Fin 4) = 0 ∧ win0_33.index t (2 : Fin 4) = 0 ∧ win0_33.index t (3 : Fin 4) = 0) t
  funext a; apply Fin.ext
  match a with
  | ⟨0, _⟩ => show win0_33.index t (0 : Fin 4) * 1 + 1 * (j 0).val = (j 0).val; omega
  | ⟨1, _⟩ => show win0_33.index t (1 : Fin 4) * 32 + 1 * (j 1).val = (j 1).val; omega
  | ⟨2, _⟩ => show win0_33.index t (2 : Fin 4) * 64 + 1 * (j 2).val = (j 2).val; omega
  | ⟨3, _⟩ => show win0_33.index t (3 : Fin 4) * 16 + 1 * (j 3).val = (j 3).val; omega
theorem emb34 (t : Fin cfg0.N) (j : S1x32x16x64.Idx) : ((cfg0.win 34).blk t).view.emb j = j := by
  obtain ⟨e0, e1, e2, e3⟩ := (by decide +kernel : ∀ t : Fin grid0.N, win0_34.index t (0 : Fin 4) = 0 ∧ win0_34.index t (1 : Fin 4) = 0 ∧ win0_34.index t (2 : Fin 4) = 0 ∧ win0_34.index t (3 : Fin 4) = 0) t
  funext a; apply Fin.ext
  match a with
  | ⟨0, _⟩ => show win0_34.index t (0 : Fin 4) * 1 + 1 * (j 0).val = (j 0).val; omega
  | ⟨1, _⟩ => show win0_34.index t (1 : Fin 4) * 32 + 1 * (j 1).val = (j 1).val; omega
  | ⟨2, _⟩ => show win0_34.index t (2 : Fin 4) * 16 + 1 * (j 2).val = (j 2).val; omega
  | ⟨3, _⟩ => show win0_34.index t (3 : Fin 4) * 64 + 1 * (j 3).val = (j 3).val; omega
theorem emb35 (t : Fin cfg0.N) (j : S1x32x16x64.Idx) : ((cfg0.win 35).blk t).view.emb j = j := by
  obtain ⟨e0, e1, e2, e3⟩ := (by decide +kernel : ∀ t : Fin grid0.N, win0_35.index t (0 : Fin 4) = 0 ∧ win0_35.index t (1 : Fin 4) = 0 ∧ win0_35.index t (2 : Fin 4) = 0 ∧ win0_35.index t (3 : Fin 4) = 0) t
  funext a; apply Fin.ext
  match a with
  | ⟨0, _⟩ => show win0_35.index t (0 : Fin 4) * 1 + 1 * (j 0).val = (j 0).val; omega
  | ⟨1, _⟩ => show win0_35.index t (1 : Fin 4) * 32 + 1 * (j 1).val = (j 1).val; omega
  | ⟨2, _⟩ => show win0_35.index t (2 : Fin 4) * 16 + 1 * (j 2).val = (j 2).val; omega
  | ⟨3, _⟩ => show win0_35.index t (3 : Fin 4) * 64 + 1 * (j 3).val = (j 3).val; omega
theorem emb36 (t : Fin cfg0.N) (j : S1x512.Idx) : ((cfg0.win 36).blk t).view.emb j = j := by
  obtain ⟨e0, e1⟩ := (by decide +kernel : ∀ t : Fin grid0.N, win0_36.index t (0 : Fin 2) = 0 ∧ win0_36.index t (1 : Fin 2) = 0) t
  funext a; apply Fin.ext
  match a with
  | ⟨0, _⟩ => show win0_36.index t (0 : Fin 2) * 1 + 1 * (j 0).val = (j 0).val; omega
  | ⟨1, _⟩ => show win0_36.index t (1 : Fin 2) * 512 + 1 * (j 1).val = (j 1).val; omega
theorem emb37 (t : Fin cfg0.N) (j : S1x1024.Idx) : ((cfg0.win 37).blk t).view.emb j = j := by
  obtain ⟨e0, e1⟩ := (by decide +kernel : ∀ t : Fin grid0.N, win0_37.index t (0 : Fin 2) = 0 ∧ win0_37.index t (1 : Fin 2) = 0) t
  funext a; apply Fin.ext
  match a with
  | ⟨0, _⟩ => show win0_37.index t (0 : Fin 2) * 1 + 1 * (j 0).val = (j 0).val; omega
  | ⟨1, _⟩ => show win0_37.index t (1 : Fin 2) * 1024 + 1 * (j 1).val = (j 1).val; omega
theorem emb38 (t : Fin cfg0.N) (j : S1x1024.Idx) : ((cfg0.win 38).blk t).view.emb j = j := by
  obtain ⟨e0, e1⟩ := (by decide +kernel : ∀ t : Fin grid0.N, win0_38.index t (0 : Fin 2) = 0 ∧ win0_38.index t (1 : Fin 2) = 0) t
  funext a; apply Fin.ext
  match a with
  | ⟨0, _⟩ => show win0_38.index t (0 : Fin 2) * 1 + 1 * (j 0).val = (j 0).val; omega
  | ⟨1, _⟩ => show win0_38.index t (1 : Fin 2) * 1024 + 1 * (j 1).val = (j 1).val; omega
theorem emb39 (t : Fin cfg0.N) (j : S1x1024.Idx) : ((cfg0.win 39).blk t).view.emb j = j := by
  obtain ⟨e0, e1⟩ := (by decide +kernel : ∀ t : Fin grid0.N, win0_39.index t (0 : Fin 2) = 0 ∧ win0_39.index t (1 : Fin 2) = 0) t
  funext a; apply Fin.ext
  match a with
  | ⟨0, _⟩ => show win0_39.index t (0 : Fin 2) * 1 + 1 * (j 0).val = (j 0).val; omega
  | ⟨1, _⟩ => show win0_39.index t (1 : Fin 2) * 1024 + 1 * (j 1).val = (j 1).val; omega
theorem emb40 (t : Fin cfg0.N) (j : S1x1024.Idx) : ((cfg0.win 40).blk t).view.emb j = j := by
  obtain ⟨e0, e1⟩ := (by decide +kernel : ∀ t : Fin grid0.N, win0_40.index t (0 : Fin 2) = 0 ∧ win0_40.index t (1 : Fin 2) = 0) t
  funext a; apply Fin.ext
  match a with
  | ⟨0, _⟩ => show win0_40.index t (0 : Fin 2) * 1 + 1 * (j 0).val = (j 0).val; omega
  | ⟨1, _⟩ => show win0_40.index t (1 : Fin 2) * 1024 + 1 * (j 1).val = (j 1).val; omega
theorem emb41 (t : Fin cfg0.N) (j : S1x512.Idx) : ((cfg0.win 41).blk t).view.emb j = j := by
  obtain ⟨e0, e1⟩ := (by decide +kernel : ∀ t : Fin grid0.N, win0_41.index t (0 : Fin 2) = 0 ∧ win0_41.index t (1 : Fin 2) = 0) t
  funext a; apply Fin.ext
  match a with
  | ⟨0, _⟩ => show win0_41.index t (0 : Fin 2) * 1 + 1 * (j 0).val = (j 0).val; omega
  | ⟨1, _⟩ => show win0_41.index t (1 : Fin 2) * 512 + 1 * (j 1).val = (j 1).val; omega
theorem emb42 (t : Fin cfg0.N) (j : S1x32x64.Idx) : ((cfg0.win 42).blk t).view.emb j = j := by
  obtain ⟨e0, e1, e2⟩ := (by decide +kernel : ∀ t : Fin grid0.N, win0_42.index t (0 : Fin 3) = 0 ∧ win0_42.index t (1 : Fin 3) = 0 ∧ win0_42.index t (2 : Fin 3) = 0) t
  funext a; apply Fin.ext
  match a with
  | ⟨0, _⟩ => show win0_42.index t (0 : Fin 3) * 1 + 1 * (j 0).val = (j 0).val; omega
  | ⟨1, _⟩ => show win0_42.index t (1 : Fin 3) * 32 + 1 * (j 1).val = (j 1).val; omega
  | ⟨2, _⟩ => show win0_42.index t (2 : Fin 3) * 64 + 1 * (j 2).val = (j 2).val; omega
theorem emb43 (t : Fin cfg0.N) (j : S1x32x64.Idx) : ((cfg0.win 43).blk t).view.emb j = j := by
  obtain ⟨e0, e1, e2⟩ := (by decide +kernel : ∀ t : Fin grid0.N, win0_43.index t (0 : Fin 3) = 0 ∧ win0_43.index t (1 : Fin 3) = 0 ∧ win0_43.index t (2 : Fin 3) = 0) t
  funext a; apply Fin.ext
  match a with
  | ⟨0, _⟩ => show win0_43.index t (0 : Fin 3) * 1 + 1 * (j 0).val = (j 0).val; omega
  | ⟨1, _⟩ => show win0_43.index t (1 : Fin 3) * 32 + 1 * (j 1).val = (j 1).val; omega
  | ⟨2, _⟩ => show win0_43.index t (2 : Fin 3) * 64 + 1 * (j 2).val = (j 2).val; omega
theorem emb44 (t : Fin cfg0.N) (j : S1x32.Idx) : ((cfg0.win 44).blk t).view.emb j = j := by
  obtain ⟨e0, e1⟩ := (by decide +kernel : ∀ t : Fin grid0.N, win0_44.index t (0 : Fin 2) = 0 ∧ win0_44.index t (1 : Fin 2) = 0) t
  funext a; apply Fin.ext
  match a with
  | ⟨0, _⟩ => show win0_44.index t (0 : Fin 2) * 1 + 1 * (j 0).val = (j 0).val; omega
  | ⟨1, _⟩ => show win0_44.index t (1 : Fin 2) * 32 + 1 * (j 1).val = (j 1).val; omega
theorem emb45 (t : Fin cfg0.N) (j : S1x32x64x16.Idx) : ((cfg0.win 45).blk t).view.emb j = j := by
  obtain ⟨e0, e1, e2, e3⟩ := (by decide +kernel : ∀ t : Fin grid0.N, win0_45.index t (0 : Fin 4) = 0 ∧ win0_45.index t (1 : Fin 4) = 0 ∧ win0_45.index t (2 : Fin 4) = 0 ∧ win0_45.index t (3 : Fin 4) = 0) t
  funext a; apply Fin.ext
  match a with
  | ⟨0, _⟩ => show win0_45.index t (0 : Fin 4) * 1 + 1 * (j 0).val = (j 0).val; omega
  | ⟨1, _⟩ => show win0_45.index t (1 : Fin 4) * 32 + 1 * (j 1).val = (j 1).val; omega
  | ⟨2, _⟩ => show win0_45.index t (2 : Fin 4) * 64 + 1 * (j 2).val = (j 2).val; omega
  | ⟨3, _⟩ => show win0_45.index t (3 : Fin 4) * 16 + 1 * (j 3).val = (j 3).val; omega
theorem emb46 (t : Fin cfg0.N) (j : S1x32x64x16.Idx) : ((cfg0.win 46).blk t).view.emb j = j := by
  obtain ⟨e0, e1, e2, e3⟩ := (by decide +kernel : ∀ t : Fin grid0.N, win0_46.index t (0 : Fin 4) = 0 ∧ win0_46.index t (1 : Fin 4) = 0 ∧ win0_46.index t (2 : Fin 4) = 0 ∧ win0_46.index t (3 : Fin 4) = 0) t
  funext a; apply Fin.ext
  match a with
  | ⟨0, _⟩ => show win0_46.index t (0 : Fin 4) * 1 + 1 * (j 0).val = (j 0).val; omega
  | ⟨1, _⟩ => show win0_46.index t (1 : Fin 4) * 32 + 1 * (j 1).val = (j 1).val; omega
  | ⟨2, _⟩ => show win0_46.index t (2 : Fin 4) * 64 + 1 * (j 2).val = (j 2).val; omega
  | ⟨3, _⟩ => show win0_46.index t (3 : Fin 4) * 16 + 1 * (j 3).val = (j 3).val; omega
theorem emb47 (t : Fin cfg0.N) (j : S1x32x16x64.Idx) : ((cfg0.win 47).blk t).view.emb j = j := by
  obtain ⟨e0, e1, e2, e3⟩ := (by decide +kernel : ∀ t : Fin grid0.N, win0_47.index t (0 : Fin 4) = 0 ∧ win0_47.index t (1 : Fin 4) = 0 ∧ win0_47.index t (2 : Fin 4) = 0 ∧ win0_47.index t (3 : Fin 4) = 0) t
  funext a; apply Fin.ext
  match a with
  | ⟨0, _⟩ => show win0_47.index t (0 : Fin 4) * 1 + 1 * (j 0).val = (j 0).val; omega
  | ⟨1, _⟩ => show win0_47.index t (1 : Fin 4) * 32 + 1 * (j 1).val = (j 1).val; omega
  | ⟨2, _⟩ => show win0_47.index t (2 : Fin 4) * 16 + 1 * (j 2).val = (j 2).val; omega
  | ⟨3, _⟩ => show win0_47.index t (3 : Fin 4) * 64 + 1 * (j 3).val = (j 3).val; omega
theorem emb48 (t : Fin cfg0.N) (j : S1x32x16x64.Idx) : ((cfg0.win 48).blk t).view.emb j = j := by
  obtain ⟨e0, e1, e2, e3⟩ := (by decide +kernel : ∀ t : Fin grid0.N, win0_48.index t (0 : Fin 4) = 0 ∧ win0_48.index t (1 : Fin 4) = 0 ∧ win0_48.index t (2 : Fin 4) = 0 ∧ win0_48.index t (3 : Fin 4) = 0) t
  funext a; apply Fin.ext
  match a with
  | ⟨0, _⟩ => show win0_48.index t (0 : Fin 4) * 1 + 1 * (j 0).val = (j 0).val; omega
  | ⟨1, _⟩ => show win0_48.index t (1 : Fin 4) * 32 + 1 * (j 1).val = (j 1).val; omega
  | ⟨2, _⟩ => show win0_48.index t (2 : Fin 4) * 16 + 1 * (j 2).val = (j 2).val; omega
  | ⟨3, _⟩ => show win0_48.index t (3 : Fin 4) * 64 + 1 * (j 3).val = (j 3).val; omega
theorem emb49 (t : Fin cfg0.N) (j : S1x512.Idx) : ((cfg0.win 49).blk t).view.emb j = j := by
  obtain ⟨e0, e1⟩ := (by decide +kernel : ∀ t : Fin grid0.N, win0_49.index t (0 : Fin 2) = 0 ∧ win0_49.index t (1 : Fin 2) = 0) t
  funext a; apply Fin.ext
  match a with
  | ⟨0, _⟩ => show win0_49.index t (0 : Fin 2) * 1 + 1 * (j 0).val = (j 0).val; omega
  | ⟨1, _⟩ => show win0_49.index t (1 : Fin 2) * 512 + 1 * (j 1).val = (j 1).val; omega
theorem emb50 (t : Fin cfg0.N) (j : S1x1024.Idx) : ((cfg0.win 50).blk t).view.emb j = j := by
  obtain ⟨e0, e1⟩ := (by decide +kernel : ∀ t : Fin grid0.N, win0_50.index t (0 : Fin 2) = 0 ∧ win0_50.index t (1 : Fin 2) = 0) t
  funext a; apply Fin.ext
  match a with
  | ⟨0, _⟩ => show win0_50.index t (0 : Fin 2) * 1 + 1 * (j 0).val = (j 0).val; omega
  | ⟨1, _⟩ => show win0_50.index t (1 : Fin 2) * 1024 + 1 * (j 1).val = (j 1).val; omega
theorem emb51 (t : Fin cfg0.N) (j : S1x1024.Idx) : ((cfg0.win 51).blk t).view.emb j = j := by
  obtain ⟨e0, e1⟩ := (by decide +kernel : ∀ t : Fin grid0.N, win0_51.index t (0 : Fin 2) = 0 ∧ win0_51.index t (1 : Fin 2) = 0) t
  funext a; apply Fin.ext
  match a with
  | ⟨0, _⟩ => show win0_51.index t (0 : Fin 2) * 1 + 1 * (j 0).val = (j 0).val; omega
  | ⟨1, _⟩ => show win0_51.index t (1 : Fin 2) * 1024 + 1 * (j 1).val = (j 1).val; omega
theorem emb52 (t : Fin cfg0.N) (j : S1x1024.Idx) : ((cfg0.win 52).blk t).view.emb j = j := by
  obtain ⟨e0, e1⟩ := (by decide +kernel : ∀ t : Fin grid0.N, win0_52.index t (0 : Fin 2) = 0 ∧ win0_52.index t (1 : Fin 2) = 0) t
  funext a; apply Fin.ext
  match a with
  | ⟨0, _⟩ => show win0_52.index t (0 : Fin 2) * 1 + 1 * (j 0).val = (j 0).val; omega
  | ⟨1, _⟩ => show win0_52.index t (1 : Fin 2) * 1024 + 1 * (j 1).val = (j 1).val; omega
theorem emb53 (t : Fin cfg0.N) (j : S1x1024.Idx) : ((cfg0.win 53).blk t).view.emb j = j := by
  obtain ⟨e0, e1⟩ := (by decide +kernel : ∀ t : Fin grid0.N, win0_53.index t (0 : Fin 2) = 0 ∧ win0_53.index t (1 : Fin 2) = 0) t
  funext a; apply Fin.ext
  match a with
  | ⟨0, _⟩ => show win0_53.index t (0 : Fin 2) * 1 + 1 * (j 0).val = (j 0).val; omega
  | ⟨1, _⟩ => show win0_53.index t (1 : Fin 2) * 1024 + 1 * (j 1).val = (j 1).val; omega
theorem emb54 (t : Fin cfg0.N) (j : S1x512.Idx) : ((cfg0.win 54).blk t).view.emb j = j := by
  obtain ⟨e0, e1⟩ := (by decide +kernel : ∀ t : Fin grid0.N, win0_54.index t (0 : Fin 2) = 0 ∧ win0_54.index t (1 : Fin 2) = 0) t
  funext a; apply Fin.ext
  match a with
  | ⟨0, _⟩ => show win0_54.index t (0 : Fin 2) * 1 + 1 * (j 0).val = (j 0).val; omega
  | ⟨1, _⟩ => show win0_54.index t (1 : Fin 2) * 512 + 1 * (j 1).val = (j 1).val; omega
theorem emb55 (t : Fin cfg0.N) (j : S1x32x64.Idx) : ((cfg0.win 55).blk t).view.emb j = j := by
  obtain ⟨e0, e1, e2⟩ := (by decide +kernel : ∀ t : Fin grid0.N, win0_55.index t (0 : Fin 3) = 0 ∧ win0_55.index t (1 : Fin 3) = 0 ∧ win0_55.index t (2 : Fin 3) = 0) t
  funext a; apply Fin.ext
  match a with
  | ⟨0, _⟩ => show win0_55.index t (0 : Fin 3) * 1 + 1 * (j 0).val = (j 0).val; omega
  | ⟨1, _⟩ => show win0_55.index t (1 : Fin 3) * 32 + 1 * (j 1).val = (j 1).val; omega
  | ⟨2, _⟩ => show win0_55.index t (2 : Fin 3) * 64 + 1 * (j 2).val = (j 2).val; omega
theorem emb56 (t : Fin cfg0.N) (j : S1x32x64.Idx) : ((cfg0.win 56).blk t).view.emb j = j := by
  obtain ⟨e0, e1, e2⟩ := (by decide +kernel : ∀ t : Fin grid0.N, win0_56.index t (0 : Fin 3) = 0 ∧ win0_56.index t (1 : Fin 3) = 0 ∧ win0_56.index t (2 : Fin 3) = 0) t
  funext a; apply Fin.ext
  match a with
  | ⟨0, _⟩ => show win0_56.index t (0 : Fin 3) * 1 + 1 * (j 0).val = (j 0).val; omega
  | ⟨1, _⟩ => show win0_56.index t (1 : Fin 3) * 32 + 1 * (j 1).val = (j 1).val; omega
  | ⟨2, _⟩ => show win0_56.index t (2 : Fin 3) * 64 + 1 * (j 2).val = (j 2).val; omega
theorem emb57 (t : Fin cfg0.N) (j : S1x32.Idx) : ((cfg0.win 57).blk t).view.emb j = j := by
  obtain ⟨e0, e1⟩ := (by decide +kernel : ∀ t : Fin grid0.N, win0_57.index t (0 : Fin 2) = 0 ∧ win0_57.index t (1 : Fin 2) = 0) t
  funext a; apply Fin.ext
  match a with
  | ⟨0, _⟩ => show win0_57.index t (0 : Fin 2) * 1 + 1 * (j 0).val = (j 0).val; omega
  | ⟨1, _⟩ => show win0_57.index t (1 : Fin 2) * 32 + 1 * (j 1).val = (j 1).val; omega
theorem emb58 (t : Fin cfg0.N) (j : S1x32x64x16.Idx) : ((cfg0.win 58).blk t).view.emb j = j := by
  obtain ⟨e0, e1, e2, e3⟩ := (by decide +kernel : ∀ t : Fin grid0.N, win0_58.index t (0 : Fin 4) = 0 ∧ win0_58.index t (1 : Fin 4) = 0 ∧ win0_58.index t (2 : Fin 4) = 0 ∧ win0_58.index t (3 : Fin 4) = 0) t
  funext a; apply Fin.ext
  match a with
  | ⟨0, _⟩ => show win0_58.index t (0 : Fin 4) * 1 + 1 * (j 0).val = (j 0).val; omega
  | ⟨1, _⟩ => show win0_58.index t (1 : Fin 4) * 32 + 1 * (j 1).val = (j 1).val; omega
  | ⟨2, _⟩ => show win0_58.index t (2 : Fin 4) * 64 + 1 * (j 2).val = (j 2).val; omega
  | ⟨3, _⟩ => show win0_58.index t (3 : Fin 4) * 16 + 1 * (j 3).val = (j 3).val; omega
theorem emb59 (t : Fin cfg0.N) (j : S1x32x64x16.Idx) : ((cfg0.win 59).blk t).view.emb j = j := by
  obtain ⟨e0, e1, e2, e3⟩ := (by decide +kernel : ∀ t : Fin grid0.N, win0_59.index t (0 : Fin 4) = 0 ∧ win0_59.index t (1 : Fin 4) = 0 ∧ win0_59.index t (2 : Fin 4) = 0 ∧ win0_59.index t (3 : Fin 4) = 0) t
  funext a; apply Fin.ext
  match a with
  | ⟨0, _⟩ => show win0_59.index t (0 : Fin 4) * 1 + 1 * (j 0).val = (j 0).val; omega
  | ⟨1, _⟩ => show win0_59.index t (1 : Fin 4) * 32 + 1 * (j 1).val = (j 1).val; omega
  | ⟨2, _⟩ => show win0_59.index t (2 : Fin 4) * 64 + 1 * (j 2).val = (j 2).val; omega
  | ⟨3, _⟩ => show win0_59.index t (3 : Fin 4) * 16 + 1 * (j 3).val = (j 3).val; omega
theorem emb60 (t : Fin cfg0.N) (j : S1x32x16x64.Idx) : ((cfg0.win 60).blk t).view.emb j = j := by
  obtain ⟨e0, e1, e2, e3⟩ := (by decide +kernel : ∀ t : Fin grid0.N, win0_60.index t (0 : Fin 4) = 0 ∧ win0_60.index t (1 : Fin 4) = 0 ∧ win0_60.index t (2 : Fin 4) = 0 ∧ win0_60.index t (3 : Fin 4) = 0) t
  funext a; apply Fin.ext
  match a with
  | ⟨0, _⟩ => show win0_60.index t (0 : Fin 4) * 1 + 1 * (j 0).val = (j 0).val; omega
  | ⟨1, _⟩ => show win0_60.index t (1 : Fin 4) * 32 + 1 * (j 1).val = (j 1).val; omega
  | ⟨2, _⟩ => show win0_60.index t (2 : Fin 4) * 16 + 1 * (j 2).val = (j 2).val; omega
  | ⟨3, _⟩ => show win0_60.index t (3 : Fin 4) * 64 + 1 * (j 3).val = (j 3).val; omega
theorem emb61 (t : Fin cfg0.N) (j : S1x32x16x64.Idx) : ((cfg0.win 61).blk t).view.emb j = j := by
  obtain ⟨e0, e1, e2, e3⟩ := (by decide +kernel : ∀ t : Fin grid0.N, win0_61.index t (0 : Fin 4) = 0 ∧ win0_61.index t (1 : Fin 4) = 0 ∧ win0_61.index t (2 : Fin 4) = 0 ∧ win0_61.index t (3 : Fin 4) = 0) t
  funext a; apply Fin.ext
  match a with
  | ⟨0, _⟩ => show win0_61.index t (0 : Fin 4) * 1 + 1 * (j 0).val = (j 0).val; omega
  | ⟨1, _⟩ => show win0_61.index t (1 : Fin 4) * 32 + 1 * (j 1).val = (j 1).val; omega
  | ⟨2, _⟩ => show win0_61.index t (2 : Fin 4) * 16 + 1 * (j 2).val = (j 2).val; omega
  | ⟨3, _⟩ => show win0_61.index t (3 : Fin 4) * 64 + 1 * (j 3).val = (j 3).val; omega
theorem emb62 (t : Fin cfg0.N) (j : S1x512.Idx) : ((cfg0.win 62).blk t).view.emb j = j := by
  obtain ⟨e0, e1⟩ := (by decide +kernel : ∀ t : Fin grid0.N, win0_62.index t (0 : Fin 2) = 0 ∧ win0_62.index t (1 : Fin 2) = 0) t
  funext a; apply Fin.ext
  match a with
  | ⟨0, _⟩ => show win0_62.index t (0 : Fin 2) * 1 + 1 * (j 0).val = (j 0).val; omega
  | ⟨1, _⟩ => show win0_62.index t (1 : Fin 2) * 512 + 1 * (j 1).val = (j 1).val; omega
theorem emb63 (t : Fin cfg0.N) (j : S1x1024.Idx) : ((cfg0.win 63).blk t).view.emb j = j := by
  obtain ⟨e0, e1⟩ := (by decide +kernel : ∀ t : Fin grid0.N, win0_63.index t (0 : Fin 2) = 0 ∧ win0_63.index t (1 : Fin 2) = 0) t
  funext a; apply Fin.ext
  match a with
  | ⟨0, _⟩ => show win0_63.index t (0 : Fin 2) * 1 + 1 * (j 0).val = (j 0).val; omega
  | ⟨1, _⟩ => show win0_63.index t (1 : Fin 2) * 1024 + 1 * (j 1).val = (j 1).val; omega
theorem emb64 (t : Fin cfg0.N) (j : S1x1024.Idx) : ((cfg0.win 64).blk t).view.emb j = j := by
  obtain ⟨e0, e1⟩ := (by decide +kernel : ∀ t : Fin grid0.N, win0_64.index t (0 : Fin 2) = 0 ∧ win0_64.index t (1 : Fin 2) = 0) t
  funext a; apply Fin.ext
  match a with
  | ⟨0, _⟩ => show win0_64.index t (0 : Fin 2) * 1 + 1 * (j 0).val = (j 0).val; omega
  | ⟨1, _⟩ => show win0_64.index t (1 : Fin 2) * 1024 + 1 * (j 1).val = (j 1).val; omega
theorem emb65 (t : Fin cfg0.N) (j : S1x1024.Idx) : ((cfg0.win 65).blk t).view.emb j = j := by
  obtain ⟨e0, e1⟩ := (by decide +kernel : ∀ t : Fin grid0.N, win0_65.index t (0 : Fin 2) = 0 ∧ win0_65.index t (1 : Fin 2) = 0) t
  funext a; apply Fin.ext
  match a with
  | ⟨0, _⟩ => show win0_65.index t (0 : Fin 2) * 1 + 1 * (j 0).val = (j 0).val; omega
  | ⟨1, _⟩ => show win0_65.index t (1 : Fin 2) * 1024 + 1 * (j 1).val = (j 1).val; omega
theorem emb66 (t : Fin cfg0.N) (j : S1x1024.Idx) : ((cfg0.win 66).blk t).view.emb j = j := by
  obtain ⟨e0, e1⟩ := (by decide +kernel : ∀ t : Fin grid0.N, win0_66.index t (0 : Fin 2) = 0 ∧ win0_66.index t (1 : Fin 2) = 0) t
  funext a; apply Fin.ext
  match a with
  | ⟨0, _⟩ => show win0_66.index t (0 : Fin 2) * 1 + 1 * (j 0).val = (j 0).val; omega
  | ⟨1, _⟩ => show win0_66.index t (1 : Fin 2) * 1024 + 1 * (j 1).val = (j 1).val; omega
theorem emb67 (t : Fin cfg0.N) (j : S1x512.Idx) : ((cfg0.win 67).blk t).view.emb j = j := by
  obtain ⟨e0, e1⟩ := (by decide +kernel : ∀ t : Fin grid0.N, win0_67.index t (0 : Fin 2) = 0 ∧ win0_67.index t (1 : Fin 2) = 0) t
  funext a; apply Fin.ext
  match a with
  | ⟨0, _⟩ => show win0_67.index t (0 : Fin 2) * 1 + 1 * (j 0).val = (j 0).val; omega
  | ⟨1, _⟩ => show win0_67.index t (1 : Fin 2) * 512 + 1 * (j 1).val = (j 1).val; omega
theorem emb68 (t : Fin cfg0.N) (j : S1x32x64.Idx) : ((cfg0.win 68).blk t).view.emb j = j := by
  obtain ⟨e0, e1, e2⟩ := (by decide +kernel : ∀ t : Fin grid0.N, win0_68.index t (0 : Fin 3) = 0 ∧ win0_68.index t (1 : Fin 3) = 0 ∧ win0_68.index t (2 : Fin 3) = 0) t
  funext a; apply Fin.ext
  match a with
  | ⟨0, _⟩ => show win0_68.index t (0 : Fin 3) * 1 + 1 * (j 0).val = (j 0).val; omega
  | ⟨1, _⟩ => show win0_68.index t (1 : Fin 3) * 32 + 1 * (j 1).val = (j 1).val; omega
  | ⟨2, _⟩ => show win0_68.index t (2 : Fin 3) * 64 + 1 * (j 2).val = (j 2).val; omega
theorem emb69 (t : Fin cfg0.N) (j : S1x32x64.Idx) : ((cfg0.win 69).blk t).view.emb j = j := by
  obtain ⟨e0, e1, e2⟩ := (by decide +kernel : ∀ t : Fin grid0.N, win0_69.index t (0 : Fin 3) = 0 ∧ win0_69.index t (1 : Fin 3) = 0 ∧ win0_69.index t (2 : Fin 3) = 0) t
  funext a; apply Fin.ext
  match a with
  | ⟨0, _⟩ => show win0_69.index t (0 : Fin 3) * 1 + 1 * (j 0).val = (j 0).val; omega
  | ⟨1, _⟩ => show win0_69.index t (1 : Fin 3) * 32 + 1 * (j 1).val = (j 1).val; omega
  | ⟨2, _⟩ => show win0_69.index t (2 : Fin 3) * 64 + 1 * (j 2).val = (j 2).val; omega
theorem emb70 (t : Fin cfg0.N) (j : S1x32.Idx) : ((cfg0.win 70).blk t).view.emb j = j := by
  obtain ⟨e0, e1⟩ := (by decide +kernel : ∀ t : Fin grid0.N, win0_70.index t (0 : Fin 2) = 0 ∧ win0_70.index t (1 : Fin 2) = 0) t
  funext a; apply Fin.ext
  match a with
  | ⟨0, _⟩ => show win0_70.index t (0 : Fin 2) * 1 + 1 * (j 0).val = (j 0).val; omega
  | ⟨1, _⟩ => show win0_70.index t (1 : Fin 2) * 32 + 1 * (j 1).val = (j 1).val; omega
theorem emb71 (t : Fin cfg0.N) (j : S1x32x64x16.Idx) : ((cfg0.win 71).blk t).view.emb j = j := by
  obtain ⟨e0, e1, e2, e3⟩ := (by decide +kernel : ∀ t : Fin grid0.N, win0_71.index t (0 : Fin 4) = 0 ∧ win0_71.index t (1 : Fin 4) = 0 ∧ win0_71.index t (2 : Fin 4) = 0 ∧ win0_71.index t (3 : Fin 4) = 0) t
  funext a; apply Fin.ext
  match a with
  | ⟨0, _⟩ => show win0_71.index t (0 : Fin 4) * 1 + 1 * (j 0).val = (j 0).val; omega
  | ⟨1, _⟩ => show win0_71.index t (1 : Fin 4) * 32 + 1 * (j 1).val = (j 1).val; omega
  | ⟨2, _⟩ => show win0_71.index t (2 : Fin 4) * 64 + 1 * (j 2).val = (j 2).val; omega
  | ⟨3, _⟩ => show win0_71.index t (3 : Fin 4) * 16 + 1 * (j 3).val = (j 3).val; omega
theorem emb72 (t : Fin cfg0.N) (j : S1x32x64x16.Idx) : ((cfg0.win 72).blk t).view.emb j = j := by
  obtain ⟨e0, e1, e2, e3⟩ := (by decide +kernel : ∀ t : Fin grid0.N, win0_72.index t (0 : Fin 4) = 0 ∧ win0_72.index t (1 : Fin 4) = 0 ∧ win0_72.index t (2 : Fin 4) = 0 ∧ win0_72.index t (3 : Fin 4) = 0) t
  funext a; apply Fin.ext
  match a with
  | ⟨0, _⟩ => show win0_72.index t (0 : Fin 4) * 1 + 1 * (j 0).val = (j 0).val; omega
  | ⟨1, _⟩ => show win0_72.index t (1 : Fin 4) * 32 + 1 * (j 1).val = (j 1).val; omega
  | ⟨2, _⟩ => show win0_72.index t (2 : Fin 4) * 64 + 1 * (j 2).val = (j 2).val; omega
  | ⟨3, _⟩ => show win0_72.index t (3 : Fin 4) * 16 + 1 * (j 3).val = (j 3).val; omega
theorem emb73 (t : Fin cfg0.N) (j : S1x32x16x64.Idx) : ((cfg0.win 73).blk t).view.emb j = j := by
  obtain ⟨e0, e1, e2, e3⟩ := (by decide +kernel : ∀ t : Fin grid0.N, win0_73.index t (0 : Fin 4) = 0 ∧ win0_73.index t (1 : Fin 4) = 0 ∧ win0_73.index t (2 : Fin 4) = 0 ∧ win0_73.index t (3 : Fin 4) = 0) t
  funext a; apply Fin.ext
  match a with
  | ⟨0, _⟩ => show win0_73.index t (0 : Fin 4) * 1 + 1 * (j 0).val = (j 0).val; omega
  | ⟨1, _⟩ => show win0_73.index t (1 : Fin 4) * 32 + 1 * (j 1).val = (j 1).val; omega
  | ⟨2, _⟩ => show win0_73.index t (2 : Fin 4) * 16 + 1 * (j 2).val = (j 2).val; omega
  | ⟨3, _⟩ => show win0_73.index t (3 : Fin 4) * 64 + 1 * (j 3).val = (j 3).val; omega
theorem emb74 (t : Fin cfg0.N) (j : S1x32x16x64.Idx) : ((cfg0.win 74).blk t).view.emb j = j := by
  obtain ⟨e0, e1, e2, e3⟩ := (by decide +kernel : ∀ t : Fin grid0.N, win0_74.index t (0 : Fin 4) = 0 ∧ win0_74.index t (1 : Fin 4) = 0 ∧ win0_74.index t (2 : Fin 4) = 0 ∧ win0_74.index t (3 : Fin 4) = 0) t
  funext a; apply Fin.ext
  match a with
  | ⟨0, _⟩ => show win0_74.index t (0 : Fin 4) * 1 + 1 * (j 0).val = (j 0).val; omega
  | ⟨1, _⟩ => show win0_74.index t (1 : Fin 4) * 32 + 1 * (j 1).val = (j 1).val; omega
  | ⟨2, _⟩ => show win0_74.index t (2 : Fin 4) * 16 + 1 * (j 2).val = (j 2).val; omega
  | ⟨3, _⟩ => show win0_74.index t (3 : Fin 4) * 64 + 1 * (j 3).val = (j 3).val; omega
theorem emb75 (t : Fin cfg0.N) (j : S1x512.Idx) : ((cfg0.win 75).blk t).view.emb j = j := by
  obtain ⟨e0, e1⟩ := (by decide +kernel : ∀ t : Fin grid0.N, win0_75.index t (0 : Fin 2) = 0 ∧ win0_75.index t (1 : Fin 2) = 0) t
  funext a; apply Fin.ext
  match a with
  | ⟨0, _⟩ => show win0_75.index t (0 : Fin 2) * 1 + 1 * (j 0).val = (j 0).val; omega
  | ⟨1, _⟩ => show win0_75.index t (1 : Fin 2) * 512 + 1 * (j 1).val = (j 1).val; omega
theorem emb76 (t : Fin cfg0.N) (j : S1x1024.Idx) : ((cfg0.win 76).blk t).view.emb j = j := by
  obtain ⟨e0, e1⟩ := (by decide +kernel : ∀ t : Fin grid0.N, win0_76.index t (0 : Fin 2) = 0 ∧ win0_76.index t (1 : Fin 2) = 0) t
  funext a; apply Fin.ext
  match a with
  | ⟨0, _⟩ => show win0_76.index t (0 : Fin 2) * 1 + 1 * (j 0).val = (j 0).val; omega
  | ⟨1, _⟩ => show win0_76.index t (1 : Fin 2) * 1024 + 1 * (j 1).val = (j 1).val; omega
theorem emb77 (t : Fin cfg0.N) (j : S1x1024.Idx) : ((cfg0.win 77).blk t).view.emb j = j := by
  obtain ⟨e0, e1⟩ := (by decide +kernel : ∀ t : Fin grid0.N, win0_77.index t (0 : Fin 2) = 0 ∧ win0_77.index t (1 : Fin 2) = 0) t
  funext a; apply Fin.ext
  match a with
  | ⟨0, _⟩ => show win0_77.index t (0 : Fin 2) * 1 + 1 * (j 0).val = (j 0).val; omega
  | ⟨1, _⟩ => show win0_77.index t (1 : Fin 2) * 1024 + 1 * (j 1).val = (j 1).val; omega
theorem emb78 (t : Fin cfg0.N) (j : S1x1024.Idx) : ((cfg0.win 78).blk t).view.emb j = j := by
  obtain ⟨e0, e1⟩ := (by decide +kernel : ∀ t : Fin grid0.N, win0_78.index t (0 : Fin 2) = 0 ∧ win0_78.index t (1 : Fin 2) = 0) t
  funext a; apply Fin.ext
  match a with
  | ⟨0, _⟩ => show win0_78.index t (0 : Fin 2) * 1 + 1 * (j 0).val = (j 0).val; omega
  | ⟨1, _⟩ => show win0_78.index t (1 : Fin 2) * 1024 + 1 * (j 1).val = (j 1).val; omega
theorem emb79 (t : Fin cfg0.N) (j : S1x1024.Idx) : ((cfg0.win 79).blk t).view.emb j = j := by
  obtain ⟨e0, e1⟩ := (by decide +kernel : ∀ t : Fin grid0.N, win0_79.index t (0 : Fin 2) = 0 ∧ win0_79.index t (1 : Fin 2) = 0) t
  funext a; apply Fin.ext
  match a with
  | ⟨0, _⟩ => show win0_79.index t (0 : Fin 2) * 1 + 1 * (j 0).val = (j 0).val; omega
  | ⟨1, _⟩ => show win0_79.index t (1 : Fin 2) * 1024 + 1 * (j 1).val = (j 1).val; omega
theorem emb80 (t : Fin cfg0.N) (j : S1x512.Idx) : ((cfg0.win 80).blk t).view.emb j = j := by
  obtain ⟨e0, e1⟩ := (by decide +kernel : ∀ t : Fin grid0.N, win0_80.index t (0 : Fin 2) = 0 ∧ win0_80.index t (1 : Fin 2) = 0) t
  funext a; apply Fin.ext
  match a with
  | ⟨0, _⟩ => show win0_80.index t (0 : Fin 2) * 1 + 1 * (j 0).val = (j 0).val; omega
  | ⟨1, _⟩ => show win0_80.index t (1 : Fin 2) * 512 + 1 * (j 1).val = (j 1).val; omega
theorem emb81 (t : Fin cfg0.N) (j : S1x32x64.Idx) : ((cfg0.win 81).blk t).view.emb j = j := by
  obtain ⟨e0, e1, e2⟩ := (by decide +kernel : ∀ t : Fin grid0.N, win0_81.index t (0 : Fin 3) = 0 ∧ win0_81.index t (1 : Fin 3) = 0 ∧ win0_81.index t (2 : Fin 3) = 0) t
  funext a; apply Fin.ext
  match a with
  | ⟨0, _⟩ => show win0_81.index t (0 : Fin 3) * 1 + 1 * (j 0).val = (j 0).val; omega
  | ⟨1, _⟩ => show win0_81.index t (1 : Fin 3) * 32 + 1 * (j 1).val = (j 1).val; omega
  | ⟨2, _⟩ => show win0_81.index t (2 : Fin 3) * 64 + 1 * (j 2).val = (j 2).val; omega
theorem emb82 (t : Fin cfg0.N) (j : S1x32x64.Idx) : ((cfg0.win 82).blk t).view.emb j = j := by
  obtain ⟨e0, e1, e2⟩ := (by decide +kernel : ∀ t : Fin grid0.N, win0_82.index t (0 : Fin 3) = 0 ∧ win0_82.index t (1 : Fin 3) = 0 ∧ win0_82.index t (2 : Fin 3) = 0) t
  funext a; apply Fin.ext
  match a with
  | ⟨0, _⟩ => show win0_82.index t (0 : Fin 3) * 1 + 1 * (j 0).val = (j 0).val; omega
  | ⟨1, _⟩ => show win0_82.index t (1 : Fin 3) * 32 + 1 * (j 1).val = (j 1).val; omega
  | ⟨2, _⟩ => show win0_82.index t (2 : Fin 3) * 64 + 1 * (j 2).val = (j 2).val; omega
theorem emb83 (t : Fin cfg0.N) (j : S1x32.Idx) : ((cfg0.win 83).blk t).view.emb j = j := by
  obtain ⟨e0, e1⟩ := (by decide +kernel : ∀ t : Fin grid0.N, win0_83.index t (0 : Fin 2) = 0 ∧ win0_83.index t (1 : Fin 2) = 0) t
  funext a; apply Fin.ext
  match a with
  | ⟨0, _⟩ => show win0_83.index t (0 : Fin 2) * 1 + 1 * (j 0).val = (j 0).val; omega
  | ⟨1, _⟩ => show win0_83.index t (1 : Fin 2) * 32 + 1 * (j 1).val = (j 1).val; omega
theorem emb84 (t : Fin cfg0.N) (j : S1x32x64x16.Idx) : ((cfg0.win 84).blk t).view.emb j = j := by
  obtain ⟨e0, e1, e2, e3⟩ := (by decide +kernel : ∀ t : Fin grid0.N, win0_84.index t (0 : Fin 4) = 0 ∧ win0_84.index t (1 : Fin 4) = 0 ∧ win0_84.index t (2 : Fin 4) = 0 ∧ win0_84.index t (3 : Fin 4) = 0) t
  funext a; apply Fin.ext
  match a with
  | ⟨0, _⟩ => show win0_84.index t (0 : Fin 4) * 1 + 1 * (j 0).val = (j 0).val; omega
  | ⟨1, _⟩ => show win0_84.index t (1 : Fin 4) * 32 + 1 * (j 1).val = (j 1).val; omega
  | ⟨2, _⟩ => show win0_84.index t (2 : Fin 4) * 64 + 1 * (j 2).val = (j 2).val; omega
  | ⟨3, _⟩ => show win0_84.index t (3 : Fin 4) * 16 + 1 * (j 3).val = (j 3).val; omega
theorem emb85 (t : Fin cfg0.N) (j : S1x32x64x16.Idx) : ((cfg0.win 85).blk t).view.emb j = j := by
  obtain ⟨e0, e1, e2, e3⟩ := (by decide +kernel : ∀ t : Fin grid0.N, win0_85.index t (0 : Fin 4) = 0 ∧ win0_85.index t (1 : Fin 4) = 0 ∧ win0_85.index t (2 : Fin 4) = 0 ∧ win0_85.index t (3 : Fin 4) = 0) t
  funext a; apply Fin.ext
  match a with
  | ⟨0, _⟩ => show win0_85.index t (0 : Fin 4) * 1 + 1 * (j 0).val = (j 0).val; omega
  | ⟨1, _⟩ => show win0_85.index t (1 : Fin 4) * 32 + 1 * (j 1).val = (j 1).val; omega
  | ⟨2, _⟩ => show win0_85.index t (2 : Fin 4) * 64 + 1 * (j 2).val = (j 2).val; omega
  | ⟨3, _⟩ => show win0_85.index t (3 : Fin 4) * 16 + 1 * (j 3).val = (j 3).val; omega
theorem emb86 (t : Fin cfg0.N) (j : S1x32x16x64.Idx) : ((cfg0.win 86).blk t).view.emb j = j := by
  obtain ⟨e0, e1, e2, e3⟩ := (by decide +kernel : ∀ t : Fin grid0.N, win0_86.index t (0 : Fin 4) = 0 ∧ win0_86.index t (1 : Fin 4) = 0 ∧ win0_86.index t (2 : Fin 4) = 0 ∧ win0_86.index t (3 : Fin 4) = 0) t
  funext a; apply Fin.ext
  match a with
  | ⟨0, _⟩ => show win0_86.index t (0 : Fin 4) * 1 + 1 * (j 0).val = (j 0).val; omega
  | ⟨1, _⟩ => show win0_86.index t (1 : Fin 4) * 32 + 1 * (j 1).val = (j 1).val; omega
  | ⟨2, _⟩ => show win0_86.index t (2 : Fin 4) * 16 + 1 * (j 2).val = (j 2).val; omega
  | ⟨3, _⟩ => show win0_86.index t (3 : Fin 4) * 64 + 1 * (j 3).val = (j 3).val; omega
theorem emb87 (t : Fin cfg0.N) (j : S1x32x16x64.Idx) : ((cfg0.win 87).blk t).view.emb j = j := by
  obtain ⟨e0, e1, e2, e3⟩ := (by decide +kernel : ∀ t : Fin grid0.N, win0_87.index t (0 : Fin 4) = 0 ∧ win0_87.index t (1 : Fin 4) = 0 ∧ win0_87.index t (2 : Fin 4) = 0 ∧ win0_87.index t (3 : Fin 4) = 0) t
  funext a; apply Fin.ext
  match a with
  | ⟨0, _⟩ => show win0_87.index t (0 : Fin 4) * 1 + 1 * (j 0).val = (j 0).val; omega
  | ⟨1, _⟩ => show win0_87.index t (1 : Fin 4) * 32 + 1 * (j 1).val = (j 1).val; omega
  | ⟨2, _⟩ => show win0_87.index t (2 : Fin 4) * 16 + 1 * (j 2).val = (j 2).val; omega
  | ⟨3, _⟩ => show win0_87.index t (3 : Fin 4) * 64 + 1 * (j 3).val = (j 3).val; omega
theorem emb88 (t : Fin cfg0.N) (j : S1x512.Idx) : ((cfg0.win 88).blk t).view.emb j = j := by
  obtain ⟨e0, e1⟩ := (by decide +kernel : ∀ t : Fin grid0.N, win0_88.index t (0 : Fin 2) = 0 ∧ win0_88.index t (1 : Fin 2) = 0) t
  funext a; apply Fin.ext
  match a with
  | ⟨0, _⟩ => show win0_88.index t (0 : Fin 2) * 1 + 1 * (j 0).val = (j 0).val; omega
  | ⟨1, _⟩ => show win0_88.index t (1 : Fin 2) * 512 + 1 * (j 1).val = (j 1).val; omega
theorem emb89 (t : Fin cfg0.N) (j : S1x1024.Idx) : ((cfg0.win 89).blk t).view.emb j = j := by
  obtain ⟨e0, e1⟩ := (by decide +kernel : ∀ t : Fin grid0.N, win0_89.index t (0 : Fin 2) = 0 ∧ win0_89.index t (1 : Fin 2) = 0) t
  funext a; apply Fin.ext
  match a with
  | ⟨0, _⟩ => show win0_89.index t (0 : Fin 2) * 1 + 1 * (j 0).val = (j 0).val; omega
  | ⟨1, _⟩ => show win0_89.index t (1 : Fin 2) * 1024 + 1 * (j 1).val = (j 1).val; omega
theorem emb90 (t : Fin cfg0.N) (j : S1x1024.Idx) : ((cfg0.win 90).blk t).view.emb j = j := by
  obtain ⟨e0, e1⟩ := (by decide +kernel : ∀ t : Fin grid0.N, win0_90.index t (0 : Fin 2) = 0 ∧ win0_90.index t (1 : Fin 2) = 0) t
  funext a; apply Fin.ext
  match a with
  | ⟨0, _⟩ => show win0_90.index t (0 : Fin 2) * 1 + 1 * (j 0).val = (j 0).val; omega
  | ⟨1, _⟩ => show win0_90.index t (1 : Fin 2) * 1024 + 1 * (j 1).val = (j 1).val; omega

/-! ### An input's block is its array -/

theorem iblk0 (c : Dev nD) (t : Fin cfg0.N) : iblk m c 0 t = m ((c : Thread nD τ).loc main_arg0) := by
  funext j; show V m c main_arg0 (((cfg0.win 0).blk t).view.emb j) = V m c main_arg0 j; rw [emb0]
theorem iblk1 (c : Dev nD) (t : Fin cfg0.N) : iblk m c 1 t = m ((c : Thread nD τ).loc main_arg1) := by
  funext j; show V m c main_arg1 (((cfg0.win 1).blk t).view.emb j) = V m c main_arg1 j; rw [emb1]
theorem iblk2 (c : Dev nD) (t : Fin cfg0.N) : iblk m c 2 t = m ((c : Thread nD τ).loc main_arg2) := by
  funext j; show V m c main_arg2 (((cfg0.win 2).blk t).view.emb j) = V m c main_arg2 j; rw [emb2]
theorem iblk3 (c : Dev nD) (t : Fin cfg0.N) : iblk m c 3 t = m ((c : Thread nD τ).loc main_arg3) := by
  funext j; show V m c main_arg3 (((cfg0.win 3).blk t).view.emb j) = V m c main_arg3 j; rw [emb3]
theorem iblk4 (c : Dev nD) (t : Fin cfg0.N) : iblk m c 4 t = m ((c : Thread nD τ).loc main_arg4) := by
  funext j; show V m c main_arg4 (((cfg0.win 4).blk t).view.emb j) = V m c main_arg4 j; rw [emb4]
theorem iblk5 (c : Dev nD) (t : Fin cfg0.N) : iblk m c 5 t = m ((c : Thread nD τ).loc main_arg5) := by
  funext j; show V m c main_arg5 (((cfg0.win 5).blk t).view.emb j) = V m c main_arg5 j; rw [emb5]
theorem iblk6 (c : Dev nD) (t : Fin cfg0.N) : iblk m c 6 t = m ((c : Thread nD τ).loc main_arg6) := by
  funext j; show V m c main_arg6 (((cfg0.win 6).blk t).view.emb j) = V m c main_arg6 j; rw [emb6]
theorem iblk7 (c : Dev nD) (t : Fin cfg0.N) : iblk m c 7 t = m ((c : Thread nD τ).loc main_arg7) := by
  funext j; show V m c main_arg7 (((cfg0.win 7).blk t).view.emb j) = V m c main_arg7 j; rw [emb7]
theorem iblk8 (c : Dev nD) (t : Fin cfg0.N) : iblk m c 8 t = m ((c : Thread nD τ).loc main_arg8) := by
  funext j; show V m c main_arg8 (((cfg0.win 8).blk t).view.emb j) = V m c main_arg8 j; rw [emb8]
theorem iblk9 (c : Dev nD) (t : Fin cfg0.N) : iblk m c 9 t = m ((c : Thread nD τ).loc main_arg9) := by
  funext j; show V m c main_arg9 (((cfg0.win 9).blk t).view.emb j) = V m c main_arg9 j; rw [emb9]
theorem iblk10 (c : Dev nD) (t : Fin cfg0.N) : iblk m c 10 t = m ((c : Thread nD τ).loc main_arg10) := by
  funext j; show V m c main_arg10 (((cfg0.win 10).blk t).view.emb j) = V m c main_arg10 j; rw [emb10]
theorem iblk11 (c : Dev nD) (t : Fin cfg0.N) : iblk m c 11 t = m ((c : Thread nD τ).loc main_arg11) := by
  funext j; show V m c main_arg11 (((cfg0.win 11).blk t).view.emb j) = V m c main_arg11 j; rw [emb11]
theorem iblk12 (c : Dev nD) (t : Fin cfg0.N) : iblk m c 12 t = m ((c : Thread nD τ).loc main_arg12) := by
  funext j; show V m c main_arg12 (((cfg0.win 12).blk t).view.emb j) = V m c main_arg12 j; rw [emb12]
theorem iblk13 (c : Dev nD) (t : Fin cfg0.N) : iblk m c 13 t = m ((c : Thread nD τ).loc main_arg13) := by
  funext j; show V m c main_arg13 (((cfg0.win 13).blk t).view.emb j) = V m c main_arg13 j; rw [emb13]
theorem iblk14 (c : Dev nD) (t : Fin cfg0.N) : iblk m c 14 t = m ((c : Thread nD τ).loc main_arg14) := by
  funext j; show V m c main_arg14 (((cfg0.win 14).blk t).view.emb j) = V m c main_arg14 j; rw [emb14]
theorem iblk15 (c : Dev nD) (t : Fin cfg0.N) : iblk m c 15 t = m ((c : Thread nD τ).loc main_arg15) := by
  funext j; show V m c main_arg15 (((cfg0.win 15).blk t).view.emb j) = V m c main_arg15 j; rw [emb15]
theorem iblk16 (c : Dev nD) (t : Fin cfg0.N) : iblk m c 16 t = m ((c : Thread nD τ).loc main_arg16) := by
  funext j; show V m c main_arg16 (((cfg0.win 16).blk t).view.emb j) = V m c main_arg16 j; rw [emb16]
theorem iblk17 (c : Dev nD) (t : Fin cfg0.N) : iblk m c 17 t = m ((c : Thread nD τ).loc main_arg17) := by
  funext j; show V m c main_arg17 (((cfg0.win 17).blk t).view.emb j) = V m c main_arg17 j; rw [emb17]
theorem iblk18 (c : Dev nD) (t : Fin cfg0.N) : iblk m c 18 t = m ((c : Thread nD τ).loc main_arg18) := by
  funext j; show V m c main_arg18 (((cfg0.win 18).blk t).view.emb j) = V m c main_arg18 j; rw [emb18]
theorem iblk19 (c : Dev nD) (t : Fin cfg0.N) : iblk m c 19 t = m ((c : Thread nD τ).loc main_arg19) := by
  funext j; show V m c main_arg19 (((cfg0.win 19).blk t).view.emb j) = V m c main_arg19 j; rw [emb19]
theorem iblk20 (c : Dev nD) (t : Fin cfg0.N) : iblk m c 20 t = m ((c : Thread nD τ).loc main_arg20) := by
  funext j; show V m c main_arg20 (((cfg0.win 20).blk t).view.emb j) = V m c main_arg20 j; rw [emb20]
theorem iblk21 (c : Dev nD) (t : Fin cfg0.N) : iblk m c 21 t = m ((c : Thread nD τ).loc main_arg21) := by
  funext j; show V m c main_arg21 (((cfg0.win 21).blk t).view.emb j) = V m c main_arg21 j; rw [emb21]
theorem iblk22 (c : Dev nD) (t : Fin cfg0.N) : iblk m c 22 t = m ((c : Thread nD τ).loc main_arg22) := by
  funext j; show V m c main_arg22 (((cfg0.win 22).blk t).view.emb j) = V m c main_arg22 j; rw [emb22]
theorem iblk23 (c : Dev nD) (t : Fin cfg0.N) : iblk m c 23 t = m ((c : Thread nD τ).loc main_arg23) := by
  funext j; show V m c main_arg23 (((cfg0.win 23).blk t).view.emb j) = V m c main_arg23 j; rw [emb23]
theorem iblk24 (c : Dev nD) (t : Fin cfg0.N) : iblk m c 24 t = m ((c : Thread nD τ).loc main_arg24) := by
  funext j; show V m c main_arg24 (((cfg0.win 24).blk t).view.emb j) = V m c main_arg24 j; rw [emb24]
theorem iblk25 (c : Dev nD) (t : Fin cfg0.N) : iblk m c 25 t = m ((c : Thread nD τ).loc main_arg25) := by
  funext j; show V m c main_arg25 (((cfg0.win 25).blk t).view.emb j) = V m c main_arg25 j; rw [emb25]
theorem iblk26 (c : Dev nD) (t : Fin cfg0.N) : iblk m c 26 t = m ((c : Thread nD τ).loc main_arg26) := by
  funext j; show V m c main_arg26 (((cfg0.win 26).blk t).view.emb j) = V m c main_arg26 j; rw [emb26]
theorem iblk27 (c : Dev nD) (t : Fin cfg0.N) : iblk m c 27 t = m ((c : Thread nD τ).loc main_arg27) := by
  funext j; show V m c main_arg27 (((cfg0.win 27).blk t).view.emb j) = V m c main_arg27 j; rw [emb27]
theorem iblk28 (c : Dev nD) (t : Fin cfg0.N) : iblk m c 28 t = m ((c : Thread nD τ).loc main_arg28) := by
  funext j; show V m c main_arg28 (((cfg0.win 28).blk t).view.emb j) = V m c main_arg28 j; rw [emb28]
theorem iblk29 (c : Dev nD) (t : Fin cfg0.N) : iblk m c 29 t = m ((c : Thread nD τ).loc main_arg29) := by
  funext j; show V m c main_arg29 (((cfg0.win 29).blk t).view.emb j) = V m c main_arg29 j; rw [emb29]
theorem iblk30 (c : Dev nD) (t : Fin cfg0.N) : iblk m c 30 t = m ((c : Thread nD τ).loc main_arg30) := by
  funext j; show V m c main_arg30 (((cfg0.win 30).blk t).view.emb j) = V m c main_arg30 j; rw [emb30]
theorem iblk31 (c : Dev nD) (t : Fin cfg0.N) : iblk m c 31 t = m ((c : Thread nD τ).loc main_arg31) := by
  funext j; show V m c main_arg31 (((cfg0.win 31).blk t).view.emb j) = V m c main_arg31 j; rw [emb31]
theorem iblk32 (c : Dev nD) (t : Fin cfg0.N) : iblk m c 32 t = m ((c : Thread nD τ).loc main_arg32) := by
  funext j; show V m c main_arg32 (((cfg0.win 32).blk t).view.emb j) = V m c main_arg32 j; rw [emb32]
theorem iblk33 (c : Dev nD) (t : Fin cfg0.N) : iblk m c 33 t = m ((c : Thread nD τ).loc main_arg33) := by
  funext j; show V m c main_arg33 (((cfg0.win 33).blk t).view.emb j) = V m c main_arg33 j; rw [emb33]
theorem iblk34 (c : Dev nD) (t : Fin cfg0.N) : iblk m c 34 t = m ((c : Thread nD τ).loc main_arg34) := by
  funext j; show V m c main_arg34 (((cfg0.win 34).blk t).view.emb j) = V m c main_arg34 j; rw [emb34]
theorem iblk35 (c : Dev nD) (t : Fin cfg0.N) : iblk m c 35 t = m ((c : Thread nD τ).loc main_arg35) := by
  funext j; show V m c main_arg35 (((cfg0.win 35).blk t).view.emb j) = V m c main_arg35 j; rw [emb35]
theorem iblk36 (c : Dev nD) (t : Fin cfg0.N) : iblk m c 36 t = m ((c : Thread nD τ).loc main_arg36) := by
  funext j; show V m c main_arg36 (((cfg0.win 36).blk t).view.emb j) = V m c main_arg36 j; rw [emb36]
theorem iblk37 (c : Dev nD) (t : Fin cfg0.N) : iblk m c 37 t = m ((c : Thread nD τ).loc main_arg37) := by
  funext j; show V m c main_arg37 (((cfg0.win 37).blk t).view.emb j) = V m c main_arg37 j; rw [emb37]
theorem iblk38 (c : Dev nD) (t : Fin cfg0.N) : iblk m c 38 t = m ((c : Thread nD τ).loc main_arg38) := by
  funext j; show V m c main_arg38 (((cfg0.win 38).blk t).view.emb j) = V m c main_arg38 j; rw [emb38]
theorem iblk39 (c : Dev nD) (t : Fin cfg0.N) : iblk m c 39 t = m ((c : Thread nD τ).loc main_arg39) := by
  funext j; show V m c main_arg39 (((cfg0.win 39).blk t).view.emb j) = V m c main_arg39 j; rw [emb39]
theorem iblk40 (c : Dev nD) (t : Fin cfg0.N) : iblk m c 40 t = m ((c : Thread nD τ).loc main_arg40) := by
  funext j; show V m c main_arg40 (((cfg0.win 40).blk t).view.emb j) = V m c main_arg40 j; rw [emb40]
theorem iblk41 (c : Dev nD) (t : Fin cfg0.N) : iblk m c 41 t = m ((c : Thread nD τ).loc main_arg41) := by
  funext j; show V m c main_arg41 (((cfg0.win 41).blk t).view.emb j) = V m c main_arg41 j; rw [emb41]
theorem iblk42 (c : Dev nD) (t : Fin cfg0.N) : iblk m c 42 t = m ((c : Thread nD τ).loc main_arg42) := by
  funext j; show V m c main_arg42 (((cfg0.win 42).blk t).view.emb j) = V m c main_arg42 j; rw [emb42]
theorem iblk43 (c : Dev nD) (t : Fin cfg0.N) : iblk m c 43 t = m ((c : Thread nD τ).loc main_arg43) := by
  funext j; show V m c main_arg43 (((cfg0.win 43).blk t).view.emb j) = V m c main_arg43 j; rw [emb43]
theorem iblk44 (c : Dev nD) (t : Fin cfg0.N) : iblk m c 44 t = m ((c : Thread nD τ).loc main_arg44) := by
  funext j; show V m c main_arg44 (((cfg0.win 44).blk t).view.emb j) = V m c main_arg44 j; rw [emb44]
theorem iblk45 (c : Dev nD) (t : Fin cfg0.N) : iblk m c 45 t = m ((c : Thread nD τ).loc main_arg45) := by
  funext j; show V m c main_arg45 (((cfg0.win 45).blk t).view.emb j) = V m c main_arg45 j; rw [emb45]
theorem iblk46 (c : Dev nD) (t : Fin cfg0.N) : iblk m c 46 t = m ((c : Thread nD τ).loc main_arg46) := by
  funext j; show V m c main_arg46 (((cfg0.win 46).blk t).view.emb j) = V m c main_arg46 j; rw [emb46]
theorem iblk47 (c : Dev nD) (t : Fin cfg0.N) : iblk m c 47 t = m ((c : Thread nD τ).loc main_arg47) := by
  funext j; show V m c main_arg47 (((cfg0.win 47).blk t).view.emb j) = V m c main_arg47 j; rw [emb47]
theorem iblk48 (c : Dev nD) (t : Fin cfg0.N) : iblk m c 48 t = m ((c : Thread nD τ).loc main_arg48) := by
  funext j; show V m c main_arg48 (((cfg0.win 48).blk t).view.emb j) = V m c main_arg48 j; rw [emb48]
theorem iblk49 (c : Dev nD) (t : Fin cfg0.N) : iblk m c 49 t = m ((c : Thread nD τ).loc main_arg49) := by
  funext j; show V m c main_arg49 (((cfg0.win 49).blk t).view.emb j) = V m c main_arg49 j; rw [emb49]
theorem iblk50 (c : Dev nD) (t : Fin cfg0.N) : iblk m c 50 t = m ((c : Thread nD τ).loc main_arg50) := by
  funext j; show V m c main_arg50 (((cfg0.win 50).blk t).view.emb j) = V m c main_arg50 j; rw [emb50]
theorem iblk51 (c : Dev nD) (t : Fin cfg0.N) : iblk m c 51 t = m ((c : Thread nD τ).loc main_arg51) := by
  funext j; show V m c main_arg51 (((cfg0.win 51).blk t).view.emb j) = V m c main_arg51 j; rw [emb51]

/-! ### The outputs -/

/-- The first weight after its step. -/
theorem final52 (c : Dev nD) : (dats m 0 c).arrAt 52 cfg0.N = k0_pay5 (m ((c : Thread nD τ).loc main_arg0)) (m ((c : Thread nD τ).loc main_arg13)) (m ((c : Thread nD τ).loc main_arg26)) (m ((c : Thread nD τ).loc main_arg39)) :=
  (dats m 0 c).arrAt_eq_of_cover 52 (k0_pay5 (m ((c : Thread nD τ).loc main_arg0)) (m ((c : Thread nD τ).loc main_arg13)) (m ((c : Thread nD τ).loc main_arg26)) (m ((c : Thread nD τ).loc main_arg39))) (fun t _ => by
    show (cfg0.win 52).cut (grid0.coords t) ((dats m 0 c).after 52 t) = _
    rw [after52, iblk0, iblk13, iblk26, iblk39]
    unfold out52
    rw [View.canon_unit_zero zero2, View.ld_unit_zero (S := S1x1024) zero2 _ (m ((c : Thread nD τ).loc main_arg0)), View.ld_unit_zero (S := S1x1024) zero2 _ (m ((c : Thread nD τ).loc main_arg13)), View.ld_unit_zero (S := S1x1024) zero2 _ (m ((c : Thread nD τ).loc main_arg26)), View.ld_unit_zero (S := S1x1024) zero2 _ (m ((c : Thread nD τ).loc main_arg39))]
    funext j
    exact (congrArg (k0_pay5 (m ((c : Thread nD τ).loc main_arg0)) (m ((c : Thread nD τ).loc main_arg13)) (m ((c : Thread nD τ).loc main_arg26)) (m ((c : Thread nD τ).loc main_arg39))) (emb52 t j)).symm) fun i =>
    ⟨⟨0, by decide⟩, flush0_52 _, by have h := ((cfg0.win 52).blk (⟨0, by decide⟩ : Fin cfg0.N)).view.emb_mem_set i; rwa [emb52] at h⟩

/-- The second weight after its step. -/
theorem final53 (c : Dev nD) : (dats m 0 c).arrAt 53 cfg0.N = k0_pay8 (m ((c : Thread nD τ).loc main_arg1)) (m ((c : Thread nD τ).loc main_arg14)) (m ((c : Thread nD τ).loc main_arg27)) (m ((c : Thread nD τ).loc main_arg40)) :=
  (dats m 0 c).arrAt_eq_of_cover 53 (k0_pay8 (m ((c : Thread nD τ).loc main_arg1)) (m ((c : Thread nD τ).loc main_arg14)) (m ((c : Thread nD τ).loc main_arg27)) (m ((c : Thread nD τ).loc main_arg40))) (fun t _ => by
    show (cfg0.win 53).cut (grid0.coords t) ((dats m 0 c).after 53 t) = _
    rw [after53, iblk1, iblk14, iblk27, iblk40]
    unfold out53
    rw [View.canon_unit_zero zero2, View.ld_unit_zero (S := S1x1024) zero2 _ (m ((c : Thread nD τ).loc main_arg1)), View.ld_unit_zero (S := S1x1024) zero2 _ (m ((c : Thread nD τ).loc main_arg14)), View.ld_unit_zero (S := S1x1024) zero2 _ (m ((c : Thread nD τ).loc main_arg27)), View.ld_unit_zero (S := S1x1024) zero2 _ (m ((c : Thread nD τ).loc main_arg40))]
    funext j
    exact (congrArg (k0_pay8 (m ((c : Thread nD τ).loc main_arg1)) (m ((c : Thread nD τ).loc main_arg14)) (m ((c : Thread nD τ).loc main_arg27)) (m ((c : Thread nD τ).loc main_arg40))) (emb53 t j)).symm) fun i =>
    ⟨⟨0, by decide⟩, flush0_53 _, by have h := ((cfg0.win 53).blk (⟨0, by decide⟩ : Fin cfg0.N)).view.emb_mem_set i; rwa [emb53] at h⟩

/-- The third weight after its step. -/
theorem final54 (c : Dev nD) : (dats m 0 c).arrAt 54 cfg0.N = k0_pay11 (m ((c : Thread nD τ).loc main_arg2)) (m ((c : Thread nD τ).loc main_arg15)) (m ((c : Thread nD τ).loc main_arg28)) (m ((c : Thread nD τ).loc main_arg41)) :=
  (dats m 0 c).arrAt_eq_of_cover 54 (k0_pay11 (m ((c : Thread nD τ).loc main_arg2)) (m ((c : Thread nD τ).loc main_arg15)) (m ((c : Thread nD τ).loc main_arg28)) (m ((c : Thread nD τ).loc main_arg41))) (fun t _ => by
    show (cfg0.win 54).cut (grid0.coords t) ((dats m 0 c).after 54 t) = _
    rw [after54, iblk2, iblk15, iblk28, iblk41]
    unfold out54
    rw [View.canon_unit_zero zero2, View.ld_unit_zero (S := S1x512) zero2 _ (m ((c : Thread nD τ).loc main_arg2)), View.ld_unit_zero (S := S1x512) zero2 _ (m ((c : Thread nD τ).loc main_arg15)), View.ld_unit_zero (S := S1x512) zero2 _ (m ((c : Thread nD τ).loc main_arg28)), View.ld_unit_zero (S := S1x512) zero2 _ (m ((c : Thread nD τ).loc main_arg41))]
    funext j
    exact (congrArg (k0_pay11 (m ((c : Thread nD τ).loc main_arg2)) (m ((c : Thread nD τ).loc main_arg15)) (m ((c : Thread nD τ).loc main_arg28)) (m ((c : Thread nD τ).loc main_arg41))) (emb54 t j)).symm) fun i =>
    ⟨⟨0, by decide⟩, flush0_54 _, by have h := ((cfg0.win 54).blk (⟨0, by decide⟩ : Fin cfg0.N)).view.emb_mem_set i; rwa [emb54] at h⟩

/-- The fourth weight after its step. -/
theorem final55 (c : Dev nD) : (dats m 0 c).arrAt 55 cfg0.N = k0_pay14 (m ((c : Thread nD τ).loc main_arg3)) (m ((c : Thread nD τ).loc main_arg16)) (m ((c : Thread nD τ).loc main_arg29)) (m ((c : Thread nD τ).loc main_arg42)) :=
  (dats m 0 c).arrAt_eq_of_cover 55 (k0_pay14 (m ((c : Thread nD τ).loc main_arg3)) (m ((c : Thread nD τ).loc main_arg16)) (m ((c : Thread nD τ).loc main_arg29)) (m ((c : Thread nD τ).loc main_arg42))) (fun t _ => by
    show (cfg0.win 55).cut (grid0.coords t) ((dats m 0 c).after 55 t) = _
    rw [after55, iblk3, iblk16, iblk29, iblk42]
    unfold out55
    rw [View.canon_unit_zero zero3, View.ld_unit_zero (S := S1x32x64) zero3 _ (m ((c : Thread nD τ).loc main_arg3)), View.ld_unit_zero (S := S1x32x64) zero3 _ (m ((c : Thread nD τ).loc main_arg16)), View.ld_unit_zero (S := S1x32x64) zero3 _ (m ((c : Thread nD τ).loc main_arg29)), View.ld_unit_zero (S := S1x32x64) zero3 _ (m ((c : Thread nD τ).loc main_arg42))]
    funext j
    exact (congrArg (k0_pay14 (m ((c : Thread nD τ).loc main_arg3)) (m ((c : Thread nD τ).loc main_arg16)) (m ((c : Thread nD τ).loc main_arg29)) (m ((c : Thread nD τ).loc main_arg42))) (emb55 t j)).symm) fun i =>
    ⟨⟨0, by decide⟩, flush0_55 _, by have h := ((cfg0.win 55).blk (⟨0, by decide⟩ : Fin cfg0.N)).view.emb_mem_set i; rwa [emb55] at h⟩

/-- The fifth weight after its step. -/
theorem final56 (c : Dev nD) : (dats m 0 c).arrAt 56 cfg0.N = k0_pay17 (m ((c : Thread nD τ).loc main_arg4)) (m ((c : Thread nD τ).loc main_arg17)) (m ((c : Thread nD τ).loc main_arg30)) (m ((c : Thread nD τ).loc main_arg43)) :=
  (dats m 0 c).arrAt_eq_of_cover 56 (k0_pay17 (m ((c : Thread nD τ).loc main_arg4)) (m ((c : Thread nD τ).loc main_arg17)) (m ((c : Thread nD τ).loc main_arg30)) (m ((c : Thread nD τ).loc main_arg43))) (fun t _ => by
    show (cfg0.win 56).cut (grid0.coords t) ((dats m 0 c).after 56 t) = _
    rw [after56, iblk4, iblk17, iblk30, iblk43]
    unfold out56
    rw [View.canon_unit_zero zero3, View.ld_unit_zero (S := S1x32x64) zero3 _ (m ((c : Thread nD τ).loc main_arg4)), View.ld_unit_zero (S := S1x32x64) zero3 _ (m ((c : Thread nD τ).loc main_arg17)), View.ld_unit_zero (S := S1x32x64) zero3 _ (m ((c : Thread nD τ).loc main_arg30)), View.ld_unit_zero (S := S1x32x64) zero3 _ (m ((c : Thread nD τ).loc main_arg43))]
    funext j
    exact (congrArg (k0_pay17 (m ((c : Thread nD τ).loc main_arg4)) (m ((c : Thread nD τ).loc main_arg17)) (m ((c : Thread nD τ).loc main_arg30)) (m ((c : Thread nD τ).loc main_arg43))) (emb56 t j)).symm) fun i =>
    ⟨⟨0, by decide⟩, flush0_56 _, by have h := ((cfg0.win 56).blk (⟨0, by decide⟩ : Fin cfg0.N)).view.emb_mem_set i; rwa [emb56] at h⟩

/-- The sixth weight after its step. -/
theorem final57 (c : Dev nD) : (dats m 0 c).arrAt 57 cfg0.N = k0_pay20 (m ((c : Thread nD τ).loc main_arg5)) (m ((c : Thread nD τ).loc main_arg18)) (m ((c : Thread nD τ).loc main_arg31)) (m ((c : Thread nD τ).loc main_arg44)) :=
  (dats m 0 c).arrAt_eq_of_cover 57 (k0_pay20 (m ((c : Thread nD τ).loc main_arg5)) (m ((c : Thread nD τ).loc main_arg18)) (m ((c : Thread nD τ).loc main_arg31)) (m ((c : Thread nD τ).loc main_arg44))) (fun t _ => by
    show (cfg0.win 57).cut (grid0.coords t) ((dats m 0 c).after 57 t) = _
    rw [after57, iblk5, iblk18, iblk31, iblk44]
    unfold out57
    rw [View.canon_unit_zero zero2, View.ld_unit_zero (S := S1x32) zero2 _ (m ((c : Thread nD τ).loc main_arg5)), View.ld_unit_zero (S := S1x32) zero2 _ (m ((c : Thread nD τ).loc main_arg18)), View.ld_unit_zero (S := S1x32) zero2 _ (m ((c : Thread nD τ).loc main_arg31)), View.ld_unit_zero (S := S1x32) zero2 _ (m ((c : Thread nD τ).loc main_arg44))]
    funext j
    exact (congrArg (k0_pay20 (m ((c : Thread nD τ).loc main_arg5)) (m ((c : Thread nD τ).loc main_arg18)) (m ((c : Thread nD τ).loc main_arg31)) (m ((c : Thread nD τ).loc main_arg44))) (emb57 t j)).symm) fun i =>
    ⟨⟨0, by decide⟩, flush0_57 _, by have h := ((cfg0.win 57).blk (⟨0, by decide⟩ : Fin cfg0.N)).view.emb_mem_set i; rwa [emb57] at h⟩

/-- The seventh weight after its step. -/
theorem final58 (c : Dev nD) : (dats m 0 c).arrAt 58 cfg0.N = k0_pay23 (m ((c : Thread nD τ).loc main_arg6)) (m ((c : Thread nD τ).loc main_arg19)) (m ((c : Thread nD τ).loc main_arg32)) (m ((c : Thread nD τ).loc main_arg45)) :=
  (dats m 0 c).arrAt_eq_of_cover 58 (k0_pay23 (m ((c : Thread nD τ).loc main_arg6)) (m ((c : Thread nD τ).loc main_arg19)) (m ((c : Thread nD τ).loc main_arg32)) (m ((c : Thread nD τ).loc main_arg45))) (fun t _ => by
    show (cfg0.win 58).cut (grid0.coords t) ((dats m 0 c).after 58 t) = _
    rw [after58, iblk6, iblk19, iblk32, iblk45]
    unfold out58
    rw [View.canon_unit_zero zero4, View.ld_unit_zero (S := S1x32x64x16) zero4 _ (m ((c : Thread nD τ).loc main_arg6)), View.ld_unit_zero (S := S1x32x64x16) zero4 _ (m ((c : Thread nD τ).loc main_arg19)), View.ld_unit_zero (S := S1x32x64x16) zero4 _ (m ((c : Thread nD τ).loc main_arg32)), View.ld_unit_zero (S := S1x32x64x16) zero4 _ (m ((c : Thread nD τ).loc main_arg45))]
    funext j
    exact (congrArg (k0_pay23 (m ((c : Thread nD τ).loc main_arg6)) (m ((c : Thread nD τ).loc main_arg19)) (m ((c : Thread nD τ).loc main_arg32)) (m ((c : Thread nD τ).loc main_arg45))) (emb58 t j)).symm) fun i =>
    ⟨⟨0, by decide⟩, flush0_58 _, by have h := ((cfg0.win 58).blk (⟨0, by decide⟩ : Fin cfg0.N)).view.emb_mem_set i; rwa [emb58] at h⟩

/-- The eighth weight after its step. -/
theorem final59 (c : Dev nD) : (dats m 0 c).arrAt 59 cfg0.N = k0_pay26 (m ((c : Thread nD τ).loc main_arg7)) (m ((c : Thread nD τ).loc main_arg20)) (m ((c : Thread nD τ).loc main_arg33)) (m ((c : Thread nD τ).loc main_arg46)) :=
  (dats m 0 c).arrAt_eq_of_cover 59 (k0_pay26 (m ((c : Thread nD τ).loc main_arg7)) (m ((c : Thread nD τ).loc main_arg20)) (m ((c : Thread nD τ).loc main_arg33)) (m ((c : Thread nD τ).loc main_arg46))) (fun t _ => by
    show (cfg0.win 59).cut (grid0.coords t) ((dats m 0 c).after 59 t) = _
    rw [after59, iblk7, iblk20, iblk33, iblk46]
    unfold out59
    rw [View.canon_unit_zero zero4, View.ld_unit_zero (S := S1x32x64x16) zero4 _ (m ((c : Thread nD τ).loc main_arg7)), View.ld_unit_zero (S := S1x32x64x16) zero4 _ (m ((c : Thread nD τ).loc main_arg20)), View.ld_unit_zero (S := S1x32x64x16) zero4 _ (m ((c : Thread nD τ).loc main_arg33)), View.ld_unit_zero (S := S1x32x64x16) zero4 _ (m ((c : Thread nD τ).loc main_arg46))]
    funext j
    exact (congrArg (k0_pay26 (m ((c : Thread nD τ).loc main_arg7)) (m ((c : Thread nD τ).loc main_arg20)) (m ((c : Thread nD τ).loc main_arg33)) (m ((c : Thread nD τ).loc main_arg46))) (emb59 t j)).symm) fun i =>
    ⟨⟨0, by decide⟩, flush0_59 _, by have h := ((cfg0.win 59).blk (⟨0, by decide⟩ : Fin cfg0.N)).view.emb_mem_set i; rwa [emb59] at h⟩

/-- The ninth weight after its step. -/
theorem final60 (c : Dev nD) : (dats m 0 c).arrAt 60 cfg0.N = k0_pay31 (m ((c : Thread nD τ).loc main_arg8)) (k0_pay29 (m ((c : Thread nD τ).loc main_arg21)) (m ((c : Thread nD τ).loc main_arg34))) (k0_pay30 (m ((c : Thread nD τ).loc main_arg21)) (m ((c : Thread nD τ).loc main_arg47))) :=
  (dats m 0 c).arrAt_eq_of_cover 60 (k0_pay31 (m ((c : Thread nD τ).loc main_arg8)) (k0_pay29 (m ((c : Thread nD τ).loc main_arg21)) (m ((c : Thread nD τ).loc main_arg34))) (k0_pay30 (m ((c : Thread nD τ).loc main_arg21)) (m ((c : Thread nD τ).loc main_arg47)))) (fun t _ => by
    show (cfg0.win 60).cut (grid0.coords t) ((dats m 0 c).after 60 t) = _
    rw [after60, iblk8, iblk21, iblk34, iblk47]
    unfold out60
    rw [View.canon_unit_zero zero4, View.ld_unit_zero (S := S1x32x16x64) zero4 _ (m ((c : Thread nD τ).loc main_arg8)), View.ld_unit_zero (S := S1x32x16x64) zero4 _ (m ((c : Thread nD τ).loc main_arg21)), View.ld_unit_zero (S := S1x32x16x64) zero4 _ (m ((c : Thread nD τ).loc main_arg34)), View.ld_unit_zero (S := S1x32x16x64) zero4 _ (m ((c : Thread nD τ).loc main_arg47))]
    funext j
    exact (congrArg (k0_pay31 (m ((c : Thread nD τ).loc main_arg8)) (k0_pay29 (m ((c : Thread nD τ).loc main_arg21)) (m ((c : Thread nD τ).loc main_arg34))) (k0_pay30 (m ((c : Thread nD τ).loc main_arg21)) (m ((c : Thread nD τ).loc main_arg47)))) (emb60 t j)).symm) fun i =>
    ⟨⟨0, by decide⟩, flush0_60 _, by have h := ((cfg0.win 60).blk (⟨0, by decide⟩ : Fin cfg0.N)).view.emb_mem_set i; rwa [emb60] at h⟩

/-- The tenth weight after its step. -/
theorem final61 (c : Dev nD) : (dats m 0 c).arrAt 61 cfg0.N = k0_pay36 (m ((c : Thread nD τ).loc main_arg9)) (k0_pay32 (m ((c : Thread nD τ).loc main_arg22)) (m ((c : Thread nD τ).loc main_arg35))) (k0_pay33 (m ((c : Thread nD τ).loc main_arg48))) (k0_pay34 (m ((c : Thread nD τ).loc main_arg22))) :=
  (dats m 0 c).arrAt_eq_of_cover 61 (k0_pay36 (m ((c : Thread nD τ).loc main_arg9)) (k0_pay32 (m ((c : Thread nD τ).loc main_arg22)) (m ((c : Thread nD τ).loc main_arg35))) (k0_pay33 (m ((c : Thread nD τ).loc main_arg48))) (k0_pay34 (m ((c : Thread nD τ).loc main_arg22)))) (fun t _ => by
    show (cfg0.win 61).cut (grid0.coords t) ((dats m 0 c).after 61 t) = _
    rw [after61, iblk9, iblk22, iblk35, iblk48]
    unfold out61
    rw [View.canon_unit_zero zero4, View.ld_unit_zero (S := S1x32x16x64) zero4 _ (m ((c : Thread nD τ).loc main_arg9)), View.ld_unit_zero (S := S1x32x16x64) zero4 _ (m ((c : Thread nD τ).loc main_arg22)), View.ld_unit_zero (S := S1x32x16x64) zero4 _ (m ((c : Thread nD τ).loc main_arg35)), View.ld_unit_zero (S := S1x32x16x64) zero4 _ (m ((c : Thread nD τ).loc main_arg48))]
    funext j
    exact (congrArg (k0_pay36 (m ((c : Thread nD τ).loc main_arg9)) (k0_pay32 (m ((c : Thread nD τ).loc main_arg22)) (m ((c : Thread nD τ).loc main_arg35))) (k0_pay33 (m ((c : Thread nD τ).loc main_arg48))) (k0_pay34 (m ((c : Thread nD τ).loc main_arg22)))) (emb61 t j)).symm) fun i =>
    ⟨⟨0, by decide⟩, flush0_61 _, by have h := ((cfg0.win 61).blk (⟨0, by decide⟩ : Fin cfg0.N)).view.emb_mem_set i; rwa [emb61] at h⟩

/-- The eleventh weight after its step. -/
theorem final62 (c : Dev nD) : (dats m 0 c).arrAt 62 cfg0.N = k0_pay39 (m ((c : Thread nD τ).loc main_arg10)) (m ((c : Thread nD τ).loc main_arg23)) (m ((c : Thread nD τ).loc main_arg49)) (k0_pay37 (m ((c : Thread nD τ).loc main_arg23)) (m ((c : Thread nD τ).loc main_arg36))) (Scalar.ofBits .f32 0x3F7FBE77#32) :=
  (dats m 0 c).arrAt_eq_of_cover 62 (k0_pay39 (m ((c : Thread nD τ).loc main_arg10)) (m ((c : Thread nD τ).loc main_arg23)) (m ((c : Thread nD τ).loc main_arg49)) (k0_pay37 (m ((c : Thread nD τ).loc main_arg23)) (m ((c : Thread nD τ).loc main_arg36))) (Scalar.ofBits .f32 0x3F7FBE77#32)) (fun t _ => by
    show (cfg0.win 62).cut (grid0.coords t) ((dats m 0 c).after 62 t) = _
    rw [after62, iblk10, iblk23, iblk36, iblk49]
    unfold out62
    rw [View.canon_unit_zero zero2, View.ld_unit_zero (S := S1x512) zero2 _ (m ((c : Thread nD τ).loc main_arg10)), View.ld_unit_zero (S := S1x512) zero2 _ (m ((c : Thread nD τ).loc main_arg23)), View.ld_unit_zero (S := S1x512) zero2 _ (m ((c : Thread nD τ).loc main_arg36)), View.ld_unit_zero (S := S1x512) zero2 _ (m ((c : Thread nD τ).loc main_arg49))]
    funext j
    exact (congrArg (k0_pay39 (m ((c : Thread nD τ).loc main_arg10)) (m ((c : Thread nD τ).loc main_arg23)) (m ((c : Thread nD τ).loc main_arg49)) (k0_pay37 (m ((c : Thread nD τ).loc main_arg23)) (m ((c : Thread nD τ).loc main_arg36))) (Scalar.ofBits .f32 0x3F7FBE77#32)) (emb62 t j)).symm) fun i =>
    ⟨⟨0, by decide⟩, flush0_62 _, by have h := ((cfg0.win 62).blk (⟨0, by decide⟩ : Fin cfg0.N)).view.emb_mem_set i; rwa [emb62] at h⟩

/-- The twelfth weight after its step. -/
theorem final63 (c : Dev nD) : (dats m 0 c).arrAt 63 cfg0.N = k0_pay44 (m ((c : Thread nD τ).loc main_arg11)) (k0_pay40 (m ((c : Thread nD τ).loc main_arg24)) (m ((c : Thread nD τ).loc main_arg37))) (k0_pay41 (m ((c : Thread nD τ).loc main_arg50))) (k0_pay42 (m ((c : Thread nD τ).loc main_arg24))) :=
  (dats m 0 c).arrAt_eq_of_cover 63 (k0_pay44 (m ((c : Thread nD τ).loc main_arg11)) (k0_pay40 (m ((c : Thread nD τ).loc main_arg24)) (m ((c : Thread nD τ).loc main_arg37))) (k0_pay41 (m ((c : Thread nD τ).loc main_arg50))) (k0_pay42 (m ((c : Thread nD τ).loc main_arg24)))) (fun t _ => by
    show (cfg0.win 63).cut (grid0.coords t) ((dats m 0 c).after 63 t) = _
    rw [after63, iblk11, iblk24, iblk37, iblk50]
    unfold out63
    rw [View.canon_unit_zero zero2, View.ld_unit_zero (S := S1x1024) zero2 _ (m ((c : Thread nD τ).loc main_arg11)), View.ld_unit_zero (S := S1x1024) zero2 _ (m ((c : Thread nD τ).loc main_arg24)), View.ld_unit_zero (S := S1x1024) zero2 _ (m ((c : Thread nD τ).loc main_arg37)), View.ld_unit_zero (S := S1x1024) zero2 _ (m ((c : Thread nD τ).loc main_arg50))]
    funext j
    exact (congrArg (k0_pay44 (m ((c : Thread nD τ).loc main_arg11)) (k0_pay40 (m ((c : Thread nD τ).loc main_arg24)) (m ((c : Thread nD τ).loc main_arg37))) (k0_pay41 (m ((c : Thread nD τ).loc main_arg50))) (k0_pay42 (m ((c : Thread nD τ).loc main_arg24)))) (emb63 t j)).symm) fun i =>
    ⟨⟨0, by decide⟩, flush0_63 _, by have h := ((cfg0.win 63).blk (⟨0, by decide⟩ : Fin cfg0.N)).view.emb_mem_set i; rwa [emb63] at h⟩

/-- The thirteenth weight after its step. -/
theorem final64 (c : Dev nD) : (dats m 0 c).arrAt 64 cfg0.N = k0_pay2 (m ((c : Thread nD τ).loc main_arg12)) (k0_pay45 (m ((c : Thread nD τ).loc main_arg25)) (m ((c : Thread nD τ).loc main_arg38))) (k0_pay46 (m ((c : Thread nD τ).loc main_arg51))) (k0_pay47 (m ((c : Thread nD τ).loc main_arg25))) :=
  (dats m 0 c).arrAt_eq_of_cover 64 (k0_pay2 (m ((c : Thread nD τ).loc main_arg12)) (k0_pay45 (m ((c : Thread nD τ).loc main_arg25)) (m ((c : Thread nD τ).loc main_arg38))) (k0_pay46 (m ((c : Thread nD τ).loc main_arg51))) (k0_pay47 (m ((c : Thread nD τ).loc main_arg25)))) (fun t _ => by
    show (cfg0.win 64).cut (grid0.coords t) ((dats m 0 c).after 64 t) = _
    rw [after64, iblk12, iblk25, iblk38, iblk51]
    unfold out64
    rw [View.canon_unit_zero zero2, View.ld_unit_zero (S := S1x1024) zero2 _ (m ((c : Thread nD τ).loc main_arg12)), View.ld_unit_zero (S := S1x1024) zero2 _ (m ((c : Thread nD τ).loc main_arg25)), View.ld_unit_zero (S := S1x1024) zero2 _ (m ((c : Thread nD τ).loc main_arg38)), View.ld_unit_zero (S := S1x1024) zero2 _ (m ((c : Thread nD τ).loc main_arg51))]
    funext j
    exact (congrArg (k0_pay2 (m ((c : Thread nD τ).loc main_arg12)) (k0_pay45 (m ((c : Thread nD τ).loc main_arg25)) (m ((c : Thread nD τ).loc main_arg38))) (k0_pay46 (m ((c : Thread nD τ).loc main_arg51))) (k0_pay47 (m ((c : Thread nD τ).loc main_arg25)))) (emb64 t j)).symm) fun i =>
    ⟨⟨0, by decide⟩, flush0_64 _, by have h := ((cfg0.win 64).blk (⟨0, by decide⟩ : Fin cfg0.N)).view.emb_mem_set i; rwa [emb64] at h⟩

/-- The first weight's new first moment. -/
theorem final65 (c : Dev nD) : (dats m 0 c).arrAt 65 cfg0.N = k0_pay3 (m ((c : Thread nD τ).loc main_arg13)) (m ((c : Thread nD τ).loc main_arg26)) :=
  (dats m 0 c).arrAt_eq_of_cover 65 (k0_pay3 (m ((c : Thread nD τ).loc main_arg13)) (m ((c : Thread nD τ).loc main_arg26))) (fun t _ => by
    show (cfg0.win 65).cut (grid0.coords t) ((dats m 0 c).after 65 t) = _
    rw [after65, iblk13, iblk26]
    unfold out65
    rw [View.canon_unit_zero zero2, View.ld_unit_zero (S := S1x1024) zero2 _ (m ((c : Thread nD τ).loc main_arg13)), View.ld_unit_zero (S := S1x1024) zero2 _ (m ((c : Thread nD τ).loc main_arg26))]
    funext j
    exact (congrArg (k0_pay3 (m ((c : Thread nD τ).loc main_arg13)) (m ((c : Thread nD τ).loc main_arg26))) (emb65 t j)).symm) fun i =>
    ⟨⟨0, by decide⟩, flush0_65 _, by have h := ((cfg0.win 65).blk (⟨0, by decide⟩ : Fin cfg0.N)).view.emb_mem_set i; rwa [emb65] at h⟩

/-- The second weight's new first moment. -/
theorem final66 (c : Dev nD) : (dats m 0 c).arrAt 66 cfg0.N = k0_pay6 (m ((c : Thread nD τ).loc main_arg14)) (m ((c : Thread nD τ).loc main_arg27)) :=
  (dats m 0 c).arrAt_eq_of_cover 66 (k0_pay6 (m ((c : Thread nD τ).loc main_arg14)) (m ((c : Thread nD τ).loc main_arg27))) (fun t _ => by
    show (cfg0.win 66).cut (grid0.coords t) ((dats m 0 c).after 66 t) = _
    rw [after66, iblk14, iblk27]
    unfold out66
    rw [View.canon_unit_zero zero2, View.ld_unit_zero (S := S1x1024) zero2 _ (m ((c : Thread nD τ).loc main_arg14)), View.ld_unit_zero (S := S1x1024) zero2 _ (m ((c : Thread nD τ).loc main_arg27))]
    funext j
    exact (congrArg (k0_pay6 (m ((c : Thread nD τ).loc main_arg14)) (m ((c : Thread nD τ).loc main_arg27))) (emb66 t j)).symm) fun i =>
    ⟨⟨0, by decide⟩, flush0_66 _, by have h := ((cfg0.win 66).blk (⟨0, by decide⟩ : Fin cfg0.N)).view.emb_mem_set i; rwa [emb66] at h⟩

/-- The third weight's new first moment. -/
theorem final67 (c : Dev nD) : (dats m 0 c).arrAt 67 cfg0.N = k0_pay9 (m ((c : Thread nD τ).loc main_arg15)) (m ((c : Thread nD τ).loc main_arg28)) :=
  (dats m 0 c).arrAt_eq_of_cover 67 (k0_pay9 (m ((c : Thread nD τ).loc main_arg15)) (m ((c : Thread nD τ).loc main_arg28))) (fun t _ => by
    show (cfg0.win 67).cut (grid0.coords t) ((dats m 0 c).after 67 t) = _
    rw [after67, iblk15, iblk28]
    unfold out67
    rw [View.canon_unit_zero zero2, View.ld_unit_zero (S := S1x512) zero2 _ (m ((c : Thread nD τ).loc main_arg15)), View.ld_unit_zero (S := S1x512) zero2 _ (m ((c : Thread nD τ).loc main_arg28))]
    funext j
    exact (congrArg (k0_pay9 (m ((c : Thread nD τ).loc main_arg15)) (m ((c : Thread nD τ).loc main_arg28))) (emb67 t j)).symm) fun i =>
    ⟨⟨0, by decide⟩, flush0_67 _, by have h := ((cfg0.win 67).blk (⟨0, by decide⟩ : Fin cfg0.N)).view.emb_mem_set i; rwa [emb67] at h⟩

/-- The fourth weight's new first moment. -/
theorem final68 (c : Dev nD) : (dats m 0 c).arrAt 68 cfg0.N = k0_pay12 (m ((c : Thread nD τ).loc main_arg16)) (m ((c : Thread nD τ).loc main_arg29)) :=
  (dats m 0 c).arrAt_eq_of_cover 68 (k0_pay12 (m ((c : Thread nD τ).loc main_arg16)) (m ((c : Thread nD τ).loc main_arg29))) (fun t _ => by
    show (cfg0.win 68).cut (grid0.coords t) ((dats m 0 c).after 68 t) = _
    rw [after68, iblk16, iblk29]
    unfold out68
    rw [View.canon_unit_zero zero3, View.ld_unit_zero (S := S1x32x64) zero3 _ (m ((c : Thread nD τ).loc main_arg16)), View.ld_unit_zero (S := S1x32x64) zero3 _ (m ((c : Thread nD τ).loc main_arg29))]
    funext j
    exact (congrArg (k0_pay12 (m ((c : Thread nD τ).loc main_arg16)) (m ((c : Thread nD τ).loc main_arg29))) (emb68 t j)).symm) fun i =>
    ⟨⟨0, by decide⟩, flush0_68 _, by have h := ((cfg0.win 68).blk (⟨0, by decide⟩ : Fin cfg0.N)).view.emb_mem_set i; rwa [emb68] at h⟩

/-- The fifth weight's new first moment. -/
theorem final69 (c : Dev nD) : (dats m 0 c).arrAt 69 cfg0.N = k0_pay15 (m ((c : Thread nD τ).loc main_arg17)) (m ((c : Thread nD τ).loc main_arg30)) :=
  (dats m 0 c).arrAt_eq_of_cover 69 (k0_pay15 (m ((c : Thread nD τ).loc main_arg17)) (m ((c : Thread nD τ).loc main_arg30))) (fun t _ => by
    show (cfg0.win 69).cut (grid0.coords t) ((dats m 0 c).after 69 t) = _
    rw [after69, iblk17, iblk30]
    unfold out69
    rw [View.canon_unit_zero zero3, View.ld_unit_zero (S := S1x32x64) zero3 _ (m ((c : Thread nD τ).loc main_arg17)), View.ld_unit_zero (S := S1x32x64) zero3 _ (m ((c : Thread nD τ).loc main_arg30))]
    funext j
    exact (congrArg (k0_pay15 (m ((c : Thread nD τ).loc main_arg17)) (m ((c : Thread nD τ).loc main_arg30))) (emb69 t j)).symm) fun i =>
    ⟨⟨0, by decide⟩, flush0_69 _, by have h := ((cfg0.win 69).blk (⟨0, by decide⟩ : Fin cfg0.N)).view.emb_mem_set i; rwa [emb69] at h⟩

/-- The sixth weight's new first moment. -/
theorem final70 (c : Dev nD) : (dats m 0 c).arrAt 70 cfg0.N = k0_pay18 (m ((c : Thread nD τ).loc main_arg18)) (m ((c : Thread nD τ).loc main_arg31)) :=
  (dats m 0 c).arrAt_eq_of_cover 70 (k0_pay18 (m ((c : Thread nD τ).loc main_arg18)) (m ((c : Thread nD τ).loc main_arg31))) (fun t _ => by
    show (cfg0.win 70).cut (grid0.coords t) ((dats m 0 c).after 70 t) = _
    rw [after70, iblk18, iblk31]
    unfold out70
    rw [View.canon_unit_zero zero2, View.ld_unit_zero (S := S1x32) zero2 _ (m ((c : Thread nD τ).loc main_arg18)), View.ld_unit_zero (S := S1x32) zero2 _ (m ((c : Thread nD τ).loc main_arg31))]
    funext j
    exact (congrArg (k0_pay18 (m ((c : Thread nD τ).loc main_arg18)) (m ((c : Thread nD τ).loc main_arg31))) (emb70 t j)).symm) fun i =>
    ⟨⟨0, by decide⟩, flush0_70 _, by have h := ((cfg0.win 70).blk (⟨0, by decide⟩ : Fin cfg0.N)).view.emb_mem_set i; rwa [emb70] at h⟩

/-- The seventh weight's new first moment. -/
theorem final71 (c : Dev nD) : (dats m 0 c).arrAt 71 cfg0.N = k0_pay21 (m ((c : Thread nD τ).loc main_arg19)) (m ((c : Thread nD τ).loc main_arg32)) :=
  (dats m 0 c).arrAt_eq_of_cover 71 (k0_pay21 (m ((c : Thread nD τ).loc main_arg19)) (m ((c : Thread nD τ).loc main_arg32))) (fun t _ => by
    show (cfg0.win 71).cut (grid0.coords t) ((dats m 0 c).after 71 t) = _
    rw [after71, iblk19, iblk32]
    unfold out71
    rw [View.canon_unit_zero zero4, View.ld_unit_zero (S := S1x32x64x16) zero4 _ (m ((c : Thread nD τ).loc main_arg19)), View.ld_unit_zero (S := S1x32x64x16) zero4 _ (m ((c : Thread nD τ).loc main_arg32))]
    funext j
    exact (congrArg (k0_pay21 (m ((c : Thread nD τ).loc main_arg19)) (m ((c : Thread nD τ).loc main_arg32))) (emb71 t j)).symm) fun i =>
    ⟨⟨0, by decide⟩, flush0_71 _, by have h := ((cfg0.win 71).blk (⟨0, by decide⟩ : Fin cfg0.N)).view.emb_mem_set i; rwa [emb71] at h⟩

/-- The eighth weight's new first moment. -/
theorem final72 (c : Dev nD) : (dats m 0 c).arrAt 72 cfg0.N = k0_pay24 (m ((c : Thread nD τ).loc main_arg20)) (m ((c : Thread nD τ).loc main_arg33)) :=
  (dats m 0 c).arrAt_eq_of_cover 72 (k0_pay24 (m ((c : Thread nD τ).loc main_arg20)) (m ((c : Thread nD τ).loc main_arg33))) (fun t _ => by
    show (cfg0.win 72).cut (grid0.coords t) ((dats m 0 c).after 72 t) = _
    rw [after72, iblk20, iblk33]
    unfold out72
    rw [View.canon_unit_zero zero4, View.ld_unit_zero (S := S1x32x64x16) zero4 _ (m ((c : Thread nD τ).loc main_arg20)), View.ld_unit_zero (S := S1x32x64x16) zero4 _ (m ((c : Thread nD τ).loc main_arg33))]
    funext j
    exact (congrArg (k0_pay24 (m ((c : Thread nD τ).loc main_arg20)) (m ((c : Thread nD τ).loc main_arg33))) (emb72 t j)).symm) fun i =>
    ⟨⟨0, by decide⟩, flush0_72 _, by have h := ((cfg0.win 72).blk (⟨0, by decide⟩ : Fin cfg0.N)).view.emb_mem_set i; rwa [emb72] at h⟩

/-- The ninth weight's new first moment. -/
theorem final73 (c : Dev nD) : (dats m 0 c).arrAt 73 cfg0.N = k0_pay27 (m ((c : Thread nD τ).loc main_arg21)) (m ((c : Thread nD τ).loc main_arg34)) :=
  (dats m 0 c).arrAt_eq_of_cover 73 (k0_pay27 (m ((c : Thread nD τ).loc main_arg21)) (m ((c : Thread nD τ).loc main_arg34))) (fun t _ => by
    show (cfg0.win 73).cut (grid0.coords t) ((dats m 0 c).after 73 t) = _
    rw [after73, iblk21, iblk34]
    unfold out73
    rw [View.canon_unit_zero zero4, View.ld_unit_zero (S := S1x32x16x64) zero4 _ (m ((c : Thread nD τ).loc main_arg21)), View.ld_unit_zero (S := S1x32x16x64) zero4 _ (m ((c : Thread nD τ).loc main_arg34))]
    funext j
    exact (congrArg (k0_pay27 (m ((c : Thread nD τ).loc main_arg21)) (m ((c : Thread nD τ).loc main_arg34))) (emb73 t j)).symm) fun i =>
    ⟨⟨0, by decide⟩, flush0_73 _, by have h := ((cfg0.win 73).blk (⟨0, by decide⟩ : Fin cfg0.N)).view.emb_mem_set i; rwa [emb73] at h⟩

/-- The tenth weight's new first moment. -/
theorem final74 (c : Dev nD) : (dats m 0 c).arrAt 74 cfg0.N = k0_pay32 (m ((c : Thread nD τ).loc main_arg22)) (m ((c : Thread nD τ).loc main_arg35)) :=
  (dats m 0 c).arrAt_eq_of_cover 74 (k0_pay32 (m ((c : Thread nD τ).loc main_arg22)) (m ((c : Thread nD τ).loc main_arg35))) (fun t _ => by
    show (cfg0.win 74).cut (grid0.coords t) ((dats m 0 c).after 74 t) = _
    rw [after74, iblk22, iblk35]
    unfold out74
    rw [View.canon_unit_zero zero4, View.ld_unit_zero (S := S1x32x16x64) zero4 _ (m ((c : Thread nD τ).loc main_arg22)), View.ld_unit_zero (S := S1x32x16x64) zero4 _ (m ((c : Thread nD τ).loc main_arg35))]
    funext j
    exact (congrArg (k0_pay32 (m ((c : Thread nD τ).loc main_arg22)) (m ((c : Thread nD τ).loc main_arg35))) (emb74 t j)).symm) fun i =>
    ⟨⟨0, by decide⟩, flush0_74 _, by have h := ((cfg0.win 74).blk (⟨0, by decide⟩ : Fin cfg0.N)).view.emb_mem_set i; rwa [emb74] at h⟩

/-- The eleventh weight's new first moment. -/
theorem final75 (c : Dev nD) : (dats m 0 c).arrAt 75 cfg0.N = k0_pay37 (m ((c : Thread nD τ).loc main_arg23)) (m ((c : Thread nD τ).loc main_arg36)) :=
  (dats m 0 c).arrAt_eq_of_cover 75 (k0_pay37 (m ((c : Thread nD τ).loc main_arg23)) (m ((c : Thread nD τ).loc main_arg36))) (fun t _ => by
    show (cfg0.win 75).cut (grid0.coords t) ((dats m 0 c).after 75 t) = _
    rw [after75, iblk23, iblk36]
    unfold out75
    rw [View.canon_unit_zero zero2, View.ld_unit_zero (S := S1x512) zero2 _ (m ((c : Thread nD τ).loc main_arg23)), View.ld_unit_zero (S := S1x512) zero2 _ (m ((c : Thread nD τ).loc main_arg36))]
    funext j
    exact (congrArg (k0_pay37 (m ((c : Thread nD τ).loc main_arg23)) (m ((c : Thread nD τ).loc main_arg36))) (emb75 t j)).symm) fun i =>
    ⟨⟨0, by decide⟩, flush0_75 _, by have h := ((cfg0.win 75).blk (⟨0, by decide⟩ : Fin cfg0.N)).view.emb_mem_set i; rwa [emb75] at h⟩

/-- The twelfth weight's new first moment. -/
theorem final76 (c : Dev nD) : (dats m 0 c).arrAt 76 cfg0.N = k0_pay40 (m ((c : Thread nD τ).loc main_arg24)) (m ((c : Thread nD τ).loc main_arg37)) :=
  (dats m 0 c).arrAt_eq_of_cover 76 (k0_pay40 (m ((c : Thread nD τ).loc main_arg24)) (m ((c : Thread nD τ).loc main_arg37))) (fun t _ => by
    show (cfg0.win 76).cut (grid0.coords t) ((dats m 0 c).after 76 t) = _
    rw [after76, iblk24, iblk37]
    unfold out76
    rw [View.canon_unit_zero zero2, View.ld_unit_zero (S := S1x1024) zero2 _ (m ((c : Thread nD τ).loc main_arg24)), View.ld_unit_zero (S := S1x1024) zero2 _ (m ((c : Thread nD τ).loc main_arg37))]
    funext j
    exact (congrArg (k0_pay40 (m ((c : Thread nD τ).loc main_arg24)) (m ((c : Thread nD τ).loc main_arg37))) (emb76 t j)).symm) fun i =>
    ⟨⟨0, by decide⟩, flush0_76 _, by have h := ((cfg0.win 76).blk (⟨0, by decide⟩ : Fin cfg0.N)).view.emb_mem_set i; rwa [emb76] at h⟩

/-- The thirteenth weight's new first moment. -/
theorem final77 (c : Dev nD) : (dats m 0 c).arrAt 77 cfg0.N = k0_pay45 (m ((c : Thread nD τ).loc main_arg25)) (m ((c : Thread nD τ).loc main_arg38)) :=
  (dats m 0 c).arrAt_eq_of_cover 77 (k0_pay45 (m ((c : Thread nD τ).loc main_arg25)) (m ((c : Thread nD τ).loc main_arg38))) (fun t _ => by
    show (cfg0.win 77).cut (grid0.coords t) ((dats m 0 c).after 77 t) = _
    rw [after77, iblk25, iblk38]
    unfold out77
    rw [View.canon_unit_zero zero2, View.ld_unit_zero (S := S1x1024) zero2 _ (m ((c : Thread nD τ).loc main_arg25)), View.ld_unit_zero (S := S1x1024) zero2 _ (m ((c : Thread nD τ).loc main_arg38))]
    funext j
    exact (congrArg (k0_pay45 (m ((c : Thread nD τ).loc main_arg25)) (m ((c : Thread nD τ).loc main_arg38))) (emb77 t j)).symm) fun i =>
    ⟨⟨0, by decide⟩, flush0_77 _, by have h := ((cfg0.win 77).blk (⟨0, by decide⟩ : Fin cfg0.N)).view.emb_mem_set i; rwa [emb77] at h⟩

/-- The first weight's new second moment. -/
theorem final78 (c : Dev nD) : (dats m 0 c).arrAt 78 cfg0.N = k0_pay4 (m ((c : Thread nD τ).loc main_arg13)) (m ((c : Thread nD τ).loc main_arg39)) :=
  (dats m 0 c).arrAt_eq_of_cover 78 (k0_pay4 (m ((c : Thread nD τ).loc main_arg13)) (m ((c : Thread nD τ).loc main_arg39))) (fun t _ => by
    show (cfg0.win 78).cut (grid0.coords t) ((dats m 0 c).after 78 t) = _
    rw [after78, iblk13, iblk39]
    unfold out78
    rw [View.canon_unit_zero zero2, View.ld_unit_zero (S := S1x1024) zero2 _ (m ((c : Thread nD τ).loc main_arg13)), View.ld_unit_zero (S := S1x1024) zero2 _ (m ((c : Thread nD τ).loc main_arg39))]
    funext j
    exact (congrArg (k0_pay4 (m ((c : Thread nD τ).loc main_arg13)) (m ((c : Thread nD τ).loc main_arg39))) (emb78 t j)).symm) fun i =>
    ⟨⟨0, by decide⟩, flush0_78 _, by have h := ((cfg0.win 78).blk (⟨0, by decide⟩ : Fin cfg0.N)).view.emb_mem_set i; rwa [emb78] at h⟩

/-- The second weight's new second moment. -/
theorem final79 (c : Dev nD) : (dats m 0 c).arrAt 79 cfg0.N = k0_pay7 (m ((c : Thread nD τ).loc main_arg14)) (m ((c : Thread nD τ).loc main_arg40)) :=
  (dats m 0 c).arrAt_eq_of_cover 79 (k0_pay7 (m ((c : Thread nD τ).loc main_arg14)) (m ((c : Thread nD τ).loc main_arg40))) (fun t _ => by
    show (cfg0.win 79).cut (grid0.coords t) ((dats m 0 c).after 79 t) = _
    rw [after79, iblk14, iblk40]
    unfold out79
    rw [View.canon_unit_zero zero2, View.ld_unit_zero (S := S1x1024) zero2 _ (m ((c : Thread nD τ).loc main_arg14)), View.ld_unit_zero (S := S1x1024) zero2 _ (m ((c : Thread nD τ).loc main_arg40))]
    funext j
    exact (congrArg (k0_pay7 (m ((c : Thread nD τ).loc main_arg14)) (m ((c : Thread nD τ).loc main_arg40))) (emb79 t j)).symm) fun i =>
    ⟨⟨0, by decide⟩, flush0_79 _, by have h := ((cfg0.win 79).blk (⟨0, by decide⟩ : Fin cfg0.N)).view.emb_mem_set i; rwa [emb79] at h⟩

/-- The third weight's new second moment. -/
theorem final80 (c : Dev nD) : (dats m 0 c).arrAt 80 cfg0.N = k0_pay10 (m ((c : Thread nD τ).loc main_arg15)) (m ((c : Thread nD τ).loc main_arg41)) :=
  (dats m 0 c).arrAt_eq_of_cover 80 (k0_pay10 (m ((c : Thread nD τ).loc main_arg15)) (m ((c : Thread nD τ).loc main_arg41))) (fun t _ => by
    show (cfg0.win 80).cut (grid0.coords t) ((dats m 0 c).after 80 t) = _
    rw [after80, iblk15, iblk41]
    unfold out80
    rw [View.canon_unit_zero zero2, View.ld_unit_zero (S := S1x512) zero2 _ (m ((c : Thread nD τ).loc main_arg15)), View.ld_unit_zero (S := S1x512) zero2 _ (m ((c : Thread nD τ).loc main_arg41))]
    funext j
    exact (congrArg (k0_pay10 (m ((c : Thread nD τ).loc main_arg15)) (m ((c : Thread nD τ).loc main_arg41))) (emb80 t j)).symm) fun i =>
    ⟨⟨0, by decide⟩, flush0_80 _, by have h := ((cfg0.win 80).blk (⟨0, by decide⟩ : Fin cfg0.N)).view.emb_mem_set i; rwa [emb80] at h⟩

/-- The fourth weight's new second moment. -/
theorem final81 (c : Dev nD) : (dats m 0 c).arrAt 81 cfg0.N = k0_pay13 (m ((c : Thread nD τ).loc main_arg16)) (m ((c : Thread nD τ).loc main_arg42)) :=
  (dats m 0 c).arrAt_eq_of_cover 81 (k0_pay13 (m ((c : Thread nD τ).loc main_arg16)) (m ((c : Thread nD τ).loc main_arg42))) (fun t _ => by
    show (cfg0.win 81).cut (grid0.coords t) ((dats m 0 c).after 81 t) = _
    rw [after81, iblk16, iblk42]
    unfold out81
    rw [View.canon_unit_zero zero3, View.ld_unit_zero (S := S1x32x64) zero3 _ (m ((c : Thread nD τ).loc main_arg16)), View.ld_unit_zero (S := S1x32x64) zero3 _ (m ((c : Thread nD τ).loc main_arg42))]
    funext j
    exact (congrArg (k0_pay13 (m ((c : Thread nD τ).loc main_arg16)) (m ((c : Thread nD τ).loc main_arg42))) (emb81 t j)).symm) fun i =>
    ⟨⟨0, by decide⟩, flush0_81 _, by have h := ((cfg0.win 81).blk (⟨0, by decide⟩ : Fin cfg0.N)).view.emb_mem_set i; rwa [emb81] at h⟩

/-- The fifth weight's new second moment. -/
theorem final82 (c : Dev nD) : (dats m 0 c).arrAt 82 cfg0.N = k0_pay16 (m ((c : Thread nD τ).loc main_arg17)) (m ((c : Thread nD τ).loc main_arg43)) :=
  (dats m 0 c).arrAt_eq_of_cover 82 (k0_pay16 (m ((c : Thread nD τ).loc main_arg17)) (m ((c : Thread nD τ).loc main_arg43))) (fun t _ => by
    show (cfg0.win 82).cut (grid0.coords t) ((dats m 0 c).after 82 t) = _
    rw [after82, iblk17, iblk43]
    unfold out82
    rw [View.canon_unit_zero zero3, View.ld_unit_zero (S := S1x32x64) zero3 _ (m ((c : Thread nD τ).loc main_arg17)), View.ld_unit_zero (S := S1x32x64) zero3 _ (m ((c : Thread nD τ).loc main_arg43))]
    funext j
    exact (congrArg (k0_pay16 (m ((c : Thread nD τ).loc main_arg17)) (m ((c : Thread nD τ).loc main_arg43))) (emb82 t j)).symm) fun i =>
    ⟨⟨0, by decide⟩, flush0_82 _, by have h := ((cfg0.win 82).blk (⟨0, by decide⟩ : Fin cfg0.N)).view.emb_mem_set i; rwa [emb82] at h⟩

/-- The sixth weight's new second moment. -/
theorem final83 (c : Dev nD) : (dats m 0 c).arrAt 83 cfg0.N = k0_pay19 (m ((c : Thread nD τ).loc main_arg18)) (m ((c : Thread nD τ).loc main_arg44)) :=
  (dats m 0 c).arrAt_eq_of_cover 83 (k0_pay19 (m ((c : Thread nD τ).loc main_arg18)) (m ((c : Thread nD τ).loc main_arg44))) (fun t _ => by
    show (cfg0.win 83).cut (grid0.coords t) ((dats m 0 c).after 83 t) = _
    rw [after83, iblk18, iblk44]
    unfold out83
    rw [View.canon_unit_zero zero2, View.ld_unit_zero (S := S1x32) zero2 _ (m ((c : Thread nD τ).loc main_arg18)), View.ld_unit_zero (S := S1x32) zero2 _ (m ((c : Thread nD τ).loc main_arg44))]
    funext j
    exact (congrArg (k0_pay19 (m ((c : Thread nD τ).loc main_arg18)) (m ((c : Thread nD τ).loc main_arg44))) (emb83 t j)).symm) fun i =>
    ⟨⟨0, by decide⟩, flush0_83 _, by have h := ((cfg0.win 83).blk (⟨0, by decide⟩ : Fin cfg0.N)).view.emb_mem_set i; rwa [emb83] at h⟩

/-- The seventh weight's new second moment. -/
theorem final84 (c : Dev nD) : (dats m 0 c).arrAt 84 cfg0.N = k0_pay22 (m ((c : Thread nD τ).loc main_arg19)) (m ((c : Thread nD τ).loc main_arg45)) :=
  (dats m 0 c).arrAt_eq_of_cover 84 (k0_pay22 (m ((c : Thread nD τ).loc main_arg19)) (m ((c : Thread nD τ).loc main_arg45))) (fun t _ => by
    show (cfg0.win 84).cut (grid0.coords t) ((dats m 0 c).after 84 t) = _
    rw [after84, iblk19, iblk45]
    unfold out84
    rw [View.canon_unit_zero zero4, View.ld_unit_zero (S := S1x32x64x16) zero4 _ (m ((c : Thread nD τ).loc main_arg19)), View.ld_unit_zero (S := S1x32x64x16) zero4 _ (m ((c : Thread nD τ).loc main_arg45))]
    funext j
    exact (congrArg (k0_pay22 (m ((c : Thread nD τ).loc main_arg19)) (m ((c : Thread nD τ).loc main_arg45))) (emb84 t j)).symm) fun i =>
    ⟨⟨0, by decide⟩, flush0_84 _, by have h := ((cfg0.win 84).blk (⟨0, by decide⟩ : Fin cfg0.N)).view.emb_mem_set i; rwa [emb84] at h⟩

/-- The eighth weight's new second moment. -/
theorem final85 (c : Dev nD) : (dats m 0 c).arrAt 85 cfg0.N = k0_pay25 (m ((c : Thread nD τ).loc main_arg20)) (m ((c : Thread nD τ).loc main_arg46)) :=
  (dats m 0 c).arrAt_eq_of_cover 85 (k0_pay25 (m ((c : Thread nD τ).loc main_arg20)) (m ((c : Thread nD τ).loc main_arg46))) (fun t _ => by
    show (cfg0.win 85).cut (grid0.coords t) ((dats m 0 c).after 85 t) = _
    rw [after85, iblk20, iblk46]
    unfold out85
    rw [View.canon_unit_zero zero4, View.ld_unit_zero (S := S1x32x64x16) zero4 _ (m ((c : Thread nD τ).loc main_arg20)), View.ld_unit_zero (S := S1x32x64x16) zero4 _ (m ((c : Thread nD τ).loc main_arg46))]
    funext j
    exact (congrArg (k0_pay25 (m ((c : Thread nD τ).loc main_arg20)) (m ((c : Thread nD τ).loc main_arg46))) (emb85 t j)).symm) fun i =>
    ⟨⟨0, by decide⟩, flush0_85 _, by have h := ((cfg0.win 85).blk (⟨0, by decide⟩ : Fin cfg0.N)).view.emb_mem_set i; rwa [emb85] at h⟩

/-- The ninth weight's new second moment. -/
theorem final86 (c : Dev nD) : (dats m 0 c).arrAt 86 cfg0.N = k0_pay28 (m ((c : Thread nD τ).loc main_arg21)) (m ((c : Thread nD τ).loc main_arg47)) :=
  (dats m 0 c).arrAt_eq_of_cover 86 (k0_pay28 (m ((c : Thread nD τ).loc main_arg21)) (m ((c : Thread nD τ).loc main_arg47))) (fun t _ => by
    show (cfg0.win 86).cut (grid0.coords t) ((dats m 0 c).after 86 t) = _
    rw [after86, iblk21, iblk47]
    unfold out86
    rw [View.canon_unit_zero zero4, View.ld_unit_zero (S := S1x32x16x64) zero4 _ (m ((c : Thread nD τ).loc main_arg21)), View.ld_unit_zero (S := S1x32x16x64) zero4 _ (m ((c : Thread nD τ).loc main_arg47))]
    funext j
    exact (congrArg (k0_pay28 (m ((c : Thread nD τ).loc main_arg21)) (m ((c : Thread nD τ).loc main_arg47))) (emb86 t j)).symm) fun i =>
    ⟨⟨0, by decide⟩, flush0_86 _, by have h := ((cfg0.win 86).blk (⟨0, by decide⟩ : Fin cfg0.N)).view.emb_mem_set i; rwa [emb86] at h⟩

/-- The tenth weight's new second moment. -/
theorem final87 (c : Dev nD) : (dats m 0 c).arrAt 87 cfg0.N = k0_pay35 (k0_pay33 (m ((c : Thread nD τ).loc main_arg48))) (k0_pay34 (m ((c : Thread nD τ).loc main_arg22))) :=
  (dats m 0 c).arrAt_eq_of_cover 87 (k0_pay35 (k0_pay33 (m ((c : Thread nD τ).loc main_arg48))) (k0_pay34 (m ((c : Thread nD τ).loc main_arg22)))) (fun t _ => by
    show (cfg0.win 87).cut (grid0.coords t) ((dats m 0 c).after 87 t) = _
    rw [after87, iblk22, iblk48]
    unfold out87
    rw [View.canon_unit_zero zero4, View.ld_unit_zero (S := S1x32x16x64) zero4 _ (m ((c : Thread nD τ).loc main_arg22)), View.ld_unit_zero (S := S1x32x16x64) zero4 _ (m ((c : Thread nD τ).loc main_arg48))]
    funext j
    exact (congrArg (k0_pay35 (k0_pay33 (m ((c : Thread nD τ).loc main_arg48))) (k0_pay34 (m ((c : Thread nD τ).loc main_arg22)))) (emb87 t j)).symm) fun i =>
    ⟨⟨0, by decide⟩, flush0_87 _, by have h := ((cfg0.win 87).blk (⟨0, by decide⟩ : Fin cfg0.N)).view.emb_mem_set i; rwa [emb87] at h⟩

/-- The eleventh weight's new second moment. -/
theorem final88 (c : Dev nD) : (dats m 0 c).arrAt 88 cfg0.N = k0_pay38 (m ((c : Thread nD τ).loc main_arg23)) (m ((c : Thread nD τ).loc main_arg49)) (Scalar.ofBits .f32 0x3F7FBE77#32) :=
  (dats m 0 c).arrAt_eq_of_cover 88 (k0_pay38 (m ((c : Thread nD τ).loc main_arg23)) (m ((c : Thread nD τ).loc main_arg49)) (Scalar.ofBits .f32 0x3F7FBE77#32)) (fun t _ => by
    show (cfg0.win 88).cut (grid0.coords t) ((dats m 0 c).after 88 t) = _
    rw [after88, iblk23, iblk49]
    unfold out88
    rw [View.canon_unit_zero zero2, View.ld_unit_zero (S := S1x512) zero2 _ (m ((c : Thread nD τ).loc main_arg23)), View.ld_unit_zero (S := S1x512) zero2 _ (m ((c : Thread nD τ).loc main_arg49))]
    funext j
    exact (congrArg (k0_pay38 (m ((c : Thread nD τ).loc main_arg23)) (m ((c : Thread nD τ).loc main_arg49)) (Scalar.ofBits .f32 0x3F7FBE77#32)) (emb88 t j)).symm) fun i =>
    ⟨⟨0, by decide⟩, flush0_88 _, by have h := ((cfg0.win 88).blk (⟨0, by decide⟩ : Fin cfg0.N)).view.emb_mem_set i; rwa [emb88] at h⟩

/-- The twelfth weight's new second moment. -/
theorem final89 (c : Dev nD) : (dats m 0 c).arrAt 89 cfg0.N = k0_pay43 (k0_pay41 (m ((c : Thread nD τ).loc main_arg50))) (k0_pay42 (m ((c : Thread nD τ).loc main_arg24))) :=
  (dats m 0 c).arrAt_eq_of_cover 89 (k0_pay43 (k0_pay41 (m ((c : Thread nD τ).loc main_arg50))) (k0_pay42 (m ((c : Thread nD τ).loc main_arg24)))) (fun t _ => by
    show (cfg0.win 89).cut (grid0.coords t) ((dats m 0 c).after 89 t) = _
    rw [after89, iblk24, iblk50]
    unfold out89
    rw [View.canon_unit_zero zero2, View.ld_unit_zero (S := S1x1024) zero2 _ (m ((c : Thread nD τ).loc main_arg24)), View.ld_unit_zero (S := S1x1024) zero2 _ (m ((c : Thread nD τ).loc main_arg50))]
    funext j
    exact (congrArg (k0_pay43 (k0_pay41 (m ((c : Thread nD τ).loc main_arg50))) (k0_pay42 (m ((c : Thread nD τ).loc main_arg24)))) (emb89 t j)).symm) fun i =>
    ⟨⟨0, by decide⟩, flush0_89 _, by have h := ((cfg0.win 89).blk (⟨0, by decide⟩ : Fin cfg0.N)).view.emb_mem_set i; rwa [emb89] at h⟩

/-- The thirteenth weight's new second moment. -/
theorem final90 (c : Dev nD) : (dats m 0 c).arrAt 90 cfg0.N = k0_pay1 (k0_pay46 (m ((c : Thread nD τ).loc main_arg51))) (k0_pay47 (m ((c : Thread nD τ).loc main_arg25))) :=
  (dats m 0 c).arrAt_eq_of_cover 90 (k0_pay1 (k0_pay46 (m ((c : Thread nD τ).loc main_arg51))) (k0_pay47 (m ((c : Thread nD τ).loc main_arg25)))) (fun t _ => by
    show (cfg0.win 90).cut (grid0.coords t) ((dats m 0 c).after 90 t) = _
    rw [after90, iblk25, iblk51]
    unfold out90
    rw [View.canon_unit_zero zero2, View.ld_unit_zero (S := S1x1024) zero2 _ (m ((c : Thread nD τ).loc main_arg25)), View.ld_unit_zero (S := S1x1024) zero2 _ (m ((c : Thread nD τ).loc main_arg51))]
    funext j
    exact (congrArg (k0_pay1 (k0_pay46 (m ((c : Thread nD τ).loc main_arg51))) (k0_pay47 (m ((c : Thread nD τ).loc main_arg25)))) (emb90 t j)).symm) fun i =>
    ⟨⟨0, by decide⟩, flush0_90 _, by have h := ((cfg0.win 90).blk (⟨0, by decide⟩ : Fin cfg0.N)).view.emb_mem_set i; rwa [emb90] at h⟩

end Cert.Kernel6Ideal.Small

end
-- ==== Proof.AdamSmall.lean ====
module

public import proofs.«01_k».proof.Defs
public import proofs.«01_k».proof.Proof.AdamMath
public import proofs.«01_k».proof.Proof.SmallWhole
public import proofs.«01_k».proof.Proof.SmallFinal
public import proofs.«01_k».proof.Proof.Gen.Reference6Ideal.Run

@[expose] public section

/-!
# The AdamW step of the thirteen small weights

The kernel steps every weight whole. On the same arguments both programs end with the same thirty-nine arrays: the
steps of the weights, then their first moments, then their second.
-/

set_option maxRecDepth 16384

noncomputable section

open Idealize.ShloMosaic Idealize.ShloMosaic.TcCoe Idealize.ShloMosaic.Tactic Idealize.SL.Sem

namespace Cert.AdamSmall

open Cert.Adam

/-- The reference terminates, its arguments unchanged and every semaphore counter at zero. -/
theorem frame_reference : Cert.quiescent_Reference6Ideal (hReference6Ideal := Cert.Reference6Ideal.Gen.facts) := fun m g _ =>
  (θ_run _ _ _).mono (fun _ h => ⟨fun c => (h c).2.2.2.2.2.2.2.2.2.2.2.2.2.2.2.2.2.2.2.2.2.2.2.2.2.2.2.2.2.2.2.2.2.2.2.2.2.2.2, funext fun s => by
      obtain ⟨t, s⟩ := s; exact nomatch s⟩) (Cert.Reference6Ideal.Value.run m g)

open Cert.Kernel6Ideal Cert.Kernel6Ideal.Gen Cert.Kernel6Ideal.Small in
set_option maxHeartbeats 16000000 in
/-- The kernel terminates with each output from the given arrays, and with its arguments as they were. -/
theorem run_arrays {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0_0) = k0_pay5 (m ((c : Thread nD τ).loc main_arg0)) (m ((c : Thread nD τ).loc main_arg13)) (m ((c : Thread nD τ).loc main_arg26)) (m ((c : Thread nD τ).loc main_arg39))
      ∧ r.2.mem ((c : Thread nD τ).loc main_v0_1) = k0_pay8 (m ((c : Thread nD τ).loc main_arg1)) (m ((c : Thread nD τ).loc main_arg14)) (m ((c : Thread nD τ).loc main_arg27)) (m ((c : Thread nD τ).loc main_arg40))
      ∧ r.2.mem ((c : Thread nD τ).loc main_v0_2) = k0_pay11 (m ((c : Thread nD τ).loc main_arg2)) (m ((c : Thread nD τ).loc main_arg15)) (m ((c : Thread nD τ).loc main_arg28)) (m ((c : Thread nD τ).loc main_arg41))
      ∧ r.2.mem ((c : Thread nD τ).loc main_v0_3) = k0_pay14 (m ((c : Thread nD τ).loc main_arg3)) (m ((c : Thread nD τ).loc main_arg16)) (m ((c : Thread nD τ).loc main_arg29)) (m ((c : Thread nD τ).loc main_arg42))
      ∧ r.2.mem ((c : Thread nD τ).loc main_v0_4) = k0_pay17 (m ((c : Thread nD τ).loc main_arg4)) (m ((c : Thread nD τ).loc main_arg17)) (m ((c : Thread nD τ).loc main_arg30)) (m ((c : Thread nD τ).loc main_arg43))
      ∧ r.2.mem ((c : Thread nD τ).loc main_v0_5) = k0_pay20 (m ((c : Thread nD τ).loc main_arg5)) (m ((c : Thread nD τ).loc main_arg18)) (m ((c : Thread nD τ).loc main_arg31)) (m ((c : Thread nD τ).loc main_arg44))
      ∧ r.2.mem ((c : Thread nD τ).loc main_v0_6) = k0_pay23 (m ((c : Thread nD τ).loc main_arg6)) (m ((c : Thread nD τ).loc main_arg19)) (m ((c : Thread nD τ).loc main_arg32)) (m ((c : Thread nD τ).loc main_arg45))
      ∧ r.2.mem ((c : Thread nD τ).loc main_v0_7) = k0_pay26 (m ((c : Thread nD τ).loc main_arg7)) (m ((c : Thread nD τ).loc main_arg20)) (m ((c : Thread nD τ).loc main_arg33)) (m ((c : Thread nD τ).loc main_arg46))
      ∧ r.2.mem ((c : Thread nD τ).loc main_v0_8) = k0_pay31 (m ((c : Thread nD τ).loc main_arg8)) (k0_pay29 (m ((c : Thread nD τ).loc main_arg21)) (m ((c : Thread nD τ).loc main_arg34))) (k0_pay30 (m ((c : Thread nD τ).loc main_arg21)) (m ((c : Thread nD τ).loc main_arg47)))
      ∧ r.2.mem ((c : Thread nD τ).loc main_v0_9) = k0_pay36 (m ((c : Thread nD τ).loc main_arg9)) (k0_pay32 (m ((c : Thread nD τ).loc main_arg22)) (m ((c : Thread nD τ).loc main_arg35))) (k0_pay33 (m ((c : Thread nD τ).loc main_arg48))) (k0_pay34 (m ((c : Thread nD τ).loc main_arg22)))
      ∧ r.2.mem ((c : Thread nD τ).loc main_v0_10) = k0_pay39 (m ((c : Thread nD τ).loc main_arg10)) (m ((c : Thread nD τ).loc main_arg23)) (m ((c : Thread nD τ).loc main_arg49)) (k0_pay37 (m ((c : Thread nD τ).loc main_arg23)) (m ((c : Thread nD τ).loc main_arg36))) (Scalar.ofBits .f32 0x3F7FBE77#32)
      ∧ r.2.mem ((c : Thread nD τ).loc main_v0_11) = k0_pay44 (m ((c : Thread nD τ).loc main_arg11)) (k0_pay40 (m ((c : Thread nD τ).loc main_arg24)) (m ((c : Thread nD τ).loc main_arg37))) (k0_pay41 (m ((c : Thread nD τ).loc main_arg50))) (k0_pay42 (m ((c : Thread nD τ).loc main_arg24)))
      ∧ r.2.mem ((c : Thread nD τ).loc main_v0_12) = k0_pay2 (m ((c : Thread nD τ).loc main_arg12)) (k0_pay45 (m ((c : Thread nD τ).loc main_arg25)) (m ((c : Thread nD τ).loc main_arg38))) (k0_pay46 (m ((c : Thread nD τ).loc main_arg51))) (k0_pay47 (m ((c : Thread nD τ).loc main_arg25)))
      ∧ r.2.mem ((c : Thread nD τ).loc main_v0_13) = k0_pay3 (m ((c : Thread nD τ).loc main_arg13)) (m ((c : Thread nD τ).loc main_arg26))
      ∧ r.2.mem ((c : Thread nD τ).loc main_v0_14) = k0_pay6 (m ((c : Thread nD τ).loc main_arg14)) (m ((c : Thread nD τ).loc main_arg27))
      ∧ r.2.mem ((c : Thread nD τ).loc main_v0_15) = k0_pay9 (m ((c : Thread nD τ).loc main_arg15)) (m ((c : Thread nD τ).loc main_arg28))
      ∧ r.2.mem ((c : Thread nD τ).loc main_v0_16) = k0_pay12 (m ((c : Thread nD τ).loc main_arg16)) (m ((c : Thread nD τ).loc main_arg29))
      ∧ r.2.mem ((c : Thread nD τ).loc main_v0_17) = k0_pay15 (m ((c : Thread nD τ).loc main_arg17)) (m ((c : Thread nD τ).loc main_arg30))
      ∧ r.2.mem ((c : Thread nD τ).loc main_v0_18) = k0_pay18 (m ((c : Thread nD τ).loc main_arg18)) (m ((c : Thread nD τ).loc main_arg31))
      ∧ r.2.mem ((c : Thread nD τ).loc main_v0_19) = k0_pay21 (m ((c : Thread nD τ).loc main_arg19)) (m ((c : Thread nD τ).loc main_arg32))
      ∧ r.2.mem ((c : Thread nD τ).loc main_v0_20) = k0_pay24 (m ((c : Thread nD τ).loc main_arg20)) (m ((c : Thread nD τ).loc main_arg33))
      ∧ r.2.mem ((c : Thread nD τ).loc main_v0_21) = k0_pay27 (m ((c : Thread nD τ).loc main_arg21)) (m ((c : Thread nD τ).loc main_arg34))
      ∧ r.2.mem ((c : Thread nD τ).loc main_v0_22) = k0_pay32 (m ((c : Thread nD τ).loc main_arg22)) (m ((c : Thread nD τ).loc main_arg35))
      ∧ r.2.mem ((c : Thread nD τ).loc main_v0_23) = k0_pay37 (m ((c : Thread nD τ).loc main_arg23)) (m ((c : Thread nD τ).loc main_arg36))
      ∧ r.2.mem ((c : Thread nD τ).loc main_v0_24) = k0_pay40 (m ((c : Thread nD τ).loc main_arg24)) (m ((c : Thread nD τ).loc main_arg37))
      ∧ r.2.mem ((c : Thread nD τ).loc main_v0_25) = k0_pay45 (m ((c : Thread nD τ).loc main_arg25)) (m ((c : Thread nD τ).loc main_arg38))
      ∧ r.2.mem ((c : Thread nD τ).loc main_v0_26) = k0_pay4 (m ((c : Thread nD τ).loc main_arg13)) (m ((c : Thread nD τ).loc main_arg39))
      ∧ r.2.mem ((c : Thread nD τ).loc main_v0_27) = k0_pay7 (m ((c : Thread nD τ).loc main_arg14)) (m ((c : Thread nD τ).loc main_arg40))
      ∧ r.2.mem ((c : Thread nD τ).loc main_v0_28) = k0_pay10 (m ((c : Thread nD τ).loc main_arg15)) (m ((c : Thread nD τ).loc main_arg41))
      ∧ r.2.mem ((c : Thread nD τ).loc main_v0_29) = k0_pay13 (m ((c : Thread nD τ).loc main_arg16)) (m ((c : Thread nD τ).loc main_arg42))
      ∧ r.2.mem ((c : Thread nD τ).loc main_v0_30) = k0_pay16 (m ((c : Thread nD τ).loc main_arg17)) (m ((c : Thread nD τ).loc main_arg43))
      ∧ r.2.mem ((c : Thread nD τ).loc main_v0_31) = k0_pay19 (m ((c : Thread nD τ).loc main_arg18)) (m ((c : Thread nD τ).loc main_arg44))
      ∧ r.2.mem ((c : Thread nD τ).loc main_v0_32) = k0_pay22 (m ((c : Thread nD τ).loc main_arg19)) (m ((c : Thread nD τ).loc main_arg45))
      ∧ r.2.mem ((c : Thread nD τ).loc main_v0_33) = k0_pay25 (m ((c : Thread nD τ).loc main_arg20)) (m ((c : Thread nD τ).loc main_arg46))
      ∧ r.2.mem ((c : Thread nD τ).loc main_v0_34) = k0_pay28 (m ((c : Thread nD τ).loc main_arg21)) (m ((c : Thread nD τ).loc main_arg47))
      ∧ r.2.mem ((c : Thread nD τ).loc main_v0_35) = k0_pay35 (k0_pay33 (m ((c : Thread nD τ).loc main_arg48))) (k0_pay34 (m ((c : Thread nD τ).loc main_arg22)))
      ∧ r.2.mem ((c : Thread nD τ).loc main_v0_36) = k0_pay38 (m ((c : Thread nD τ).loc main_arg23)) (m ((c : Thread nD τ).loc main_arg49)) (Scalar.ofBits .f32 0x3F7FBE77#32)
      ∧ r.2.mem ((c : Thread nD τ).loc main_v0_37) = k0_pay43 (k0_pay41 (m ((c : Thread nD τ).loc main_arg50))) (k0_pay42 (m ((c : Thread nD τ).loc main_arg24)))
      ∧ r.2.mem ((c : Thread nD τ).loc main_v0_38) = k0_pay1 (k0_pay46 (m ((c : Thread nD τ).loc main_arg51))) (k0_pay47 (m ((c : Thread nD τ).loc main_arg25)))
      ∧ Kept m r.2.mem c :=
  (θ_run defs _ _).mono (fun r h c => by
    obtain ⟨q52, q53, q54, q55, q56, q57, q58, q59, q60, q61, q62, q63, q64, q65, q66, q67, q68, q69, q70, q71, q72, q73, q74, q75, q76, q77, q78, q79, q80, q81, q82, q83, q84, q85, q86, q87, q88, q89, q90, qa⟩ := h c
    exact ⟨q52.trans (final52 m c), q53.trans (final53 m c), q54.trans (final54 m c), q55.trans (final55 m c), q56.trans (final56 m c), q57.trans (final57 m c), q58.trans (final58 m c), q59.trans (final59 m c), q60.trans (final60 m c), q61.trans (final61 m c), q62.trans (final62 m c), q63.trans (final63 m c), q64.trans (final64 m c), q65.trans (final65 m c), q66.trans (final66 m c), q67.trans (final67 m c), q68.trans (final68 m c), q69.trans (final69 m c), q70.trans (final70 m c), q71.trans (final71 m c), q72.trans (final72 m c), q73.trans (final73 m c), q74.trans (final74 m c), q75.trans (final75 m c), q76.trans (final76 m c), q77.trans (final77 m c), q78.trans (final78 m c), q79.trans (final79 m c), q80.trans (final80 m c), q81.trans (final81 m c), q82.trans (final82 m c), q83.trans (final83 m c), q84.trans (final84 m c), q85.trans (final85 m c), q86.trans (final86 m c), q87.trans (final87 m c), q88.trans (final88 m c), q89.trans (final89 m c), q90.trans (final90 m c), qa⟩)
    (run_blocks m ρ)

open Cert.Reference6Ideal Cert.Reference6Ideal.Gen in
set_option maxHeartbeats 16000000 in
/-- On the same arguments the kernel and the reference end with the same arrays. -/
theorem algebraic : Cert.algebraic_Kernel6Ideal_Reference6Ideal := by
  intro m g m' g' _ hagree
  refine ⟨_, _, _, _, _, _, _, _, _, _, _, _, _, _, _, _, _, _, _, _, _, _, _, _, _, _, _, _, _, _, _, _, _, _, _, _, _, _, _, run_arrays m g,
    (θ_run _ _ _).mono (fun r h c => ?_) (Cert.Reference6Ideal.Value.run m' g')⟩
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51⟩ := hagree c
  obtain ⟨q0, q1, q2, q3, q4, q5, q6, q7, q8, q9, q10, q11, q12, q13, q14, q15, q16, q17, q18, q19, q20, q21, q22, q23, q24, q25, q26, q27, q28, q29, q30, q31, q32, q33, q34, q35, q36, q37, q38, qa⟩ := h c
  have given : ∀ b : Ref sig .tc, StableHlo.launchContents m' c (Proc.devRef .tc b) = m' ((c : Thread nD τ).loc b) := fun _ => rfl
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [q0, (given main_arg0).trans e0, (given main_arg13).trans e13, (given main_arg26).trans e26, (given main_arg39).trans e39]; exact hostStep_eq _ _ _ _ _
  · rw [q1, (given main_arg1).trans e1, (given main_arg14).trans e14, (given main_arg27).trans e27, (given main_arg40).trans e40]; exact hostStep_eq _ _ _ _ _
  · rw [q2, (given main_arg2).trans e2, (given main_arg15).trans e15, (given main_arg28).trans e28, (given main_arg41).trans e41]; exact hostStep_eq _ _ _ _ _
  · rw [q3, (given main_arg3).trans e3, (given main_arg16).trans e16, (given main_arg29).trans e29, (given main_arg42).trans e42]; exact hostStep_eq _ _ _ _ _
  · rw [q4, (given main_arg4).trans e4, (given main_arg17).trans e17, (given main_arg30).trans e30, (given main_arg43).trans e43]; exact hostStep_eq _ _ _ _ _
  · rw [q5, (given main_arg5).trans e5, (given main_arg18).trans e18, (given main_arg31).trans e31, (given main_arg44).trans e44]; exact hostStep_eq _ _ _ _ _
  · rw [q6, (given main_arg6).trans e6, (given main_arg19).trans e19, (given main_arg32).trans e32, (given main_arg45).trans e45]; exact hostStep_eq _ _ _ _ _
  · rw [q7, (given main_arg7).trans e7, (given main_arg20).trans e20, (given main_arg33).trans e33, (given main_arg46).trans e46]; exact hostStep_eq _ _ _ _ _
  · rw [q8, (given main_arg8).trans e8, (given main_arg21).trans e21, (given main_arg34).trans e34, (given main_arg47).trans e47]; exact hostStep_eq _ _ _ _ _
  · rw [q9, (given main_arg9).trans e9, (given main_arg22).trans e22, (given main_arg35).trans e35, (given main_arg48).trans e48]; exact hostStep_eq _ _ _ _ _
  · rw [q10, (given main_arg10).trans e10, (given main_arg23).trans e23, (given main_arg36).trans e36, (given main_arg49).trans e49]; exact hostStep_eq _ _ _ _ _
  · rw [q11, (given main_arg11).trans e11, (given main_arg24).trans e24, (given main_arg37).trans e37, (given main_arg50).trans e50]; exact hostStep_eq _ _ _ _ _
  · rw [q12, (given main_arg12).trans e12, (given main_arg25).trans e25, (given main_arg38).trans e38, (given main_arg51).trans e51]; exact hostStep_eq _ _ _ _ _
  · rw [q13, (given main_arg13).trans e13, (given main_arg26).trans e26]; exact hostFirst_eq _ _ _
  · rw [q14, (given main_arg14).trans e14, (given main_arg27).trans e27]; exact hostFirst_eq _ _ _
  · rw [q15, (given main_arg15).trans e15, (given main_arg28).trans e28]; exact hostFirst_eq _ _ _
  · rw [q16, (given main_arg16).trans e16, (given main_arg29).trans e29]; exact hostFirst_eq _ _ _
  · rw [q17, (given main_arg17).trans e17, (given main_arg30).trans e30]; exact hostFirst_eq _ _ _
  · rw [q18, (given main_arg18).trans e18, (given main_arg31).trans e31]; exact hostFirst_eq _ _ _
  · rw [q19, (given main_arg19).trans e19, (given main_arg32).trans e32]; exact hostFirst_eq _ _ _
  · rw [q20, (given main_arg20).trans e20, (given main_arg33).trans e33]; exact hostFirst_eq _ _ _
  · rw [q21, (given main_arg21).trans e21, (given main_arg34).trans e34]; exact hostFirst_eq _ _ _
  · rw [q22, (given main_arg22).trans e22, (given main_arg35).trans e35]; exact hostFirst_eq _ _ _
  · rw [q23, (given main_arg23).trans e23, (given main_arg36).trans e36]; exact hostFirst_eq _ _ _
  · rw [q24, (given main_arg24).trans e24, (given main_arg37).trans e37]; exact hostFirst_eq _ _ _
  · rw [q25, (given main_arg25).trans e25, (given main_arg38).trans e38]; exact hostFirst_eq _ _ _
  · rw [q26, (given main_arg13).trans e13, (given main_arg39).trans e39]; exact hostSecond_eq _ _ _
  · rw [q27, (given main_arg14).trans e14, (given main_arg40).trans e40]; exact hostSecond_eq _ _ _
  · rw [q28, (given main_arg15).trans e15, (given main_arg41).trans e41]; exact hostSecond_eq _ _ _
  · rw [q29, (given main_arg16).trans e16, (given main_arg42).trans e42]; exact hostSecond_eq _ _ _
  · rw [q30, (given main_arg17).trans e17, (given main_arg43).trans e43]; exact hostSecond_eq _ _ _
  · rw [q31, (given main_arg18).trans e18, (given main_arg44).trans e44]; exact hostSecond_eq _ _ _
  · rw [q32, (given main_arg19).trans e19, (given main_arg45).trans e45]; exact hostSecond_eq _ _ _
  · rw [q33, (given main_arg20).trans e20, (given main_arg46).trans e46]; exact hostSecond_eq _ _ _
  · rw [q34, (given main_arg21).trans e21, (given main_arg47).trans e47]; exact hostSecond_eq _ _ _
  · rw [q35, (given main_arg22).trans e22, (given main_arg48).trans e48]; exact hostSecond_eq _ _ _
  · rw [q36, (given main_arg23).trans e23, (given main_arg49).trans e49]; exact hostSecond_eq _ _ _
  · rw [q37, (given main_arg24).trans e24, (given main_arg50).trans e50]; exact hostSecond_eq _ _ _
  · rw [q38, (given main_arg25).trans e25, (given main_arg51).trans e51]; exact hostSecond_eq _ _ _
  · exact qa

end Cert.AdamSmall

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Reference6Ideal
public import proofs.«01_k».proof.Proof.Gen.Reference6Ideal.Run
public import proofs.«01_k».proof.Proof.Gen.Pre_finite
public import proofs.«01_k».proof.Proof.RefFrame
public import proofs.«01_k».proof.Proof.MlpClaim
public import proofs.«01_k».proof.Proof.InFrame
public import proofs.«01_k».proof.Proof.InClaim
public import proofs.«01_k».proof.Proof.MixClaim
public import proofs.«01_k».proof.Proof.AdamBig
public import proofs.«01_k».proof.Proof.AdamSmall
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6Ideal.Gen.facts, Cert.Reference6Ideal.Gen.facts,
  Cert.Pre_finite.Gen.facts,
  fun m ρ _ => Cert.Kernel.Gen.frame m ρ, fun m ρ _ => Cert.KernelIdeal.Gen.frame m ρ,
  fun m ρ _ => Cert.Kernel2.Gen.frame m ρ, fun m ρ _ => Cert.Kernel2Ideal.Gen.frame m ρ,
  Cert.Mlp.frame_reference,
  Cert.InProj.frame_kernel, fun m ρ _ => Cert.Kernel3Ideal.Whole.frame m ρ,
  Cert.InProj.frame_reference,
  fun m ρ _ => Cert.Kernel4.Gen.frame m ρ, fun m ρ _ => Cert.Kernel4Ideal.Gen.frame m ρ, fun m ρ _ => Cert.Kernel4Ideal.Gen.frame m ρ,
  Cert.Mix.frame_reference, fun m ρ _ => Cert.Mix.frame_reference m ρ trivial,
  fun m ρ _ => Cert.Kernel5.Gen.frame m ρ, fun m ρ _ => Cert.Kernel5Ideal.Gen.frame m ρ,
  Cert.AdamBig.frame_reference,
  fun m ρ _ => Cert.Kernel6Ideal.Small.frame m ρ, Cert.AdamSmall.frame_reference,
  trivial, trivial, Cert.Mlp.algebraic, trivial, Cert.InProj.algebraic, Cert.Mix.preserves, Cert.Mix.algebraic,
  trivial, Cert.AdamBig.algebraic, Cert.AdamSmall.algebraic⟩

end Cert.Proof

end
